-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)) (v4 : (c : Dev Cert.KernelIdeal.nD) → Buf (Elt Ideal) ((c.tc : Thread Cert.KernelIdeal.nD Cert.KernelIdeal.τ).loc Cert.KernelIdeal.main_v1_2)) (v5 : (c : Dev Cert.KernelIdeal.nD) → Buf (Elt Ideal) ((c.tc : Thread Cert.KernelIdeal.nD Cert.KernelIdeal.τ).loc Cert.KernelIdeal.main_v1_3)) (v6 : (c : Dev Cert.KernelIdeal.nD) → Buf (Elt Ideal) ((c.tc : Thread Cert.KernelIdeal.nD Cert.KernelIdeal.τ).loc Cert.KernelIdeal.main_v1_4)) (v7 : (c : Dev Cert.KernelIdeal.nD) → Buf (Elt Ideal) ((c.tc : Thread Cert.KernelIdeal.nD Cert.KernelIdeal.τ).loc Cert.KernelIdeal.main_v1_5)) (v8 : (c : Dev Cert.KernelIdeal.nD) → Buf (Elt Ideal) ((c.tc : Thread Cert.KernelIdeal.nD Cert.KernelIdeal.τ).loc Cert.KernelIdeal.main_v1_6)) (v9 : (c : Dev Cert.KernelIdeal.nD) → Buf (Elt Ideal) ((c.tc : Thread Cert.KernelIdeal.nD Cert.KernelIdeal.τ).loc Cert.KernelIdeal.main_v1_7)) (v10 : (c : Dev Cert.KernelIdeal.nD) → Buf (Elt Ideal) ((c.tc : Thread Cert.KernelIdeal.nD Cert.KernelIdeal.τ).loc Cert.KernelIdeal.main_v1_8)) (v11 : (c : Dev Cert.KernelIdeal.nD) → Buf (Elt Ideal) ((c.tc : Thread Cert.KernelIdeal.nD Cert.KernelIdeal.τ).loc Cert.KernelIdeal.main_v1_9)) (v12 : (c : Dev Cert.KernelIdeal.nD) → Buf (Elt Ideal) ((c.tc : Thread Cert.KernelIdeal.nD Cert.KernelIdeal.τ).loc Cert.KernelIdeal.main_v1_10)) (v13 : (c : Dev Cert.KernelIdeal.nD) → Buf (Elt Ideal) ((c.tc : Thread Cert.KernelIdeal.nD Cert.KernelIdeal.τ).loc Cert.KernelIdeal.main_v1_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_v1_2) = v4 c
          ∧ r.2.mem ((c.tc : Thread Cert.KernelIdeal.nD Cert.KernelIdeal.τ).loc Cert.KernelIdeal.main_v1_3) = v5 c
          ∧ r.2.mem ((c.tc : Thread Cert.KernelIdeal.nD Cert.KernelIdeal.τ).loc Cert.KernelIdeal.main_v1_4) = v6 c
          ∧ r.2.mem ((c.tc : Thread Cert.KernelIdeal.nD Cert.KernelIdeal.τ).loc Cert.KernelIdeal.main_v1_5) = v7 c
          ∧ r.2.mem ((c.tc : Thread Cert.KernelIdeal.nD Cert.KernelIdeal.τ).loc Cert.KernelIdeal.main_v1_6) = v8 c
          ∧ r.2.mem ((c.tc : Thread Cert.KernelIdeal.nD Cert.KernelIdeal.τ).loc Cert.KernelIdeal.main_v1_7) = v9 c
          ∧ r.2.mem ((c.tc : Thread Cert.KernelIdeal.nD Cert.KernelIdeal.τ).loc Cert.KernelIdeal.main_v1_8) = v10 c
          ∧ r.2.mem ((c.tc : Thread Cert.KernelIdeal.nD Cert.KernelIdeal.τ).loc Cert.KernelIdeal.main_v1_9) = v11 c
          ∧ r.2.mem ((c.tc : Thread Cert.KernelIdeal.nD Cert.KernelIdeal.τ).loc Cert.KernelIdeal.main_v1_10) = v12 c
          ∧ r.2.mem ((c.tc : Thread Cert.KernelIdeal.nD Cert.KernelIdeal.τ).loc Cert.KernelIdeal.main_v1_11) = v13 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_v146) = v5 c
          ∧ r.2.mem ((c.tc : Thread Cert.ReferenceIdeal.nD Cert.ReferenceIdeal.τ).loc Cert.ReferenceIdeal.main_v104) = v6 c
          ∧ r.2.mem ((c.tc : Thread Cert.ReferenceIdeal.nD Cert.ReferenceIdeal.τ).loc Cert.ReferenceIdeal.main_v113) = v7 c
          ∧ r.2.mem ((c.tc : Thread Cert.ReferenceIdeal.nD Cert.ReferenceIdeal.τ).loc Cert.ReferenceIdeal.main_v126) = v8 c
          ∧ r.2.mem ((c.tc : Thread Cert.ReferenceIdeal.nD Cert.ReferenceIdeal.τ).loc Cert.ReferenceIdeal.main_v135) = v9 c
          ∧ r.2.mem ((c.tc : Thread Cert.ReferenceIdeal.nD Cert.ReferenceIdeal.τ).loc Cert.ReferenceIdeal.main_v93) = v10 c
          ∧ r.2.mem ((c.tc : Thread Cert.ReferenceIdeal.nD Cert.ReferenceIdeal.τ).loc Cert.ReferenceIdeal.main_v102) = v11 c
          ∧ r.2.mem ((c.tc : Thread Cert.ReferenceIdeal.nD Cert.ReferenceIdeal.τ).loc Cert.ReferenceIdeal.main_v115) = v12 c
          ∧ r.2.mem ((c.tc : Thread Cert.ReferenceIdeal.nD Cert.ReferenceIdeal.τ).loc Cert.ReferenceIdeal.main_v124) = v13 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v18) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Kernel.lean ====
abbrev S132x4x64x128 : Shape := ⟨4, ![132, 4, 64, 128]⟩
abbrev S132x4x64x64 : Shape := ⟨4, ![132, 4, 64, 64]⟩
abbrev S132x4x1x128 : Shape := ⟨4, ![132, 4, 1, 128]⟩
abbrev S8448x512 : Shape := ⟨2, ![8448, 512]⟩
abbrev S132x4x128x128 : Shape := ⟨4, ![132, 4, 128, 128]⟩
abbrev S4x4x64x128 : Shape := ⟨4, ![4, 4, 64, 128]⟩
abbrev S4x4x64x64 : Shape := ⟨4, ![4, 4, 64, 64]⟩
abbrev S4x4x1x128 : Shape := ⟨4, ![4, 4, 1, 128]⟩
abbrev S256x512 : Shape := ⟨2, ![256, 512]⟩
abbrev S4x4x128x128 : Shape := ⟨4, ![4, 4, 128, 128]⟩
abbrev S8x128x128 : Shape := ⟨3, ![8, 128, 128]⟩
abbrev S4x128x128 : Shape := ⟨3, ![4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S8x64x128 : Shape := ⟨3, ![8, 64, 128]⟩
abbrev S1x4x64x64 : Shape := ⟨4, ![1, 4, 64, 64]⟩
abbrev S4x64x64 : Shape := ⟨3, ![4, 64, 64]⟩
abbrev S8x64x64 : Shape := ⟨3, ![8, 64, 64]⟩
abbrev S1x4x1x128 : Shape := ⟨4, ![1, 4, 1, 128]⟩
abbrev S4x1x128 : Shape := ⟨3, ![4, 1, 128]⟩
abbrev S8x1x128 : Shape := ⟨3, ![8, 1, 128]⟩
abbrev S8x1x1 : Shape := ⟨3, ![8, 1, 1]⟩
abbrev S1x64x128 : Shape := ⟨3, ![1, 64, 128]⟩
abbrev S64x128 : Shape := ⟨2, ![64, 128]⟩
abbrev S64x512 : Shape := ⟨2, ![64, 512]⟩
abbrev S8x128x64 : Shape := ⟨3, ![8, 128, 64]⟩
abbrev S8 : Shape := ⟨1, ![8]⟩
abbrev S8x1x127 : Shape := ⟨3, ![8, 1, 127]⟩

abbrev nBuf : Space → Nat
  | .hbm => 30
  | .vmem => 90
  | .smem => 0
  | _ => 0

abbrev bufTy : (tb : Table) → Fin (tcTables nBuf tb) → BufTy
  | .hbm, ⟨0, _⟩ => ⟨S132x4x64x128, .f32⟩
  | .hbm, ⟨1, _⟩ => ⟨S132x4x64x128, .f32⟩
  | .hbm, ⟨2, _⟩ => ⟨S132x4x64x128, .f32⟩
  | .hbm, ⟨3, _⟩ => ⟨S132x4x64x128, .f32⟩
  | .hbm, ⟨4, _⟩ => ⟨S132x4x64x128, .f32⟩
  | .hbm, ⟨5, _⟩ => ⟨S132x4x64x128, .f32⟩
  | .hbm, ⟨6, _⟩ => ⟨S132x4x64x128, .f32⟩
  | .hbm, ⟨7, _⟩ => ⟨S132x4x64x128, .f32⟩
  | .hbm, ⟨8, _⟩ => ⟨S132x4x64x64, .f32⟩
  | .hbm, ⟨9, _⟩ => ⟨S132x4x64x64, .f32⟩
  | .hbm, ⟨10, _⟩ => ⟨S132x4x1x128, .f32⟩
  | .hbm, ⟨11, _⟩ => ⟨S132x4x1x128, .f32⟩
  | .hbm, ⟨12, _⟩ => ⟨S8448x512, .f32⟩
  | .hbm, ⟨13, _⟩ => ⟨S8448x512, .f32⟩
  | .hbm, ⟨14, _⟩ => ⟨S8448x512, .f32⟩
  | .hbm, ⟨15, _⟩ => ⟨S8448x512, .f32⟩
  | .hbm, ⟨16, _⟩ => ⟨S132x4x128x128, .f32⟩
  | .hbm, ⟨17, _⟩ => ⟨S132x4x128x128, .f32⟩
  | .hbm, ⟨18, _⟩ => ⟨S132x4x64x128, .f32⟩
  | .hbm, ⟨19, _⟩ => ⟨S132x4x64x128, .f32⟩
  | .hbm, ⟨20, _⟩ => ⟨S132x4x64x128, .f32⟩
  | .hbm, ⟨21, _⟩ => ⟨S132x4x64x128, .f32⟩
  | .hbm, ⟨22, _⟩ => ⟨S132x4x64x128, .f32⟩
  | .hbm, ⟨23, _⟩ => ⟨S132x4x64x128, .f32⟩
  | .hbm, ⟨24, _⟩ => ⟨S132x4x64x128, .f32⟩
  | .hbm, ⟨25, _⟩ => ⟨S132x4x64x128, .f32⟩
  | .hbm, ⟨26, _⟩ => ⟨S132x4x64x64, .f32⟩
  | .hbm, ⟨27, _⟩ => ⟨S132x4x64x64, .f32⟩
  | .hbm, ⟨28, _⟩ => ⟨S132x4x1x128, .f32⟩
  | .hbm, ⟨29, _⟩ => ⟨S132x4x1x128, .f32⟩
  | .local _ .vmem, ⟨0, _⟩ => ⟨S4x4x64x128, .f32⟩
  | .local _ .vmem, ⟨1, _⟩ => ⟨S4x4x64x128, .f32⟩
  | .local _ .vmem, ⟨2, _⟩ => ⟨S4x4x64x128, .f32⟩
  | .local _ .vmem, ⟨3, _⟩ => ⟨S4x4x64x128, .f32⟩
  | .local _ .vmem, ⟨4, _⟩ => ⟨S4x4x64x128, .f32⟩
  | .local _ .vmem, ⟨5, _⟩ => ⟨S4x4x64x128, .f32⟩
  | .local _ .vmem, ⟨6, _⟩ => ⟨S4x4x64x128, .f32⟩
  | .local _ .vmem, ⟨7, _⟩ => ⟨S4x4x64x128, .f32⟩
  | .local _ .vmem, ⟨8, _⟩ => ⟨S4x4x64x128, .f32⟩
  | .local _ .vmem, ⟨9, _⟩ => ⟨S4x4x64x128, .f32⟩
  | .local _ .vmem, ⟨10, _⟩ => ⟨S4x4x64x128, .f32⟩
  | .local _ .vmem, ⟨11, _⟩ => ⟨S4x4x64x128, .f32⟩
  | .local _ .vmem, ⟨12, _⟩ => ⟨S4x4x64x128, .f32⟩
  | .local _ .vmem, ⟨13, _⟩ => ⟨S4x4x64x128, .f32⟩
  | .local _ .vmem, ⟨14, _⟩ => ⟨S4x4x64x128, .f32⟩
  | .local _ .vmem, ⟨15, _⟩ => ⟨S4x4x64x128, .f32⟩
  | .local _ .vmem, ⟨16, _⟩ => ⟨S4x4x64x64, .f32⟩
  | .local _ .vmem, ⟨17, _⟩ => ⟨S4x4x64x64, .f32⟩
  | .local _ .vmem, ⟨18, _⟩ => ⟨S4x4x64x64, .f32⟩
  | .local _ .vmem, ⟨19, _⟩ => ⟨S4x4x64x64, .f32⟩
  | .local _ .vmem, ⟨20, _⟩ => ⟨S4x4x1x128, .f32⟩
  | .local _ .vmem, ⟨21, _⟩ => ⟨S4x4x1x128, .f32⟩
  | .local _ .vmem, ⟨22, _⟩ => ⟨S4x4x1x128, .f32⟩
  | .local _ .vmem, ⟨23, _⟩ => ⟨S4x4x1x128, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S4x4x128x128, .f32⟩
  | .local _ .vmem, ⟨29, _⟩ => ⟨S4x4x128x128, .f32⟩
  | .local _ .vmem, ⟨30, _⟩ => ⟨S4x4x128x128, .f32⟩
  | .local _ .vmem, ⟨31, _⟩ => ⟨S4x4x128x128, .f32⟩
  | .local _ .vmem, ⟨32, _⟩ => ⟨S8x128x128, .f32⟩
  | .local _ .vmem, ⟨33, _⟩ => ⟨S4x4x64x128, .f32⟩
  | .local _ .vmem, ⟨34, _⟩ => ⟨S4x4x64x128, .f32⟩
  | .local _ .vmem, ⟨35, _⟩ => ⟨S4x4x64x128, .f32⟩
  | .local _ .vmem, ⟨36, _⟩ => ⟨S4x4x64x128, .f32⟩
  | .local _ .vmem, ⟨37, _⟩ => ⟨S4x4x64x128, .f32⟩
  | .local _ .vmem, ⟨38, _⟩ => ⟨S4x4x64x128, .f32⟩
  | .local _ .vmem, ⟨39, _⟩ => ⟨S4x4x64x128, .f32⟩
  | .local _ .vmem, ⟨40, _⟩ => ⟨S4x4x64x128, .f32⟩
  | .local _ .vmem, ⟨41, _⟩ => ⟨S4x4x64x128, .f32⟩
  | .local _ .vmem, ⟨42, _⟩ => ⟨S4x4x64x128, .f32⟩
  | .local _ .vmem, ⟨43, _⟩ => ⟨S4x4x64x128, .f32⟩
  | .local _ .vmem, ⟨44, _⟩ => ⟨S4x4x64x128, .f32⟩
  | .local _ .vmem, ⟨45, _⟩ => ⟨S4x4x64x128, .f32⟩
  | .local _ .vmem, ⟨46, _⟩ => ⟨S4x4x64x128, .f32⟩
  | .local _ .vmem, ⟨47, _⟩ => ⟨S4x4x64x128, .f32⟩
  | .local _ .vmem, ⟨48, _⟩ => ⟨S4x4x64x128, .f32⟩
  | .local _ .vmem, ⟨49, _⟩ => ⟨S4x4x64x64, .f32⟩
  | .local _ .vmem, ⟨50, _⟩ => ⟨S4x4x64x64, .f32⟩
  | .local _ .vmem, ⟨51, _⟩ => ⟨S4x4x64x64, .f32⟩
  | .local _ .vmem, ⟨52, _⟩ => ⟨S4x4x64x64, .f32⟩
  | .local _ .vmem, ⟨53, _⟩ => ⟨S4x4x1x128, .f32⟩
  | .local _ .vmem, ⟨54, _⟩ => ⟨S4x4x1x128, .f32⟩
  | .local _ .vmem, ⟨55, _⟩ => ⟨S4x4x1x128, .f32⟩
  | .local _ .vmem, ⟨56, _⟩ => ⟨S4x4x1x128, .f32⟩
  | .local _ .vmem, ⟨57, _⟩ => ⟨S4x4x128x128, .f32⟩
  | .local _ .vmem, ⟨58, _⟩ => ⟨S4x4x128x128, .f32⟩
  | .local _ .vmem, ⟨59, _⟩ => ⟨S4x4x128x128, .f32⟩
  | .local _ .vmem, ⟨60, _⟩ => ⟨S4x4x128x128, .f32⟩
  | .local _ .vmem, ⟨61, _⟩ => ⟨S256x512, .f32⟩
  | .local _ .vmem, ⟨62, _⟩ => ⟨S256x512, .f32⟩
  | .local _ .vmem, ⟨63, _⟩ => ⟨S256x512, .f32⟩
  | .local _ .vmem, ⟨64, _⟩ => ⟨S256x512, .f32⟩
  | .local _ .vmem, ⟨65, _⟩ => ⟨S4x4x64x128, .f32⟩
  | .local _ .vmem, ⟨66, _⟩ => ⟨S4x4x64x128, .f32⟩
  | .local _ .vmem, ⟨67, _⟩ => ⟨S4x4x64x128, .f32⟩
  | .local _ .vmem, ⟨68, _⟩ => ⟨S4x4x64x128, .f32⟩
  | .local _ .vmem, ⟨69, _⟩ => ⟨S4x4x64x128, .f32⟩
  | .local _ .vmem, ⟨70, _⟩ => ⟨S4x4x64x128, .f32⟩
  | .local _ .vmem, ⟨71, _⟩ => ⟨S4x4x64x128, .f32⟩
  | .local _ .vmem, ⟨72, _⟩ => ⟨S4x4x64x128, .f32⟩
  | .local _ .vmem, ⟨73, _⟩ => ⟨S4x4x64x128, .f32⟩
  | .local _ .vmem, ⟨74, _⟩ => ⟨S4x4x64x128, .f32⟩
  | .local _ .vmem, ⟨75, _⟩ => ⟨S4x4x64x128, .f32⟩
  | .local _ .vmem, ⟨76, _⟩ => ⟨S4x4x64x128, .f32⟩
  | .local _ .vmem, ⟨77, _⟩ => ⟨S4x4x64x128, .f32⟩
  | .local _ .vmem, ⟨78, _⟩ => ⟨S4x4x64x128, .f32⟩
  | .local _ .vmem, ⟨79, _⟩ => ⟨S4x4x64x128, .f32⟩
  | .local _ .vmem, ⟨80, _⟩ => ⟨S4x4x64x128, .f32⟩
  | .local _ .vmem, ⟨81, _⟩ => ⟨S4x4x64x64, .f32⟩
  | .local _ .vmem, ⟨82, _⟩ => ⟨S4x4x64x64, .f32⟩
  | .local _ .vmem, ⟨83, _⟩ => ⟨S4x4x64x64, .f32⟩
  | .local _ .vmem, ⟨84, _⟩ => ⟨S4x4x64x64, .f32⟩
  | .local _ .vmem, ⟨85, _⟩ => ⟨S4x4x1x128, .f32⟩
  | .local _ .vmem, ⟨86, _⟩ => ⟨S4x4x1x128, .f32⟩
  | .local _ .vmem, ⟨87, _⟩ => ⟨S4x4x1x128, .f32⟩
  | .local _ .vmem, ⟨88, _⟩ => ⟨S4x4x1x128, .f32⟩
  | .local _ .vmem, ⟨89, _⟩ => ⟨S8x128x128, .f32⟩
  | _, _ => ⟨S132x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev main_v1_3 : Ref sig .tc := ⟨.hbm, 21, rfl⟩
abbrev main_v1_4 : Ref sig .tc := ⟨.hbm, 22, rfl⟩
abbrev main_v1_5 : Ref sig .tc := ⟨.hbm, 23, rfl⟩
abbrev main_v1_6 : Ref sig .tc := ⟨.hbm, 24, rfl⟩
abbrev main_v1_7 : Ref sig .tc := ⟨.hbm, 25, rfl⟩
abbrev main_v1_8 : Ref sig .tc := ⟨.hbm, 26, rfl⟩
abbrev main_v1_9 : Ref sig .tc := ⟨.hbm, 27, rfl⟩
abbrev main_v1_10 : Ref sig .tc := ⟨.hbm, 28, rfl⟩
abbrev main_v1_11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg1_1 : Ref sig .tc := ⟨.vmem, 36, rfl⟩
abbrev cc1_stg2_0 : Ref sig .tc := ⟨.vmem, 37, rfl⟩
abbrev cc1_stg2_1 : Ref sig .tc := ⟨.vmem, 38, rfl⟩
abbrev cc1_stg3_0 : Ref sig .tc := ⟨.vmem, 39, rfl⟩
abbrev cc1_stg3_1 : Ref sig .tc := ⟨.vmem, 40, rfl⟩
abbrev cc1_stg4_0 : Ref sig .tc := ⟨.vmem, 41, rfl⟩
abbrev cc1_stg4_1 : Ref sig .tc := ⟨.vmem, 42, rfl⟩
abbrev cc1_stg5_0 : Ref sig .tc := ⟨.vmem, 43, rfl⟩
abbrev cc1_stg5_1 : Ref sig .tc := ⟨.vmem, 44, rfl⟩
abbrev cc1_stg6_0 : Ref sig .tc := ⟨.vmem, 45, rfl⟩
abbrev cc1_stg6_1 : Ref sig .tc := ⟨.vmem, 46, rfl⟩
abbrev cc1_stg7_0 : Ref sig .tc := ⟨.vmem, 47, rfl⟩
abbrev cc1_stg7_1 : Ref sig .tc := ⟨.vmem, 48, rfl⟩
abbrev cc1_stg8_0 : Ref sig .tc := ⟨.vmem, 49, rfl⟩
abbrev cc1_stg8_1 : Ref sig .tc := ⟨.vmem, 50, rfl⟩
abbrev cc1_stg9_0 : Ref sig .tc := ⟨.vmem, 51, rfl⟩
abbrev cc1_stg9_1 : Ref sig .tc := ⟨.vmem, 52, rfl⟩
abbrev cc1_stg10_0 : Ref sig .tc := ⟨.vmem, 53, rfl⟩
abbrev cc1_stg10_1 : Ref sig .tc := ⟨.vmem, 54, rfl⟩
abbrev cc1_stg11_0 : Ref sig .tc := ⟨.vmem, 55, rfl⟩
abbrev cc1_stg11_1 : Ref sig .tc := ⟨.vmem, 56, rfl⟩
abbrev cc1_stg12_0 : Ref sig .tc := ⟨.vmem, 57, rfl⟩
abbrev cc1_stg12_1 : Ref sig .tc := ⟨.vmem, 58, rfl⟩
abbrev cc1_stg13_0 : Ref sig .tc := ⟨.vmem, 59, rfl⟩
abbrev cc1_stg13_1 : Ref sig .tc := ⟨.vmem, 60, rfl⟩
abbrev cc1_stg14_0 : Ref sig .tc := ⟨.vmem, 61, rfl⟩
abbrev cc1_stg14_1 : Ref sig .tc := ⟨.vmem, 62, rfl⟩
abbrev cc1_stg15_0 : Ref sig .tc := ⟨.vmem, 63, rfl⟩
abbrev cc1_stg15_1 : Ref sig .tc := ⟨.vmem, 64, rfl⟩
abbrev cc1_stg16_0 : Ref sig .tc := ⟨.vmem, 65, rfl⟩
abbrev cc1_stg16_1 : Ref sig .tc := ⟨.vmem, 66, rfl⟩
abbrev cc1_stg17_0 : Ref sig .tc := ⟨.vmem, 67, rfl⟩
abbrev cc1_stg17_1 : Ref sig .tc := ⟨.vmem, 68, rfl⟩
abbrev cc1_stg18_0 : Ref sig .tc := ⟨.vmem, 69, rfl⟩
abbrev cc1_stg18_1 : Ref sig .tc := ⟨.vmem, 70, rfl⟩
abbrev cc1_stg19_0 : Ref sig .tc := ⟨.vmem, 71, rfl⟩
abbrev cc1_stg19_1 : Ref sig .tc := ⟨.vmem, 72, rfl⟩
abbrev cc1_stg20_0 : Ref sig .tc := ⟨.vmem, 73, rfl⟩
abbrev cc1_stg20_1 : Ref sig .tc := ⟨.vmem, 74, rfl⟩
abbrev cc1_stg21_0 : Ref sig .tc := ⟨.vmem, 75, rfl⟩
abbrev cc1_stg21_1 : Ref sig .tc := ⟨.vmem, 76, rfl⟩
abbrev cc1_stg22_0 : Ref sig .tc := ⟨.vmem, 77, rfl⟩
abbrev cc1_stg22_1 : Ref sig .tc := ⟨.vmem, 78, rfl⟩
abbrev cc1_stg23_0 : Ref sig .tc := ⟨.vmem, 79, rfl⟩
abbrev cc1_stg23_1 : Ref sig .tc := ⟨.vmem, 80, rfl⟩
abbrev cc1_stg24_0 : Ref sig .tc := ⟨.vmem, 81, rfl⟩
abbrev cc1_stg24_1 : Ref sig .tc := ⟨.vmem, 82, rfl⟩
abbrev cc1_stg25_0 : Ref sig .tc := ⟨.vmem, 83, rfl⟩
abbrev cc1_stg25_1 : Ref sig .tc := ⟨.vmem, 84, rfl⟩
abbrev cc1_stg26_0 : Ref sig .tc := ⟨.vmem, 85, rfl⟩
abbrev cc1_stg26_1 : Ref sig .tc := ⟨.vmem, 86, rfl⟩
abbrev cc1_stg27_0 : Ref sig .tc := ⟨.vmem, 87, rfl⟩
abbrev cc1_stg27_1 : Ref sig .tc := ⟨.vmem, 88, rfl⟩
abbrev cc1_scratch0 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc1_sem0_0 : DmaSem sig := 32
abbrev cc1_sem0_1 : DmaSem sig := 33
abbrev cc1_sem1_0 : DmaSem sig := 34
abbrev cc1_sem1_1 : DmaSem sig := 35
abbrev cc1_sem2_0 : DmaSem sig := 36
abbrev cc1_sem2_1 : DmaSem sig := 37
abbrev cc1_sem3_0 : DmaSem sig := 38
abbrev cc1_sem3_1 : DmaSem sig := 39
abbrev cc1_sem4_0 : DmaSem sig := 40
abbrev cc1_sem4_1 : DmaSem sig := 41
abbrev cc1_sem5_0 : DmaSem sig := 42
abbrev cc1_sem5_1 : DmaSem sig := 43
abbrev cc1_sem6_0 : DmaSem sig := 44
abbrev cc1_sem6_1 : DmaSem sig := 45
abbrev cc1_sem7_0 : DmaSem sig := 46
abbrev cc1_sem7_1 : DmaSem sig := 47
abbrev cc1_sem8_0 : DmaSem sig := 48
abbrev cc1_sem8_1 : DmaSem sig := 49
abbrev cc1_sem9_0 : DmaSem sig := 50
abbrev cc1_sem9_1 : DmaSem sig := 51
abbrev cc1_sem10_0 : DmaSem sig := 52
abbrev cc1_sem10_1 : DmaSem sig := 53
abbrev cc1_sem11_0 : DmaSem sig := 54
abbrev cc1_sem11_1 : DmaSem sig := 55
abbrev cc1_sem12_0 : DmaSem sig := 56
abbrev cc1_sem12_1 : DmaSem sig := 57
abbrev cc1_sem13_0 : DmaSem sig := 58
abbrev cc1_sem13_1 : DmaSem sig := 59
abbrev cc1_sem14_0 : DmaSem sig := 60
abbrev cc1_sem14_1 : DmaSem sig := 61
abbrev cc1_sem15_0 : DmaSem sig := 62
abbrev cc1_sem15_1 : DmaSem sig := 63
abbrev cc1_sem16_0 : DmaSem sig := 64
abbrev cc1_sem16_1 : DmaSem sig := 65
abbrev cc1_sem17_0 : DmaSem sig := 66
abbrev cc1_sem17_1 : DmaSem sig := 67
abbrev cc1_sem18_0 : DmaSem sig := 68
abbrev cc1_sem18_1 : DmaSem sig := 69
abbrev cc1_sem19_0 : DmaSem sig := 70
abbrev cc1_sem19_1 : DmaSem sig := 71
abbrev cc1_sem20_0 : DmaSem sig := 72
abbrev cc1_sem20_1 : DmaSem sig := 73
abbrev cc1_sem21_0 : DmaSem sig := 74
abbrev cc1_sem21_1 : DmaSem sig := 75
abbrev cc1_sem22_0 : DmaSem sig := 76
abbrev cc1_sem22_1 : DmaSem sig := 77
abbrev cc1_sem23_0 : DmaSem sig := 78
abbrev cc1_sem23_1 : DmaSem sig := 79
abbrev cc1_sem24_0 : DmaSem sig := 80
abbrev cc1_sem24_1 : DmaSem sig := 81
abbrev cc1_sem25_0 : DmaSem sig := 82
abbrev cc1_sem25_1 : DmaSem sig := 83
abbrev cc1_sem26_0 : DmaSem sig := 84
abbrev cc1_sem26_1 : DmaSem sig := 85
abbrev cc1_sem27_0 : DmaSem sig := 86
abbrev cc1_sem27_1 : DmaSem sig := 87

abbrev nD : Nat := 1
abbrev τ : Topo := Topo.v7x

variable {F : FTy → Type} [FloatOps F]

abbrev grid0 : Pipeline.Grid := ⟨1, ![33], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  let c0_i32_11 : BitVec 32 := 0#32
  let c0_i32_12 : BitVec 32 := 0#32
  ![v24.toNat, c0_i32_9.toNat, c0_i32_10.toNat, c0_i32_11.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  let c0_i32_11 : BitVec 32 := 0#32
  let c0_i32_12 : BitVec 32 := 0#32
  ![v24.toNat, c0_i32_9.toNat, c0_i32_10.toNat, c0_i32_11.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  let c0_i32_11 : BitVec 32 := 0#32
  let c0_i32_12 : BitVec 32 := 0#32
  ![v24.toNat, c0_i32_9.toNat, c0_i32_10.toNat, c0_i32_11.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  let c0_i32_11 : BitVec 32 := 0#32
  let c0_i32_12 : BitVec 32 := 0#32
  ![v24.toNat, c0_i32_9.toNat, c0_i32_10.toNat, c0_i32_11.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  let c0_i32_11 : BitVec 32 := 0#32
  let c0_i32_12 : BitVec 32 := 0#32
  ![v24.toNat, c0_i32_9.toNat, c0_i32_10.toNat, c0_i32_11.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  let c0_i32_11 : BitVec 32 := 0#32
  let c0_i32_12 : BitVec 32 := 0#32
  ![v24.toNat, c0_i32_9.toNat, c0_i32_10.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  ![v24.toNat, c0_i32_9.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c4_i32 : BitVec 32 := 4#32
  let v0 : BitVec 32 := Scalar.muli c4_i32 arg0
  let c4_i32_0 : BitVec 32 := 4#32
  let v1 : BitVec 32 := Scalar.addi v0 c4_i32_0
  let c1_i32 : BitVec 32 := 1#32
  let v2 : BitVec 32 := Scalar.subi v1 c1_i32
  let c4_i32_1 : BitVec 32 := 4#32
  let v3 : BitVec 1 := Scalar.cmpi .slt v2 c4_i32_1
  let c3_i32 : BitVec 32 := 3#32
  let v4 : BitVec 32 := Scalar.subi c3_i32 v2
  let c4_i32_2 : BitVec 32 := 4#32
  let v5 : BitVec 32 := Scalar.subi v2 c4_i32_2
  let c131_i32 : BitVec 32 := 131#32
  let v6 : BitVec 32 := Scalar.subi c131_i32 v5
  let v7 : BitVec 32 := Scalar.select v3 v4 v6
  let c4_i32_3 : BitVec 32 := 4#32
  let v8 : BitVec 32 := Scalar.divsi v7 c4_i32_3
  let c0_i32 : BitVec 32 := 0#32
  let v9 : BitVec 1 := Scalar.cmpi .sgt v7 c0_i32
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c0_i32_5 : BitVec 32 := 0#32
  let v14 : BitVec 1 := Scalar.cmpi .sgt c4_i32_3 c0_i32_5
  let v15 : BitVec 32 := Scalar.extui v14
  let c0_i32_6 : BitVec 32 := 0#32
  let v16 : BitVec 1 := Scalar.cmpi .slt c4_i32_3 c0_i32_6
  let v17 : BitVec 32 := Scalar.extui v16
  let v18 : BitVec 32 := Scalar.subi v15 v17
  let v19 : BitVec 1 := Scalar.cmpi .ne v13 v18
  let v20 : BitVec 32 := Scalar.remsi v7 c4_i32_3
  let c0_i32_7 : BitVec 32 := 0#32
  let v21 : BitVec 1 := Scalar.cmpi .ne v20 c0_i32_7
  let v22 : BitVec 1 := Scalar.andi v19 v21
  let c1_i32_8 : BitVec 32 := 1#32
  let v23 : BitVec 32 := Scalar.subi v8 c1_i32_8
  let v24 : BitVec 32 := Scalar.select v22 v23 v8
  let c0_i32_9 : BitVec 32 := 0#32
  let c0_i32_10 : BitVec 32 := 0#32
  let c0_i32_11 : BitVec 32 := 0#32
  let c0_i32_12 : BitVec 32 := 0#32
  ![v24.toNat, c0_i32_9.toNat, c0_i32_10.toNat, c0_i32_11.toNat]

abbrev stage0_0 : Fin 2 → Memref sig .tc .vmem S4x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![33], ![false]⟩

def cc1_transform_0 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_1 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_2 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_3 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_4 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_5 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_6 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_8 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_9 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_10 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_11 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_12 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_13 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_14 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  ![v23.toNat, c0_i32_8.toNat]

def cc1_transform_16 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_17 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_18 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_19 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_20 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_21 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_22 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_23 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_24 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_25 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

def cc1_transform_26 (i : grid1.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_27 (i : grid1.Coords) : Fin 4 → Nat :=
  let arg0 : BitVec 32 := BitVec.ofNat 32 (i 0).val
  let c4_i32 : BitVec 32 := 4#32
  let v0 : BitVec 32 := Scalar.muli c4_i32 arg0
  let c131_i32 : BitVec 32 := 131#32
  let v1 : BitVec 32 := Scalar.subi c131_i32 v0
  let c4_i32_0 : BitVec 32 := 4#32
  let v2 : BitVec 1 := Scalar.cmpi .slt v1 c4_i32_0
  let c3_i32 : BitVec 32 := 3#32
  let v3 : BitVec 32 := Scalar.subi c3_i32 v1
  let c4_i32_1 : BitVec 32 := 4#32
  let v4 : BitVec 32 := Scalar.subi v1 c4_i32_1
  let c131_i32_2 : BitVec 32 := 131#32
  let v5 : BitVec 32 := Scalar.subi c131_i32_2 v4
  let v6 : BitVec 32 := Scalar.select v2 v3 v5
  let c4_i32_3 : BitVec 32 := 4#32
  let v7 : BitVec 32 := Scalar.divsi v6 c4_i32_3
  let c0_i32 : BitVec 32 := 0#32
  let v8 : BitVec 1 := Scalar.cmpi .sgt v6 c0_i32
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c4_i32_3 c0_i32_5
  let v14 : BitVec 32 := Scalar.extui v13
  let c0_i32_6 : BitVec 32 := 0#32
  let v15 : BitVec 1 := Scalar.cmpi .slt c4_i32_3 c0_i32_6
  let v16 : BitVec 32 := Scalar.extui v15
  let v17 : BitVec 32 := Scalar.subi v14 v16
  let v18 : BitVec 1 := Scalar.cmpi .ne v12 v17
  let v19 : BitVec 32 := Scalar.remsi v6 c4_i32_3
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c0_i32_8 : BitVec 32 := 0#32
  let c0_i32_9 : BitVec 32 := 0#32
  let c0_i32_10 : BitVec 32 := 0#32
  let c0_i32_11 : BitVec 32 := 0#32
  ![v23.toNat, c0_i32_8.toNat, c0_i32_9.toNat, c0_i32_10.toNat]

abbrev stage1_0 : Fin 2 → Memref sig .tc .vmem S4x4x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x4x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x4x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x4x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x4x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x4x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x4x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x4x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x4x64x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x4x64x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x4x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4x4x1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4x4x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4x4x128x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S4x4x64x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S4x4x64x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S4x4x64x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S4x4x64x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S4x4x64x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S4x4x64x128 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S4x4x64x128 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S4x4x64x128 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S4x4x64x64 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev stage1_25 : Fin 2 → Memref sig .tc .vmem S4x4x64x64 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S4x4x1x128 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S4x4x1x128 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]
-- ==== ReferenceIdeal.lean ====
abbrev S132x4x64x128 : Shape := ⟨4, ![132, 4, 64, 128]⟩
abbrev S132x4x64x64 : Shape := ⟨4, ![132, 4, 64, 64]⟩
abbrev S132x4x1x128 : Shape := ⟨4, ![132, 4, 1, 128]⟩
abbrev S8448x512 : Shape := ⟨2, ![8448, 512]⟩
abbrev S_ : Shape := ⟨0, ![]⟩
abbrev S2x4x128x128 : Shape := ⟨4, ![2, 4, 128, 128]⟩
abbrev S4x4x64x128 : Shape := ⟨4, ![4, 4, 64, 128]⟩
abbrev S128x4x64x128 : Shape := ⟨4, ![128, 4, 64, 128]⟩
abbrev S132x1x4x64x128 : Shape := ⟨5, ![132, 1, 4, 64, 128]⟩
abbrev S132x2x4x64x128 : Shape := ⟨5, ![132, 2, 4, 64, 128]⟩
abbrev S4x4x1x128 : Shape := ⟨4, ![4, 4, 1, 128]⟩
abbrev S128x4x1x128 : Shape := ⟨4, ![128, 4, 1, 128]⟩
abbrev S132x1x4x1x128 : Shape := ⟨5, ![132, 1, 4, 1, 128]⟩
abbrev S132x2x4x1x128 : Shape := ⟨5, ![132, 2, 4, 1, 128]⟩
abbrev S4x4x64x64 : Shape := ⟨4, ![4, 4, 64, 64]⟩
abbrev S128x4x64x64 : Shape := ⟨4, ![128, 4, 64, 64]⟩
abbrev S132x1x4x64x64 : Shape := ⟨5, ![132, 1, 4, 64, 64]⟩
abbrev S132x2x4x64x64 : Shape := ⟨5, ![132, 2, 4, 64, 64]⟩
abbrev S132x2x4x128x128 : Shape := ⟨5, ![132, 2, 4, 128, 128]⟩
abbrev S132x2x4x1x1 : Shape := ⟨5, ![132, 2, 4, 1, 1]⟩
abbrev S1x2x4x64x128 : Shape := ⟨5, ![1, 2, 4, 64, 128]⟩
abbrev S2x4x64x128 : Shape := ⟨4, ![2, 4, 64, 128]⟩
abbrev S1x2x4x1x128 : Shape := ⟨5, ![1, 2, 4, 1, 128]⟩
abbrev S2x4x1x128 : Shape := ⟨4, ![2, 4, 1, 128]⟩
abbrev S1x2x4x64x64 : Shape := ⟨5, ![1, 2, 4, 64, 64]⟩
abbrev S2x4x64x64 : Shape := ⟨4, ![2, 4, 64, 64]⟩
abbrev S2x4x1x1 : Shape := ⟨4, ![2, 4, 1, 1]⟩
abbrev S1x2x4x128x128 : Shape := ⟨5, ![1, 2, 4, 128, 128]⟩
abbrev S1x2x4x1x1 : Shape := ⟨5, ![1, 2, 4, 1, 1]⟩
abbrev S132x64x4x128 : Shape := ⟨4, ![132, 64, 4, 128]⟩
abbrev S2x4x128x64 : Shape := ⟨4, ![2, 4, 128, 64]⟩
abbrev S2x4 : Shape := ⟨2, ![2, 4]⟩

abbrev nBuf : Space → Nat
  | .hbm => 420
  | .vmem => 0
  | .smem => 0
  | _ => 0

abbrev hbmTy0_0 (i : Nat) : BufTy := match i % 128 with
  | 0 => ⟨S132x4x64x128, .f32⟩
  | 1 => ⟨S132x4x64x128, .f32⟩
  | 2 => ⟨S132x4x64x128, .f32⟩
  | 3 => ⟨S132x4x64x128, .f32⟩
  | 4 => ⟨S132x4x64x128, .f32⟩
  | 5 => ⟨S132x4x64x128, .f32⟩
  | 6 => ⟨S132x4x64x128, .f32⟩
  | 7 => ⟨S132x4x64x128, .f32⟩
  | 8 => ⟨S132x4x64x64, .f32⟩
  | 9 => ⟨S132x4x64x64, .f32⟩
  | 10 => ⟨S132x4x1x128, .f32⟩
  | 11 => ⟨S132x4x1x128, .f32⟩
  | 12 => ⟨S8448x512, .f32⟩
  | 13 => ⟨S8448x512, .f32⟩
  | 14 => ⟨S_, .f32⟩
  | 15 => ⟨S2x4x128x128, .f32⟩
  | 16 => ⟨S4x4x64x128, .f32⟩
  | 17 => ⟨S4x4x64x128, .f32⟩
  | 18 => ⟨S128x4x64x128, .f32⟩
  | 19 => ⟨S128x4x64x128, .f32⟩
  | 20 => ⟨S132x4x64x128, .f32⟩
  | 21 => ⟨S132x1x4x64x128, .f32⟩
  | 22 => ⟨S132x1x4x64x128, .f32⟩
  | 23 => ⟨S132x2x4x64x128, .f32⟩
  | 24 => ⟨S4x4x64x128, .f32⟩
  | 25 => ⟨S4x4x64x128, .f32⟩
  | 26 => ⟨S128x4x64x128, .f32⟩
  | 27 => ⟨S128x4x64x128, .f32⟩
  | 28 => ⟨S132x4x64x128, .f32⟩
  | 29 => ⟨S132x1x4x64x128, .f32⟩
  | 30 => ⟨S132x1x4x64x128, .f32⟩
  | 31 => ⟨S132x2x4x64x128, .f32⟩
  | 32 => ⟨S4x4x64x128, .f32⟩
  | 33 => ⟨S4x4x64x128, .f32⟩
  | 34 => ⟨S128x4x64x128, .f32⟩
  | 35 => ⟨S128x4x64x128, .f32⟩
  | 36 => ⟨S132x4x64x128, .f32⟩
  | 37 => ⟨S132x1x4x64x128, .f32⟩
  | 38 => ⟨S132x1x4x64x128, .f32⟩
  | 39 => ⟨S132x2x4x64x128, .f32⟩
  | 40 => ⟨S4x4x1x128, .f32⟩
  | 41 => ⟨S4x4x1x128, .f32⟩
  | 42 => ⟨S128x4x1x128, .f32⟩
  | 43 => ⟨S128x4x1x128, .f32⟩
  | 44 => ⟨S132x4x1x128, .f32⟩
  | 45 => ⟨S132x1x4x1x128, .f32⟩
  | 46 => ⟨S132x1x4x1x128, .f32⟩
  | 47 => ⟨S132x2x4x1x128, .f32⟩
  | 48 => ⟨S4x4x64x128, .f32⟩
  | 49 => ⟨S4x4x64x128, .f32⟩
  | 50 => ⟨S128x4x64x128, .f32⟩
  | 51 => ⟨S128x4x64x128, .f32⟩
  | 52 => ⟨S132x4x64x128, .f32⟩
  | 53 => ⟨S132x1x4x64x128, .f32⟩
  | 54 => ⟨S132x1x4x64x128, .f32⟩
  | 55 => ⟨S132x2x4x64x128, .f32⟩
  | 56 => ⟨S4x4x64x64, .f32⟩
  | 57 => ⟨S4x4x64x64, .f32⟩
  | 58 => ⟨S128x4x64x64, .f32⟩
  | 59 => ⟨S128x4x64x64, .f32⟩
  | 60 => ⟨S132x4x64x64, .f32⟩
  | 61 => ⟨S132x1x4x64x64, .f32⟩
  | 62 => ⟨S132x1x4x64x64, .f32⟩
  | 63 => ⟨S132x2x4x64x64, .f32⟩
  | 64 => ⟨S_, .f32⟩
  | 65 => ⟨S132x2x4x64x128, .f32⟩
  | 66 => ⟨S_, .f32⟩
  | 67 => ⟨S132x2x4x128x128, .f32⟩
  | 68 => ⟨S_, .f32⟩
  | 69 => ⟨S132x2x4x1x1, .f32⟩
  | 70 => ⟨S_, .f32⟩
  | 71 => ⟨S132x2x4x64x128, .f32⟩
  | 72 => ⟨S_, .i32⟩
  | 73 => ⟨S132x2x4x64x128, .f32⟩
  | 74 => ⟨S132x2x4x64x128, .f32⟩
  | 75 => ⟨S132x2x4x64x128, .f32⟩
  | 76 => ⟨S132x2x4x1x128, .f32⟩
  | 77 => ⟨S132x2x4x64x128, .f32⟩
  | 78 => ⟨S132x2x4x64x64, .f32⟩
  | 79 => ⟨S_, .i32⟩
  | 80 => ⟨S2x4x128x128, .f32⟩
  | 81 => ⟨S132x2x4x64x128, .f32⟩
  | 82 => ⟨S132x2x4x128x128, .f32⟩
  | 83 => ⟨S132x2x4x1x1, .f32⟩
  | 84 => ⟨S132x2x4x64x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x2x4x64x128, .f32⟩
  | 92 => ⟨S2x4x64x128, .f32⟩
  | 93 => ⟨S_, .i32⟩
  | 94 => ⟨S_, .i32⟩
  | 95 => ⟨S_, .i32⟩
  | 96 => ⟨S_, .i32⟩
  | 97 => ⟨S1x2x4x64x128, .f32⟩
  | 98 => ⟨S2x4x64x128, .f32⟩
  | 99 => ⟨S_, .i32⟩
  | 100 => ⟨S_, .i32⟩
  | 101 => ⟨S_, .i32⟩
  | 102 => ⟨S_, .i32⟩
  | 103 => ⟨S1x2x4x64x128, .f32⟩
  | 104 => ⟨S2x4x64x128, .f32⟩
  | 105 => ⟨S_, .i32⟩
  | 106 => ⟨S_, .i32⟩
  | 107 => ⟨S_, .i32⟩
  | 108 => ⟨S_, .i32⟩
  | 109 => ⟨S1x2x4x1x128, .f32⟩
  | 110 => ⟨S2x4x1x128, .f32⟩
  | 111 => ⟨S_, .i32⟩
  | 112 => ⟨S_, .i32⟩
  | 113 => ⟨S_, .i32⟩
  | 114 => ⟨S_, .i32⟩
  | 115 => ⟨S1x2x4x64x128, .f32⟩
  | 116 => ⟨S2x4x64x128, .f32⟩
  | 117 => ⟨S_, .i32⟩
  | 118 => ⟨S_, .i32⟩
  | 119 => ⟨S_, .i32⟩
  | 120 => ⟨S_, .i32⟩
  | 121 => ⟨S1x2x4x64x64, .f32⟩
  | 122 => ⟨S2x4x64x64, .f32⟩
  | 123 => ⟨S2x4x64x128, .f32⟩
  | 124 => ⟨S2x4x64x128, .f32⟩
  | 125 => ⟨S2x4x1x1, .f32⟩
  | 126 => ⟨S2x4x128x128, .f32⟩
  | 127 => ⟨S2x4x128x128, .f32⟩
  | _ => ⟨S132x4x64x128, .f32⟩

abbrev hbmTy0_1 (i : Nat) : BufTy := match i % 128 with
  | 0 => ⟨S2x4x128x128, .f32⟩
  | 1 => ⟨S2x4x128x128, .f32⟩
  | 2 => ⟨S2x4x64x128, .f32⟩
  | 3 => ⟨S2x4x64x128, .f32⟩
  | 4 => ⟨S2x4x64x128, .f32⟩
  | 5 => ⟨S1x2x4x64x128, .f32⟩
  | 6 => ⟨S_, .i32⟩
  | 7 => ⟨S_, .i32⟩
  | 8 => ⟨S_, .i32⟩
  | 9 => ⟨S_, .i32⟩
  | 10 => ⟨S132x2x4x64x128, .f32⟩
  | 11 => ⟨S1x2x4x128x128, .f32⟩
  | 12 => ⟨S_, .i32⟩
  | 13 => ⟨S_, .i32⟩
  | 14 => ⟨S_, .i32⟩
  | 15 => ⟨S_, .i32⟩
  | 16 => ⟨S132x2x4x128x128, .f32⟩
  | 17 => ⟨S1x2x4x1x1, .f32⟩
  | 18 => ⟨S_, .i32⟩
  | 19 => ⟨S_, .i32⟩
  | 20 => ⟨S_, .i32⟩
  | 21 => ⟨S_, .i32⟩
  | 22 => ⟨S132x2x4x1x1, .f32⟩
  | 23 => ⟨S1x2x4x64x128, .f32⟩
  | 24 => ⟨S_, .i32⟩
  | 25 => ⟨S_, .i32⟩
  | 26 => ⟨S_, .i32⟩
  | 27 => ⟨S_, .i32⟩
  | 28 => ⟨S132x2x4x64x128, .f32⟩
  | 29 => ⟨S_, .i32⟩
  | 30 => ⟨S_, .i32⟩
  | 31 => ⟨S132x1x4x64x128, .f32⟩
  | 32 => ⟨S132x4x64x128, .f32⟩
  | 33 => ⟨S132x64x4x128, .f32⟩
  | 34 => ⟨S8448x512, .f32⟩
  | 35 => ⟨S132x1x4x64x128, .f32⟩
  | 36 => ⟨S132x4x64x128, .f32⟩
  | 37 => ⟨S4x4x64x128, .f32⟩
  | 38 => ⟨S4x4x64x128, .f32⟩
  | 39 => ⟨S128x4x64x128, .f32⟩
  | 40 => ⟨S128x4x64x128, .f32⟩
  | 41 => ⟨S132x4x64x128, .f32⟩
  | 42 => ⟨S132x64x4x128, .f32⟩
  | 43 => ⟨S8448x512, .f32⟩
  | 44 => ⟨S_, .f32⟩
  | 45 => ⟨S2x4x128x128, .f32⟩
  | 46 => ⟨S132x64x4x128, .f32⟩
  | 47 => ⟨S132x4x64x128, .f32⟩
  | 48 => ⟨S4x4x64x128, .f32⟩
  | 49 => ⟨S128x4x64x128, .f32⟩
  | 50 => ⟨S128x4x64x128, .f32⟩
  | 51 => ⟨S_, .f32⟩
  | 52 => ⟨S132x4x64x128, .f32⟩
  | 53 => ⟨S4x4x64x128, .f32⟩
  | 54 => ⟨S_, .f32⟩
  | 55 => ⟨S132x4x64x128, .f32⟩
  | 56 => ⟨S132x4x64x128, .f32⟩
  | 57 => ⟨S132x1x4x64x128, .f32⟩
  | 58 => ⟨S_, .f32⟩
  | 59 => ⟨S132x2x4x64x128, .f32⟩
  | 60 => ⟨S132x64x4x128, .f32⟩
  | 61 => ⟨S132x4x64x128, .f32⟩
  | 62 => ⟨S132x1x4x64x128, .f32⟩
  | 63 => ⟨S_, .f32⟩
  | 64 => ⟨S132x2x4x64x128, .f32⟩
  | 65 => ⟨S132x2x4x64x128, .f32⟩
  | 66 => ⟨S_, .f32⟩
  | 67 => ⟨S2x4x128x128, .f32⟩
  | 68 => ⟨S_, .f32⟩
  | 69 => ⟨S132x2x4x64x128, .f32⟩
  | 70 => ⟨S_, .f32⟩
  | 71 => ⟨S132x2x4x64x128, .f32⟩
  | 72 => ⟨S_, .f32⟩
  | 73 => ⟨S132x2x4x64x128, .f32⟩
  | 74 => ⟨S_, .f32⟩
  | 75 => ⟨S132x2x4x1x128, .f32⟩
  | 76 => ⟨S_, .f32⟩
  | 77 => ⟨S132x2x4x64x128, .f32⟩
  | 78 => ⟨S_, .f32⟩
  | 79 => ⟨S132x2x4x64x64, .f32⟩
  | 80 => ⟨S_, .i32⟩
  | 81 => ⟨S132x2x4x64x128, .f32⟩
  | 82 => ⟨S132x2x4x128x128, .f32⟩
  | 83 => ⟨S132x2x4x64x128, .f32⟩
  | 84 => ⟨S132x2x4x1x1, .f32⟩
  | 85 => ⟨S132x2x4x64x128, .f32⟩
  | 86 => ⟨S132x2x4x64x128, .f32⟩
  | 87 => ⟨S132x2x4x64x128, .f32⟩
  | 88 => ⟨S132x2x4x64x64, .f32⟩
  | 89 => ⟨S_, .i32⟩
  | 90 => ⟨S2x4x128x128, .f32⟩
  | 91 => ⟨S132x2x4x64x128, .f32⟩
  | 92 => ⟨S132x2x4x64x128, .f32⟩
  | 93 => ⟨S132x2x4x64x128, .f32⟩
  | 94 => ⟨S132x2x4x1x128, .f32⟩
  | 95 => ⟨S132x2x4x64x128, .f32⟩
  | 96 => ⟨S132x2x4x64x64, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S1x2x4x64x128, .f32⟩
  | 108 => ⟨S2x4x64x128, .f32⟩
  | 109 => ⟨S_, .i32⟩
  | 110 => ⟨S_, .i32⟩
  | 111 => ⟨S_, .i32⟩
  | 112 => ⟨S_, .i32⟩
  | 113 => ⟨S1x2x4x128x128, .f32⟩
  | 114 => ⟨S2x4x128x128, .f32⟩
  | 115 => ⟨S_, .i32⟩
  | 116 => ⟨S_, .i32⟩
  | 117 => ⟨S_, .i32⟩
  | 118 => ⟨S_, .i32⟩
  | 119 => ⟨S1x2x4x64x128, .f32⟩
  | 120 => ⟨S2x4x64x128, .f32⟩
  | 121 => ⟨S_, .i32⟩
  | 122 => ⟨S_, .i32⟩
  | 123 => ⟨S_, .i32⟩
  | 124 => ⟨S_, .i32⟩
  | 125 => ⟨S1x2x4x1x1, .f32⟩
  | 126 => ⟨S2x4x1x1, .f32⟩
  | 127 => ⟨S_, .i32⟩
  | _ => ⟨S132x4x64x128, .f32⟩

abbrev hbmTy0_2 (i : Nat) : BufTy := match i % 128 with
  | 0 => ⟨S_, .i32⟩
  | 1 => ⟨S_, .i32⟩
  | 2 => ⟨S_, .i32⟩
  | 3 => ⟨S1x2x4x64x128, .f32⟩
  | 4 => ⟨S2x4x64x128, .f32⟩
  | 5 => ⟨S_, .i32⟩
  | 6 => ⟨S_, .i32⟩
  | 7 => ⟨S_, .i32⟩
  | 8 => ⟨S_, .i32⟩
  | 9 => ⟨S1x2x4x64x128, .f32⟩
  | 10 => ⟨S2x4x64x128, .f32⟩
  | 11 => ⟨S_, .i32⟩
  | 12 => ⟨S_, .i32⟩
  | 13 => ⟨S_, .i32⟩
  | 14 => ⟨S_, .i32⟩
  | 15 => ⟨S1x2x4x64x128, .f32⟩
  | 16 => ⟨S2x4x64x128, .f32⟩
  | 17 => ⟨S_, .i32⟩
  | 18 => ⟨S_, .i32⟩
  | 19 => ⟨S_, .i32⟩
  | 20 => ⟨S_, .i32⟩
  | 21 => ⟨S1x2x4x64x64, .f32⟩
  | 22 => ⟨S2x4x64x64, .f32⟩
  | 23 => ⟨S2x4x128x64, .f32⟩
  | 24 => ⟨S2x4x64x128, .f32⟩
  | 25 => ⟨S2x4x64x64, .f32⟩
  | 26 => ⟨S2x4x128x128, .f32⟩
  | 27 => ⟨S2x4x128x128, .f32⟩
  | 28 => ⟨S2x4x64x128, .f32⟩
  | 29 => ⟨S2x4x128x64, .f32⟩
  | 30 => ⟨S2x4x64x128, .f32⟩
  | 31 => ⟨S2x4x64x128, .f32⟩
  | 32 => ⟨S2x4x128x64, .f32⟩
  | 33 => ⟨S2x4x64x128, .f32⟩
  | 34 => ⟨S2x4x128x128, .f32⟩
  | 35 => ⟨S_, .f32⟩
  | 36 => ⟨S2x4, .f32⟩
  | 37 => ⟨S2x4x1x1, .f32⟩
  | 38 => ⟨S2x4x128x128, .f32⟩
  | 39 => ⟨S2x4x128x128, .f32⟩
  | 40 => ⟨S2x4x128x128, .f32⟩
  | 41 => ⟨S_, .f32⟩
  | 42 => ⟨S2x4x1x128, .f32⟩
  | 43 => ⟨S2x4x64x128, .f32⟩
  | 44 => ⟨S2x4x128x128, .f32⟩
  | 45 => ⟨S2x4x128x128, .f32⟩
  | 46 => ⟨S2x4x128x128, .f32⟩
  | 47 => ⟨S2x4x64x128, .f32⟩
  | 48 => ⟨S1x2x4x64x128, .f32⟩
  | 49 => ⟨S_, .i32⟩
  | 50 => ⟨S_, .i32⟩
  | 51 => ⟨S_, .i32⟩
  | 52 => ⟨S_, .i32⟩
  | 53 => ⟨S132x2x4x64x128, .f32⟩
  | 54 => ⟨S1x2x4x64x128, .f32⟩
  | 55 => ⟨S_, .i32⟩
  | 56 => ⟨S_, .i32⟩
  | 57 => ⟨S_, .i32⟩
  | 58 => ⟨S_, .i32⟩
  | 59 => ⟨S132x2x4x64x128, .f32⟩
  | 60 => ⟨S1x2x4x64x128, .f32⟩
  | 61 => ⟨S_, .i32⟩
  | 62 => ⟨S_, .i32⟩
  | 63 => ⟨S_, .i32⟩
  | 64 => ⟨S_, .i32⟩
  | 65 => ⟨S132x2x4x64x128, .f32⟩
  | 66 => ⟨S1x2x4x1x128, .f32⟩
  | 67 => ⟨S_, .i32⟩
  | 68 => ⟨S_, .i32⟩
  | 69 => ⟨S_, .i32⟩
  | 70 => ⟨S_, .i32⟩
  | 71 => ⟨S132x2x4x1x128, .f32⟩
  | 72 => ⟨S1x2x4x64x128, .f32⟩
  | 73 => ⟨S_, .i32⟩
  | 74 => ⟨S_, .i32⟩
  | 75 => ⟨S_, .i32⟩
  | 76 => ⟨S_, .i32⟩
  | 77 => ⟨S132x2x4x64x128, .f32⟩
  | 78 => ⟨S1x2x4x64x64, .f32⟩
  | 79 => ⟨S_, .i32⟩
  | 80 => ⟨S_, .i32⟩
  | 81 => ⟨S_, .i32⟩
  | 82 => ⟨S_, .i32⟩
  | 83 => ⟨S132x2x4x64x64, .f32⟩
  | 84 => ⟨S_, .i32⟩
  | 85 => ⟨S_, .i32⟩
  | 86 => ⟨S132x1x4x64x64, .f32⟩
  | 87 => ⟨S132x4x64x64, .f32⟩
  | 88 => ⟨S132x1x4x64x64, .f32⟩
  | 89 => ⟨S132x4x64x64, .f32⟩
  | 90 => ⟨S4x4x64x64, .f32⟩
  | 91 => ⟨S128x4x64x64, .f32⟩
  | 92 => ⟨S128x4x64x64, .f32⟩
  | 93 => ⟨S_, .f32⟩
  | 94 => ⟨S132x4x64x64, .f32⟩
  | 95 => ⟨S4x4x64x64, .f32⟩
  | 96 => ⟨S_, .f32⟩
  | 97 => ⟨S132x4x64x64, .f32⟩
  | 98 => ⟨S132x4x64x64, .f32⟩
  | 99 => ⟨S132x1x4x64x128, .f32⟩
  | 100 => ⟨S132x4x64x128, .f32⟩
  | 101 => ⟨S132x1x4x64x128, .f32⟩
  | 102 => ⟨S132x4x64x128, .f32⟩
  | 103 => ⟨S4x4x64x128, .f32⟩
  | 104 => ⟨S128x4x64x128, .f32⟩
  | 105 => ⟨S128x4x64x128, .f32⟩
  | 106 => ⟨S_, .f32⟩
  | 107 => ⟨S132x4x64x128, .f32⟩
  | 108 => ⟨S4x4x64x128, .f32⟩
  | 109 => ⟨S_, .f32⟩
  | 110 => ⟨S132x4x64x128, .f32⟩
  | 111 => ⟨S132x4x64x128, .f32⟩
  | 112 => ⟨S132x1x4x1x128, .f32⟩
  | 113 => ⟨S132x4x1x128, .f32⟩
  | 114 => ⟨S132x1x4x1x128, .f32⟩
  | 115 => ⟨S132x4x1x128, .f32⟩
  | 116 => ⟨S4x4x1x128, .f32⟩
  | 117 => ⟨S128x4x1x128, .f32⟩
  | 118 => ⟨S128x4x1x128, .f32⟩
  | 119 => ⟨S_, .f32⟩
  | 120 => ⟨S132x4x1x128, .f32⟩
  | 121 => ⟨S4x4x1x128, .f32⟩
  | 122 => ⟨S_, .f32⟩
  | 123 => ⟨S132x4x1x128, .f32⟩
  | 124 => ⟨S132x4x1x128, .f32⟩
  | 125 => ⟨S132x1x4x64x128, .f32⟩
  | 126 => ⟨S132x4x64x128, .f32⟩
  | 127 => ⟨S132x1x4x64x128, .f32⟩
  | _ => ⟨S132x4x64x128, .f32⟩

abbrev hbmTy0_3 (i : Nat) : BufTy := match i % 128 with
  | 0 => ⟨S132x4x64x128, .f32⟩
  | 1 => ⟨S4x4x64x128, .f32⟩
  | 2 => ⟨S128x4x64x128, .f32⟩
  | 3 => ⟨S128x4x64x128, .f32⟩
  | 4 => ⟨S_, .f32⟩
  | 5 => ⟨S132x4x64x128, .f32⟩
  | 6 => ⟨S4x4x64x128, .f32⟩
  | 7 => ⟨S_, .f32⟩
  | 8 => ⟨S132x4x64x128, .f32⟩
  | 9 => ⟨S132x4x64x128, .f32⟩
  | 10 => ⟨S132x1x4x64x128, .f32⟩
  | 11 => ⟨S132x4x64x128, .f32⟩
  | 12 => ⟨S132x1x4x64x128, .f32⟩
  | 13 => ⟨S132x4x64x128, .f32⟩
  | 14 => ⟨S4x4x64x128, .f32⟩
  | 15 => ⟨S128x4x64x128, .f32⟩
  | 16 => ⟨S128x4x64x128, .f32⟩
  | 17 => ⟨S_, .f32⟩
  | 18 => ⟨S132x4x64x128, .f32⟩
  | 19 => ⟨S4x4x64x128, .f32⟩
  | 20 => ⟨S_, .f32⟩
  | 21 => ⟨S132x4x64x128, .f32⟩
  | 22 => ⟨S132x4x64x128, .f32⟩
  | 23 => ⟨S132x1x4x64x128, .f32⟩
  | 24 => ⟨S132x4x64x128, .f32⟩
  | 25 => ⟨S132x1x4x64x128, .f32⟩
  | 26 => ⟨S132x4x64x128, .f32⟩
  | 27 => ⟨S4x4x64x128, .f32⟩
  | 28 => ⟨S128x4x64x128, .f32⟩
  | 29 => ⟨S128x4x64x128, .f32⟩
  | 30 => ⟨S_, .f32⟩
  | 31 => ⟨S132x4x64x128, .f32⟩
  | 32 => ⟨S4x4x64x128, .f32⟩
  | 33 => ⟨S_, .f32⟩
  | 34 => ⟨S132x4x64x128, .f32⟩
  | 35 => ⟨S132x4x64x128, .f32⟩
  | _ => ⟨S132x4x64x128, .f32⟩

abbrev hbmTy (i : Nat) : BufTy := match i / 128 with
  | 0 => hbmTy0_0 i
  | 1 => hbmTy0_1 i
  | 2 => hbmTy0_2 i
  | 3 => hbmTy0_3 i
  | _ => ⟨S132x4x64x128, .f32⟩

abbrev bufTy : (tb : Table) → Fin (tcTables nBuf tb) → BufTy
  | .hbm, ⟨i, _⟩ => hbmTy i
  | _, _ => ⟨S132x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_0 : Ref sig .tc := ⟨.hbm, 64, rfl⟩
abbrev main_v49 : Ref sig .tc := ⟨.hbm, 65, rfl⟩
abbrev main_cst_1 : Ref sig .tc := ⟨.hbm, 66, rfl⟩
abbrev main_v50 : Ref sig .tc := ⟨.hbm, 67, rfl⟩
abbrev main_cst_2 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_c : Ref sig .tc := ⟨.hbm, 72, rfl⟩
abbrev main_v53_0 : Ref sig .tc := ⟨.hbm, 73, rfl⟩
abbrev main_v53_1 : Ref sig .tc := ⟨.hbm, 74, rfl⟩
abbrev main_v53_2 : Ref sig .tc := ⟨.hbm, 75, rfl⟩
abbrev main_v53_3 : Ref sig .tc := ⟨.hbm, 76, rfl⟩
abbrev main_v53_4 : Ref sig .tc := ⟨.hbm, 77, rfl⟩
abbrev main_v53_5 : Ref sig .tc := ⟨.hbm, 78, rfl⟩
abbrev main_v53_6 : Ref sig .tc := ⟨.hbm, 79, rfl⟩
abbrev main_v53_7 : Ref sig .tc := ⟨.hbm, 80, rfl⟩
abbrev main_v53_8 : Ref sig .tc := ⟨.hbm, 81, rfl⟩
abbrev main_v53_9 : Ref sig .tc := ⟨.hbm, 82, rfl⟩
abbrev main_v53_10 : Ref sig .tc := ⟨.hbm, 83, rfl⟩
abbrev main_v53_11 : Ref sig .tc := ⟨.hbm, 84, rfl⟩
abbrev main_while0c_c_40 : Ref sig .tc := ⟨.hbm, 85, rfl⟩
abbrev main_while0c_v158 : Ref sig .tc := ⟨.hbm, 86, rfl⟩
abbrev main_while0b_call12_c : Ref sig .tc := ⟨.hbm, 87, rfl⟩
abbrev main_while0b_call12_c_0 : Ref sig .tc := ⟨.hbm, 88, rfl⟩
abbrev main_while0b_call12_c_1 : Ref sig .tc := ⟨.hbm, 89, rfl⟩
abbrev main_while0b_call12_c_2 : Ref sig .tc := ⟨.hbm, 90, rfl⟩
abbrev main_while0b_call12_v0 : Ref sig .tc := ⟨.hbm, 91, rfl⟩
abbrev main_while0b_v158 : Ref sig .tc := ⟨.hbm, 92, rfl⟩
abbrev main_while0b_call13_c : Ref sig .tc := ⟨.hbm, 93, rfl⟩
abbrev main_while0b_call13_c_0 : Ref sig .tc := ⟨.hbm, 94, rfl⟩
abbrev main_while0b_call13_c_1 : Ref sig .tc := ⟨.hbm, 95, rfl⟩
abbrev main_while0b_call13_c_2 : Ref sig .tc := ⟨.hbm, 96, rfl⟩
abbrev main_while0b_call13_v0 : Ref sig .tc := ⟨.hbm, 97, rfl⟩
abbrev main_while0b_v159 : Ref sig .tc := ⟨.hbm, 98, rfl⟩
abbrev main_while0b_call14_c : Ref sig .tc := ⟨.hbm, 99, rfl⟩
abbrev main_while0b_call14_c_0 : Ref sig .tc := ⟨.hbm, 100, rfl⟩
abbrev main_while0b_call14_c_1 : Ref sig .tc := ⟨.hbm, 101, rfl⟩
abbrev main_while0b_call14_c_2 : Ref sig .tc := ⟨.hbm, 102, rfl⟩
abbrev main_while0b_call14_v0 : Ref sig .tc := ⟨.hbm, 103, rfl⟩
abbrev main_while0b_v160 : Ref sig .tc := ⟨.hbm, 104, rfl⟩
abbrev main_while0b_call15_c : Ref sig .tc := ⟨.hbm, 105, rfl⟩
abbrev main_while0b_call15_c_0 : Ref sig .tc := ⟨.hbm, 106, rfl⟩
abbrev main_while0b_call15_c_1 : Ref sig .tc := ⟨.hbm, 107, rfl⟩
abbrev main_while0b_call15_c_2 : Ref sig .tc := ⟨.hbm, 108, rfl⟩
abbrev main_while0b_call15_v0 : Ref sig .tc := ⟨.hbm, 109, rfl⟩
abbrev main_while0b_v161 : Ref sig .tc := ⟨.hbm, 110, rfl⟩
abbrev main_while0b_call16_c : Ref sig .tc := ⟨.hbm, 111, rfl⟩
abbrev main_while0b_call16_c_0 : Ref sig .tc := ⟨.hbm, 112, rfl⟩
abbrev main_while0b_call16_c_1 : Ref sig .tc := ⟨.hbm, 113, rfl⟩
abbrev main_while0b_call16_c_2 : Ref sig .tc := ⟨.hbm, 114, rfl⟩
abbrev main_while0b_call16_v0 : Ref sig .tc := ⟨.hbm, 115, rfl⟩
abbrev main_while0b_v162 : Ref sig .tc := ⟨.hbm, 116, rfl⟩
abbrev main_while0b_call17_c : Ref sig .tc := ⟨.hbm, 117, rfl⟩
abbrev main_while0b_call17_c_0 : Ref sig .tc := ⟨.hbm, 118, rfl⟩
abbrev main_while0b_call17_c_1 : Ref sig .tc := ⟨.hbm, 119, rfl⟩
abbrev main_while0b_call17_c_2 : Ref sig .tc := ⟨.hbm, 120, rfl⟩
abbrev main_while0b_call17_v0 : Ref sig .tc := ⟨.hbm, 121, rfl⟩
abbrev main_while0b_v163 : Ref sig .tc := ⟨.hbm, 122, rfl⟩
abbrev main_while0b_v164 : Ref sig .tc := ⟨.hbm, 123, rfl⟩
abbrev main_while0b_v165 : Ref sig .tc := ⟨.hbm, 124, rfl⟩
abbrev main_while0b_v166 : Ref sig .tc := ⟨.hbm, 125, rfl⟩
abbrev main_while0b_v167 : Ref sig .tc := ⟨.hbm, 126, rfl⟩
abbrev main_while0b_v168 : Ref sig .tc := ⟨.hbm, 127, rfl⟩
abbrev main_while0b_v169 : Ref sig .tc := ⟨.hbm, 128, rfl⟩
abbrev main_while0b_v170 : Ref sig .tc := ⟨.hbm, 129, rfl⟩
abbrev main_while0b_v171 : Ref sig .tc := ⟨.hbm, 130, rfl⟩
abbrev main_while0b_v172 : Ref sig .tc := ⟨.hbm, 131, rfl⟩
abbrev main_while0b_v173 : Ref sig .tc := ⟨.hbm, 132, rfl⟩
abbrev main_while0b_call18_v0 : Ref sig .tc := ⟨.hbm, 133, rfl⟩
abbrev main_while0b_call18_c : Ref sig .tc := ⟨.hbm, 134, rfl⟩
abbrev main_while0b_call18_c_0 : Ref sig .tc := ⟨.hbm, 135, rfl⟩
abbrev main_while0b_call18_c_1 : Ref sig .tc := ⟨.hbm, 136, rfl⟩
abbrev main_while0b_call18_c_2 : Ref sig .tc := ⟨.hbm, 137, rfl⟩
abbrev main_while0b_v174 : Ref sig .tc := ⟨.hbm, 138, rfl⟩
abbrev main_while0b_call19_v0 : Ref sig .tc := ⟨.hbm, 139, rfl⟩
abbrev main_while0b_call19_c : Ref sig .tc := ⟨.hbm, 140, rfl⟩
abbrev main_while0b_call19_c_0 : Ref sig .tc := ⟨.hbm, 141, rfl⟩
abbrev main_while0b_call19_c_1 : Ref sig .tc := ⟨.hbm, 142, rfl⟩
abbrev main_while0b_call19_c_2 : Ref sig .tc := ⟨.hbm, 143, rfl⟩
abbrev main_while0b_v175 : Ref sig .tc := ⟨.hbm, 144, rfl⟩
abbrev main_while0b_call20_v0 : Ref sig .tc := ⟨.hbm, 145, rfl⟩
abbrev main_while0b_call20_c : Ref sig .tc := ⟨.hbm, 146, rfl⟩
abbrev main_while0b_call20_c_0 : Ref sig .tc := ⟨.hbm, 147, rfl⟩
abbrev main_while0b_call20_c_1 : Ref sig .tc := ⟨.hbm, 148, rfl⟩
abbrev main_while0b_call20_c_2 : Ref sig .tc := ⟨.hbm, 149, rfl⟩
abbrev main_while0b_v176 : Ref sig .tc := ⟨.hbm, 150, rfl⟩
abbrev main_while0b_call21_v0 : Ref sig .tc := ⟨.hbm, 151, rfl⟩
abbrev main_while0b_call21_c : Ref sig .tc := ⟨.hbm, 152, rfl⟩
abbrev main_while0b_call21_c_0 : Ref sig .tc := ⟨.hbm, 153, rfl⟩
abbrev main_while0b_call21_c_1 : Ref sig .tc := ⟨.hbm, 154, rfl⟩
abbrev main_while0b_call21_c_2 : Ref sig .tc := ⟨.hbm, 155, rfl⟩
abbrev main_while0b_v177 : Ref sig .tc := ⟨.hbm, 156, rfl⟩
abbrev main_while0b_c_40 : Ref sig .tc := ⟨.hbm, 157, rfl⟩
abbrev main_while0b_v178 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_cst_4 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_cst_5 : Ref sig .tc := ⟨.hbm, 179, rfl⟩
abbrev main_v73 : Ref sig .tc := ⟨.hbm, 180, rfl⟩
abbrev main_v74 : Ref sig .tc := ⟨.hbm, 181, rfl⟩
abbrev main_cst_6 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_cst_7 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_cst_8 : Ref sig .tc := ⟨.hbm, 191, rfl⟩
abbrev main_v82 : Ref sig .tc := ⟨.hbm, 192, rfl⟩
abbrev main_v83 : Ref sig .tc := ⟨.hbm, 193, rfl⟩
abbrev main_cst_9 : Ref sig .tc := ⟨.hbm, 194, rfl⟩
abbrev main_v84 : Ref sig .tc := ⟨.hbm, 195, rfl⟩
abbrev main_cst_10 : Ref sig .tc := ⟨.hbm, 196, rfl⟩
abbrev main_v85 : Ref sig .tc := ⟨.hbm, 197, rfl⟩
abbrev main_cst_11 : Ref sig .tc := ⟨.hbm, 198, rfl⟩
abbrev main_v86 : Ref sig .tc := ⟨.hbm, 199, rfl⟩
abbrev main_cst_12 : Ref sig .tc := ⟨.hbm, 200, rfl⟩
abbrev main_v87 : Ref sig .tc := ⟨.hbm, 201, rfl⟩
abbrev main_cst_13 : Ref sig .tc := ⟨.hbm, 202, rfl⟩
abbrev main_v88 : Ref sig .tc := ⟨.hbm, 203, rfl⟩
abbrev main_cst_14 : Ref sig .tc := ⟨.hbm, 204, rfl⟩
abbrev main_v89 : Ref sig .tc := ⟨.hbm, 205, rfl⟩
abbrev main_cst_15 : Ref sig .tc := ⟨.hbm, 206, rfl⟩
abbrev main_v90 : Ref sig .tc := ⟨.hbm, 207, rfl⟩
abbrev main_c_16 : Ref sig .tc := ⟨.hbm, 208, rfl⟩
abbrev main_v91_0 : Ref sig .tc := ⟨.hbm, 209, rfl⟩
abbrev main_v91_1 : Ref sig .tc := ⟨.hbm, 210, rfl⟩
abbrev main_v91_2 : Ref sig .tc := ⟨.hbm, 211, rfl⟩
abbrev main_v91_3 : Ref sig .tc := ⟨.hbm, 212, rfl⟩
abbrev main_v91_4 : Ref sig .tc := ⟨.hbm, 213, rfl⟩
abbrev main_v91_5 : Ref sig .tc := ⟨.hbm, 214, rfl⟩
abbrev main_v91_6 : Ref sig .tc := ⟨.hbm, 215, rfl⟩
abbrev main_v91_7 : Ref sig .tc := ⟨.hbm, 216, rfl⟩
abbrev main_v91_8 : Ref sig .tc := ⟨.hbm, 217, rfl⟩
abbrev main_v91_9 : Ref sig .tc := ⟨.hbm, 218, rfl⟩
abbrev main_v91_10 : Ref sig .tc := ⟨.hbm, 219, rfl⟩
abbrev main_v91_11 : Ref sig .tc := ⟨.hbm, 220, rfl⟩
abbrev main_v91_12 : Ref sig .tc := ⟨.hbm, 221, rfl⟩
abbrev main_v91_13 : Ref sig .tc := ⟨.hbm, 222, rfl⟩
abbrev main_v91_14 : Ref sig .tc := ⟨.hbm, 223, rfl⟩
abbrev main_v91_15 : Ref sig .tc := ⟨.hbm, 224, rfl⟩
abbrev main_while1c_c_44 : Ref sig .tc := ⟨.hbm, 225, rfl⟩
abbrev main_while1c_v158 : Ref sig .tc := ⟨.hbm, 226, rfl⟩
abbrev main_while1b_c_44 : Ref sig .tc := ⟨.hbm, 227, rfl⟩
abbrev main_while1b_v158 : Ref sig .tc := ⟨.hbm, 228, rfl⟩
abbrev main_while1b_c_45 : Ref sig .tc := ⟨.hbm, 229, rfl⟩
abbrev main_while1b_v159 : Ref sig .tc := ⟨.hbm, 230, rfl⟩
abbrev main_while1b_call26_c : Ref sig .tc := ⟨.hbm, 231, rfl⟩
abbrev main_while1b_call26_c_0 : Ref sig .tc := ⟨.hbm, 232, rfl⟩
abbrev main_while1b_call26_c_1 : Ref sig .tc := ⟨.hbm, 233, rfl⟩
abbrev main_while1b_call26_c_2 : Ref sig .tc := ⟨.hbm, 234, rfl⟩
abbrev main_while1b_call26_v0 : Ref sig .tc := ⟨.hbm, 235, rfl⟩
abbrev main_while1b_v160 : Ref sig .tc := ⟨.hbm, 236, rfl⟩
abbrev main_while1b_call27_c : Ref sig .tc := ⟨.hbm, 237, rfl⟩
abbrev main_while1b_call27_c_0 : Ref sig .tc := ⟨.hbm, 238, rfl⟩
abbrev main_while1b_call27_c_1 : Ref sig .tc := ⟨.hbm, 239, rfl⟩
abbrev main_while1b_call27_c_2 : Ref sig .tc := ⟨.hbm, 240, rfl⟩
abbrev main_while1b_call27_v0 : Ref sig .tc := ⟨.hbm, 241, rfl⟩
abbrev main_while1b_v161 : Ref sig .tc := ⟨.hbm, 242, rfl⟩
abbrev main_while1b_call28_c : Ref sig .tc := ⟨.hbm, 243, rfl⟩
abbrev main_while1b_call28_c_0 : Ref sig .tc := ⟨.hbm, 244, rfl⟩
abbrev main_while1b_call28_c_1 : Ref sig .tc := ⟨.hbm, 245, rfl⟩
abbrev main_while1b_call28_c_2 : Ref sig .tc := ⟨.hbm, 246, rfl⟩
abbrev main_while1b_call28_v0 : Ref sig .tc := ⟨.hbm, 247, rfl⟩
abbrev main_while1b_v162 : Ref sig .tc := ⟨.hbm, 248, rfl⟩
abbrev main_while1b_call29_c : Ref sig .tc := ⟨.hbm, 249, rfl⟩
abbrev main_while1b_call29_c_0 : Ref sig .tc := ⟨.hbm, 250, rfl⟩
abbrev main_while1b_call29_c_1 : Ref sig .tc := ⟨.hbm, 251, rfl⟩
abbrev main_while1b_call29_c_2 : Ref sig .tc := ⟨.hbm, 252, rfl⟩
abbrev main_while1b_call29_v0 : Ref sig .tc := ⟨.hbm, 253, rfl⟩
abbrev main_while1b_v163 : Ref sig .tc := ⟨.hbm, 254, rfl⟩
abbrev main_while1b_call30_c : Ref sig .tc := ⟨.hbm, 255, rfl⟩
abbrev main_while1b_call30_c_0 : Ref sig .tc := ⟨.hbm, 256, rfl⟩
abbrev main_while1b_call30_c_1 : Ref sig .tc := ⟨.hbm, 257, rfl⟩
abbrev main_while1b_call30_c_2 : Ref sig .tc := ⟨.hbm, 258, rfl⟩
abbrev main_while1b_call30_v0 : Ref sig .tc := ⟨.hbm, 259, rfl⟩
abbrev main_while1b_v164 : Ref sig .tc := ⟨.hbm, 260, rfl⟩
abbrev main_while1b_call31_c : Ref sig .tc := ⟨.hbm, 261, rfl⟩
abbrev main_while1b_call31_c_0 : Ref sig .tc := ⟨.hbm, 262, rfl⟩
abbrev main_while1b_call31_c_1 : Ref sig .tc := ⟨.hbm, 263, rfl⟩
abbrev main_while1b_call31_c_2 : Ref sig .tc := ⟨.hbm, 264, rfl⟩
abbrev main_while1b_call31_v0 : Ref sig .tc := ⟨.hbm, 265, rfl⟩
abbrev main_while1b_v165 : Ref sig .tc := ⟨.hbm, 266, rfl⟩
abbrev main_while1b_call32_c : Ref sig .tc := ⟨.hbm, 267, rfl⟩
abbrev main_while1b_call32_c_0 : Ref sig .tc := ⟨.hbm, 268, rfl⟩
abbrev main_while1b_call32_c_1 : Ref sig .tc := ⟨.hbm, 269, rfl⟩
abbrev main_while1b_call32_c_2 : Ref sig .tc := ⟨.hbm, 270, rfl⟩
abbrev main_while1b_call32_v0 : Ref sig .tc := ⟨.hbm, 271, rfl⟩
abbrev main_while1b_v166 : Ref sig .tc := ⟨.hbm, 272, rfl⟩
abbrev main_while1b_call33_c : Ref sig .tc := ⟨.hbm, 273, rfl⟩
abbrev main_while1b_call33_c_0 : Ref sig .tc := ⟨.hbm, 274, rfl⟩
abbrev main_while1b_call33_c_1 : Ref sig .tc := ⟨.hbm, 275, rfl⟩
abbrev main_while1b_call33_c_2 : Ref sig .tc := ⟨.hbm, 276, rfl⟩
abbrev main_while1b_call33_v0 : Ref sig .tc := ⟨.hbm, 277, rfl⟩
abbrev main_while1b_v167 : Ref sig .tc := ⟨.hbm, 278, rfl⟩
abbrev main_while1b_v168 : Ref sig .tc := ⟨.hbm, 279, rfl⟩
abbrev main_while1b_v169 : Ref sig .tc := ⟨.hbm, 280, rfl⟩
abbrev main_while1b_v170 : Ref sig .tc := ⟨.hbm, 281, rfl⟩
abbrev main_while1b_v171 : Ref sig .tc := ⟨.hbm, 282, rfl⟩
abbrev main_while1b_v172 : Ref sig .tc := ⟨.hbm, 283, rfl⟩
abbrev main_while1b_v173 : Ref sig .tc := ⟨.hbm, 284, rfl⟩
abbrev main_while1b_v174 : Ref sig .tc := ⟨.hbm, 285, rfl⟩
abbrev main_while1b_v175 : Ref sig .tc := ⟨.hbm, 286, rfl⟩
abbrev main_while1b_v176 : Ref sig .tc := ⟨.hbm, 287, rfl⟩
abbrev main_while1b_v177 : Ref sig .tc := ⟨.hbm, 288, rfl⟩
abbrev main_while1b_v178 : Ref sig .tc := ⟨.hbm, 289, rfl⟩
abbrev main_while1b_v179 : Ref sig .tc := ⟨.hbm, 290, rfl⟩
abbrev main_while1b_cst_46 : Ref sig .tc := ⟨.hbm, 291, rfl⟩
abbrev main_while1b_v180 : Ref sig .tc := ⟨.hbm, 292, rfl⟩
abbrev main_while1b_v181 : Ref sig .tc := ⟨.hbm, 293, rfl⟩
abbrev main_while1b_v182 : Ref sig .tc := ⟨.hbm, 294, rfl⟩
abbrev main_while1b_v183 : Ref sig .tc := ⟨.hbm, 295, rfl⟩
abbrev main_while1b_v184 : Ref sig .tc := ⟨.hbm, 296, rfl⟩
abbrev main_while1b_cst_47 : Ref sig .tc := ⟨.hbm, 297, rfl⟩
abbrev main_while1b_v185 : Ref sig .tc := ⟨.hbm, 298, rfl⟩
abbrev main_while1b_v186 : Ref sig .tc := ⟨.hbm, 299, rfl⟩
abbrev main_while1b_v187 : Ref sig .tc := ⟨.hbm, 300, rfl⟩
abbrev main_while1b_v188 : Ref sig .tc := ⟨.hbm, 301, rfl⟩
abbrev main_while1b_v189 : Ref sig .tc := ⟨.hbm, 302, rfl⟩
abbrev main_while1b_v190 : Ref sig .tc := ⟨.hbm, 303, rfl⟩
abbrev main_while1b_call34_v0 : Ref sig .tc := ⟨.hbm, 304, rfl⟩
abbrev main_while1b_call34_c : Ref sig .tc := ⟨.hbm, 305, rfl⟩
abbrev main_while1b_call34_c_0 : Ref sig .tc := ⟨.hbm, 306, rfl⟩
abbrev main_while1b_call34_c_1 : Ref sig .tc := ⟨.hbm, 307, rfl⟩
abbrev main_while1b_call34_c_2 : Ref sig .tc := ⟨.hbm, 308, rfl⟩
abbrev main_while1b_v191 : Ref sig .tc := ⟨.hbm, 309, rfl⟩
abbrev main_while1b_call35_v0 : Ref sig .tc := ⟨.hbm, 310, rfl⟩
abbrev main_while1b_call35_c : Ref sig .tc := ⟨.hbm, 311, rfl⟩
abbrev main_while1b_call35_c_0 : Ref sig .tc := ⟨.hbm, 312, rfl⟩
abbrev main_while1b_call35_c_1 : Ref sig .tc := ⟨.hbm, 313, rfl⟩
abbrev main_while1b_call35_c_2 : Ref sig .tc := ⟨.hbm, 314, rfl⟩
abbrev main_while1b_v192 : Ref sig .tc := ⟨.hbm, 315, rfl⟩
abbrev main_while1b_call36_v0 : Ref sig .tc := ⟨.hbm, 316, rfl⟩
abbrev main_while1b_call36_c : Ref sig .tc := ⟨.hbm, 317, rfl⟩
abbrev main_while1b_call36_c_0 : Ref sig .tc := ⟨.hbm, 318, rfl⟩
abbrev main_while1b_call36_c_1 : Ref sig .tc := ⟨.hbm, 319, rfl⟩
abbrev main_while1b_call36_c_2 : Ref sig .tc := ⟨.hbm, 320, rfl⟩
abbrev main_while1b_v193 : Ref sig .tc := ⟨.hbm, 321, rfl⟩
abbrev main_while1b_call37_v0 : Ref sig .tc := ⟨.hbm, 322, rfl⟩
abbrev main_while1b_call37_c : Ref sig .tc := ⟨.hbm, 323, rfl⟩
abbrev main_while1b_call37_c_0 : Ref sig .tc := ⟨.hbm, 324, rfl⟩
abbrev main_while1b_call37_c_1 : Ref sig .tc := ⟨.hbm, 325, rfl⟩
abbrev main_while1b_call37_c_2 : Ref sig .tc := ⟨.hbm, 326, rfl⟩
abbrev main_while1b_v194 : Ref sig .tc := ⟨.hbm, 327, rfl⟩
abbrev main_while1b_call38_v0 : Ref sig .tc := ⟨.hbm, 328, rfl⟩
abbrev main_while1b_call38_c : Ref sig .tc := ⟨.hbm, 329, rfl⟩
abbrev main_while1b_call38_c_0 : Ref sig .tc := ⟨.hbm, 330, rfl⟩
abbrev main_while1b_call38_c_1 : Ref sig .tc := ⟨.hbm, 331, rfl⟩
abbrev main_while1b_call38_c_2 : Ref sig .tc := ⟨.hbm, 332, rfl⟩
abbrev main_while1b_v195 : Ref sig .tc := ⟨.hbm, 333, rfl⟩
abbrev main_while1b_call39_v0 : Ref sig .tc := ⟨.hbm, 334, rfl⟩
abbrev main_while1b_call39_c : Ref sig .tc := ⟨.hbm, 335, rfl⟩
abbrev main_while1b_call39_c_0 : Ref sig .tc := ⟨.hbm, 336, rfl⟩
abbrev main_while1b_call39_c_1 : Ref sig .tc := ⟨.hbm, 337, rfl⟩
abbrev main_while1b_call39_c_2 : Ref sig .tc := ⟨.hbm, 338, rfl⟩
abbrev main_while1b_v196 : Ref sig .tc := ⟨.hbm, 339, rfl⟩
abbrev main_while1b_c_48 : Ref sig .tc := ⟨.hbm, 340, rfl⟩
abbrev main_while1b_v197 : Ref sig .tc := ⟨.hbm, 341, rfl⟩
abbrev main_v92 : Ref sig .tc := ⟨.hbm, 342, rfl⟩
abbrev main_v93 : Ref sig .tc := ⟨.hbm, 343, rfl⟩
abbrev main_v94 : Ref sig .tc := ⟨.hbm, 344, rfl⟩
abbrev main_v95 : Ref sig .tc := ⟨.hbm, 345, rfl⟩
abbrev main_v96 : Ref sig .tc := ⟨.hbm, 346, rfl⟩
abbrev main_v97 : Ref sig .tc := ⟨.hbm, 347, rfl⟩
abbrev main_v98 : Ref sig .tc := ⟨.hbm, 348, rfl⟩
abbrev main_cst_17 : Ref sig .tc := ⟨.hbm, 349, rfl⟩
abbrev main_v99 : Ref sig .tc := ⟨.hbm, 350, rfl⟩
abbrev main_v100 : Ref sig .tc := ⟨.hbm, 351, rfl⟩
abbrev main_cst_18 : Ref sig .tc := ⟨.hbm, 352, rfl⟩
abbrev main_v101 : Ref sig .tc := ⟨.hbm, 353, rfl⟩
abbrev main_v102 : Ref sig .tc := ⟨.hbm, 354, rfl⟩
abbrev main_v103 : Ref sig .tc := ⟨.hbm, 355, rfl⟩
abbrev main_v104 : Ref sig .tc := ⟨.hbm, 356, rfl⟩
abbrev main_v105 : Ref sig .tc := ⟨.hbm, 357, rfl⟩
abbrev main_v106 : Ref sig .tc := ⟨.hbm, 358, rfl⟩
abbrev main_v107 : Ref sig .tc := ⟨.hbm, 359, rfl⟩
abbrev main_v108 : Ref sig .tc := ⟨.hbm, 360, rfl⟩
abbrev main_v109 : Ref sig .tc := ⟨.hbm, 361, rfl⟩
abbrev main_cst_19 : Ref sig .tc := ⟨.hbm, 362, rfl⟩
abbrev main_v110 : Ref sig .tc := ⟨.hbm, 363, rfl⟩
abbrev main_v111 : Ref sig .tc := ⟨.hbm, 364, rfl⟩
abbrev main_cst_20 : Ref sig .tc := ⟨.hbm, 365, rfl⟩
abbrev main_v112 : Ref sig .tc := ⟨.hbm, 366, rfl⟩
abbrev main_v113 : Ref sig .tc := ⟨.hbm, 367, rfl⟩
abbrev main_v114 : Ref sig .tc := ⟨.hbm, 368, rfl⟩
abbrev main_v115 : Ref sig .tc := ⟨.hbm, 369, rfl⟩
abbrev main_v116 : Ref sig .tc := ⟨.hbm, 370, rfl⟩
abbrev main_v117 : Ref sig .tc := ⟨.hbm, 371, rfl⟩
abbrev main_v118 : Ref sig .tc := ⟨.hbm, 372, rfl⟩
abbrev main_v119 : Ref sig .tc := ⟨.hbm, 373, rfl⟩
abbrev main_v120 : Ref sig .tc := ⟨.hbm, 374, rfl⟩
abbrev main_cst_21 : Ref sig .tc := ⟨.hbm, 375, rfl⟩
abbrev main_v121 : Ref sig .tc := ⟨.hbm, 376, rfl⟩
abbrev main_v122 : Ref sig .tc := ⟨.hbm, 377, rfl⟩
abbrev main_cst_22 : Ref sig .tc := ⟨.hbm, 378, rfl⟩
abbrev main_v123 : Ref sig .tc := ⟨.hbm, 379, rfl⟩
abbrev main_v124 : Ref sig .tc := ⟨.hbm, 380, rfl⟩
abbrev main_v125 : Ref sig .tc := ⟨.hbm, 381, rfl⟩
abbrev main_v126 : Ref sig .tc := ⟨.hbm, 382, rfl⟩
abbrev main_v127 : Ref sig .tc := ⟨.hbm, 383, rfl⟩
abbrev main_v128 : Ref sig .tc := ⟨.hbm, 384, rfl⟩
abbrev main_v129 : Ref sig .tc := ⟨.hbm, 385, rfl⟩
abbrev main_v130 : Ref sig .tc := ⟨.hbm, 386, rfl⟩
abbrev main_v131 : Ref sig .tc := ⟨.hbm, 387, rfl⟩
abbrev main_cst_23 : Ref sig .tc := ⟨.hbm, 388, rfl⟩
abbrev main_v132 : Ref sig .tc := ⟨.hbm, 389, rfl⟩
abbrev main_v133 : Ref sig .tc := ⟨.hbm, 390, rfl⟩
abbrev main_cst_24 : Ref sig .tc := ⟨.hbm, 391, rfl⟩
abbrev main_v134 : Ref sig .tc := ⟨.hbm, 392, rfl⟩
abbrev main_v135 : Ref sig .tc := ⟨.hbm, 393, rfl⟩
abbrev main_v136 : Ref sig .tc := ⟨.hbm, 394, rfl⟩
abbrev main_v137 : Ref sig .tc := ⟨.hbm, 395, rfl⟩
abbrev main_v138 : Ref sig .tc := ⟨.hbm, 396, rfl⟩
abbrev main_v139 : Ref sig .tc := ⟨.hbm, 397, rfl⟩
abbrev main_v140 : Ref sig .tc := ⟨.hbm, 398, rfl⟩
abbrev main_v141 : Ref sig .tc := ⟨.hbm, 399, rfl⟩
abbrev main_v142 : Ref sig .tc := ⟨.hbm, 400, rfl⟩
abbrev main_cst_25 : Ref sig .tc := ⟨.hbm, 401, rfl⟩
abbrev main_v143 : Ref sig .tc := ⟨.hbm, 402, rfl⟩
abbrev main_v144 : Ref sig .tc := ⟨.hbm, 403, rfl⟩
abbrev main_cst_26 : Ref sig .tc := ⟨.hbm, 404, rfl⟩
abbrev main_v145 : Ref sig .tc := ⟨.hbm, 405, rfl⟩
abbrev main_v146 : Ref sig .tc := ⟨.hbm, 406, rfl⟩
abbrev main_v147 : Ref sig .tc := ⟨.hbm, 407, rfl⟩
abbrev main_v148 : Ref sig .tc := ⟨.hbm, 408, rfl⟩
abbrev main_v149 : Ref sig .tc := ⟨.hbm, 409, rfl⟩
abbrev main_v150 : Ref sig .tc := ⟨.hbm, 410, rfl⟩
abbrev main_v151 : Ref sig .tc := ⟨.hbm, 411, rfl⟩
abbrev main_v152 : Ref sig .tc := ⟨.hbm, 412, rfl⟩
abbrev main_v153 : Ref sig .tc := ⟨.hbm, 413, rfl⟩
abbrev main_cst_27 : Ref sig .tc := ⟨.hbm, 414, rfl⟩
abbrev main_v154 : Ref sig .tc := ⟨.hbm, 415, rfl⟩
abbrev main_v155 : Ref sig .tc := ⟨.hbm, 416, rfl⟩
abbrev main_cst_28 : Ref sig .tc := ⟨.hbm, 417, rfl⟩
abbrev main_v156 : Ref sig .tc := ⟨.hbm, 418, rfl⟩
abbrev main_v157 : Ref sig .tc := ⟨.hbm, 419, rfl⟩

abbrev nD : Nat := 1
abbrev τ : Topo := Topo.v7x

variable {F : FTy → Type} [FloatOps F]

abbrev main_while0_count : Scf.Loop 32 := ⟨0#32, 132#32, 1#32⟩

abbrev main_while1_count : Scf.Loop 32 := ⟨0#32, 132#32, 1#32⟩
-- ==== Kernel2.lean ====
abbrev S8448x5632 : Shape := ⟨2, ![8448, 5632]⟩
abbrev S1024x5632 : Shape := ⟨2, ![1024, 5632]⟩
abbrev S8448x1024 : Shape := ⟨2, ![8448, 1024]⟩
abbrev S768x2816 : Shape := ⟨2, ![768, 2816]⟩
abbrev S1024x2816 : Shape := ⟨2, ![1024, 2816]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S1024x2816, .bf16⟩
  | .local _ .vmem, ⟨3, _⟩ => ⟨S1024x2816, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8448x5632 : Shape := ⟨2, ![8448, 5632]⟩
abbrev S1024x5632 : Shape := ⟨2, ![1024, 5632]⟩
abbrev S_ : Shape := ⟨0, ![]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S_, .f32⟩
  | .hbm, ⟨3, _⟩ => ⟨S8448x1024, .f32⟩
  | .hbm, ⟨4, _⟩ => ⟨S1024x5632, .f32⟩
  | .hbm, ⟨5, _⟩ => ⟨S8448x5632, .f32⟩
  | .hbm, ⟨6, _⟩ => ⟨S8448x5632, .f32⟩
  | .hbm, ⟨7, _⟩ => ⟨S8448x1024, .f32⟩
  | .hbm, ⟨8, _⟩ => ⟨S8448x1024, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8448x1024 : Shape := ⟨2, ![8448, 1024]⟩
abbrev S8448x5632 : Shape := ⟨2, ![8448, 5632]⟩
abbrev S1024x5632 : Shape := ⟨2, ![1024, 5632]⟩
abbrev S2112x1024 : Shape := ⟨2, ![2112, 1024]⟩
abbrev S2112x1408 : Shape := ⟨2, ![2112, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .f32⟩
  | .local _ .vmem, ⟨0, _⟩ => ⟨S2112x1024, .bf16⟩
  | .local _ .vmem, ⟨1, _⟩ => ⟨S2112x1024, .bf16⟩
  | .local _ .vmem, ⟨2, _⟩ => ⟨S2112x1408, .bf16⟩
  | .local _ .vmem, ⟨3, _⟩ => ⟨S2112x1408, .bf16⟩
  | .local _ .vmem, ⟨4, _⟩ => ⟨S1024x1408, .f32⟩
  | .local _ .vmem, ⟨5, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8448x1024 : Shape := ⟨2, ![8448, 1024]⟩
abbrev S2816x1024 : Shape := ⟨2, ![2816, 1024]⟩
abbrev S8448x2816 : Shape := ⟨2, ![8448, 2816]⟩
abbrev S768x1024 : Shape := ⟨2, ![768, 1024]⟩
abbrev S768x2816 : Shape := ⟨2, ![768, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S2816x1024, .bf16⟩
  | .local _ .vmem, ⟨3, _⟩ => ⟨S768x2816, .bf16⟩
  | .local _ .vmem, ⟨4, _⟩ => ⟨S768x2816, .bf16⟩
  | .local _ .vmem, ⟨5, _⟩ => ⟨S768x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | .hbm, ⟨7, _⟩ => ⟨S8448x2816, .f32⟩
  | .hbm, ⟨8, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8448x2816 : Shape := ⟨2, ![8448, 2816]⟩
abbrev S8448x1024 : Shape := ⟨2, ![8448, 1024]⟩
abbrev S2816x1024 : Shape := ⟨2, ![2816, 1024]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .f32⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .f32⟩
  | .local _ .vmem, ⟨5, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8448x1536 : Shape := ⟨2, ![8448, 1536]⟩
abbrev S8448x3072 : Shape := ⟨2, ![8448, 3072]⟩
abbrev S8448x1664 : Shape := ⟨2, ![8448, 1664]⟩
abbrev S1024x1536 : Shape := ⟨2, ![1024, 1536]⟩
abbrev S1024x3072 : Shape := ⟨2, ![1024, 3072]⟩
abbrev S1024x1664 : Shape := ⟨2, ![1024, 1664]⟩
abbrev S8448x1024 : Shape := ⟨2, ![8448, 1024]⟩
abbrev S768x1536 : Shape := ⟨2, ![768, 1536]⟩
abbrev S768x1664 : Shape := ⟨2, ![768, 1664]⟩
abbrev S768x1024 : Shape := ⟨2, ![768, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8448x1536, .bf16⟩
  | .hbm, ⟨1, _⟩ => ⟨S8448x3072, .bf16⟩
  | .hbm, ⟨2, _⟩ => ⟨S8448x1664, .bf16⟩
  | .hbm, ⟨3, _⟩ => ⟨S1024x1536, .bf16⟩
  | .hbm, ⟨4, _⟩ => ⟨S1024x3072, .bf16⟩
  | .hbm, ⟨5, _⟩ => ⟨S1024x1664, .bf16⟩
  | .hbm, ⟨6, _⟩ => ⟨S8448x1024, .bf16⟩
  | .local _ .vmem, ⟨0, _⟩ => ⟨S768x1536, .bf16⟩
  | .local _ .vmem, ⟨1, _⟩ => ⟨S768x1536, .bf16⟩
  | .local _ .vmem, ⟨2, _⟩ => ⟨S768x1536, .bf16⟩
  | .local _ .vmem, ⟨3, _⟩ => ⟨S768x1536, .bf16⟩
  | .local _ .vmem, ⟨4, _⟩ => ⟨S768x1664, .bf16⟩
  | .local _ .vmem, ⟨5, _⟩ => ⟨S768x1664, .bf16⟩
  | .local _ .vmem, ⟨6, _⟩ => ⟨S1024x1536, .bf16⟩
  | .local _ .vmem, ⟨7, _⟩ => ⟨S1024x1536, .bf16⟩
  | .local _ .vmem, ⟨8, _⟩ => ⟨S1024x1536, .bf16⟩
  | .local _ .vmem, ⟨9, _⟩ => ⟨S1024x1536, .bf16⟩
  | .local _ .vmem, ⟨10, _⟩ => ⟨S1024x1664, .bf16⟩
  | .local _ .vmem, ⟨11, _⟩ => ⟨S1024x1664, .bf16⟩
  | .local _ .vmem, ⟨12, _⟩ => ⟨S768x1024, .bf16⟩
  | .local _ .vmem, ⟨13, _⟩ => ⟨S768x1024, .bf16⟩
  | .local _ .vmem, ⟨14, _⟩ => ⟨S768x1024, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 4], ![false, false]⟩

def k0_cond5 (i : grid0.Coords) : BitVec 1 :=
  let arg1 : BitVec 32 := BitVec.ofNat 32 (i 1).val
  let c3_i32_7 : BitVec 32 := 3#32
  let v18 : BitVec 1 := Scalar.cmpi .eq arg1 c3_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8448x1536 : Shape := ⟨2, ![8448, 1536]⟩
abbrev S8448x3072 : Shape := ⟨2, ![8448, 3072]⟩
abbrev S8448x1664 : Shape := ⟨2, ![8448, 1664]⟩
abbrev S1024x1536 : Shape := ⟨2, ![1024, 1536]⟩
abbrev S1024x3072 : Shape := ⟨2, ![1024, 3072]⟩
abbrev S1024x1664 : Shape := ⟨2, ![1024, 1664]⟩
abbrev S_ : Shape := ⟨0, ![]⟩
abbrev S8448x1024 : Shape := ⟨2, ![8448, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S8448x3072, .bf16⟩
  | .hbm, ⟨2, _⟩ => ⟨S8448x1664, .bf16⟩
  | .hbm, ⟨3, _⟩ => ⟨S1024x1536, .bf16⟩
  | .hbm, ⟨4, _⟩ => ⟨S1024x3072, .bf16⟩
  | .hbm, ⟨5, _⟩ => ⟨S1024x1664, .bf16⟩
  | .hbm, ⟨6, _⟩ => ⟨S_, .f32⟩
  | .hbm, ⟨7, _⟩ => ⟨S8448x1024, .f32⟩
  | .hbm, ⟨8, _⟩ => ⟨S1024x1536, .f32⟩
  | .hbm, ⟨9, _⟩ => ⟨S1024x3072, .f32⟩
  | .hbm, ⟨10, _⟩ => ⟨S1024x1664, .f32⟩
  | .hbm, ⟨11, _⟩ => ⟨S8448x1536, .f32⟩
  | .hbm, ⟨12, _⟩ => ⟨S8448x3072, .f32⟩
  | .hbm, ⟨13, _⟩ => ⟨S8448x1664, .f32⟩
  | .hbm, ⟨14, _⟩ => ⟨S8448x1536, .f32⟩
  | .hbm, ⟨15, _⟩ => ⟨S8448x3072, .f32⟩
  | .hbm, ⟨16, _⟩ => ⟨S8448x1664, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .bf16⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S8448x1024 : Shape := ⟨2, ![8448, 1024]⟩
abbrev S8448x1536 : Shape := ⟨2, ![8448, 1536]⟩
abbrev S1024x1536 : Shape := ⟨2, ![1024, 1536]⟩
abbrev S2112x1024 : Shape := ⟨2, ![2112, 1024]⟩
abbrev S2112x1536 : Shape := ⟨2, ![2112, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S1024x1536, .f32⟩
  | .local _ .vmem, ⟨0, _⟩ => ⟨S2112x1024, .bf16⟩
  | .local _ .vmem, ⟨1, _⟩ => ⟨S2112x1024, .bf16⟩
  | .local _ .vmem, ⟨2, _⟩ => ⟨S2112x1536, .bf16⟩
  | .local _ .vmem, ⟨3, _⟩ => ⟨S2112x1536, .bf16⟩
  | .local _ .vmem, ⟨4, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S8448x1536 : Shape := ⟨2, ![8448, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S_, .f32⟩
  | .hbm, ⟨3, _⟩ => ⟨S1024x1536, .f32⟩
  | .hbm, ⟨4, _⟩ => ⟨S8448x1024, .f32⟩
  | .hbm, ⟨5, _⟩ => ⟨S8448x1536, .f32⟩
  | .hbm, ⟨6, _⟩ => ⟨S8448x1536, .f32⟩
  | .hbm, ⟨7, _⟩ => ⟨S1536x1024, .f32⟩
  | .hbm, ⟨8, _⟩ => ⟨S1024x1536, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8448x1024 : Shape := ⟨2, ![8448, 1024]⟩
abbrev S8448x3072 : Shape := ⟨2, ![8448, 3072]⟩
abbrev S1024x3072 : Shape := ⟨2, ![1024, 3072]⟩
abbrev S2112x1024 : Shape := ⟨2, ![2112, 1024]⟩
abbrev S2112x1536 : Shape := ⟨2, ![2112, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x3072, .bf16⟩
  | .hbm, ⟨2, _⟩ => ⟨S1024x3072, .f32⟩
  | .local _ .vmem, ⟨0, _⟩ => ⟨S2112x1024, .bf16⟩
  | .local _ .vmem, ⟨1, _⟩ => ⟨S2112x1024, .bf16⟩
  | .local _ .vmem, ⟨2, _⟩ => ⟨S2112x1536, .bf16⟩
  | .local _ .vmem, ⟨3, _⟩ => ⟨S2112x1536, .bf16⟩
  | .local _ .vmem, ⟨4, _⟩ => ⟨S1024x1536, .f32⟩
  | .local _ .vmem, ⟨5, _⟩ => ⟨S1024x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x1024 : Shape := ⟨2, ![8448, 1024]⟩
abbrev S8448x3072 : Shape := ⟨2, ![8448, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x3072, .bf16⟩
  | .hbm, ⟨2, _⟩ => ⟨S_, .f32⟩
  | .hbm, ⟨3, _⟩ => ⟨S1024x3072, .f32⟩
  | .hbm, ⟨4, _⟩ => ⟨S8448x1024, .f32⟩
  | .hbm, ⟨5, _⟩ => ⟨S8448x3072, .f32⟩
  | .hbm, ⟨6, _⟩ => ⟨S8448x3072, .f32⟩
  | .hbm, ⟨7, _⟩ => ⟨S3072x1024, .f32⟩
  | .hbm, ⟨8, _⟩ => ⟨S1024x3072, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8448x1024 : Shape := ⟨2, ![8448, 1024]⟩
abbrev S8448x1664 : Shape := ⟨2, ![8448, 1664]⟩
abbrev S1024x1664 : Shape := ⟨2, ![1024, 1664]⟩
abbrev S2112x1024 : Shape := ⟨2, ![2112, 1024]⟩
abbrev S2112x1664 : Shape := ⟨2, ![2112, 1664]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1664, .bf16⟩
  | .hbm, ⟨2, _⟩ => ⟨S1024x1664, .f32⟩
  | .local _ .vmem, ⟨0, _⟩ => ⟨S2112x1024, .bf16⟩
  | .local _ .vmem, ⟨1, _⟩ => ⟨S2112x1024, .bf16⟩
  | .local _ .vmem, ⟨2, _⟩ => ⟨S2112x1664, .bf16⟩
  | .local _ .vmem, ⟨3, _⟩ => ⟨S2112x1664, .bf16⟩
  | .local _ .vmem, ⟨4, _⟩ => ⟨S1024x1664, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8448x1024 : Shape := ⟨2, ![8448, 1024]⟩
abbrev S8448x1664 : Shape := ⟨2, ![8448, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1664, .bf16⟩
  | .hbm, ⟨2, _⟩ => ⟨S_, .f32⟩
  | .hbm, ⟨3, _⟩ => ⟨S1024x1664, .f32⟩
  | .hbm, ⟨4, _⟩ => ⟨S8448x1024, .f32⟩
  | .hbm, ⟨5, _⟩ => ⟨S8448x1664, .f32⟩
  | .hbm, ⟨6, _⟩ => ⟨S8448x1664, .f32⟩
  | .hbm, ⟨7, _⟩ => ⟨S1664x1024, .f32⟩
  | .hbm, ⟨8, _⟩ => ⟨S1024x1664, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8448x1024 : Shape := ⟨2, ![8448, 1024]⟩
abbrev S1024x1024 : Shape := ⟨2, ![1024, 1024]⟩
abbrev S2112x1024 : Shape := ⟨2, ![2112, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S1024x2816 : Shape := ⟨2, ![1024, 2816]⟩
abbrev S768x2816 : Shape := ⟨2, ![768, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .bf16⟩
  | .local _ .vmem, ⟨0, _⟩ => ⟨S768x1024, .bf16⟩
  | .local _ .vmem, ⟨1, _⟩ => ⟨S768x1024, .bf16⟩
  | .local _ .vmem, ⟨2, _⟩ => ⟨S1024x2816, .bf16⟩
  | .local _ .vmem, ⟨3, _⟩ => ⟨S1024x2816, .bf16⟩
  | .local _ .vmem, ⟨4, _⟩ => ⟨S768x2816, .bf16⟩
  | .local _ .vmem, ⟨5, _⟩ => ⟨S768x2816, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | .hbm, ⟨5, _⟩ => ⟨S8448x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8448x2816 : Shape := ⟨2, ![8448, 2816]⟩
abbrev S2816x1024 : Shape := ⟨2, ![2816, 1024]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .bf16⟩
  | .local _ .vmem, ⟨4, _⟩ => ⟨S768x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x2816, .f32⟩
  | .hbm, ⟨3, _⟩ => ⟨S2816x1024, .f32⟩
  | .hbm, ⟨4, _⟩ => ⟨S8448x1024, .f32⟩
  | .hbm, ⟨5, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8448x1024 : Shape := ⟨2, ![8448, 1024]⟩
abbrev S1024x1536 : Shape := ⟨2, ![1024, 1536]⟩
abbrev S8448x1536 : Shape := ⟨2, ![8448, 1536]⟩
abbrev S768x1024 : Shape := ⟨2, ![768, 1024]⟩
abbrev S768x1536 : Shape := ⟨2, ![768, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1536, .bf16⟩
  | .hbm, ⟨2, _⟩ => ⟨S8448x1536, .bf16⟩
  | .local _ .vmem, ⟨0, _⟩ => ⟨S768x1024, .bf16⟩
  | .local _ .vmem, ⟨1, _⟩ => ⟨S768x1024, .bf16⟩
  | .local _ .vmem, ⟨2, _⟩ => ⟨S1024x1536, .bf16⟩
  | .local _ .vmem, ⟨3, _⟩ => ⟨S768x1536, .bf16⟩
  | .local _ .vmem, ⟨4, _⟩ => ⟨S768x1536, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8448x1024 : Shape := ⟨2, ![8448, 1024]⟩
abbrev S1024x1536 : Shape := ⟨2, ![1024, 1536]⟩
abbrev S8448x1536 : Shape := ⟨2, ![8448, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1536, .bf16⟩
  | .hbm, ⟨2, _⟩ => ⟨S8448x1024, .f32⟩
  | .hbm, ⟨3, _⟩ => ⟨S1024x1536, .f32⟩
  | .hbm, ⟨4, _⟩ => ⟨S8448x1536, .f32⟩
  | .hbm, ⟨5, _⟩ => ⟨S8448x1536, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8448x1024 : Shape := ⟨2, ![8448, 1024]⟩
abbrev S1024x3072 : Shape := ⟨2, ![1024, 3072]⟩
abbrev S8448x3072 : Shape := ⟨2, ![8448, 3072]⟩
abbrev S768x1024 : Shape := ⟨2, ![768, 1024]⟩
abbrev S768x3072 : Shape := ⟨2, ![768, 3072]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x3072, .bf16⟩
  | .hbm, ⟨2, _⟩ => ⟨S8448x3072, .bf16⟩
  | .local _ .vmem, ⟨0, _⟩ => ⟨S768x1024, .bf16⟩
  | .local _ .vmem, ⟨1, _⟩ => ⟨S768x1024, .bf16⟩
  | .local _ .vmem, ⟨2, _⟩ => ⟨S1024x3072, .bf16⟩
  | .local _ .vmem, ⟨3, _⟩ => ⟨S768x3072, .bf16⟩
  | .local _ .vmem, ⟨4, _⟩ => ⟨S768x3072, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8448x1024 : Shape := ⟨2, ![8448, 1024]⟩
abbrev S1024x3072 : Shape := ⟨2, ![1024, 3072]⟩
abbrev S8448x3072 : Shape := ⟨2, ![8448, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x3072, .bf16⟩
  | .hbm, ⟨2, _⟩ => ⟨S8448x1024, .f32⟩
  | .hbm, ⟨3, _⟩ => ⟨S1024x3072, .f32⟩
  | .hbm, ⟨4, _⟩ => ⟨S8448x3072, .f32⟩
  | .hbm, ⟨5, _⟩ => ⟨S8448x3072, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8448x1024 : Shape := ⟨2, ![8448, 1024]⟩
abbrev S1024x1664 : Shape := ⟨2, ![1024, 1664]⟩
abbrev S8448x1664 : Shape := ⟨2, ![8448, 1664]⟩
abbrev S768x1024 : Shape := ⟨2, ![768, 1024]⟩
abbrev S768x1664 : Shape := ⟨2, ![768, 1664]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1664, .bf16⟩
  | .hbm, ⟨2, _⟩ => ⟨S8448x1664, .bf16⟩
  | .local _ .vmem, ⟨0, _⟩ => ⟨S768x1024, .bf16⟩
  | .local _ .vmem, ⟨1, _⟩ => ⟨S768x1024, .bf16⟩
  | .local _ .vmem, ⟨2, _⟩ => ⟨S1024x1664, .bf16⟩
  | .local _ .vmem, ⟨3, _⟩ => ⟨S768x1664, .bf16⟩
  | .local _ .vmem, ⟨4, _⟩ => ⟨S768x1664, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8448x1024 : Shape := ⟨2, ![8448, 1024]⟩
abbrev S1024x1664 : Shape := ⟨2, ![1024, 1664]⟩
abbrev S8448x1664 : Shape := ⟨2, ![8448, 1664]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1664, .bf16⟩
  | .hbm, ⟨2, _⟩ => ⟨S8448x1024, .f32⟩
  | .hbm, ⟨3, _⟩ => ⟨S1024x1664, .f32⟩
  | .hbm, ⟨4, _⟩ => ⟨S8448x1664, .f32⟩
  | .hbm, ⟨5, _⟩ => ⟨S8448x1664, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8448x1024 : Shape := ⟨2, ![8448, 1024]⟩
abbrev S512x1024 : Shape := ⟨2, ![512, 1024]⟩
abbrev S8448x512 : Shape := ⟨2, ![8448, 512]⟩
abbrev S768x1024 : Shape := ⟨2, ![768, 1024]⟩
abbrev S768x512 : Shape := ⟨2, ![768, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S8448x512, .bf16⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S768x512, .bf16⟩
  | .local _ .vmem, ⟨4, _⟩ => ⟨S768x512, .bf16⟩
  | .local _ .vmem, ⟨5, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference18Ideal.lean ====
abbrev S8448x1024 : Shape := ⟨2, ![8448, 1024]⟩
abbrev S512x1024 : Shape := ⟨2, ![512, 1024]⟩
abbrev S_ : Shape := ⟨0, ![]⟩
abbrev S8448x512 : Shape := ⟨2, ![8448, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S_, .f32⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S8448x1024, .f32⟩
  | .hbm, ⟨7, _⟩ => ⟨S8448x512, .f32⟩
  | .hbm, ⟨8, _⟩ => ⟨S8448x512, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8448x512 : Shape := ⟨2, ![8448, 512]⟩
abbrev S8448x1024 : Shape := ⟨2, ![8448, 1024]⟩
abbrev S512x1024 : Shape := ⟨2, ![512, 1024]⟩
abbrev S2112x512 : Shape := ⟨2, ![2112, 512]⟩
abbrev S2112x1024 : Shape := ⟨2, ![2112, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S512x1024, .f32⟩
  | .local _ .vmem, ⟨0, _⟩ => ⟨S2112x512, .bf16⟩
  | .local _ .vmem, ⟨1, _⟩ => ⟨S2112x512, .bf16⟩
  | .local _ .vmem, ⟨2, _⟩ => ⟨S2112x1024, .bf16⟩
  | .local _ .vmem, ⟨3, _⟩ => ⟨S2112x1024, .bf16⟩
  | .local _ .vmem, ⟨4, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S_, .f32⟩
  | .hbm, ⟨3, _⟩ => ⟨S512x1024, .f32⟩
  | .hbm, ⟨4, _⟩ => ⟨S8448x512, .f32⟩
  | .hbm, ⟨5, _⟩ => ⟨S8448x1024, .f32⟩
  | .hbm, ⟨6, _⟩ => ⟨S8448x1024, .f32⟩
  | .hbm, ⟨7, _⟩ => ⟨S1024x512, .f32⟩
  | .hbm, ⟨8, _⟩ => ⟨S512x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8448x512 : Shape := ⟨2, ![8448, 512]⟩
abbrev S512x1024 : Shape := ⟨2, ![512, 1024]⟩
abbrev S8448x1024 : Shape := ⟨2, ![8448, 1024]⟩
abbrev S768x512 : Shape := ⟨2, ![768, 512]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .bf16⟩
  | .hbm, ⟨1, _⟩ => ⟨S512x1024, .bf16⟩
  | .hbm, ⟨2, _⟩ => ⟨S8448x1024, .bf16⟩
  | .local _ .vmem, ⟨0, _⟩ => ⟨S768x512, .bf16⟩
  | .local _ .vmem, ⟨1, _⟩ => ⟨S768x512, .bf16⟩
  | .local _ .vmem, ⟨2, _⟩ => ⟨S512x1024, .bf16⟩
  | .local _ .vmem, ⟨3, _⟩ => ⟨S768x1024, .bf16⟩
  | .local _ .vmem, ⟨4, _⟩ => ⟨S768x1024, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8448x512 : Shape := ⟨2, ![8448, 512]⟩
abbrev S512x1024 : Shape := ⟨2, ![512, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S512x1024, .bf16⟩
  | .hbm, ⟨2, _⟩ => ⟨S8448x512, .f32⟩
  | .hbm, ⟨3, _⟩ => ⟨S512x1024, .f32⟩
  | .hbm, ⟨4, _⟩ => ⟨S8448x1024, .f32⟩
  | .hbm, ⟨5, _⟩ => ⟨S8448x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S8448x1024 : Shape := ⟨2, ![8448, 1024]⟩
abbrev S256x1024 : Shape := ⟨2, ![256, 1024]⟩
abbrev S8448x256 : Shape := ⟨2, ![8448, 256]⟩
abbrev S768x1024 : Shape := ⟨2, ![768, 1024]⟩
abbrev S768x256 : Shape := ⟨2, ![768, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S256x1024, .bf16⟩
  | .hbm, ⟨2, _⟩ => ⟨S8448x256, .bf16⟩
  | .local _ .vmem, ⟨0, _⟩ => ⟨S768x1024, .bf16⟩
  | .local _ .vmem, ⟨1, _⟩ => ⟨S768x1024, .bf16⟩
  | .local _ .vmem, ⟨2, _⟩ => ⟨S256x1024, .bf16⟩
  | .local _ .vmem, ⟨3, _⟩ => ⟨S768x256, .bf16⟩
  | .local _ .vmem, ⟨4, _⟩ => ⟨S768x256, .bf16⟩
  | .local _ .vmem, ⟨5, _⟩ => ⟨S768x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference21Ideal.lean ====
abbrev S8448x1024 : Shape := ⟨2, ![8448, 1024]⟩
abbrev S256x1024 : Shape := ⟨2, ![256, 1024]⟩
abbrev S_ : Shape := ⟨0, ![]⟩
abbrev S8448x256 : Shape := ⟨2, ![8448, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S256x1024, .bf16⟩
  | .hbm, ⟨2, _⟩ => ⟨S_, .f32⟩
  | .hbm, ⟨3, _⟩ => ⟨S8448x256, .f32⟩
  | .hbm, ⟨4, _⟩ => ⟨S256x1024, .f32⟩
  | .hbm, ⟨5, _⟩ => ⟨S8448x1024, .f32⟩
  | .hbm, ⟨6, _⟩ => ⟨S8448x1024, .f32⟩
  | .hbm, ⟨7, _⟩ => ⟨S8448x256, .f32⟩
  | .hbm, ⟨8, _⟩ => ⟨S8448x256, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8448x256 : Shape := ⟨2, ![8448, 256]⟩
abbrev S8448x1024 : Shape := ⟨2, ![8448, 1024]⟩
abbrev S256x1024 : Shape := ⟨2, ![256, 1024]⟩
abbrev S2112x256 : Shape := ⟨2, ![2112, 256]⟩
abbrev S2112x1024 : Shape := ⟨2, ![2112, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S256x1024, .f32⟩
  | .local _ .vmem, ⟨0, _⟩ => ⟨S2112x256, .bf16⟩
  | .local _ .vmem, ⟨1, _⟩ => ⟨S2112x256, .bf16⟩
  | .local _ .vmem, ⟨2, _⟩ => ⟨S2112x1024, .bf16⟩
  | .local _ .vmem, ⟨3, _⟩ => ⟨S2112x1024, .bf16⟩
  | .local _ .vmem, ⟨4, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8448x256 : Shape := ⟨2, ![8448, 256]⟩
abbrev S8448x1024 : Shape := ⟨2, ![8448, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S_, .f32⟩
  | .hbm, ⟨3, _⟩ => ⟨S256x1024, .f32⟩
  | .hbm, ⟨4, _⟩ => ⟨S8448x256, .f32⟩
  | .hbm, ⟨5, _⟩ => ⟨S8448x1024, .f32⟩
  | .hbm, ⟨6, _⟩ => ⟨S8448x1024, .f32⟩
  | .hbm, ⟨7, _⟩ => ⟨S1024x256, .f32⟩
  | .hbm, ⟨8, _⟩ => ⟨S256x1024, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S8448x256 : Shape := ⟨2, ![8448, 256]⟩
abbrev S256x1024 : Shape := ⟨2, ![256, 1024]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .bf16⟩
  | .local _ .vmem, ⟨0, _⟩ => ⟨S768x256, .bf16⟩
  | .local _ .vmem, ⟨1, _⟩ => ⟨S768x256, .bf16⟩
  | .local _ .vmem, ⟨2, _⟩ => ⟨S256x1024, .bf16⟩
  | .local _ .vmem, ⟨3, _⟩ => ⟨S768x1024, .bf16⟩
  | .local _ .vmem, ⟨4, _⟩ => ⟨S768x1024, .bf16⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8448x256 : Shape := ⟨2, ![8448, 256]⟩
abbrev S256x1024 : Shape := ⟨2, ![256, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x256, .f32⟩
  | .hbm, ⟨3, _⟩ => ⟨S256x1024, .f32⟩
  | .hbm, ⟨4, _⟩ => ⟨S8448x1024, .f32⟩
  | .hbm, ⟨5, _⟩ => ⟨S8448x1024, .bf16⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S2x1024x1540 : Shape := ⟨3, ![2, 1024, 1540]⟩
abbrev S1x256x1540 : Shape := ⟨3, ![1, 256, 1540]⟩
abbrev S256x1540 : Shape := ⟨2, ![256, 1540]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1540, .f32⟩
  | .hbm, ⟨1, _⟩ => ⟨S2x1024x1540, .f32⟩
  | .hbm, ⟨2, _⟩ => ⟨S2x1024x1540, .f32⟩
  | .hbm, ⟨3, _⟩ => ⟨S2x1024x1540, .f32⟩
  | .hbm, ⟨4, _⟩ => ⟨S2x1024x1540, .f32⟩
  | .hbm, ⟨5, _⟩ => ⟨S2x1024x1540, .f32⟩
  | .hbm, ⟨6, _⟩ => ⟨S2x1024x1540, .f32⟩
  | .local _ .vmem, ⟨0, _⟩ => ⟨S1x256x1540, .f32⟩
  | .local _ .vmem, ⟨1, _⟩ => ⟨S1x256x1540, .f32⟩
  | .local _ .vmem, ⟨2, _⟩ => ⟨S1x256x1540, .f32⟩
  | .local _ .vmem, ⟨3, _⟩ => ⟨S1x256x1540, .f32⟩
  | .local _ .vmem, ⟨4, _⟩ => ⟨S1x256x1540, .f32⟩
  | .local _ .vmem, ⟨5, _⟩ => ⟨S1x256x1540, .f32⟩
  | .local _ .vmem, ⟨6, _⟩ => ⟨S1x256x1540, .f32⟩
  | .local _ .vmem, ⟨7, _⟩ => ⟨S1x256x1540, .f32⟩
  | .local _ .vmem, ⟨8, _⟩ => ⟨S1x256x1540, .f32⟩
  | .local _ .vmem, ⟨9, _⟩ => ⟨S1x256x1540, .f32⟩
  | .local _ .vmem, ⟨10, _⟩ => ⟨S1x256x1540, .f32⟩
  | .local _ .vmem, ⟨11, _⟩ => ⟨S1x256x1540, .f32⟩
  | .local _ .vmem, ⟨12, _⟩ => ⟨S1x256x1540, .f32⟩
  | .local _ .vmem, ⟨13, _⟩ => ⟨S1x256x1540, .f32⟩
  | _, _ => ⟨S2x1024x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S2x1024x1540 : Shape := ⟨3, ![2, 1024, 1540]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1540, .f32⟩
  | .hbm, ⟨1, _⟩ => ⟨S2x1024x1540, .f32⟩
  | .hbm, ⟨2, _⟩ => ⟨S2x1024x1540, .f32⟩
  | .hbm, ⟨3, _⟩ => ⟨S2x1024x1540, .f32⟩
  | .hbm, ⟨4, _⟩ => ⟨S_, .f32⟩
  | .hbm, ⟨5, _⟩ => ⟨S2x1024x1540, .f32⟩
  | .hbm, ⟨6, _⟩ => ⟨S2x1024x1540, .f32⟩
  | .hbm, ⟨7, _⟩ => ⟨S_, .f32⟩
  | .hbm, ⟨8, _⟩ => ⟨S2x1024x1540, .f32⟩
  | .hbm, ⟨9, _⟩ => ⟨S2x1024x1540, .f32⟩
  | .hbm, ⟨10, _⟩ => ⟨S2x1024x1540, .f32⟩
  | .hbm, ⟨11, _⟩ => ⟨S_, .f32⟩
  | .hbm, ⟨12, _⟩ => ⟨S2x1024x1540, .f32⟩
  | .hbm, ⟨13, _⟩ => ⟨S2x1024x1540, .f32⟩
  | .hbm, ⟨14, _⟩ => ⟨S2x1024x1540, .f32⟩
  | .hbm, ⟨15, _⟩ => ⟨S_, .f32⟩
  | .hbm, ⟨16, _⟩ => ⟨S2x1024x1540, .f32⟩
  | .hbm, ⟨17, _⟩ => ⟨S2x1024x1540, .f32⟩
  | .hbm, ⟨18, _⟩ => ⟨S2x1024x1540, .f32⟩
  | .hbm, ⟨19, _⟩ => ⟨S_, .f32⟩
  | .hbm, ⟨20, _⟩ => ⟨S2x1024x1540, .f32⟩
  | .hbm, ⟨21, _⟩ => ⟨S2x1024x1540, .f32⟩
  | .hbm, ⟨22, _⟩ => ⟨S_, .f32⟩
  | .hbm, ⟨23, _⟩ => ⟨S2x1024x1540, .f32⟩
  | .hbm, ⟨24, _⟩ => ⟨S2x1024x1540, .f32⟩
  | .hbm, ⟨25, _⟩ => ⟨S2x1024x1540, .f32⟩
  | .hbm, ⟨26, _⟩ => ⟨S_, .f32⟩
  | .hbm, ⟨27, _⟩ => ⟨S2x1024x1540, .f32⟩
  | .hbm, ⟨28, _⟩ => ⟨S2x1024x1540, .f32⟩
  | .hbm, ⟨29, _⟩ => ⟨S2x1024x1540, .f32⟩
  | .hbm, ⟨30, _⟩ => ⟨S_, .f32⟩
  | .hbm, ⟨31, _⟩ => ⟨S2x1024x1540, .f32⟩
  | .hbm, ⟨32, _⟩ => ⟨S2x1024x1540, .f32⟩
  | .hbm, ⟨33, _⟩ => ⟨S2x1024x1540, .f32⟩
  | .hbm, ⟨34, _⟩ => ⟨S_, .f32⟩
  | .hbm, ⟨35, _⟩ => ⟨S2x1024x1540, .f32⟩
  | .hbm, ⟨36, _⟩ => ⟨S2x1024x1540, .f32⟩
  | _, _ => ⟨S2x1024x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference25Ideal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x704x1024 : Shape := ⟨3, ![2, 704, 1024]⟩
abbrev S1x64x1024 : Shape := ⟨3, ![1, 64, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference26Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference27Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x512x256 : Shape := ⟨3, ![2, 512, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference28Ideal.lean ====
abbrev S2x512x256 : Shape := ⟨3, ![2, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference29Ideal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2x1024x1536 : Shape := ⟨3, ![2, 1024, 1536]⟩
abbrev S1x256x1536 : Shape := ⟨3, ![1, 256, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference30Ideal.lean ====
abbrev S2x1024x1536 : Shape := ⟨3, ![2, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S432x128 : Shape := ⟨2, ![432, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S432x128, .f32⟩
  | .hbm, ⟨1, _⟩ => ⟨S432x128, .f32⟩
  | .hbm, ⟨2, _⟩ => ⟨S432x128, .f32⟩
  | .hbm, ⟨3, _⟩ => ⟨S432x128, .f32⟩
  | .hbm, ⟨4, _⟩ => ⟨S432x128, .f32⟩
  | .hbm, ⟨5, _⟩ => ⟨S432x128, .f32⟩
  | .hbm, ⟨6, _⟩ => ⟨S432x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S432x128 : Shape := ⟨2, ![432, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S432x128, .f32⟩
  | .hbm, ⟨1, _⟩ => ⟨S432x128, .f32⟩
  | .hbm, ⟨2, _⟩ => ⟨S432x128, .f32⟩
  | .hbm, ⟨3, _⟩ => ⟨S432x128, .f32⟩
  | .hbm, ⟨4, _⟩ => ⟨S_, .f32⟩
  | .hbm, ⟨5, _⟩ => ⟨S432x128, .f32⟩
  | .hbm, ⟨6, _⟩ => ⟨S432x128, .f32⟩
  | .hbm, ⟨7, _⟩ => ⟨S_, .f32⟩
  | .hbm, ⟨8, _⟩ => ⟨S432x128, .f32⟩
  | .hbm, ⟨9, _⟩ => ⟨S432x128, .f32⟩
  | .hbm, ⟨10, _⟩ => ⟨S432x128, .f32⟩
  | .hbm, ⟨11, _⟩ => ⟨S_, .f32⟩
  | .hbm, ⟨12, _⟩ => ⟨S432x128, .f32⟩
  | .hbm, ⟨13, _⟩ => ⟨S432x128, .f32⟩
  | .hbm, ⟨14, _⟩ => ⟨S432x128, .f32⟩
  | .hbm, ⟨15, _⟩ => ⟨S_, .f32⟩
  | .hbm, ⟨16, _⟩ => ⟨S432x128, .f32⟩
  | .hbm, ⟨17, _⟩ => ⟨S432x128, .f32⟩
  | .hbm, ⟨18, _⟩ => ⟨S432x128, .f32⟩
  | .hbm, ⟨19, _⟩ => ⟨S_, .f32⟩
  | .hbm, ⟨20, _⟩ => ⟨S432x128, .f32⟩
  | .hbm, ⟨21, _⟩ => ⟨S432x128, .f32⟩
  | .hbm, ⟨22, _⟩ => ⟨S_, .f32⟩
  | .hbm, ⟨23, _⟩ => ⟨S432x128, .f32⟩
  | .hbm, ⟨24, _⟩ => ⟨S432x128, .f32⟩
  | .hbm, ⟨25, _⟩ => ⟨S432x128, .f32⟩
  | .hbm, ⟨26, _⟩ => ⟨S_, .f32⟩
  | .hbm, ⟨27, _⟩ => ⟨S432x128, .f32⟩
  | .hbm, ⟨28, _⟩ => ⟨S432x128, .f32⟩
  | .hbm, ⟨29, _⟩ => ⟨S432x128, .f32⟩
  | .hbm, ⟨30, _⟩ => ⟨S_, .f32⟩
  | .hbm, ⟨31, _⟩ => ⟨S432x128, .f32⟩
  | .hbm, ⟨32, _⟩ => ⟨S432x128, .f32⟩
  | .hbm, ⟨33, _⟩ => ⟨S432x128, .f32⟩
  | .hbm, ⟨34, _⟩ => ⟨S_, .f32⟩
  | .hbm, ⟨35, _⟩ => ⟨S432x128, .f32⟩
  | .hbm, ⟨36, _⟩ => ⟨S432x128, .f32⟩
  | _, _ => ⟨S432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S8448x5632 : Shape := ⟨2, ![8448, 5632]⟩
abbrev S8448x2816 : Shape := ⟨2, ![8448, 2816]⟩
abbrev S768x5632 : Shape := ⟨2, ![768, 5632]⟩
abbrev S768x2816 : Shape := ⟨2, ![768, 2816]⟩

abbrev nBuf : Space → Nat
  | .hbm => 2
  | .vmem => 4
  | .smem => 0
  | _ => 0

abbrev bufTy : (tb : Table) → Fin (tcTables nBuf tb) → BufTy
  | .hbm, ⟨0, _⟩ => ⟨S8448x5632, .bf16⟩
  | .hbm, ⟨1, _⟩ => ⟨S8448x2816, .bf16⟩
  | .local _ .vmem, ⟨0, _⟩ => ⟨S768x5632, .bf16⟩
  | .local _ .vmem, ⟨1, _⟩ => ⟨S768x5632, .bf16⟩
  | .local _ .vmem, ⟨2, _⟩ => ⟨S768x2816, .bf16⟩
  | .local _ .vmem, ⟨3, _⟩ => ⟨S768x2816, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference32Ideal.lean ====
abbrev S8448x5632 : Shape := ⟨2, ![8448, 5632]⟩
abbrev S8448x2816 : Shape := ⟨2, ![8448, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x5632, .f32⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel33.lean ====
abbrev S8448x3072 : Shape := ⟨2, ![8448, 3072]⟩
abbrev S8448x1024 : Shape := ⟨2, ![8448, 1024]⟩
abbrev S768x3072 : Shape := ⟨2, ![768, 3072]⟩
abbrev S768x1024 : Shape := ⟨2, ![768, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8448x3072, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .bf16⟩
  | .local _ .vmem, ⟨0, _⟩ => ⟨S768x3072, .bf16⟩
  | .local _ .vmem, ⟨1, _⟩ => ⟨S768x3072, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference33Ideal.lean ====
abbrev S8448x3072 : Shape := ⟨2, ![8448, 3072]⟩
abbrev S8448x1024 : Shape := ⟨2, ![8448, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8448x3072, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x3072, .f32⟩
  | .hbm, ⟨5, _⟩ => ⟨S8448x3072, .f32⟩
  | .hbm, ⟨6, _⟩ => ⟨S8448x3072, .f32⟩
  | .hbm, ⟨7, _⟩ => ⟨S_, .f32⟩
  | .hbm, ⟨8, _⟩ => ⟨S8448x3072, .f32⟩
  | .hbm, ⟨9, _⟩ => ⟨S8448x3072, .f32⟩
  | .hbm, ⟨10, _⟩ => ⟨S_, .f32⟩
  | .hbm, ⟨11, _⟩ => ⟨S8448x3072, .f32⟩
  | .hbm, ⟨12, _⟩ => ⟨S8448x3072, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .bf16⟩
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.FwdRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The blocks the 12 input windows hold at one grid point. -/
structure In (F : FTy → Type) [FloatOps F] where
  x0 : Vec F S4x4x64x128 .f32
  x1 : Vec F S4x4x64x128 .f32
  x2 : Vec F S4x4x64x128 .f32
  x3 : Vec F S4x4x64x128 .f32
  x4 : Vec F S4x4x64x128 .f32
  x5 : Vec F S4x4x64x128 .f32
  x6 : Vec F S4x4x64x128 .f32
  x7 : Vec F S4x4x64x128 .f32
  x8 : Vec F S4x4x64x64 .f32
  x9 : Vec F S4x4x64x64 .f32
  x10 : Vec F S4x4x1x128 .f32
  x11 : Vec F S4x4x1x128 .f32

/-- The condition under which the body clears its scratch: the first grid point. -/
abbrev cond (i : grid0.Coords) : Prop := (Scalar.cmpi .ne (Scalar.extui (Scalar.cmpi .eq (BitVec.ofNat 32 (i 0).val) 0#32)) 0#32) = 1#1

theorem cond_iff (t : Fin cfg0.N) : cond (grid0.coords t) ↔ t.val = 0 := by
  have ht : t.val < 33 := Nat.lt_of_lt_of_eq t.isLt N_0
  have e0 : (grid0.coords t 0).val = t.val / 1 % 33 := Pipeline.Grid.coords_val t 0 (by decide) rfl
  have e1 : t.val = 0 ↔ t.val % 33 = 0 := by omega
  rw [e1]
  simp only [cond, e0]
  word_cmp

section Run

variable (c : Dev nD) (i : grid0.Coords)
  (arg1 : Memref sig .tc .vmem S4x4x64x128 .f32) (harg1 : arg1.IsWhole)
  (arg2 : Memref sig .tc .vmem S4x4x64x128 .f32) (harg2 : arg2.IsWhole)
  (arg3 : Memref sig .tc .vmem S4x4x64x128 .f32) (harg3 : arg3.IsWhole)
  (arg4 : Memref sig .tc .vmem S4x4x64x128 .f32) (harg4 : arg4.IsWhole)
  (arg5 : Memref sig .tc .vmem S4x4x64x128 .f32) (harg5 : arg5.IsWhole)
  (arg6 : Memref sig .tc .vmem S4x4x64x128 .f32) (harg6 : arg6.IsWhole)
  (arg7 : Memref sig .tc .vmem S4x4x64x128 .f32) (harg7 : arg7.IsWhole)
  (arg8 : Memref sig .tc .vmem S4x4x64x128 .f32) (harg8 : arg8.IsWhole)
  (arg9 : Memref sig .tc .vmem S4x4x64x64 .f32) (harg9 : arg9.IsWhole)
  (arg10 : Memref sig .tc .vmem S4x4x64x64 .f32) (harg10 : arg10.IsWhole)
  (arg11 : Memref sig .tc .vmem S4x4x1x128 .f32) (harg11 : arg11.IsWhole)
  (arg12 : Memref sig .tc .vmem S4x4x1x128 .f32) (harg12 : arg12.IsWhole)
  (arg13 : Memref sig .tc .vmem S256x512 .f32) (harg13 : arg13.IsWhole)
  (arg14 : Memref sig .tc .vmem S256x512 .f32) (harg14 : arg14.IsWhole)
  (arg15 : Memref sig .tc .vmem S4x4x128x128 .f32) (harg15 : arg15.IsWhole)
  (arg16 : Memref sig .tc .vmem S4x4x128x128 .f32) (harg16 : arg16.IsWhole)
  (arg17 : Memref sig .tc .vmem S8x128x128 .f32) (harg17 : arg17.IsWhole)
  (X : In F) (xs : Vec F S8x128x128 .f32)

set_option maxHeartbeats 1000000 in
/-- The body's run at the first grid point: the pieces it leaves in each output's staging buffer and in the scratch (last first), with its triple. -/
noncomputable def runA (hc : cond i) :
    Σ' (L0 : List (View.Piece (Elt F) S256x512 .f32)), Σ' (L1 : List (View.Piece (Elt F) S256x512 .f32)), Σ' (L2 : List (View.Piece (Elt F) S4x4x128x128 .f32)), Σ' (L3 : List (View.Piece (Elt F) S4x4x128x128 .f32)), { LS : List (View.Piece (Elt F) S8x128x128 .f32) //
      ∀ (E : Set ℕ) (K : PUnit → sProp 𝕄),
        iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
            ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ (∃ f, arg13.view.loc (c : Thread nD τ) ↦[arg13.view.set]{fullShare} arg13.view.writes (Elt F) f L0) ∗ (∃ f, arg14.view.loc (c : Thread nD τ) ↦[arg14.view.set]{fullShare} arg14.view.writes (Elt F) f L1) ∗ (∃ f, arg15.view.loc (c : Thread nD τ) ↦[arg15.view.set]{fullShare} arg15.view.writes (Elt F) f L2) ∗ (∃ f, arg16.view.loc (c : Thread nD τ) ↦[arg16.view.set]{fullShare} arg16.view.writes (Elt F) f L3) ∗ (∃ f, arg17.view.loc (c : Thread nD τ) ↦[arg17.view.set]{fullShare} arg17.view.writes (Elt F) f LS)) -∗ K ⟨⟩))
          ⊢ wp frame (wpE (defs₀ (F := F)) Variants.none c none) E (cc0_l0_dn_scan_f i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_l0_dn_scan_f_eq_skeleton]; unfold cc0_l0_dn_scan_f_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg17.eq_unread hfs0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    iexists _; iexact HS0

set_option maxHeartbeats 1000000 in
/-- The body's run at a later grid point: the pieces it leaves in each output's staging buffer and in the scratch (last first), with its triple. -/
noncomputable def runB (hc : ¬cond i) :
    Σ' (L0 : List (View.Piece (Elt F) S256x512 .f32)), Σ' (L1 : List (View.Piece (Elt F) S256x512 .f32)), Σ' (L2 : List (View.Piece (Elt F) S4x4x128x128 .f32)), Σ' (L3 : List (View.Piece (Elt F) S4x4x128x128 .f32)), { LS : List (View.Piece (Elt F) S8x128x128 .f32) //
      ∀ (E : Set ℕ) (K : PUnit → sProp 𝕄),
        iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
            ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ (∃ f, arg13.view.loc (c : Thread nD τ) ↦[arg13.view.set]{fullShare} arg13.view.writes (Elt F) f L0) ∗ (∃ f, arg14.view.loc (c : Thread nD τ) ↦[arg14.view.set]{fullShare} arg14.view.writes (Elt F) f L1) ∗ (∃ f, arg15.view.loc (c : Thread nD τ) ↦[arg15.view.set]{fullShare} arg15.view.writes (Elt F) f L2) ∗ (∃ f, arg16.view.loc (c : Thread nD τ) ↦[arg16.view.set]{fullShare} arg16.view.writes (Elt F) f L3) ∗ (∃ f, arg17.view.loc (c : Thread nD τ) ↦[arg17.view.set]{fullShare} arg17.view.writes (Elt F) f LS)) -∗ K ⟨⟩))
          ⊢ wp frame (wpE (defs₀ (F := F)) Variants.none c none) E (cc0_l0_dn_scan_f i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_l0_dn_scan_f_eq_skeleton]; unfold cc0_l0_dn_scan_f_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg17.eq_unread hfs0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    iexists _; iexact HS0

end Run

end Cert.KernelIdeal.Fwd

end
-- ==== Proof.FwdStep.lean ====
module

public import proofs.«01_k».proof.Proof.FwdRun
public import Idealize.ShloMosaic.Lib.WholeRead
public import Idealize.ShloMosaic.Lib.Pipeline.ValueKit.Basic

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## One chunk's step -/

/-- Both directions' inputs of one chunk step, the four heads of the forward walk before the four of the backward one. -/
structure StepIn (F : FTy → Type) [FloatOps F] where
  u : FVec F S8x64x128 .f32
  w : FVec F S8x64x128 .f32
  qd : FVec F S8x64x128 .f32
  ks : FVec F S8x64x128 .f32
  aqk : FVec F S8x64x64 .f32
  ga : Vec F S1x4x1x128 .f32
  gb : Vec F S1x4x1x128 .f32

/-- Row `j` of a block of four chunks. -/
abbrev row (j : ℕ) (h : ∀ a, (![j, 0, 0, 0] : Fin 4 → ℕ) a + S1x4x64x128.size a ≤ S4x4x64x128.size a) (x : Vec F S4x4x64x128 .f32) : Vec F S1x4x64x128 .f32 :=
  fun y => x ((Rect.unit (s := S4x4x64x128) ![j, 0, 0, 0] S1x4x64x128.size h).toLoadRect.idx y)
abbrev rowA (j : ℕ) (h : ∀ a, (![j, 0, 0, 0] : Fin 4 → ℕ) a + S1x4x64x64.size a ≤ S4x4x64x64.size a) (x : Vec F S4x4x64x64 .f32) : Vec F S1x4x64x64 .f32 :=
  fun y => x ((Rect.unit (s := S4x4x64x64) ![j, 0, 0, 0] S1x4x64x64.size h).toLoadRect.idx y)
abbrev rowG (j : ℕ) (h : ∀ a, (![j, 0, 0, 0] : Fin 4 → ℕ) a + S1x4x1x128.size a ≤ S4x4x1x128.size a) (x : Vec F S4x4x1x128 .f32) : Vec F S1x4x1x128 .f32 :=
  fun y => x ((Rect.unit (s := S4x4x1x128) ![j, 0, 0, 0] S1x4x1x128.size h).toLoadRect.idx y)

/-- The inputs of a step that reads row `j` of the forward walk's blocks and row `k` of the backward walk's. -/
def stepIn (j k : ℕ) (hj : ∀ a, (![j, 0, 0, 0] : Fin 4 → ℕ) a + S1x4x64x128.size a ≤ S4x4x64x128.size a) (hk : ∀ a, (![k, 0, 0, 0] : Fin 4 → ℕ) a + S1x4x64x128.size a ≤ S4x4x64x128.size a)
    (hja : ∀ a, (![j, 0, 0, 0] : Fin 4 → ℕ) a + S1x4x64x64.size a ≤ S4x4x64x64.size a) (hka : ∀ a, (![k, 0, 0, 0] : Fin 4 → ℕ) a + S1x4x64x64.size a ≤ S4x4x64x64.size a)
    (hjg : ∀ a, (![j, 0, 0, 0] : Fin 4 → ℕ) a + S1x4x1x128.size a ≤ S4x4x1x128.size a) (hkg : ∀ a, (![k, 0, 0, 0] : Fin 4 → ℕ) a + S1x4x1x128.size a ≤ S4x4x1x128.size a) (X : In F) : StepIn F where
  u := k0_pay19 (row j hj X.x0) (row k hk X.x1)
  w := k0_pay19 (row j hj X.x2) (row k hk X.x3)
  qd := k0_pay19 (row j hj X.x4) (row k hk X.x5)
  ks := k0_pay19 (row j hj X.x6) (row k hk X.x7)
  aqk := k0_pay22 (rowA j hja X.x8) (rowA k hka X.x9)
  ga := rowG j hjg X.x10
  gb := rowG k hkg X.x11

/-- The state after the step, and what the step contributes to the outputs. -/
def next (A : StepIn F) (s : FVec F S8x128x128 .f32) : FVec F S8x128x128 .f32 := k0_pay26 s A.u A.w A.qd A.ks A.ga A.gb
def oFwd (A : StepIn F) (s : FVec F S8x128x128 .f32) : FVec F S64x512 .f32 := k0_pay27 s A.u A.w A.qd A.aqk
def oBwd (A : StepIn F) (s : FVec F S8x128x128 .f32) : FVec F S64x512 .f32 := k0_pay28 s A.u A.w A.qd A.aqk
def sFwd (s : FVec F S8x128x128 .f32) : FVec F S1x4x128x128 .f32 := k0_pay29 s
def sBwd (s : FVec F S8x128x128 .f32) : FVec F S1x4x128x128 .f32 := k0_pay30 s

/-- The inputs of a grid point's step 0. -/
def in0 (X : In F) : StepIn F := stepIn 0 3 inb_S4x4x64x128_S1x4x64x128_0_0_0_0 inb_S4x4x64x128_S1x4x64x128_3_0_0_0 inb_S4x4x64x64_S1x4x64x64_0_0_0_0 inb_S4x4x64x64_S1x4x64x64_3_0_0_0 inb_S4x4x1x128_S1x4x1x128_0_0_0_0 inb_S4x4x1x128_S1x4x1x128_3_0_0_0 X
/-- The inputs of a grid point's step 1. -/
def in1 (X : In F) : StepIn F := stepIn 1 2 inb_S4x4x64x128_S1x4x64x128_1_0_0_0 inb_S4x4x64x128_S1x4x64x128_2_0_0_0 inb_S4x4x64x64_S1x4x64x64_1_0_0_0 inb_S4x4x64x64_S1x4x64x64_2_0_0_0 inb_S4x4x1x128_S1x4x1x128_1_0_0_0 inb_S4x4x1x128_S1x4x1x128_2_0_0_0 X
/-- The inputs of a grid point's step 2. -/
def in2 (X : In F) : StepIn F := stepIn 2 1 inb_S4x4x64x128_S1x4x64x128_2_0_0_0 inb_S4x4x64x128_S1x4x64x128_1_0_0_0 inb_S4x4x64x64_S1x4x64x64_2_0_0_0 inb_S4x4x64x64_S1x4x64x64_1_0_0_0 inb_S4x4x1x128_S1x4x1x128_2_0_0_0 inb_S4x4x1x128_S1x4x1x128_1_0_0_0 X
/-- The inputs of a grid point's step 3. -/
def in3 (X : In F) : StepIn F := stepIn 3 0 inb_S4x4x64x128_S1x4x64x128_3_0_0_0 inb_S4x4x64x128_S1x4x64x128_0_0_0_0 inb_S4x4x64x64_S1x4x64x64_3_0_0_0 inb_S4x4x64x64_S1x4x64x64_0_0_0_0 inb_S4x4x1x128_S1x4x1x128_3_0_0_0 inb_S4x4x1x128_S1x4x1x128_0_0_0_0 X

/-- The state before a grid point's steps 1, 2 and 3 and after them all. -/
def s1 (X : In F) (s : FVec F S8x128x128 .f32) : FVec F S8x128x128 .f32 := next (in0 X) s
def s2 (X : In F) (s : FVec F S8x128x128 .f32) : FVec F S8x128x128 .f32 := next (in1 X) (s1 X s)
def s3 (X : In F) (s : FVec F S8x128x128 .f32) : FVec F S8x128x128 .f32 := next (in2 X) (s2 X s)
def s4 (X : In F) (s : FVec F S8x128x128 .f32) : FVec F S8x128x128 .f32 := next (in3 X) (s3 X s)

/-- What a grid point writes into each output's block, last first. -/
def out0 (X : In F) (s : FVec F S8x128x128 .f32) : List (View.Piece (Elt F) S256x512 .f32) :=
  [⟨Rect.unit ![192, 0] ![64, 512] inb_S256x512_S64x512_192_0, oFwd (in3 X) (s3 X s)⟩, ⟨Rect.unit ![128, 0] ![64, 512] inb_S256x512_S64x512_128_0, oFwd (in2 X) (s2 X s)⟩,
   ⟨Rect.unit ![64, 0] ![64, 512] inb_S256x512_S64x512_64_0, oFwd (in1 X) (s1 X s)⟩, ⟨Rect.unit ![0, 0] ![64, 512] inb_S256x512_S64x512_0_0, oFwd (in0 X) s⟩]
def out1 (X : In F) (s : FVec F S8x128x128 .f32) : List (View.Piece (Elt F) S256x512 .f32) :=
  [⟨Rect.unit ![0, 0] ![64, 512] inb_S256x512_S64x512_0_0, oBwd (in3 X) (s3 X s)⟩, ⟨Rect.unit ![64, 0] ![64, 512] inb_S256x512_S64x512_64_0, oBwd (in2 X) (s2 X s)⟩,
   ⟨Rect.unit ![128, 0] ![64, 512] inb_S256x512_S64x512_128_0, oBwd (in1 X) (s1 X s)⟩, ⟨Rect.unit ![192, 0] ![64, 512] inb_S256x512_S64x512_192_0, oBwd (in0 X) s⟩]
def out2 (X : In F) (s : FVec F S8x128x128 .f32) : List (View.Piece (Elt F) S4x4x128x128 .f32) :=
  [⟨Rect.unit ![3, 0, 0, 0] S1x4x128x128.size inb_S4x4x128x128_S1x4x128x128_3_0_0_0, sFwd (s3 X s)⟩, ⟨Rect.unit ![2, 0, 0, 0] S1x4x128x128.size inb_S4x4x128x128_S1x4x128x128_2_0_0_0, sFwd (s2 X s)⟩,
   ⟨Rect.unit ![1, 0, 0, 0] S1x4x128x128.size inb_S4x4x128x128_S1x4x128x128_1_0_0_0, sFwd (s1 X s)⟩, ⟨Rect.unit ![0, 0, 0, 0] S1x4x128x128.size inb_S4x4x128x128_S1x4x128x128_0_0_0_0, sFwd s⟩]
def out3 (X : In F) (s : FVec F S8x128x128 .f32) : List (View.Piece (Elt F) S4x4x128x128 .f32) :=
  [⟨Rect.unit ![0, 0, 0, 0] S1x4x128x128.size inb_S4x4x128x128_S1x4x128x128_0_0_0_0, sBwd (s3 X s)⟩, ⟨Rect.unit ![1, 0, 0, 0] S1x4x128x128.size inb_S4x4x128x128_S1x4x128x128_1_0_0_0, sBwd (s2 X s)⟩,
   ⟨Rect.unit ![2, 0, 0, 0] S1x4x128x128.size inb_S4x4x128x128_S1x4x128x128_2_0_0_0, sBwd (s1 X s)⟩, ⟨Rect.unit ![3, 0, 0, 0] S1x4x128x128.size inb_S4x4x128x128_S1x4x128x128_3_0_0_0, sBwd s⟩]
/-- The scratch after a grid point, with what an earlier store of the point left behind. -/
def outS (X : In F) (s : FVec F S8x128x128 .f32) (L : List (View.Piece (Elt F) S8x128x128 .f32)) : List (View.Piece (Elt F) S8x128x128 .f32) :=
  ⟨Rect.unit ![0, 0, 0] S8x128x128.size inb_S8x128x128_S8x128x128_0_0_0, k0_pay1 (s4 X s)⟩ :: L

theorem whole_load {sp : Space} {S : Shape} {e : EltTy} {M : Memref sig .tc sp S e} (h : M.IsWhole) (X : S.Idx → Elt F e) (B : LoadRect S) :
    View.readAt (Elt F) M.view B (h.unread X) = fun y => X (B.idx y) := funext fun y => h.readAt_unread X B y

theorem load_all (s : Vec F S8x128x128 .f32) :
    (fun y => s ((Rect.unit ![0, 0, 0] S8x128x128.size inb_S8x128x128_S8x128x128_0_0_0).toLoadRect.idx y)) = s := by
  funext y; congr 1; funext a; apply Fin.ext; fin_cases a <;> simp [Rect.unit, LoadRect.idx, Rect.toLoadRect]

theorem cat_eq (a b : Vec F S1x4x64x128 .f32) :
    concatenate S8x64x128 0 [⟨S4x64x128, shapeCast S4x64x128 a shapeCasts_S1x4x64x128_S4x64x128⟩, ⟨S4x64x128, shapeCast S4x64x128 b shapeCasts_S1x4x64x128_S4x64x128⟩] concatenates_S4x64x128_S4x64x128_S8x64x128_d0 = k0_pay19 a b := rfl
theorem cat17_eq (a b : Vec F S1x4x64x128 .f32) :
    concatenate S8x64x128 0 [⟨S4x64x128, k0_pay17 a⟩, ⟨S4x64x128, shapeCast S4x64x128 b shapeCasts_S1x4x64x128_S4x64x128⟩] concatenates_S4x64x128_S4x64x128_S8x64x128_d0 = k0_pay19 a b := rfl
theorem catA_eq (a b : Vec F S1x4x64x64 .f32) :
    concatenate S8x64x64 0 [⟨S4x64x64, shapeCast S4x64x64 a shapeCasts_S1x4x64x64_S4x64x64⟩, ⟨S4x64x64, shapeCast S4x64x64 b shapeCasts_S1x4x64x64_S4x64x64⟩] concatenates_S4x64x64_S4x64x64_S8x64x64_d0 = k0_pay22 a b := rfl
theorem pay15_eq (s : Vec F S8x128x128 .f32) (a : FVec F S8x64x128 .f32) (b : FVec F S8x1x128 .f32) (d : FVec F S8x64x128 .f32) : k0_pay15 s a b d = sFwd (k0_pay12 s a b d) := rfl
theorem pay16_eq (s : Vec F S8x128x128 .f32) (a : FVec F S8x64x128 .f32) (b : FVec F S8x1x128 .f32) (d : FVec F S8x64x128 .f32) : k0_pay16 s a b d = sBwd (k0_pay12 s a b d) := rfl
theorem heads_eq (s : FVec F S8x128x128 .f32) (u w qd : FVec F S8x64x128 .f32) (a b : Vec F S1x4x64x64 .f32) :
    concatenate S64x512 1 [⟨S64x128, shapeCast S64x128 (k0_pay39 s u w qd a b) shapeCasts_S1x64x128_S64x128⟩,
      ⟨S64x128, shapeCast S64x128 (extractStridedSlice S1x64x128 ![1, 0, 0] (k0_pay38 s u w qd a b) slices_S4x64x128_o1_0_0_S1x64x128) shapeCasts_S1x64x128_S64x128⟩,
      ⟨S64x128, shapeCast S64x128 (extractStridedSlice S1x64x128 ![2, 0, 0] (k0_pay38 s u w qd a b) slices_S4x64x128_o2_0_0_S1x64x128) shapeCasts_S1x64x128_S64x128⟩,
      ⟨S64x128, shapeCast S64x128 (extractStridedSlice S1x64x128 ![3, 0, 0] (k0_pay38 s u w qd a b) slices_S4x64x128_o3_0_0_S1x64x128) shapeCasts_S1x64x128_S64x128⟩]
      concatenates_S64x128_S64x128_S64x128_S64x128_S64x512_d1 = k0_pay27 s u w qd (k0_pay22 a b) := rfl
theorem headsB_eq (s : FVec F S8x128x128 .f32) (u w qd : FVec F S8x64x128 .f32) (a b : Vec F S1x4x64x64 .f32) :
    concatenate S64x512 1 [⟨S64x128, shapeCast S64x128 (extractStridedSlice S1x64x128 ![0, 0, 0] (extractStridedSlice S4x64x128 ![4, 0, 0] (k0_pay36 s u w qd a b) slices_S8x64x128_o4_0_0_S4x64x128) slices_S4x64x128_o0_0_0_S1x64x128) shapeCasts_S1x64x128_S64x128⟩,
      ⟨S64x128, shapeCast S64x128 (extractStridedSlice S1x64x128 ![1, 0, 0] (extractStridedSlice S4x64x128 ![4, 0, 0] (k0_pay36 s u w qd a b) slices_S8x64x128_o4_0_0_S4x64x128) slices_S4x64x128_o1_0_0_S1x64x128) shapeCasts_S1x64x128_S64x128⟩,
      ⟨S64x128, shapeCast S64x128 (extractStridedSlice S1x64x128 ![2, 0, 0] (extractStridedSlice S4x64x128 ![4, 0, 0] (k0_pay36 s u w qd a b) slices_S8x64x128_o4_0_0_S4x64x128) slices_S4x64x128_o2_0_0_S1x64x128) shapeCasts_S1x64x128_S64x128⟩,
      ⟨S64x128, shapeCast S64x128 (extractStridedSlice S1x64x128 ![3, 0, 0] (extractStridedSlice S4x64x128 ![4, 0, 0] (k0_pay36 s u w qd a b) slices_S8x64x128_o4_0_0_S4x64x128) slices_S4x64x128_o3_0_0_S1x64x128) shapeCasts_S1x64x128_S64x128⟩]
      concatenates_S64x128_S64x128_S64x128_S64x128_S64x512_d1 = k0_pay28 s u w qd (k0_pay22 a b) := rfl

section Pieces

variable (c : Dev nD) (i : grid0.Coords)
  (arg1 : Memref sig .tc .vmem S4x4x64x128 .f32) (harg1 : arg1.IsWhole)
  (arg2 : Memref sig .tc .vmem S4x4x64x128 .f32) (harg2 : arg2.IsWhole)
  (arg3 : Memref sig .tc .vmem S4x4x64x128 .f32) (harg3 : arg3.IsWhole)
  (arg4 : Memref sig .tc .vmem S4x4x64x128 .f32) (harg4 : arg4.IsWhole)
  (arg5 : Memref sig .tc .vmem S4x4x64x128 .f32) (harg5 : arg5.IsWhole)
  (arg6 : Memref sig .tc .vmem S4x4x64x128 .f32) (harg6 : arg6.IsWhole)
  (arg7 : Memref sig .tc .vmem S4x4x64x128 .f32) (harg7 : arg7.IsWhole)
  (arg8 : Memref sig .tc .vmem S4x4x64x128 .f32) (harg8 : arg8.IsWhole)
  (arg9 : Memref sig .tc .vmem S4x4x64x64 .f32) (harg9 : arg9.IsWhole)
  (arg10 : Memref sig .tc .vmem S4x4x64x64 .f32) (harg10 : arg10.IsWhole)
  (arg11 : Memref sig .tc .vmem S4x4x1x128 .f32) (harg11 : arg11.IsWhole)
  (arg12 : Memref sig .tc .vmem S4x4x1x128 .f32) (harg12 : arg12.IsWhole)
  (arg13 : Memref sig .tc .vmem S256x512 .f32) (harg13 : arg13.IsWhole)
  (arg14 : Memref sig .tc .vmem S256x512 .f32) (harg14 : arg14.IsWhole)
  (arg15 : Memref sig .tc .vmem S4x4x128x128 .f32) (harg15 : arg15.IsWhole)
  (arg16 : Memref sig .tc .vmem S4x4x128x128 .f32) (harg16 : arg16.IsWhole)
  (arg17 : Memref sig .tc .vmem S8x128x128 .f32) (harg17 : arg17.IsWhole)
  (X : In F) (xs : Vec F S8x128x128 .f32)

theorem runB_state1 : runB.sl.r_8 c arg1 harg1 arg2 harg2 arg3 harg3 arg4 harg4 arg5 harg5 arg6 harg6 arg7 harg7 arg8 harg8 arg11 harg11 arg12 harg12 arg17 harg17 X xs = s1 X xs := by
  unfold runB.sl.r_8
  simp only [runB.sl.r, runB.sl.r_1, runB.sl.r_11, runB.sl.r_12, runB.sl.r_14, runB.sl.r_15, runB.sl.r_16, runB.sl.r_2, runB.sl.r_3, runB.sl.r_4, runB.sl.r_5, runB.sl.r_6, runB.sl.r_7, runB.sl.r_9, runB.sl.v101, runB.sl.v103, runB.sl.v104, runB.sl.v106, runB.sl.v108, runB.sl.v109, runB.sl.v111, runB.sl.v113, runB.sl.v114, runB.sl.v160, runB.sl.v161, runB.sl.v162, runB.sl.v163, runB.sl.v164, runB.sl.v165, runB.sl.v166, runB.sl.v167, runB.sl.v169, runB.sl.v171, runB.sl.v172, runB.sl.v174, runB.sl.v176, runB.sl.v177, runB.sl.v179, runB.sl.v181, runB.sl.v182, runB.sl.v218, runB.sl.v219, runB.sl.v220, runB.sl.v221, runB.sl.v222, runB.sl.v223, runB.sl.v224, runB.sl.v225, runB.sl.v227, runB.sl.v228, runB.sl.v229, runB.sl.v230, runB.sl.v231, runB.sl.v232, runB.sl.v233, runB.sl.v234, runB.sl.v235, runB.sl.v236, runB.sl.v238, runB.sl.v239, runB.sl.v240, runB.sl.v241, runB.sl.v242, runB.sl.v243, runB.sl.v244, runB.sl.v245, runB.sl.v247, runB.sl.v249, runB.sl.v250, runB.sl.v252, runB.sl.v254, runB.sl.v255, runB.sl.v257, runB.sl.v259, runB.sl.v260, runB.sl.v262, runB.sl.v264, runB.sl.v265, runB.sl.v267, runB.sl.v269, runB.sl.v270, runB.sl.v272, runB.sl.v93, runB.sl.v94, runB.sl.v96, runB.sl.v98, runB.sl.v99]
  repeat rw [cat_eq]
  repeat rw [cat17_eq]
  repeat rw [catA_eq]
  repeat rw [heads_eq]
  repeat rw [headsB_eq]
  simp only [whole_load, load_all]
  unfold s1
  rfl

theorem runB_state2 : runB.sl.r_10 c arg1 harg1 arg2 harg2 arg3 harg3 arg4 harg4 arg5 harg5 arg6 harg6 arg7 harg7 arg8 harg8 arg11 harg11 arg12 harg12 arg17 harg17 X xs = s2 X xs := by
  unfold runB.sl.r_10
  simp only [runB.sl.r, runB.sl.r_1, runB.sl.r_11, runB.sl.r_12, runB.sl.r_14, runB.sl.r_15, runB.sl.r_16, runB.sl.r_2, runB.sl.r_3, runB.sl.r_4, runB.sl.r_5, runB.sl.r_6, runB.sl.r_7, runB.sl.r_9, runB.sl.v101, runB.sl.v103, runB.sl.v104, runB.sl.v106, runB.sl.v108, runB.sl.v109, runB.sl.v111, runB.sl.v113, runB.sl.v114, runB.sl.v160, runB.sl.v161, runB.sl.v162, runB.sl.v163, runB.sl.v164, runB.sl.v165, runB.sl.v166, runB.sl.v167, runB.sl.v169, runB.sl.v171, runB.sl.v172, runB.sl.v174, runB.sl.v176, runB.sl.v177, runB.sl.v179, runB.sl.v181, runB.sl.v182, runB.sl.v218, runB.sl.v219, runB.sl.v220, runB.sl.v221, runB.sl.v222, runB.sl.v223, runB.sl.v224, runB.sl.v225, runB.sl.v227, runB.sl.v228, runB.sl.v229, runB.sl.v230, runB.sl.v231, runB.sl.v232, runB.sl.v233, runB.sl.v234, runB.sl.v235, runB.sl.v236, runB.sl.v238, runB.sl.v239, runB.sl.v240, runB.sl.v241, runB.sl.v242, runB.sl.v243, runB.sl.v244, runB.sl.v245, runB.sl.v247, runB.sl.v249, runB.sl.v250, runB.sl.v252, runB.sl.v254, runB.sl.v255, runB.sl.v257, runB.sl.v259, runB.sl.v260, runB.sl.v262, runB.sl.v264, runB.sl.v265, runB.sl.v267, runB.sl.v269, runB.sl.v270, runB.sl.v272, runB.sl.v93, runB.sl.v94, runB.sl.v96, runB.sl.v98, runB.sl.v99]
  repeat rw [cat_eq]
  repeat rw [cat17_eq]
  repeat rw [catA_eq]
  repeat rw [heads_eq]
  repeat rw [headsB_eq]
  simp only [runB_state1, whole_load, load_all]
  unfold s2
  generalize s1 X xs = s
  rfl

theorem runB_state3 : runB.sl.r_13 c arg1 harg1 arg2 harg2 arg3 harg3 arg4 harg4 arg5 harg5 arg6 harg6 arg7 harg7 arg8 harg8 arg11 harg11 arg12 harg12 arg17 harg17 X xs = s3 X xs := by
  unfold runB.sl.r_13
  simp only [runB.sl.r, runB.sl.r_1, runB.sl.r_11, runB.sl.r_12, runB.sl.r_14, runB.sl.r_15, runB.sl.r_16, runB.sl.r_2, runB.sl.r_3, runB.sl.r_4, runB.sl.r_5, runB.sl.r_6, runB.sl.r_7, runB.sl.r_9, runB.sl.v101, runB.sl.v103, runB.sl.v104, runB.sl.v106, runB.sl.v108, runB.sl.v109, runB.sl.v111, runB.sl.v113, runB.sl.v114, runB.sl.v160, runB.sl.v161, runB.sl.v162, runB.sl.v163, runB.sl.v164, runB.sl.v165, runB.sl.v166, runB.sl.v167, runB.sl.v169, runB.sl.v171, runB.sl.v172, runB.sl.v174, runB.sl.v176, runB.sl.v177, runB.sl.v179, runB.sl.v181, runB.sl.v182, runB.sl.v218, runB.sl.v219, runB.sl.v220, runB.sl.v221, runB.sl.v222, runB.sl.v223, runB.sl.v224, runB.sl.v225, runB.sl.v227, runB.sl.v228, runB.sl.v229, runB.sl.v230, runB.sl.v231, runB.sl.v232, runB.sl.v233, runB.sl.v234, runB.sl.v235, runB.sl.v236, runB.sl.v238, runB.sl.v239, runB.sl.v240, runB.sl.v241, runB.sl.v242, runB.sl.v243, runB.sl.v244, runB.sl.v245, runB.sl.v247, runB.sl.v249, runB.sl.v250, runB.sl.v252, runB.sl.v254, runB.sl.v255, runB.sl.v257, runB.sl.v259, runB.sl.v260, runB.sl.v262, runB.sl.v264, runB.sl.v265, runB.sl.v267, runB.sl.v269, runB.sl.v270, runB.sl.v272, runB.sl.v93, runB.sl.v94, runB.sl.v96, runB.sl.v98, runB.sl.v99]
  repeat rw [cat_eq]
  repeat rw [cat17_eq]
  repeat rw [catA_eq]
  repeat rw [heads_eq]
  repeat rw [headsB_eq]
  simp only [runB_state1, runB_state2, whole_load, load_all]
  unfold s3
  generalize s2 X xs = s
  rfl

theorem runB_state4 : runB.sl.r_17 c arg1 harg1 arg2 harg2 arg3 harg3 arg4 harg4 arg5 harg5 arg6 harg6 arg7 harg7 arg8 harg8 arg11 harg11 arg12 harg12 arg17 harg17 X xs = s4 X xs := by
  unfold runB.sl.r_17
  simp only [runB.sl.r, runB.sl.r_1, runB.sl.r_11, runB.sl.r_12, runB.sl.r_14, runB.sl.r_15, runB.sl.r_16, runB.sl.r_2, runB.sl.r_3, runB.sl.r_4, runB.sl.r_5, runB.sl.r_6, runB.sl.r_7, runB.sl.r_9, runB.sl.v101, runB.sl.v103, runB.sl.v104, runB.sl.v106, runB.sl.v108, runB.sl.v109, runB.sl.v111, runB.sl.v113, runB.sl.v114, runB.sl.v160, runB.sl.v161, runB.sl.v162, runB.sl.v163, runB.sl.v164, runB.sl.v165, runB.sl.v166, runB.sl.v167, runB.sl.v169, runB.sl.v171, runB.sl.v172, runB.sl.v174, runB.sl.v176, runB.sl.v177, runB.sl.v179, runB.sl.v181, runB.sl.v182, runB.sl.v218, runB.sl.v219, runB.sl.v220, runB.sl.v221, runB.sl.v222, runB.sl.v223, runB.sl.v224, runB.sl.v225, runB.sl.v227, runB.sl.v228, runB.sl.v229, runB.sl.v230, runB.sl.v231, runB.sl.v232, runB.sl.v233, runB.sl.v234, runB.sl.v235, runB.sl.v236, runB.sl.v238, runB.sl.v239, runB.sl.v240, runB.sl.v241, runB.sl.v242, runB.sl.v243, runB.sl.v244, runB.sl.v245, runB.sl.v247, runB.sl.v249, runB.sl.v250, runB.sl.v252, runB.sl.v254, runB.sl.v255, runB.sl.v257, runB.sl.v259, runB.sl.v260, runB.sl.v262, runB.sl.v264, runB.sl.v265, runB.sl.v267, runB.sl.v269, runB.sl.v270, runB.sl.v272, runB.sl.v93, runB.sl.v94, runB.sl.v96, runB.sl.v98, runB.sl.v99]
  repeat rw [cat_eq]
  repeat rw [cat17_eq]
  repeat rw [catA_eq]
  repeat rw [heads_eq]
  repeat rw [headsB_eq]
  simp only [runB_state1, runB_state2, runB_state3, whole_load, load_all]
  unfold s4
  generalize s3 X xs = s
  rfl

set_option maxHeartbeats 4000000 in
theorem runB_pieces (hc : ¬cond i) :
    ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).1 = out0 X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.1 = out1 X xs)
      ∧ ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.2.1 = out2 X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.2.2.1 = out3 X xs)
      ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.2.2.2.1 = outS X xs [] := by
  unfold runB
  dsimp only
  simp only [pay15_eq, pay16_eq]
  rw [← runB.sl.r_8]
  simp only [runB.sl.r, runB.sl.r_1, runB.sl.r_11, runB.sl.r_12, runB.sl.r_14, runB.sl.r_15, runB.sl.r_16, runB.sl.r_2, runB.sl.r_3, runB.sl.r_4, runB.sl.r_5, runB.sl.r_6, runB.sl.r_7, runB.sl.r_9, runB.sl.v101, runB.sl.v103, runB.sl.v104, runB.sl.v106, runB.sl.v108, runB.sl.v109, runB.sl.v111, runB.sl.v113, runB.sl.v114, runB.sl.v160, runB.sl.v161, runB.sl.v162, runB.sl.v163, runB.sl.v164, runB.sl.v165, runB.sl.v166, runB.sl.v167, runB.sl.v169, runB.sl.v171, runB.sl.v172, runB.sl.v174, runB.sl.v176, runB.sl.v177, runB.sl.v179, runB.sl.v181, runB.sl.v182, runB.sl.v218, runB.sl.v219, runB.sl.v220, runB.sl.v221, runB.sl.v222, runB.sl.v223, runB.sl.v224, runB.sl.v225, runB.sl.v227, runB.sl.v228, runB.sl.v229, runB.sl.v230, runB.sl.v231, runB.sl.v232, runB.sl.v233, runB.sl.v234, runB.sl.v235, runB.sl.v236, runB.sl.v238, runB.sl.v239, runB.sl.v240, runB.sl.v241, runB.sl.v242, runB.sl.v243, runB.sl.v244, runB.sl.v245, runB.sl.v247, runB.sl.v249, runB.sl.v250, runB.sl.v252, runB.sl.v254, runB.sl.v255, runB.sl.v257, runB.sl.v259, runB.sl.v260, runB.sl.v262, runB.sl.v264, runB.sl.v265, runB.sl.v267, runB.sl.v269, runB.sl.v270, runB.sl.v272, runB.sl.v93, runB.sl.v94, runB.sl.v96, runB.sl.v98, runB.sl.v99]
  repeat rw [cat_eq]
  repeat rw [cat17_eq]
  repeat rw [catA_eq]
  repeat rw [heads_eq]
  repeat rw [headsB_eq]
  simp only [runB_state1, runB_state2, runB_state3, runB_state4, whole_load, load_all]
  unfold out0 out1 out2 out3 outS
  generalize s4 X xs = s4, s3 X xs = s3, s2 X xs = s2, s1 X xs = s1

  exact ⟨⟨rfl, rfl⟩, ⟨rfl, rfl⟩, rfl⟩

theorem runA_v3 : runA.sl.v3 (F := F) c arg17 = k0_pay2 := by
  unfold runA.sl.v3 runA.sl.HS0_1
  exact View.readCov_unit_lit _ _ _ (by decide)

theorem runA_state1 : runA.sl.r_7 c arg1 harg1 arg2 harg2 arg3 harg3 arg4 harg4 arg5 harg5 arg6 harg6 arg7 harg7 arg8 harg8 arg11 harg11 arg12 harg12 arg17 X = s1 X k0_pay2 := by
  unfold runA.sl.r_7
  simp only [runA.sl.HS0_1, runA.sl.r, runA.sl.r_1, runA.sl.r_10, runA.sl.r_11, runA.sl.r_13, runA.sl.r_14, runA.sl.r_15, runA.sl.r_2, runA.sl.r_3, runA.sl.r_4, runA.sl.r_5, runA.sl.r_6, runA.sl.r_8, runA.sl.v101, runA.sl.v103, runA.sl.v104, runA.sl.v106, runA.sl.v108, runA.sl.v109, runA.sl.v111, runA.sl.v113, runA.sl.v114, runA.sl.v160, runA.sl.v161, runA.sl.v162, runA.sl.v163, runA.sl.v164, runA.sl.v165, runA.sl.v166, runA.sl.v167, runA.sl.v169, runA.sl.v171, runA.sl.v172, runA.sl.v174, runA.sl.v176, runA.sl.v177, runA.sl.v179, runA.sl.v181, runA.sl.v182, runA.sl.v218, runA.sl.v219, runA.sl.v220, runA.sl.v221, runA.sl.v222, runA.sl.v223, runA.sl.v224, runA.sl.v225, runA.sl.v227, runA.sl.v228, runA.sl.v229, runA.sl.v230, runA.sl.v231, runA.sl.v232, runA.sl.v233, runA.sl.v234, runA.sl.v235, runA.sl.v236, runA.sl.v238, runA.sl.v239, runA.sl.v240, runA.sl.v241, runA.sl.v242, runA.sl.v243, runA.sl.v244, runA.sl.v245, runA.sl.v247, runA.sl.v249, runA.sl.v250, runA.sl.v252, runA.sl.v254, runA.sl.v255, runA.sl.v257, runA.sl.v259, runA.sl.v260, runA.sl.v262, runA.sl.v264, runA.sl.v265, runA.sl.v267, runA.sl.v269, runA.sl.v270, runA.sl.v272, runA.sl.v93, runA.sl.v94, runA.sl.v96, runA.sl.v98, runA.sl.v99]
  repeat rw [cat_eq]
  repeat rw [cat17_eq]
  repeat rw [catA_eq]
  repeat rw [heads_eq]
  repeat rw [headsB_eq]
  simp only [runA_v3, whole_load, load_all]
  unfold s1
  generalize k0_pay2 (F := F) = s
  rfl

theorem runA_state2 : runA.sl.r_9 c arg1 harg1 arg2 harg2 arg3 harg3 arg4 harg4 arg5 harg5 arg6 harg6 arg7 harg7 arg8 harg8 arg11 harg11 arg12 harg12 arg17 X = s2 X k0_pay2 := by
  unfold runA.sl.r_9
  simp only [runA.sl.HS0_1, runA.sl.r, runA.sl.r_1, runA.sl.r_10, runA.sl.r_11, runA.sl.r_13, runA.sl.r_14, runA.sl.r_15, runA.sl.r_2, runA.sl.r_3, runA.sl.r_4, runA.sl.r_5, runA.sl.r_6, runA.sl.r_8, runA.sl.v101, runA.sl.v103, runA.sl.v104, runA.sl.v106, runA.sl.v108, runA.sl.v109, runA.sl.v111, runA.sl.v113, runA.sl.v114, runA.sl.v160, runA.sl.v161, runA.sl.v162, runA.sl.v163, runA.sl.v164, runA.sl.v165, runA.sl.v166, runA.sl.v167, runA.sl.v169, runA.sl.v171, runA.sl.v172, runA.sl.v174, runA.sl.v176, runA.sl.v177, runA.sl.v179, runA.sl.v181, runA.sl.v182, runA.sl.v218, runA.sl.v219, runA.sl.v220, runA.sl.v221, runA.sl.v222, runA.sl.v223, runA.sl.v224, runA.sl.v225, runA.sl.v227, runA.sl.v228, runA.sl.v229, runA.sl.v230, runA.sl.v231, runA.sl.v232, runA.sl.v233, runA.sl.v234, runA.sl.v235, runA.sl.v236, runA.sl.v238, runA.sl.v239, runA.sl.v240, runA.sl.v241, runA.sl.v242, runA.sl.v243, runA.sl.v244, runA.sl.v245, runA.sl.v247, runA.sl.v249, runA.sl.v250, runA.sl.v252, runA.sl.v254, runA.sl.v255, runA.sl.v257, runA.sl.v259, runA.sl.v260, runA.sl.v262, runA.sl.v264, runA.sl.v265, runA.sl.v267, runA.sl.v269, runA.sl.v270, runA.sl.v272, runA.sl.v93, runA.sl.v94, runA.sl.v96, runA.sl.v98, runA.sl.v99]
  repeat rw [cat_eq]
  repeat rw [cat17_eq]
  repeat rw [catA_eq]
  repeat rw [heads_eq]
  repeat rw [headsB_eq]
  simp only [runA_v3, runA_state1, whole_load, load_all]
  unfold s2
  generalize s1 X k0_pay2 = s
  rfl

theorem runA_state3 : runA.sl.r_12 c arg1 harg1 arg2 harg2 arg3 harg3 arg4 harg4 arg5 harg5 arg6 harg6 arg7 harg7 arg8 harg8 arg11 harg11 arg12 harg12 arg17 X = s3 X k0_pay2 := by
  unfold runA.sl.r_12
  simp only [runA.sl.HS0_1, runA.sl.r, runA.sl.r_1, runA.sl.r_10, runA.sl.r_11, runA.sl.r_13, runA.sl.r_14, runA.sl.r_15, runA.sl.r_2, runA.sl.r_3, runA.sl.r_4, runA.sl.r_5, runA.sl.r_6, runA.sl.r_8, runA.sl.v101, runA.sl.v103, runA.sl.v104, runA.sl.v106, runA.sl.v108, runA.sl.v109, runA.sl.v111, runA.sl.v113, runA.sl.v114, runA.sl.v160, runA.sl.v161, runA.sl.v162, runA.sl.v163, runA.sl.v164, runA.sl.v165, runA.sl.v166, runA.sl.v167, runA.sl.v169, runA.sl.v171, runA.sl.v172, runA.sl.v174, runA.sl.v176, runA.sl.v177, runA.sl.v179, runA.sl.v181, runA.sl.v182, runA.sl.v218, runA.sl.v219, runA.sl.v220, runA.sl.v221, runA.sl.v222, runA.sl.v223, runA.sl.v224, runA.sl.v225, runA.sl.v227, runA.sl.v228, runA.sl.v229, runA.sl.v230, runA.sl.v231, runA.sl.v232, runA.sl.v233, runA.sl.v234, runA.sl.v235, runA.sl.v236, runA.sl.v238, runA.sl.v239, runA.sl.v240, runA.sl.v241, runA.sl.v242, runA.sl.v243, runA.sl.v244, runA.sl.v245, runA.sl.v247, runA.sl.v249, runA.sl.v250, runA.sl.v252, runA.sl.v254, runA.sl.v255, runA.sl.v257, runA.sl.v259, runA.sl.v260, runA.sl.v262, runA.sl.v264, runA.sl.v265, runA.sl.v267, runA.sl.v269, runA.sl.v270, runA.sl.v272, runA.sl.v93, runA.sl.v94, runA.sl.v96, runA.sl.v98, runA.sl.v99]
  repeat rw [cat_eq]
  repeat rw [cat17_eq]
  repeat rw [catA_eq]
  repeat rw [heads_eq]
  repeat rw [headsB_eq]
  simp only [runA_v3, runA_state1, runA_state2, whole_load, load_all]
  unfold s3
  generalize s2 X k0_pay2 = s
  rfl

theorem runA_state4 : runA.sl.r_16 c arg1 harg1 arg2 harg2 arg3 harg3 arg4 harg4 arg5 harg5 arg6 harg6 arg7 harg7 arg8 harg8 arg11 harg11 arg12 harg12 arg17 X = s4 X k0_pay2 := by
  unfold runA.sl.r_16
  simp only [runA.sl.HS0_1, runA.sl.r, runA.sl.r_1, runA.sl.r_10, runA.sl.r_11, runA.sl.r_13, runA.sl.r_14, runA.sl.r_15, runA.sl.r_2, runA.sl.r_3, runA.sl.r_4, runA.sl.r_5, runA.sl.r_6, runA.sl.r_8, runA.sl.v101, runA.sl.v103, runA.sl.v104, runA.sl.v106, runA.sl.v108, runA.sl.v109, runA.sl.v111, runA.sl.v113, runA.sl.v114, runA.sl.v160, runA.sl.v161, runA.sl.v162, runA.sl.v163, runA.sl.v164, runA.sl.v165, runA.sl.v166, runA.sl.v167, runA.sl.v169, runA.sl.v171, runA.sl.v172, runA.sl.v174, runA.sl.v176, runA.sl.v177, runA.sl.v179, runA.sl.v181, runA.sl.v182, runA.sl.v218, runA.sl.v219, runA.sl.v220, runA.sl.v221, runA.sl.v222, runA.sl.v223, runA.sl.v224, runA.sl.v225, runA.sl.v227, runA.sl.v228, runA.sl.v229, runA.sl.v230, runA.sl.v231, runA.sl.v232, runA.sl.v233, runA.sl.v234, runA.sl.v235, runA.sl.v236, runA.sl.v238, runA.sl.v239, runA.sl.v240, runA.sl.v241, runA.sl.v242, runA.sl.v243, runA.sl.v244, runA.sl.v245, runA.sl.v247, runA.sl.v249, runA.sl.v250, runA.sl.v252, runA.sl.v254, runA.sl.v255, runA.sl.v257, runA.sl.v259, runA.sl.v260, runA.sl.v262, runA.sl.v264, runA.sl.v265, runA.sl.v267, runA.sl.v269, runA.sl.v270, runA.sl.v272, runA.sl.v93, runA.sl.v94, runA.sl.v96, runA.sl.v98, runA.sl.v99]
  repeat rw [cat_eq]
  repeat rw [cat17_eq]
  repeat rw [catA_eq]
  repeat rw [heads_eq]
  repeat rw [headsB_eq]
  simp only [runA_v3, runA_state1, runA_state2, runA_state3, whole_load, load_all]
  unfold s4
  generalize s3 X k0_pay2 = s
  rfl

set_option maxHeartbeats 4000000 in
theorem runA_pieces (hc : cond i) :
    ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).1 = out0 X k0_pay2 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.1 = out1 X k0_pay2)
      ∧ ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.2.1 = out2 X k0_pay2 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.2.2.1 = out3 X k0_pay2)
      ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.2.2.2.1 = outS X k0_pay2 [⟨Rect.unit ![0, 0, 0] S8x128x128.size inb_S8x128x128_S8x128x128_0_0_0, k0_pay2⟩] := by
  unfold runA
  dsimp only
  simp only [pay15_eq, pay16_eq]
  rw [← runA.sl.r_7]
  simp only [runA.sl.HS0_1, runA.sl.r, runA.sl.r_1, runA.sl.r_10, runA.sl.r_11, runA.sl.r_13, runA.sl.r_14, runA.sl.r_15, runA.sl.r_2, runA.sl.r_3, runA.sl.r_4, runA.sl.r_5, runA.sl.r_6, runA.sl.r_8, runA.sl.v101, runA.sl.v103, runA.sl.v104, runA.sl.v106, runA.sl.v108, runA.sl.v109, runA.sl.v111, runA.sl.v113, runA.sl.v114, runA.sl.v160, runA.sl.v161, runA.sl.v162, runA.sl.v163, runA.sl.v164, runA.sl.v165, runA.sl.v166, runA.sl.v167, runA.sl.v169, runA.sl.v171, runA.sl.v172, runA.sl.v174, runA.sl.v176, runA.sl.v177, runA.sl.v179, runA.sl.v181, runA.sl.v182, runA.sl.v218, runA.sl.v219, runA.sl.v220, runA.sl.v221, runA.sl.v222, runA.sl.v223, runA.sl.v224, runA.sl.v225, runA.sl.v227, runA.sl.v228, runA.sl.v229, runA.sl.v230, runA.sl.v231, runA.sl.v232, runA.sl.v233, runA.sl.v234, runA.sl.v235, runA.sl.v236, runA.sl.v238, runA.sl.v239, runA.sl.v240, runA.sl.v241, runA.sl.v242, runA.sl.v243, runA.sl.v244, runA.sl.v245, runA.sl.v247, runA.sl.v249, runA.sl.v250, runA.sl.v252, runA.sl.v254, runA.sl.v255, runA.sl.v257, runA.sl.v259, runA.sl.v260, runA.sl.v262, runA.sl.v264, runA.sl.v265, runA.sl.v267, runA.sl.v269, runA.sl.v270, runA.sl.v272, runA.sl.v93, runA.sl.v94, runA.sl.v96, runA.sl.v98, runA.sl.v99]
  repeat rw [cat_eq]
  repeat rw [cat17_eq]
  repeat rw [catA_eq]
  repeat rw [heads_eq]
  repeat rw [headsB_eq]
  simp only [runA_v3, runA_state1, runA_state2, runA_state3, runA_state4, whole_load, load_all]
  unfold out0 out1 out2 out3 outS
  generalize s4 X k0_pay2 = s4, s3 X k0_pay2 = s3, s2 X k0_pay2 = s2, s1 X k0_pay2 = s1
  generalize k0_pay2 (F := F) = s
  exact ⟨⟨rfl, rfl⟩, ⟨rfl, rfl⟩, rfl⟩

end Pieces

end Cert.KernelIdeal.Fwd

end
-- ==== Proof.FwdBody.lean ====
module

public import proofs.«01_k».proof.Proof.FwdStep
public import proofs.«01_k».proof.Proof.Gen.KernelIdeal.Launch
public import proofs.«01_k».proof.Proof.Gen.KernelIdeal.Points
public import Idealize.ShloMosaic.Lib.Pipeline.FrameBody
public import Idealize.ShloMosaic.Lib.VecWindow
public import Idealize.ShloMosaic.Lib.Ring

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## One grid point -/

/-- What the body leaves in each output window from the blocks `X` and the entering state `s`: the stores cover the block. -/
def res0 (X : In F) (s : Vec F S8x128x128 .f32) : Vec F S256x512 .f32 := View.canon (out0 X s)
theorem read_res0 (X : In F) (s : Vec F S8x128x128 .f32) {M : Memref sig .tc .vmem S256x512 .f32} (f) : M.view.read (Elt F) (M.view.writes (Elt F) f (out0 X s)) = res0 X s :=
  View.read_writes_eq_canon _ f _ fun y => View.cover_of_tiledL (out0 X s) S64x512.size (by sl_kernel_rfl) y
def res1 (X : In F) (s : Vec F S8x128x128 .f32) : Vec F S256x512 .f32 := View.canon (out1 X s)
theorem read_res1 (X : In F) (s : Vec F S8x128x128 .f32) {M : Memref sig .tc .vmem S256x512 .f32} (f) : M.view.read (Elt F) (M.view.writes (Elt F) f (out1 X s)) = res1 X s :=
  View.read_writes_eq_canon _ f _ fun y => View.cover_of_tiledL (out1 X s) S64x512.size (by sl_kernel_rfl) y
def res2 (X : In F) (s : Vec F S8x128x128 .f32) : Vec F S4x4x128x128 .f32 := View.canon (out2 X s)
theorem read_res2 (X : In F) (s : Vec F S8x128x128 .f32) {M : Memref sig .tc .vmem S4x4x128x128 .f32} (f) : M.view.read (Elt F) (M.view.writes (Elt F) f (out2 X s)) = res2 X s :=
  View.read_writes_eq_canon _ f _ fun y => View.cover_of_tiledL (out2 X s) S1x4x128x128.size (by sl_kernel_rfl) y
def res3 (X : In F) (s : Vec F S8x128x128 .f32) : Vec F S4x4x128x128 .f32 := View.canon (out3 X s)
theorem read_res3 (X : In F) (s : Vec F S8x128x128 .f32) {M : Memref sig .tc .vmem S4x4x128x128 .f32} (f) : M.view.read (Elt F) (M.view.writes (Elt F) f (out3 X s)) = res3 X s :=
  View.read_writes_eq_canon _ f _ fun y => View.cover_of_tiledL (out3 X s) S1x4x128x128.size (by sl_kernel_rfl) y
theorem read_scratch (X : In F) (s : Vec F S8x128x128 .f32) (L) {M : Memref sig .tc .vmem S8x128x128 .f32} (f) : M.view.read (Elt F) (M.view.writes (Elt F) f (outS X s L)) = s4 X s :=
  (View.read_writes_full M.view f inb_S8x128x128_S8x128x128_0_0_0 _ L).trans (shapeCast_self _ _)

section Point

variable (c : Dev nD) (i : grid0.Coords)
  (arg1 : Memref sig .tc .vmem S4x4x64x128 .f32) (harg1 : arg1.IsWhole)
  (arg2 : Memref sig .tc .vmem S4x4x64x128 .f32) (harg2 : arg2.IsWhole)
  (arg3 : Memref sig .tc .vmem S4x4x64x128 .f32) (harg3 : arg3.IsWhole)
  (arg4 : Memref sig .tc .vmem S4x4x64x128 .f32) (harg4 : arg4.IsWhole)
  (arg5 : Memref sig .tc .vmem S4x4x64x128 .f32) (harg5 : arg5.IsWhole)
  (arg6 : Memref sig .tc .vmem S4x4x64x128 .f32) (harg6 : arg6.IsWhole)
  (arg7 : Memref sig .tc .vmem S4x4x64x128 .f32) (harg7 : arg7.IsWhole)
  (arg8 : Memref sig .tc .vmem S4x4x64x128 .f32) (harg8 : arg8.IsWhole)
  (arg9 : Memref sig .tc .vmem S4x4x64x64 .f32) (harg9 : arg9.IsWhole)
  (arg10 : Memref sig .tc .vmem S4x4x64x64 .f32) (harg10 : arg10.IsWhole)
  (arg11 : Memref sig .tc .vmem S4x4x1x128 .f32) (harg11 : arg11.IsWhole)
  (arg12 : Memref sig .tc .vmem S4x4x1x128 .f32) (harg12 : arg12.IsWhole)
  (arg13 : Memref sig .tc .vmem S256x512 .f32) (harg13 : arg13.IsWhole)
  (arg14 : Memref sig .tc .vmem S256x512 .f32) (harg14 : arg14.IsWhole)
  (arg15 : Memref sig .tc .vmem S4x4x128x128 .f32) (harg15 : arg15.IsWhole)
  (arg16 : Memref sig .tc .vmem S4x4x128x128 .f32) (harg16 : arg16.IsWhole)
  (arg17 : Memref sig .tc .vmem S8x128x128 .f32) (harg17 : arg17.IsWhole)

set_option maxHeartbeats 6400000 in
/-- The body's triple: from the blocks `X` and the scratch, cleared or carried, to the results and the scratch at the state after the four chunks. -/
theorem point (X : In F) (xs s : Vec F S8x128x128 .f32) (hs : (cond i ∧ s = k0_pay2) ∨ (¬cond i ∧ s = xs)) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11
            ∗ owns (c : Thread nD τ) arg13 fullShare (res0 X s) ∗ owns (c : Thread nD τ) arg14 fullShare (res1 X s) ∗ owns (c : Thread nD τ) arg15 fullShare (res2 X s) ∗ owns (c : Thread nD τ) arg16 fullShare (res3 X s) ∗ owns (c : Thread nD τ) arg17 fullShare (s4 X s)) -∗ K ()))
      ⊢ wp frame (wpE (defs₀ (F := F)) Variants.none c none) E (cc0_l0_dn_scan_f i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rcases hs with ⟨hc, rfl⟩ | ⟨hc, rfl⟩
  · obtain ⟨⟨p0, p1⟩, ⟨p2, p3⟩, pS⟩ := runA_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc
    iintro ⟨H0, H1, H2, H3, H4, H5, H6, H7, H8, H9, H10, H11, ⟨%d12, H12⟩, ⟨%d13, H13⟩, ⟨%d14, H14⟩, ⟨%d15, H15⟩, HS, Hk⟩
    iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X xs hc).2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [HS]; · iexact HS
    iintro ⟨H0, H1, H2, H3, H4, H5, H6, H7, H8, H9, H10, H11, ⟨%e12, H12⟩, ⟨%e13, H13⟩, ⟨%e14, H14⟩, ⟨%e15, H15⟩, ⟨%es, HS⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · unfold owns; iexists _; isplitr; swap; (· iexact H12); ipureintro; rw [p0]; exact read_res0 X _ _
    isplitl [H13]; · unfold owns; iexists _; isplitr; swap; (· iexact H13); ipureintro; rw [p1]; exact read_res1 X _ _
    isplitl [H14]; · unfold owns; iexists _; isplitr; swap; (· iexact H14); ipureintro; rw [p2]; exact read_res2 X _ _
    isplitl [H15]; · unfold owns; iexists _; isplitr; swap; (· iexact H15); ipureintro; rw [p3]; exact read_res3 X _ _
    unfold owns; iexists _; isplitr; swap; (· iexact HS); ipureintro; rw [pS]; exact read_scratch X _ _ _
  · obtain ⟨⟨p0, p1⟩, ⟨p2, p3⟩, pS⟩ := runB_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X s hc
    iintro ⟨H0, H1, H2, H3, H4, H5, H6, H7, H8, H9, H10, H11, ⟨%d12, H12⟩, ⟨%d13, H13⟩, ⟨%d14, H14⟩, ⟨%d15, H15⟩, HS, Hk⟩
    iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X s hc).2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [HS]; · iexact HS
    iintro ⟨H0, H1, H2, H3, H4, H5, H6, H7, H8, H9, H10, H11, ⟨%e12, H12⟩, ⟨%e13, H13⟩, ⟨%e14, H14⟩, ⟨%e15, H15⟩, ⟨%es, HS⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · unfold owns; iexists _; isplitr; swap; (· iexact H12); ipureintro; rw [p0]; exact read_res0 X _ _
    isplitl [H13]; · unfold owns; iexists _; isplitr; swap; (· iexact H13); ipureintro; rw [p1]; exact read_res1 X _ _
    isplitl [H14]; · unfold owns; iexists _; isplitr; swap; (· iexact H14); ipureintro; rw [p2]; exact read_res2 X _ _
    isplitl [H15]; · unfold owns; iexists _; isplitr; swap; (· iexact H15); ipureintro; rw [p3]; exact read_res3 X _ _
    unfold owns; iexists _; isplitr; swap; (· iexact HS); ipureintro; rw [pS]; exact read_scratch X _ _ _

end Point

/-! ## The grid's walk, from given contents of the region's arrays -/

variable (W : Dev nD → Valuation τ sig (Elt F))

/-- What window `w` holds of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The blocks the input windows hold at point `t`. -/
def blocks (c : Dev nD) (t : Fin cfg0.N) : In F where
  x0 := iblk W c 0 t
  x1 := iblk W c 1 t
  x2 := iblk W c 2 t
  x3 := iblk W c 3 t
  x4 := iblk W c 4 t
  x5 := iblk W c 5 t
  x6 := iblk W c 6 t
  x7 := iblk W c 7 t
  x8 := iblk W c 8 t
  x9 := iblk W c 9 t
  x10 := iblk W c 10 t
  x11 := iblk W c 11 t

/-- The scratch before point `n`. -/
def carried (c : Dev nD) : (n : ℕ) → n ≤ cfg0.N → Vec F S8x128x128 .f32
  | 0, _ => k0_pay2
  | n + 1, h => s4 (blocks W c ⟨n, h⟩) (carried c n (Nat.le_of_succ_le h))

abbrev entering (c : Dev nD) (t : Fin cfg0.N) : Vec F S8x128x128 .f32 := carried W c t.val (Nat.le_of_lt t.isLt)

/-- The scratch buffer. -/
abbrev scM : Memref sig .tc .vmem S8x128x128 .f32 := Memref.whole cc0_scratch0

/-- The invariant between points: the scratch holds the carried state, once the first point has run. -/
def Inv (c : Dev nD) (n : ℕ) (h : n ≤ cfg0.N) : sProp 𝕄 :=
  iprop((∃ xs, ⌜n ≠ 0 → xs = carried W c n h⌝ ∗ owns (c : Thread nD τ) scM fullShare xs)
    ∗ Pipeline.scopedRestBut (Ix := Unit) (Name := ℕ) (U := UR sig nD τ) (Lvl := ℕ) (Val := Elt F) spec0 c [cc0_scratch0])

/-- The proof data of the region. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => iblk W c 11 t
    | ⟨12, _⟩ => res0 (blocks W c t) (entering W c t)
    | ⟨13, _⟩ => res1 (blocks W c t) (entering W c t)
    | ⟨14, _⟩ => res2 (blocks W c t) (entering W c t)
    | ⟨15, _⟩ => res3 (blocks W c t) (entering W c t)
    | ⟨_ + 16, h⟩ => absurd h (Nat.not_lt.2 (Nat.le_add_left _ _))
  Φ t := Inv W c t.val (Nat.le_of_lt_succ t.isLt)
  q _ := fullShare
  owed _ := 0

theorem A_eq (c : Dev nD) (w : Fin cfg0.W) : (dat W c).A w = W c (Proc.devRef .tc (Pipeline.arrRef spec0 w)) := by dsimp only [dat]
theorem inv_castSucc (c : Dev nD) (t : Fin cfg0.N) : (dat W c).Φ t.castSucc = Inv W c t.val (Nat.le_of_lt t.isLt) := by
  dsimp only [dat]; exact Pipeline.Dat.Φ_castSucc (Inv W c) t

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = iblk W c 3 t := by dsimp only [dat]
theorem after_4 (c : Dev nD) (t : Fin cfg0.N) : (dat W c).after 4 t = iblk W c 4 t := by dsimp only [dat]
theorem after_5 (c : Dev nD) (t : Fin cfg0.N) : (dat W c).after 5 t = iblk W c 5 t := by dsimp only [dat]
theorem after_6 (c : Dev nD) (t : Fin cfg0.N) : (dat W c).after 6 t = iblk W c 6 t := by dsimp only [dat]
theorem after_7 (c : Dev nD) (t : Fin cfg0.N) : (dat W c).after 7 t = iblk W c 7 t := by dsimp only [dat]
theorem after_8 (c : Dev nD) (t : Fin cfg0.N) : (dat W c).after 8 t = iblk W c 8 t := by dsimp only [dat]
theorem after_9 (c : Dev nD) (t : Fin cfg0.N) : (dat W c).after 9 t = iblk W c 9 t := by dsimp only [dat]
theorem after_10 (c : Dev nD) (t : Fin cfg0.N) : (dat W c).after 10 t = iblk W c 10 t := by dsimp only [dat]
theorem after_11 (c : Dev nD) (t : Fin cfg0.N) : (dat W c).after 11 t = iblk W c 11 t := by dsimp only [dat]
theorem after_12 (c : Dev nD) (t : Fin cfg0.N) : (dat W c).after 12 t = res0 (blocks W c t) (entering W c t) := by dsimp only [dat]
theorem after_13 (c : Dev nD) (t : Fin cfg0.N) : (dat W c).after 13 t = res1 (blocks W c t) (entering W c t) := by dsimp only [dat]
theorem after_14 (c : Dev nD) (t : Fin cfg0.N) : (dat W c).after 14 t = res2 (blocks W c t) (entering W c t) := by dsimp only [dat]
theorem after_15 (c : Dev nD) (t : Fin cfg0.N) : (dat W c).after 15 t = res3 (blocks W c t) (entering W c t) := by dsimp only [dat]

/-- An input window holds its array's block when the body runs. -/
theorem before_0 (c : Dev nD) (t : Fin cfg0.N) (d) : (dat W c).before 0 t d = (blocks W c t).x0 :=
  ((dat W c).before_in_eq_fetched 0 rfl (fun _ => rfl) (fun _ _ _ => rfl) (fun t => by rw [after_0]; unfold Dat.blockOf iblk; rw [A_eq]; try rfl) t d).trans
    (by unfold Dat.fetched Dat.blockOf; rw [A_eq]; rfl)
theorem before_1 (c : Dev nD) (t : Fin cfg0.N) (d) : (dat W c).before 1 t d = (blocks W c t).x1 :=
  ((dat W c).before_in_eq_fetched 1 rfl (fun _ => rfl) (fun _ _ _ => rfl) (fun t => by rw [after_1]; unfold Dat.blockOf iblk; rw [A_eq]; try rfl) t d).trans
    (by unfold Dat.fetched Dat.blockOf; rw [A_eq]; rfl)
theorem before_2 (c : Dev nD) (t : Fin cfg0.N) (d) : (dat W c).before 2 t d = (blocks W c t).x2 :=
  ((dat W c).before_in_eq_fetched 2 rfl (fun _ => rfl) (fun _ _ _ => rfl) (fun t => by rw [after_2]; unfold Dat.blockOf iblk; rw [A_eq]; try rfl) t d).trans
    (by unfold Dat.fetched Dat.blockOf; rw [A_eq]; rfl)
theorem before_3 (c : Dev nD) (t : Fin cfg0.N) (d) : (dat W c).before 3 t d = (blocks W c t).x3 :=
  ((dat W c).before_in_eq_fetched 3 rfl (fun _ => rfl) (fun _ _ _ => rfl) (fun t => by rw [after_3]; unfold Dat.blockOf iblk; rw [A_eq]; try rfl) t d).trans
    (by unfold Dat.fetched Dat.blockOf; rw [A_eq]; rfl)
theorem before_4 (c : Dev nD) (t : Fin cfg0.N) (d) : (dat W c).before 4 t d = (blocks W c t).x4 :=
  ((dat W c).before_in_eq_fetched 4 rfl (fun _ => rfl) (fun _ _ _ => rfl) (fun t => by rw [after_4]; unfold Dat.blockOf iblk; rw [A_eq]; try rfl) t d).trans
    (by unfold Dat.fetched Dat.blockOf; rw [A_eq]; rfl)
theorem before_5 (c : Dev nD) (t : Fin cfg0.N) (d) : (dat W c).before 5 t d = (blocks W c t).x5 :=
  ((dat W c).before_in_eq_fetched 5 rfl (fun _ => rfl) (fun _ _ _ => rfl) (fun t => by rw [after_5]; unfold Dat.blockOf iblk; rw [A_eq]; try rfl) t d).trans
    (by unfold Dat.fetched Dat.blockOf; rw [A_eq]; rfl)
theorem before_6 (c : Dev nD) (t : Fin cfg0.N) (d) : (dat W c).before 6 t d = (blocks W c t).x6 :=
  ((dat W c).before_in_eq_fetched 6 rfl (fun _ => rfl) (fun _ _ _ => rfl) (fun t => by rw [after_6]; unfold Dat.blockOf iblk; rw [A_eq]; try rfl) t d).trans
    (by unfold Dat.fetched Dat.blockOf; rw [A_eq]; rfl)
theorem before_7 (c : Dev nD) (t : Fin cfg0.N) (d) : (dat W c).before 7 t d = (blocks W c t).x7 :=
  ((dat W c).before_in_eq_fetched 7 rfl (fun _ => rfl) (fun _ _ _ => rfl) (fun t => by rw [after_7]; unfold Dat.blockOf iblk; rw [A_eq]; try rfl) t d).trans
    (by unfold Dat.fetched Dat.blockOf; rw [A_eq]; rfl)
theorem before_8 (c : Dev nD) (t : Fin cfg0.N) (d) : (dat W c).before 8 t d = (blocks W c t).x8 :=
  ((dat W c).before_in_eq_fetched 8 rfl (fun _ => rfl) (fun _ _ _ => rfl) (fun t => by rw [after_8]; unfold Dat.blockOf iblk; rw [A_eq]; try rfl) t d).trans
    (by unfold Dat.fetched Dat.blockOf; rw [A_eq]; rfl)
theorem before_9 (c : Dev nD) (t : Fin cfg0.N) (d) : (dat W c).before 9 t d = (blocks W c t).x9 :=
  ((dat W c).before_in_eq_fetched 9 rfl (fun _ => rfl) (fun _ _ _ => rfl) (fun t => by rw [after_9]; unfold Dat.blockOf iblk; rw [A_eq]; try rfl) t d).trans
    (by unfold Dat.fetched Dat.blockOf; rw [A_eq]; rfl)
theorem before_10 (c : Dev nD) (t : Fin cfg0.N) (d) : (dat W c).before 10 t d = (blocks W c t).x10 :=
  ((dat W c).before_in_eq_fetched 10 rfl (fun _ => rfl) (fun _ _ _ => rfl) (fun t => by rw [after_10]; unfold Dat.blockOf iblk; rw [A_eq]; try rfl) t d).trans
    (by unfold Dat.fetched Dat.blockOf; rw [A_eq]; rfl)
theorem before_11 (c : Dev nD) (t : Fin cfg0.N) (d) : (dat W c).before 11 t d = (blocks W c t).x11 :=
  ((dat W c).before_in_eq_fetched 11 rfl (fun _ => rfl) (fun _ _ _ => rfl) (fun t => by rw [after_11]; unfold Dat.blockOf iblk; rw [A_eq]; try rfl) t d).trans
    (by unfold Dat.fetched Dat.blockOf; rw [A_eq]; rfl)

/-- What the body holds at point `t`, before and after. -/
def bodyPre (c : Dev nD) (t : Fin cfg0.N) : sProp 𝕄 :=
  iprop((dat W c).Φ t.castSucc ∗ (dat W c).owesAt () t.castSucc
    ∗ (∃ d, owns (c : Thread nD τ) (win0_0.stage (cfg0.slots t 0)) fullShare ((dat W c).before 0 t d))
    ∗ (∃ d, owns (c : Thread nD τ) (win0_1.stage (cfg0.slots t 1)) fullShare ((dat W c).before 1 t d))
    ∗ (∃ d, owns (c : Thread nD τ) (win0_2.stage (cfg0.slots t 2)) fullShare ((dat W c).before 2 t d))
    ∗ (∃ d, owns (c : Thread nD τ) (win0_3.stage (cfg0.slots t 3)) fullShare ((dat W c).before 3 t d))
    ∗ (∃ d, owns (c : Thread nD τ) (win0_4.stage (cfg0.slots t 4)) fullShare ((dat W c).before 4 t d))
    ∗ (∃ d, owns (c : Thread nD τ) (win0_5.stage (cfg0.slots t 5)) fullShare ((dat W c).before 5 t d))
    ∗ (∃ d, owns (c : Thread nD τ) (win0_6.stage (cfg0.slots t 6)) fullShare ((dat W c).before 6 t d))
    ∗ (∃ d, owns (c : Thread nD τ) (win0_7.stage (cfg0.slots t 7)) fullShare ((dat W c).before 7 t d))
    ∗ (∃ d, owns (c : Thread nD τ) (win0_8.stage (cfg0.slots t 8)) fullShare ((dat W c).before 8 t d))
    ∗ (∃ d, owns (c : Thread nD τ) (win0_9.stage (cfg0.slots t 9)) fullShare ((dat W c).before 9 t d))
    ∗ (∃ d, owns (c : Thread nD τ) (win0_10.stage (cfg0.slots t 10)) fullShare ((dat W c).before 10 t d))
    ∗ (∃ d, owns (c : Thread nD τ) (win0_11.stage (cfg0.slots t 11)) fullShare ((dat W c).before 11 t d))
    ∗ (∃ d, owns (c : Thread nD τ) (win0_12.stage (cfg0.slots t 12)) fullShare ((dat W c).before 12 t d))
    ∗ (∃ d, owns (c : Thread nD τ) (win0_13.stage (cfg0.slots t 13)) fullShare ((dat W c).before 13 t d))
    ∗ (∃ d, owns (c : Thread nD τ) (win0_14.stage (cfg0.slots t 14)) fullShare ((dat W c).before 14 t d))
    ∗ (∃ d, owns (c : Thread nD τ) (win0_15.stage (cfg0.slots t 15)) fullShare ((dat W c).before 15 t d)))
def bodyPost (c : Dev nD) (t : Fin cfg0.N) : sProp 𝕄 :=
  iprop((dat W c).Φ t.succ ∗ (dat W c).owesAt () t.succ
    ∗ owns (c : Thread nD τ) (win0_0.stage (cfg0.slots t 0)) fullShare ((dat W c).after 0 t)
    ∗ owns (c : Thread nD τ) (win0_1.stage (cfg0.slots t 1)) fullShare ((dat W c).after 1 t)
    ∗ owns (c : Thread nD τ) (win0_2.stage (cfg0.slots t 2)) fullShare ((dat W c).after 2 t)
    ∗ owns (c : Thread nD τ) (win0_3.stage (cfg0.slots t 3)) fullShare ((dat W c).after 3 t)
    ∗ owns (c : Thread nD τ) (win0_4.stage (cfg0.slots t 4)) fullShare ((dat W c).after 4 t)
    ∗ owns (c : Thread nD τ) (win0_5.stage (cfg0.slots t 5)) fullShare ((dat W c).after 5 t)
    ∗ owns (c : Thread nD τ) (win0_6.stage (cfg0.slots t 6)) fullShare ((dat W c).after 6 t)
    ∗ owns (c : Thread nD τ) (win0_7.stage (cfg0.slots t 7)) fullShare ((dat W c).after 7 t)
    ∗ owns (c : Thread nD τ) (win0_8.stage (cfg0.slots t 8)) fullShare ((dat W c).after 8 t)
    ∗ owns (c : Thread nD τ) (win0_9.stage (cfg0.slots t 9)) fullShare ((dat W c).after 9 t)
    ∗ owns (c : Thread nD τ) (win0_10.stage (cfg0.slots t 10)) fullShare ((dat W c).after 10 t)
    ∗ owns (c : Thread nD τ) (win0_11.stage (cfg0.slots t 11)) fullShare ((dat W c).after 11 t)
    ∗ owns (c : Thread nD τ) (win0_12.stage (cfg0.slots t 12)) fullShare ((dat W c).after 12 t)
    ∗ owns (c : Thread nD τ) (win0_13.stage (cfg0.slots t 13)) fullShare ((dat W c).after 13 t)
    ∗ owns (c : Thread nD τ) (win0_14.stage (cfg0.slots t 14)) fullShare ((dat W c).after 14 t)
    ∗ owns (c : Thread nD τ) (win0_15.stage (cfg0.slots t 15)) fullShare ((dat W c).after 15 t))

set_option maxHeartbeats 12800000 in
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3, before_4, before_5, before_6, before_7, before_8, before_9, before_10, before_11]
  rw [show (dat W c).owesAt () t.succ = (dat W c).owesAt () t.castSucc from rfl, after_0, after_1, after_2, after_3, after_4, after_5, after_6, after_7, after_8, after_9, after_10, after_11, after_12, after_13, after_14, after_15]
  rw [inv_castSucc W c t, show (dat W c).Φ t.succ = Inv W c (t.val + 1) t.isLt from rfl]
  unfold Inv
  iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hs : (cond (grid0.coords t) ∧ entering W c t = k0_pay2) ∨ (¬cond (grid0.coords t) ∧ entering W c t = xs) := by
    by_cases h : t.val = 0
    · refine .inl ⟨(cond_iff t).mpr h, ?_⟩
      obtain ⟨n, hn⟩ := t; obtain rfl : n = 0 := h; rfl
    · exact .inr ⟨fun hc => h ((cond_iff t).mp hc), (hxs h).symm⟩
  iapply (point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) scM (Memref.isWhole_whole _) (blocks W c t) xs (entering W c t) hs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [HS]; · iexact HS
  iintro ⟨H0, H1, H2, H3, H4, H5, H6, H7, H8, H9, H10, H11, H12, H13, H14, H15, HS⟩
  isplitl [HS Hg]
  · isplitl [HS]
    · iexists _; isplitr; swap; (· iexact HS); ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs_row (t : Fin cfg0.N) : defs₀ (F := F) .tc cfg0.body (cfg0.bodyArgs t (cfg0.slots t)) = bodyAt0 t := by
  unfold defs₀; rw [Defs.onTc_tc]

set_option maxHeartbeats 1600000 in
/-- The library's body obligation. -/
theorem body_obligation (c : Dev nD) : BodyObligation (dat W c) (defs₀ (F := F)) Variants.none () Set.univ := fun t => by
  rw [bigSep_W0, bigSep_W0, defs_row]
  exact triple_restated (sound_body W c t) rfl .rfl fun _ => .rfl

/-- The region's own scoped buffers are the invariant before the first point, and the invariant after the last gives them back. -/
theorem inv_in (c : Dev nD) : (Pipeline.scopedRest (Ix := Unit) (Name := ℕ) (U := UR sig nD τ) (Lvl := ℕ) (Val := Elt F) spec0 c : sProp 𝕄) ⊢ (dat W c).Φ 0 := by
  rw [show (dat W c).Φ 0 = Inv W c 0 (Nat.zero_le _) from rfl, scopedRest0_split]
  unfold Inv
  iintro ⟨⟨%f, Hf⟩, Hg⟩
  isplitl [Hf]
  · iexists f; isplitr; · ipureintro; exact fun h => absurd rfl h
    rw [owns_whole]; iexact Hf
  iexact Hg
theorem inv_out (c : Dev nD) : (dat W c).Φ (Fin.last cfg0.N) ⊢ (Pipeline.scopedRest (Ix := Unit) (Name := ℕ) (U := UR sig nD τ) (Lvl := ℕ) (Val := Elt F) spec0 c : sProp 𝕄) := by
  rw [show (dat W c).Φ (Fin.last cfg0.N) = Inv W c cfg0.N (Nat.le_refl _) from rfl, scopedRest0_split]
  unfold Inv
  iintro ⟨⟨%xs, -, HS⟩, Hg⟩
  isplitl [HS]
  · iexists xs
    ihave H := (Entails.of_eq (owns_whole (c : Thread nD τ) cc0_scratch0 fullShare xs)) $$ HS
    iexact H
  iexact Hg

end Cert.KernelIdeal.Fwd

end
-- ==== Proof.BwdRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The blocks the 16 input windows hold at one grid point. -/
structure In (F : FTy → Type) [FloatOps F] where
  x0 : Vec F S4x4x64x128 .f32
  x1 : Vec F S4x4x64x128 .f32
  x2 : Vec F S4x4x64x128 .f32
  x3 : Vec F S4x4x64x128 .f32
  x4 : Vec F S4x4x64x128 .f32
  x5 : Vec F S4x4x64x128 .f32
  x6 : Vec F S4x4x64x128 .f32
  x7 : Vec F S4x4x64x128 .f32
  x8 : Vec F S4x4x64x64 .f32
  x9 : Vec F S4x4x64x64 .f32
  x10 : Vec F S4x4x1x128 .f32
  x11 : Vec F S4x4x1x128 .f32
  x12 : Vec F S4x4x128x128 .f32
  x13 : Vec F S4x4x128x128 .f32
  x14 : Vec F S256x512 .f32
  x15 : Vec F S256x512 .f32

/-- The condition under which the body clears its scratch: the first grid point. -/
abbrev cond (i : grid1.Coords) : Prop := (Scalar.cmpi .ne (Scalar.extui (Scalar.cmpi .eq (BitVec.ofNat 32 (i 0).val) 0#32)) 0#32) = 1#1

theorem cond_iff (t : Fin cfg1.N) : cond (grid1.coords t) ↔ t.val = 0 := by
  have ht : t.val < 33 := Nat.lt_of_lt_of_eq t.isLt N_1
  have e0 : (grid1.coords t 0).val = t.val / 1 % 33 := Pipeline.Grid.coords_val t 0 (by decide) rfl
  have e1 : t.val = 0 ↔ t.val % 33 = 0 := by omega
  rw [e1]
  simp only [cond, e0]
  word_cmp

section Run

variable (c : Dev nD) (i : grid1.Coords)
  (arg1 : Memref sig .tc .vmem S4x4x64x128 .f32) (harg1 : arg1.IsWhole)
  (arg2 : Memref sig .tc .vmem S4x4x64x128 .f32) (harg2 : arg2.IsWhole)
  (arg3 : Memref sig .tc .vmem S4x4x64x128 .f32) (harg3 : arg3.IsWhole)
  (arg4 : Memref sig .tc .vmem S4x4x64x128 .f32) (harg4 : arg4.IsWhole)
  (arg5 : Memref sig .tc .vmem S4x4x64x128 .f32) (harg5 : arg5.IsWhole)
  (arg6 : Memref sig .tc .vmem S4x4x64x128 .f32) (harg6 : arg6.IsWhole)
  (arg7 : Memref sig .tc .vmem S4x4x64x128 .f32) (harg7 : arg7.IsWhole)
  (arg8 : Memref sig .tc .vmem S4x4x64x128 .f32) (harg8 : arg8.IsWhole)
  (arg9 : Memref sig .tc .vmem S4x4x64x64 .f32) (harg9 : arg9.IsWhole)
  (arg10 : Memref sig .tc .vmem S4x4x64x64 .f32) (harg10 : arg10.IsWhole)
  (arg11 : Memref sig .tc .vmem S4x4x1x128 .f32) (harg11 : arg11.IsWhole)
  (arg12 : Memref sig .tc .vmem S4x4x1x128 .f32) (harg12 : arg12.IsWhole)
  (arg13 : Memref sig .tc .vmem S4x4x128x128 .f32) (harg13 : arg13.IsWhole)
  (arg14 : Memref sig .tc .vmem S4x4x128x128 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S4x4x64x128 .f32) (harg17 : arg17.IsWhole)
  (arg18 : Memref sig .tc .vmem S4x4x64x128 .f32) (harg18 : arg18.IsWhole)
  (arg19 : Memref sig .tc .vmem S4x4x64x128 .f32) (harg19 : arg19.IsWhole)
  (arg20 : Memref sig .tc .vmem S4x4x64x128 .f32) (harg20 : arg20.IsWhole)
  (arg21 : Memref sig .tc .vmem S4x4x64x128 .f32) (harg21 : arg21.IsWhole)
  (arg22 : Memref sig .tc .vmem S4x4x64x128 .f32) (harg22 : arg22.IsWhole)
  (arg23 : Memref sig .tc .vmem S4x4x64x128 .f32) (harg23 : arg23.IsWhole)
  (arg24 : Memref sig .tc .vmem S4x4x64x128 .f32) (harg24 : arg24.IsWhole)
  (arg25 : Memref sig .tc .vmem S4x4x64x64 .f32) (harg25 : arg25.IsWhole)
  (arg26 : Memref sig .tc .vmem S4x4x64x64 .f32) (harg26 : arg26.IsWhole)
  (arg27 : Memref sig .tc .vmem S4x4x1x128 .f32) (harg27 : arg27.IsWhole)
  (arg28 : Memref sig .tc .vmem S4x4x1x128 .f32) (harg28 : arg28.IsWhole)
  (arg29 : Memref sig .tc .vmem S8x128x128 .f32) (harg29 : arg29.IsWhole)
  (X : In F) (xs : Vec F S8x128x128 .f32)

set_option maxHeartbeats 6000000 in
/-- The body's run at the first grid point: the pieces it leaves in each output's staging buffer and in the scratch (last first), with its triple. -/
noncomputable def runA (hc : cond i) :
    Σ' (L0 : List (View.Piece (Elt F) S4x4x64x128 .f32)), Σ' (L1 : List (View.Piece (Elt F) S4x4x64x128 .f32)), Σ' (L2 : List (View.Piece (Elt F) S4x4x64x128 .f32)), Σ' (L3 : List (View.Piece (Elt F) S4x4x64x128 .f32)), Σ' (L4 : List (View.Piece (Elt F) S4x4x64x128 .f32)), Σ' (L5 : List (View.Piece (Elt F) S4x4x64x128 .f32)), Σ' (L6 : List (View.Piece (Elt F) S4x4x64x128 .f32)), Σ' (L7 : List (View.Piece (Elt F) S4x4x64x128 .f32)), Σ' (L8 : List (View.Piece (Elt F) S4x4x64x64 .f32)), Σ' (L9 : List (View.Piece (Elt F) S4x4x64x64 .f32)), Σ' (L10 : List (View.Piece (Elt F) S4x4x1x128 .f32)), Σ' (L11 : List (View.Piece (Elt F) S4x4x1x128 .f32)), { LS : List (View.Piece (Elt F) S8x128x128 .f32) //
      ∀ (E : Set ℕ) (K : PUnit → sProp 𝕄),
        iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs
            ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ (∃ f, arg17.view.loc (c : Thread nD τ) ↦[arg17.view.set]{fullShare} arg17.view.writes (Elt F) f L0) ∗ (∃ f, arg18.view.loc (c : Thread nD τ) ↦[arg18.view.set]{fullShare} arg18.view.writes (Elt F) f L1) ∗ (∃ f, arg19.view.loc (c : Thread nD τ) ↦[arg19.view.set]{fullShare} arg19.view.writes (Elt F) f L2) ∗ (∃ f, arg20.view.loc (c : Thread nD τ) ↦[arg20.view.set]{fullShare} arg20.view.writes (Elt F) f L3) ∗ (∃ f, arg21.view.loc (c : Thread nD τ) ↦[arg21.view.set]{fullShare} arg21.view.writes (Elt F) f L4) ∗ (∃ f, arg22.view.loc (c : Thread nD τ) ↦[arg22.view.set]{fullShare} arg22.view.writes (Elt F) f L5) ∗ (∃ f, arg23.view.loc (c : Thread nD τ) ↦[arg23.view.set]{fullShare} arg23.view.writes (Elt F) f L6) ∗ (∃ f, arg24.view.loc (c : Thread nD τ) ↦[arg24.view.set]{fullShare} arg24.view.writes (Elt F) f L7) ∗ (∃ f, arg25.view.loc (c : Thread nD τ) ↦[arg25.view.set]{fullShare} arg25.view.writes (Elt F) f L8) ∗ (∃ f, arg26.view.loc (c : Thread nD τ) ↦[arg26.view.set]{fullShare} arg26.view.writes (Elt F) f L9) ∗ (∃ f, arg27.view.loc (c : Thread nD τ) ↦[arg27.view.set]{fullShare} arg27.view.writes (Elt F) f L10) ∗ (∃ f, arg28.view.loc (c : Thread nD τ) ↦[arg28.view.set]{fullShare} arg28.view.writes (Elt F) f L11) ∗ (∃ f, arg29.view.loc (c : Thread nD τ) ↦[arg29.view.set]{fullShare} arg29.view.writes (Elt F) f LS)) -∗ K ⟨⟩))
          ⊢ wp frame (wpE (defs₀ (F := F)) Variants.none c none) E (cc1_l0_dn_scan_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, fun E K => ?run⟩
  case run =>
    simp only [cc1_l0_dn_scan_b_eq_skeleton]; unfold cc1_l0_dn_scan_b_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg29.eq_unread hfs0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact HS0

set_option maxHeartbeats 6000000 in
/-- The body's run at a later grid point: the pieces it leaves in each output's staging buffer and in the scratch (last first), with its triple. -/
noncomputable def runB (hc : ¬cond i) :
    Σ' (L0 : List (View.Piece (Elt F) S4x4x64x128 .f32)), Σ' (L1 : List (View.Piece (Elt F) S4x4x64x128 .f32)), Σ' (L2 : List (View.Piece (Elt F) S4x4x64x128 .f32)), Σ' (L3 : List (View.Piece (Elt F) S4x4x64x128 .f32)), Σ' (L4 : List (View.Piece (Elt F) S4x4x64x128 .f32)), Σ' (L5 : List (View.Piece (Elt F) S4x4x64x128 .f32)), Σ' (L6 : List (View.Piece (Elt F) S4x4x64x128 .f32)), Σ' (L7 : List (View.Piece (Elt F) S4x4x64x128 .f32)), Σ' (L8 : List (View.Piece (Elt F) S4x4x64x64 .f32)), Σ' (L9 : List (View.Piece (Elt F) S4x4x64x64 .f32)), Σ' (L10 : List (View.Piece (Elt F) S4x4x1x128 .f32)), Σ' (L11 : List (View.Piece (Elt F) S4x4x1x128 .f32)), { LS : List (View.Piece (Elt F) S8x128x128 .f32) //
      ∀ (E : Set ℕ) (K : PUnit → sProp 𝕄),
        iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs
            ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ (∃ f, arg17.view.loc (c : Thread nD τ) ↦[arg17.view.set]{fullShare} arg17.view.writes (Elt F) f L0) ∗ (∃ f, arg18.view.loc (c : Thread nD τ) ↦[arg18.view.set]{fullShare} arg18.view.writes (Elt F) f L1) ∗ (∃ f, arg19.view.loc (c : Thread nD τ) ↦[arg19.view.set]{fullShare} arg19.view.writes (Elt F) f L2) ∗ (∃ f, arg20.view.loc (c : Thread nD τ) ↦[arg20.view.set]{fullShare} arg20.view.writes (Elt F) f L3) ∗ (∃ f, arg21.view.loc (c : Thread nD τ) ↦[arg21.view.set]{fullShare} arg21.view.writes (Elt F) f L4) ∗ (∃ f, arg22.view.loc (c : Thread nD τ) ↦[arg22.view.set]{fullShare} arg22.view.writes (Elt F) f L5) ∗ (∃ f, arg23.view.loc (c : Thread nD τ) ↦[arg23.view.set]{fullShare} arg23.view.writes (Elt F) f L6) ∗ (∃ f, arg24.view.loc (c : Thread nD τ) ↦[arg24.view.set]{fullShare} arg24.view.writes (Elt F) f L7) ∗ (∃ f, arg25.view.loc (c : Thread nD τ) ↦[arg25.view.set]{fullShare} arg25.view.writes (Elt F) f L8) ∗ (∃ f, arg26.view.loc (c : Thread nD τ) ↦[arg26.view.set]{fullShare} arg26.view.writes (Elt F) f L9) ∗ (∃ f, arg27.view.loc (c : Thread nD τ) ↦[arg27.view.set]{fullShare} arg27.view.writes (Elt F) f L10) ∗ (∃ f, arg28.view.loc (c : Thread nD τ) ↦[arg28.view.set]{fullShare} arg28.view.writes (Elt F) f L11) ∗ (∃ f, arg29.view.loc (c : Thread nD τ) ↦[arg29.view.set]{fullShare} arg29.view.writes (Elt F) f LS)) -∗ K ⟨⟩))
          ⊢ wp frame (wpE (defs₀ (F := F)) Variants.none c none) E (cc1_l0_dn_scan_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, fun E K => ?run⟩
  case run =>
    simp only [cc1_l0_dn_scan_b_eq_skeleton]; unfold cc1_l0_dn_scan_b_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg29.eq_unread hfs0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact HS0

end Run

end Cert.KernelIdeal.Bwd

end
-- ==== Proof.BwdStep.lean ====
module

public import proofs.«01_k».proof.Proof.BwdRun
public import proofs.«01_k».proof.Proof.FwdStep

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Fwd (row rowA rowG whole_load load_all)

/-! ## One chunk's backward step -/

/-- Both directions' inputs of one chunk's backward step, the four heads of the forward walk before the four of the backward one:
the step's own inputs, the state it started from, and the cotangent of what it put out. -/
structure StepIn (F : FTy → Type) [FloatOps F] where
  u : FVec F S8x64x128 .f32
  w : FVec F S8x64x128 .f32
  qd : FVec F S8x64x128 .f32
  ks : FVec F S8x64x128 .f32
  aqk : FVec F S8x64x64 .f32
  gl : FVec F S8x1x128 .f32
  s : FVec F S8x128x128 .f32
  dO : FVec F S8x64x128 .f32

abbrev rowS (j : ℕ) (h : ∀ a, (![j, 0, 0, 0] : Fin 4 → ℕ) a + S1x4x128x128.size a ≤ S4x4x128x128.size a) (x : Vec F S4x4x128x128 .f32) : Vec F S1x4x128x128 .f32 :=
  fun y => x ((Rect.unit (s := S4x4x128x128) ![j, 0, 0, 0] S1x4x128x128.size h).toLoadRect.idx y)
abbrev rowO (j : ℕ) (h : ∀ a, (![j, 0] : Fin 2 → ℕ) a + S64x512.size a ≤ S256x512.size a) (x : Vec F S256x512 .f32) : Vec F S64x512 .f32 :=
  fun y => x ((Rect.unit (s := S256x512) ![j, 0] S64x512.size h).toLoadRect.idx y)

/-- The inputs of a grid point's step 0. -/
def in0 (X : In F) : StepIn F where
  u := k1_pay46 (row 3 inb_S4x4x64x128_S1x4x64x128_3_0_0_0 X.x0) (row 0 inb_S4x4x64x128_S1x4x64x128_0_0_0_0 X.x1)
  w := k1_pay46 (row 3 inb_S4x4x64x128_S1x4x64x128_3_0_0_0 X.x2) (row 0 inb_S4x4x64x128_S1x4x64x128_0_0_0_0 X.x3)
  qd := k1_pay46 (row 3 inb_S4x4x64x128_S1x4x64x128_3_0_0_0 X.x4) (row 0 inb_S4x4x64x128_S1x4x64x128_0_0_0_0 X.x5)
  ks := k1_pay46 (row 3 inb_S4x4x64x128_S1x4x64x128_3_0_0_0 X.x6) (row 0 inb_S4x4x64x128_S1x4x64x128_0_0_0_0 X.x7)
  aqk := k1_pay51 (k1_pay50 (rowA 3 inb_S4x4x64x64_S1x4x64x64_3_0_0_0 X.x8)) (rowA 0 inb_S4x4x64x64_S1x4x64x64_0_0_0_0 X.x9)
  gl := k1_pay52 (rowG 3 inb_S4x4x1x128_S1x4x1x128_3_0_0_0 X.x10) (rowG 0 inb_S4x4x1x128_S1x4x1x128_0_0_0_0 X.x11)
  s := k1_pay53 (rowS 3 inb_S4x4x128x128_S1x4x128x128_3_0_0_0 X.x12) (rowS 0 inb_S4x4x128x128_S1x4x128x128_0_0_0_0 X.x13)
  dO := k1_pay54 (rowO 192 inb_S256x512_S64x512_192_0 X.x14) (rowO 0 inb_S256x512_S64x512_0_0 X.x15)
/-- The inputs of a grid point's step 1. -/
def in1 (X : In F) : StepIn F where
  u := k1_pay46 (row 2 inb_S4x4x64x128_S1x4x64x128_2_0_0_0 X.x0) (row 1 inb_S4x4x64x128_S1x4x64x128_1_0_0_0 X.x1)
  w := k1_pay46 (row 2 inb_S4x4x64x128_S1x4x64x128_2_0_0_0 X.x2) (row 1 inb_S4x4x64x128_S1x4x64x128_1_0_0_0 X.x3)
  qd := k1_pay46 (row 2 inb_S4x4x64x128_S1x4x64x128_2_0_0_0 X.x4) (row 1 inb_S4x4x64x128_S1x4x64x128_1_0_0_0 X.x5)
  ks := k1_pay46 (row 2 inb_S4x4x64x128_S1x4x64x128_2_0_0_0 X.x6) (row 1 inb_S4x4x64x128_S1x4x64x128_1_0_0_0 X.x7)
  aqk := k1_pay51 (k1_pay50 (rowA 2 inb_S4x4x64x64_S1x4x64x64_2_0_0_0 X.x8)) (rowA 1 inb_S4x4x64x64_S1x4x64x64_1_0_0_0 X.x9)
  gl := k1_pay52 (rowG 2 inb_S4x4x1x128_S1x4x1x128_2_0_0_0 X.x10) (rowG 1 inb_S4x4x1x128_S1x4x1x128_1_0_0_0 X.x11)
  s := k1_pay53 (rowS 2 inb_S4x4x128x128_S1x4x128x128_2_0_0_0 X.x12) (rowS 1 inb_S4x4x128x128_S1x4x128x128_1_0_0_0 X.x13)
  dO := k1_pay54 (rowO 128 inb_S256x512_S64x512_128_0 X.x14) (rowO 64 inb_S256x512_S64x512_64_0 X.x15)
/-- The inputs of a grid point's step 2. -/
def in2 (X : In F) : StepIn F where
  u := k1_pay46 (row 1 inb_S4x4x64x128_S1x4x64x128_1_0_0_0 X.x0) (row 2 inb_S4x4x64x128_S1x4x64x128_2_0_0_0 X.x1)
  w := k1_pay46 (row 1 inb_S4x4x64x128_S1x4x64x128_1_0_0_0 X.x2) (row 2 inb_S4x4x64x128_S1x4x64x128_2_0_0_0 X.x3)
  qd := k1_pay46 (row 1 inb_S4x4x64x128_S1x4x64x128_1_0_0_0 X.x4) (row 2 inb_S4x4x64x128_S1x4x64x128_2_0_0_0 X.x5)
  ks := k1_pay46 (row 1 inb_S4x4x64x128_S1x4x64x128_1_0_0_0 X.x6) (row 2 inb_S4x4x64x128_S1x4x64x128_2_0_0_0 X.x7)
  aqk := k1_pay51 (k1_pay50 (rowA 1 inb_S4x4x64x64_S1x4x64x64_1_0_0_0 X.x8)) (rowA 2 inb_S4x4x64x64_S1x4x64x64_2_0_0_0 X.x9)
  gl := k1_pay52 (rowG 1 inb_S4x4x1x128_S1x4x1x128_1_0_0_0 X.x10) (rowG 2 inb_S4x4x1x128_S1x4x1x128_2_0_0_0 X.x11)
  s := k1_pay53 (rowS 1 inb_S4x4x128x128_S1x4x128x128_1_0_0_0 X.x12) (rowS 2 inb_S4x4x128x128_S1x4x128x128_2_0_0_0 X.x13)
  dO := k1_pay54 (rowO 64 inb_S256x512_S64x512_64_0 X.x14) (rowO 128 inb_S256x512_S64x512_128_0 X.x15)
/-- The inputs of a grid point's step 3. -/
def in3 (X : In F) : StepIn F where
  u := k1_pay46 (row 0 inb_S4x4x64x128_S1x4x64x128_0_0_0_0 X.x0) (row 3 inb_S4x4x64x128_S1x4x64x128_3_0_0_0 X.x1)
  w := k1_pay46 (row 0 inb_S4x4x64x128_S1x4x64x128_0_0_0_0 X.x2) (row 3 inb_S4x4x64x128_S1x4x64x128_3_0_0_0 X.x3)
  qd := k1_pay46 (row 0 inb_S4x4x64x128_S1x4x64x128_0_0_0_0 X.x4) (row 3 inb_S4x4x64x128_S1x4x64x128_3_0_0_0 X.x5)
  ks := k1_pay46 (row 0 inb_S4x4x64x128_S1x4x64x128_0_0_0_0 X.x6) (row 3 inb_S4x4x64x128_S1x4x64x128_3_0_0_0 X.x7)
  aqk := k1_pay51 (k1_pay50 (rowA 0 inb_S4x4x64x64_S1x4x64x64_0_0_0_0 X.x8)) (rowA 3 inb_S4x4x64x64_S1x4x64x64_3_0_0_0 X.x9)
  gl := k1_pay52 (rowG 0 inb_S4x4x1x128_S1x4x1x128_0_0_0_0 X.x10) (rowG 3 inb_S4x4x1x128_S1x4x1x128_3_0_0_0 X.x11)
  s := k1_pay53 (rowS 0 inb_S4x4x128x128_S1x4x128x128_0_0_0_0 X.x12) (rowS 3 inb_S4x4x128x128_S1x4x128x128_3_0_0_0 X.x13)
  dO := k1_pay54 (rowO 0 inb_S256x512_S64x512_0_0 X.x14) (rowO 192 inb_S256x512_S64x512_192_0 X.x15)

/-- The two products' shared operands: the stacked `w` and `qd`, and the state, rounded. -/
def wq (A : StepIn F) : FVec F S8x128x128 .bf16 := k1_pay55 A.w A.qd
def sb (A : StepIn F) : FVec F S8x128x128 .bf16 := truncf .bf16 A.s bitsLt_bf16_f32
def acc : FVec F S8x128x128 .f32 := constant S8x128x128 .f32 0x00000000#32

/-- The cotangents of the step's inputs from the cotangent `d` of the state it left, and of the state it started from. -/
def dU (A : StepIn F) (d : FVec F S8x128x128 .f32) : FVec F S8x64x128 .f32 := k1_pay60 d A.ks A.aqk A.dO
def dW (A : StepIn F) (d : FVec F S8x128x128 .f32) : FVec F S8x64x128 .f32 := k1_pay65 d A.ks A.aqk A.dO (sb A)
def dQd (A : StepIn F) (d : FVec F S8x128x128 .f32) : FVec F S8x64x128 .f32 := k1_pay66 d A.ks A.aqk A.dO (sb A)
def dKs (A : StepIn F) (d : FVec F S8x128x128 .f32) : FVec F S8x64x128 .f32 := k1_pay58 d A.u (wq A) (sb A) acc
def dAqk (A : StepIn F) (_ : FVec F S8x128x128 .f32) : FVec F S8x64x64 .f32 := k1_pay61 A.u A.dO (wq A) (sb A) acc
def dGl (A : StepIn F) (d : FVec F S8x128x128 .f32) : FVec F S8x1x128 .f32 := k1_pay59 d A.s
def prev (A : StepIn F) (d : FVec F S8x128x128 .f32) : FVec F S8x128x128 .f32 := k1_pay63 d A.ks A.aqk A.gl A.dO (wq A)

/-- The cotangent of the state before a grid point's steps 1, 2 and 3 and after them all. -/
def s1 (X : In F) (d : FVec F S8x128x128 .f32) : FVec F S8x128x128 .f32 := prev (in0 X) (k1_pay21 d)
def s2 (X : In F) (d : FVec F S8x128x128 .f32) : FVec F S8x128x128 .f32 := prev (in1 X) (s1 X d)
def s3 (X : In F) (d : FVec F S8x128x128 .f32) : FVec F S8x128x128 .f32 := prev (in2 X) (s2 X d)
def s4 (X : In F) (d : FVec F S8x128x128 .f32) : FVec F S8x128x128 .f32 := prev (in3 X) (s3 X d)

/-- The pieces a grid point writes into an output's block, last first, from what its four steps compute for that output. -/
def up (f : StepIn F → FVec F S8x128x128 .f32 → FVec F S8x64x128 .f32) (X : In F) (d : FVec F S8x128x128 .f32) : List (View.Piece (Elt F) S4x4x64x128 .f32) :=
  [⟨Rect.unit ![0, 0, 0, 0] S1x4x64x128.size inb_S4x4x64x128_S1x4x64x128_0_0_0_0, k1_pay70 (f (in3 X) (s3 X d))⟩,
   ⟨Rect.unit ![1, 0, 0, 0] S1x4x64x128.size inb_S4x4x64x128_S1x4x64x128_1_0_0_0, k1_pay70 (f (in2 X) (s2 X d))⟩,
   ⟨Rect.unit ![2, 0, 0, 0] S1x4x64x128.size inb_S4x4x64x128_S1x4x64x128_2_0_0_0, k1_pay70 (f (in1 X) (s1 X d))⟩,
   ⟨Rect.unit ![3, 0, 0, 0] S1x4x64x128.size inb_S4x4x64x128_S1x4x64x128_3_0_0_0, k1_pay70 (f (in0 X) (k1_pay21 d))⟩]
def dn (f : StepIn F → FVec F S8x128x128 .f32 → FVec F S8x64x128 .f32) (X : In F) (d : FVec F S8x128x128 .f32) : List (View.Piece (Elt F) S4x4x64x128 .f32) :=
  [⟨Rect.unit ![3, 0, 0, 0] S1x4x64x128.size inb_S4x4x64x128_S1x4x64x128_3_0_0_0, k1_pay71 (f (in3 X) (s3 X d))⟩,
   ⟨Rect.unit ![2, 0, 0, 0] S1x4x64x128.size inb_S4x4x64x128_S1x4x64x128_2_0_0_0, k1_pay71 (f (in2 X) (s2 X d))⟩,
   ⟨Rect.unit ![1, 0, 0, 0] S1x4x64x128.size inb_S4x4x64x128_S1x4x64x128_1_0_0_0, k1_pay71 (f (in1 X) (s1 X d))⟩,
   ⟨Rect.unit ![0, 0, 0, 0] S1x4x64x128.size inb_S4x4x64x128_S1x4x64x128_0_0_0_0, k1_pay71 (f (in0 X) (k1_pay21 d))⟩]
def upA (f : StepIn F → FVec F S8x128x128 .f32 → FVec F S8x64x64 .f32) (X : In F) (d : FVec F S8x128x128 .f32) : List (View.Piece (Elt F) S4x4x64x64 .f32) :=
  [⟨Rect.unit ![0, 0, 0, 0] S1x4x64x64.size inb_S4x4x64x64_S1x4x64x64_0_0_0_0, k1_pay77 (f (in3 X) (s3 X d))⟩,
   ⟨Rect.unit ![1, 0, 0, 0] S1x4x64x64.size inb_S4x4x64x64_S1x4x64x64_1_0_0_0, k1_pay77 (f (in2 X) (s2 X d))⟩,
   ⟨Rect.unit ![2, 0, 0, 0] S1x4x64x64.size inb_S4x4x64x64_S1x4x64x64_2_0_0_0, k1_pay77 (f (in1 X) (s1 X d))⟩,
   ⟨Rect.unit ![3, 0, 0, 0] S1x4x64x64.size inb_S4x4x64x64_S1x4x64x64_3_0_0_0, k1_pay77 (f (in0 X) (k1_pay21 d))⟩]
def dnA (f : StepIn F → FVec F S8x128x128 .f32 → FVec F S8x64x64 .f32) (X : In F) (d : FVec F S8x128x128 .f32) : List (View.Piece (Elt F) S4x4x64x64 .f32) :=
  [⟨Rect.unit ![3, 0, 0, 0] S1x4x64x64.size inb_S4x4x64x64_S1x4x64x64_3_0_0_0, k1_pay78 (f (in3 X) (s3 X d))⟩,
   ⟨Rect.unit ![2, 0, 0, 0] S1x4x64x64.size inb_S4x4x64x64_S1x4x64x64_2_0_0_0, k1_pay78 (f (in2 X) (s2 X d))⟩,
   ⟨Rect.unit ![1, 0, 0, 0] S1x4x64x64.size inb_S4x4x64x64_S1x4x64x64_1_0_0_0, k1_pay78 (f (in1 X) (s1 X d))⟩,
   ⟨Rect.unit ![0, 0, 0, 0] S1x4x64x64.size inb_S4x4x64x64_S1x4x64x64_0_0_0_0, k1_pay78 (f (in0 X) (k1_pay21 d))⟩]
def upG (f : StepIn F → FVec F S8x128x128 .f32 → FVec F S8x1x128 .f32) (X : In F) (d : FVec F S8x128x128 .f32) : List (View.Piece (Elt F) S4x4x1x128 .f32) :=
  [⟨Rect.unit ![0, 0, 0, 0] S1x4x1x128.size inb_S4x4x1x128_S1x4x1x128_0_0_0_0, k1_pay79 (f (in3 X) (s3 X d))⟩,
   ⟨Rect.unit ![1, 0, 0, 0] S1x4x1x128.size inb_S4x4x1x128_S1x4x1x128_1_0_0_0, k1_pay79 (f (in2 X) (s2 X d))⟩,
   ⟨Rect.unit ![2, 0, 0, 0] S1x4x1x128.size inb_S4x4x1x128_S1x4x1x128_2_0_0_0, k1_pay79 (f (in1 X) (s1 X d))⟩,
   ⟨Rect.unit ![3, 0, 0, 0] S1x4x1x128.size inb_S4x4x1x128_S1x4x1x128_3_0_0_0, k1_pay79 (f (in0 X) (k1_pay21 d))⟩]
def dnG (f : StepIn F → FVec F S8x128x128 .f32 → FVec F S8x1x128 .f32) (X : In F) (d : FVec F S8x128x128 .f32) : List (View.Piece (Elt F) S4x4x1x128 .f32) :=
  [⟨Rect.unit ![3, 0, 0, 0] S1x4x1x128.size inb_S4x4x1x128_S1x4x1x128_3_0_0_0, k1_pay80 (f (in3 X) (s3 X d))⟩,
   ⟨Rect.unit ![2, 0, 0, 0] S1x4x1x128.size inb_S4x4x1x128_S1x4x1x128_2_0_0_0, k1_pay80 (f (in2 X) (s2 X d))⟩,
   ⟨Rect.unit ![1, 0, 0, 0] S1x4x1x128.size inb_S4x4x1x128_S1x4x1x128_1_0_0_0, k1_pay80 (f (in1 X) (s1 X d))⟩,
   ⟨Rect.unit ![0, 0, 0, 0] S1x4x1x128.size inb_S4x4x1x128_S1x4x1x128_0_0_0_0, k1_pay80 (f (in0 X) (k1_pay21 d))⟩]
def outS (X : In F) (d : FVec F S8x128x128 .f32) (L : List (View.Piece (Elt F) S8x128x128 .f32)) : List (View.Piece (Elt F) S8x128x128 .f32) :=
  ⟨Rect.unit ![0, 0, 0] S8x128x128.size inb_S8x128x128_S8x128x128_0_0_0, k1_pay4 (s4 X d)⟩ :: L

section Pieces

variable (c : Dev nD) (i : grid1.Coords)
  (arg1 : Memref sig .tc .vmem S4x4x64x128 .f32) (harg1 : arg1.IsWhole)
  (arg2 : Memref sig .tc .vmem S4x4x64x128 .f32) (harg2 : arg2.IsWhole)
  (arg3 : Memref sig .tc .vmem S4x4x64x128 .f32) (harg3 : arg3.IsWhole)
  (arg4 : Memref sig .tc .vmem S4x4x64x128 .f32) (harg4 : arg4.IsWhole)
  (arg5 : Memref sig .tc .vmem S4x4x64x128 .f32) (harg5 : arg5.IsWhole)
  (arg6 : Memref sig .tc .vmem S4x4x64x128 .f32) (harg6 : arg6.IsWhole)
  (arg7 : Memref sig .tc .vmem S4x4x64x128 .f32) (harg7 : arg7.IsWhole)
  (arg8 : Memref sig .tc .vmem S4x4x64x128 .f32) (harg8 : arg8.IsWhole)
  (arg9 : Memref sig .tc .vmem S4x4x64x64 .f32) (harg9 : arg9.IsWhole)
  (arg10 : Memref sig .tc .vmem S4x4x64x64 .f32) (harg10 : arg10.IsWhole)
  (arg11 : Memref sig .tc .vmem S4x4x1x128 .f32) (harg11 : arg11.IsWhole)
  (arg12 : Memref sig .tc .vmem S4x4x1x128 .f32) (harg12 : arg12.IsWhole)
  (arg13 : Memref sig .tc .vmem S4x4x128x128 .f32) (harg13 : arg13.IsWhole)
  (arg14 : Memref sig .tc .vmem S4x4x128x128 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S4x4x64x128 .f32) (harg17 : arg17.IsWhole)
  (arg18 : Memref sig .tc .vmem S4x4x64x128 .f32) (harg18 : arg18.IsWhole)
  (arg19 : Memref sig .tc .vmem S4x4x64x128 .f32) (harg19 : arg19.IsWhole)
  (arg20 : Memref sig .tc .vmem S4x4x64x128 .f32) (harg20 : arg20.IsWhole)
  (arg21 : Memref sig .tc .vmem S4x4x64x128 .f32) (harg21 : arg21.IsWhole)
  (arg22 : Memref sig .tc .vmem S4x4x64x128 .f32) (harg22 : arg22.IsWhole)
  (arg23 : Memref sig .tc .vmem S4x4x64x128 .f32) (harg23 : arg23.IsWhole)
  (arg24 : Memref sig .tc .vmem S4x4x64x128 .f32) (harg24 : arg24.IsWhole)
  (arg25 : Memref sig .tc .vmem S4x4x64x64 .f32) (harg25 : arg25.IsWhole)
  (arg26 : Memref sig .tc .vmem S4x4x64x64 .f32) (harg26 : arg26.IsWhole)
  (arg27 : Memref sig .tc .vmem S4x4x1x128 .f32) (harg27 : arg27.IsWhole)
  (arg28 : Memref sig .tc .vmem S4x4x1x128 .f32) (harg28 : arg28.IsWhole)
  (arg29 : Memref sig .tc .vmem S8x128x128 .f32) (harg29 : arg29.IsWhole)
  (X : In F) (xs : Vec F S8x128x128 .f32)

theorem runB_state1 : runB.sl.r_21 c arg3 harg3 arg4 harg4 arg5 harg5 arg6 harg6 arg7 harg7 arg8 harg8 arg9 harg9 arg10 harg10 arg11 harg11 arg12 harg12 arg15 harg15 arg16 harg16 arg29 harg29 X xs = s1 X xs := by
  unfold runB.sl.r_21
  simp only [runB.sl.cst_176, runB.sl.cst_298, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_56, runB.sl.r_57, runB.sl.r_58, runB.sl.r_59, runB.sl.r_6, runB.sl.r_60, runB.sl.r_62, runB.sl.r_63, runB.sl.r_64, runB.sl.r_65, runB.sl.r_66, runB.sl.r_67, runB.sl.r_68, runB.sl.r_69, runB.sl.r_7, runB.sl.r_70, runB.sl.r_71, runB.sl.r_72, runB.sl.r_73, runB.sl.r_74, runB.sl.r_75, runB.sl.r_76, runB.sl.r_77, runB.sl.r_78, runB.sl.r_79, runB.sl.r_8, runB.sl.r_80, runB.sl.r_81, runB.sl.r_82, runB.sl.r_83, runB.sl.r_85, runB.sl.r_86, runB.sl.r_87, runB.sl.r_9, runB.sl.v615, whole_load, load_all]
  unfold s1
  rfl

theorem runB_state2 : runB.sl.r_38 c arg3 harg3 arg4 harg4 arg5 harg5 arg6 harg6 arg7 harg7 arg8 harg8 arg9 harg9 arg10 harg10 arg11 harg11 arg12 harg12 arg15 harg15 arg16 harg16 arg29 harg29 X xs = s2 X xs := by
  unfold runB.sl.r_38
  simp only [runB_state1, runB.sl.cst_176, runB.sl.cst_298, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_56, runB.sl.r_57, runB.sl.r_58, runB.sl.r_59, runB.sl.r_6, runB.sl.r_60, runB.sl.r_62, runB.sl.r_63, runB.sl.r_64, runB.sl.r_65, runB.sl.r_66, runB.sl.r_67, runB.sl.r_68, runB.sl.r_69, runB.sl.r_7, runB.sl.r_70, runB.sl.r_71, runB.sl.r_72, runB.sl.r_73, runB.sl.r_74, runB.sl.r_75, runB.sl.r_76, runB.sl.r_77, runB.sl.r_78, runB.sl.r_79, runB.sl.r_8, runB.sl.r_80, runB.sl.r_81, runB.sl.r_82, runB.sl.r_83, runB.sl.r_85, runB.sl.r_86, runB.sl.r_87, runB.sl.r_9, runB.sl.v615, whole_load, load_all]
  unfold s2
  generalize s1 X xs = s
  rfl

theorem runB_state3 : runB.sl.r_61 c arg3 harg3 arg4 harg4 arg5 harg5 arg6 harg6 arg7 harg7 arg8 harg8 arg9 harg9 arg10 harg10 arg11 harg11 arg12 harg12 arg15 harg15 arg16 harg16 arg29 harg29 X xs = s3 X xs := by
  unfold runB.sl.r_61
  simp only [runB_state1, runB_state2, runB.sl.cst_176, runB.sl.cst_298, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_56, runB.sl.r_57, runB.sl.r_58, runB.sl.r_59, runB.sl.r_6, runB.sl.r_60, runB.sl.r_62, runB.sl.r_63, runB.sl.r_64, runB.sl.r_65, runB.sl.r_66, runB.sl.r_67, runB.sl.r_68, runB.sl.r_69, runB.sl.r_7, runB.sl.r_70, runB.sl.r_71, runB.sl.r_72, runB.sl.r_73, runB.sl.r_74, runB.sl.r_75, runB.sl.r_76, runB.sl.r_77, runB.sl.r_78, runB.sl.r_79, runB.sl.r_8, runB.sl.r_80, runB.sl.r_81, runB.sl.r_82, runB.sl.r_83, runB.sl.r_85, runB.sl.r_86, runB.sl.r_87, runB.sl.r_9, runB.sl.v615, whole_load, load_all]
  unfold s3
  generalize s2 X xs = s
  rfl

theorem runB_state4 : runB.sl.r_84 c arg3 harg3 arg4 harg4 arg5 harg5 arg6 harg6 arg7 harg7 arg8 harg8 arg9 harg9 arg10 harg10 arg11 harg11 arg12 harg12 arg15 harg15 arg16 harg16 arg29 harg29 X xs = s4 X xs := by
  unfold runB.sl.r_84
  simp only [runB_state1, runB_state2, runB_state3, runB.sl.cst_176, runB.sl.cst_298, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_56, runB.sl.r_57, runB.sl.r_58, runB.sl.r_59, runB.sl.r_6, runB.sl.r_60, runB.sl.r_62, runB.sl.r_63, runB.sl.r_64, runB.sl.r_65, runB.sl.r_66, runB.sl.r_67, runB.sl.r_68, runB.sl.r_69, runB.sl.r_7, runB.sl.r_70, runB.sl.r_71, runB.sl.r_72, runB.sl.r_73, runB.sl.r_74, runB.sl.r_75, runB.sl.r_76, runB.sl.r_77, runB.sl.r_78, runB.sl.r_79, runB.sl.r_8, runB.sl.r_80, runB.sl.r_81, runB.sl.r_82, runB.sl.r_83, runB.sl.r_85, runB.sl.r_86, runB.sl.r_87, runB.sl.r_9, runB.sl.v615, whole_load, load_all]
  unfold s4
  generalize s3 X xs = s
  rfl

set_option maxHeartbeats 8000000 in
theorem runB_pieces (hc : ¬cond i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).1 = up dU X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.1 = dn dU X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.1 = up dW X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.1 = dn dW X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.1 = up dQd X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.1 = dn dQd X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.1 = up dKs X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.1 = dn dKs X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.1 = upA dAqk X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.1 = dnA dAqk X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.2.1 = upG dGl X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.2.2.1 = dnG dGl X xs ∧ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.2.2.2.1 = outS X xs [] := by
  unfold runB
  dsimp only
  simp only [runB_state1, runB_state2, runB_state3, runB_state4, runB.sl.cst_176, runB.sl.cst_298, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_39, runB.sl.r_4, runB.sl.r_40, runB.sl.r_41, runB.sl.r_42, runB.sl.r_43, runB.sl.r_44, runB.sl.r_45, runB.sl.r_46, runB.sl.r_47, runB.sl.r_48, runB.sl.r_49, runB.sl.r_5, runB.sl.r_50, runB.sl.r_51, runB.sl.r_52, runB.sl.r_53, runB.sl.r_54, runB.sl.r_55, runB.sl.r_56, runB.sl.r_57, runB.sl.r_58, runB.sl.r_59, runB.sl.r_6, runB.sl.r_60, runB.sl.r_62, runB.sl.r_63, runB.sl.r_64, runB.sl.r_65, runB.sl.r_66, runB.sl.r_67, runB.sl.r_68, runB.sl.r_69, runB.sl.r_7, runB.sl.r_70, runB.sl.r_71, runB.sl.r_72, runB.sl.r_73, runB.sl.r_74, runB.sl.r_75, runB.sl.r_76, runB.sl.r_77, runB.sl.r_78, runB.sl.r_79, runB.sl.r_8, runB.sl.r_80, runB.sl.r_81, runB.sl.r_82, runB.sl.r_83, runB.sl.r_85, runB.sl.r_86, runB.sl.r_87, runB.sl.r_9, runB.sl.v615, whole_load, load_all]
  unfold up dn upA dnA upG dnG outS
  generalize s4 X xs = s4, s3 X xs = s3, s2 X xs = s2, s1 X xs = s1

  exact ⟨rfl, rfl, rfl, rfl, rfl, rfl, rfl, rfl, rfl, rfl, rfl, rfl, rfl⟩

theorem runA_scratch : runA.sl.v3 c arg29 = k1_pay5 (F := F) := by
  unfold runA.sl.v3 runA.sl.HS0_1
  exact View.readCov_unit_lit _ _ _ (by decide)

theorem runA_state1 : runA.sl.r_20 c arg3 harg3 arg4 harg4 arg5 harg5 arg6 harg6 arg7 harg7 arg8 harg8 arg9 harg9 arg10 harg10 arg11 harg11 arg12 harg12 arg15 harg15 arg16 harg16 arg29 X = s1 X k1_pay5 := by
  unfold runA.sl.r_20
  simp only [runA_scratch, runA.sl.HS0_1, runA.sl.cst_176, runA.sl.cst_298, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_56, runA.sl.r_57, runA.sl.r_58, runA.sl.r_59, runA.sl.r_6, runA.sl.r_61, runA.sl.r_62, runA.sl.r_63, runA.sl.r_64, runA.sl.r_65, runA.sl.r_66, runA.sl.r_67, runA.sl.r_68, runA.sl.r_69, runA.sl.r_7, runA.sl.r_70, runA.sl.r_71, runA.sl.r_72, runA.sl.r_73, runA.sl.r_74, runA.sl.r_75, runA.sl.r_76, runA.sl.r_77, runA.sl.r_78, runA.sl.r_79, runA.sl.r_8, runA.sl.r_80, runA.sl.r_81, runA.sl.r_82, runA.sl.r_84, runA.sl.r_85, runA.sl.r_86, runA.sl.r_9, runA.sl.v615, whole_load, load_all]
  unfold s1
  generalize k1_pay5 (F := F) = s
  rfl

theorem runA_state2 : runA.sl.r_37 c arg3 harg3 arg4 harg4 arg5 harg5 arg6 harg6 arg7 harg7 arg8 harg8 arg9 harg9 arg10 harg10 arg11 harg11 arg12 harg12 arg15 harg15 arg16 harg16 arg29 X = s2 X k1_pay5 := by
  unfold runA.sl.r_37
  simp only [runA_scratch, runA_state1, runA.sl.HS0_1, runA.sl.cst_176, runA.sl.cst_298, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_56, runA.sl.r_57, runA.sl.r_58, runA.sl.r_59, runA.sl.r_6, runA.sl.r_61, runA.sl.r_62, runA.sl.r_63, runA.sl.r_64, runA.sl.r_65, runA.sl.r_66, runA.sl.r_67, runA.sl.r_68, runA.sl.r_69, runA.sl.r_7, runA.sl.r_70, runA.sl.r_71, runA.sl.r_72, runA.sl.r_73, runA.sl.r_74, runA.sl.r_75, runA.sl.r_76, runA.sl.r_77, runA.sl.r_78, runA.sl.r_79, runA.sl.r_8, runA.sl.r_80, runA.sl.r_81, runA.sl.r_82, runA.sl.r_84, runA.sl.r_85, runA.sl.r_86, runA.sl.r_9, runA.sl.v615, whole_load, load_all]
  unfold s2
  generalize s1 X k1_pay5 = s
  rfl

theorem runA_state3 : runA.sl.r_60 c arg3 harg3 arg4 harg4 arg5 harg5 arg6 harg6 arg7 harg7 arg8 harg8 arg9 harg9 arg10 harg10 arg11 harg11 arg12 harg12 arg15 harg15 arg16 harg16 arg29 X = s3 X k1_pay5 := by
  unfold runA.sl.r_60
  simp only [runA_scratch, runA_state1, runA_state2, runA.sl.HS0_1, runA.sl.cst_176, runA.sl.cst_298, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_56, runA.sl.r_57, runA.sl.r_58, runA.sl.r_59, runA.sl.r_6, runA.sl.r_61, runA.sl.r_62, runA.sl.r_63, runA.sl.r_64, runA.sl.r_65, runA.sl.r_66, runA.sl.r_67, runA.sl.r_68, runA.sl.r_69, runA.sl.r_7, runA.sl.r_70, runA.sl.r_71, runA.sl.r_72, runA.sl.r_73, runA.sl.r_74, runA.sl.r_75, runA.sl.r_76, runA.sl.r_77, runA.sl.r_78, runA.sl.r_79, runA.sl.r_8, runA.sl.r_80, runA.sl.r_81, runA.sl.r_82, runA.sl.r_84, runA.sl.r_85, runA.sl.r_86, runA.sl.r_9, runA.sl.v615, whole_load, load_all]
  unfold s3
  generalize s2 X k1_pay5 = s
  rfl

theorem runA_state4 : runA.sl.r_83 c arg3 harg3 arg4 harg4 arg5 harg5 arg6 harg6 arg7 harg7 arg8 harg8 arg9 harg9 arg10 harg10 arg11 harg11 arg12 harg12 arg15 harg15 arg16 harg16 arg29 X = s4 X k1_pay5 := by
  unfold runA.sl.r_83
  simp only [runA_scratch, runA_state1, runA_state2, runA_state3, runA.sl.HS0_1, runA.sl.cst_176, runA.sl.cst_298, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_56, runA.sl.r_57, runA.sl.r_58, runA.sl.r_59, runA.sl.r_6, runA.sl.r_61, runA.sl.r_62, runA.sl.r_63, runA.sl.r_64, runA.sl.r_65, runA.sl.r_66, runA.sl.r_67, runA.sl.r_68, runA.sl.r_69, runA.sl.r_7, runA.sl.r_70, runA.sl.r_71, runA.sl.r_72, runA.sl.r_73, runA.sl.r_74, runA.sl.r_75, runA.sl.r_76, runA.sl.r_77, runA.sl.r_78, runA.sl.r_79, runA.sl.r_8, runA.sl.r_80, runA.sl.r_81, runA.sl.r_82, runA.sl.r_84, runA.sl.r_85, runA.sl.r_86, runA.sl.r_9, runA.sl.v615, whole_load, load_all]
  unfold s4
  generalize s3 X k1_pay5 = s
  rfl

set_option maxHeartbeats 8000000 in
theorem runA_pieces (hc : cond i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).1 = up dU X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.1 = dn dU X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.1 = up dW X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.1 = dn dW X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.1 = up dQd X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.1 = dn dQd X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.1 = up dKs X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.1 = dn dKs X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.1 = upA dAqk X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.1 = dnA dAqk X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.2.1 = upG dGl X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.2.2.1 = dnG dGl X k1_pay5 ∧ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.2.2.2.1 = outS X k1_pay5 [⟨Rect.unit ![0, 0, 0] S8x128x128.size inb_S8x128x128_S8x128x128_0_0_0, k1_pay5⟩] := by
  unfold runA
  dsimp only
  simp only [runA_scratch, runA_state1, runA_state2, runA_state3, runA_state4, runA.sl.HS0_1, runA.sl.cst_176, runA.sl.cst_298, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_38, runA.sl.r_39, runA.sl.r_4, runA.sl.r_40, runA.sl.r_41, runA.sl.r_42, runA.sl.r_43, runA.sl.r_44, runA.sl.r_45, runA.sl.r_46, runA.sl.r_47, runA.sl.r_48, runA.sl.r_49, runA.sl.r_5, runA.sl.r_50, runA.sl.r_51, runA.sl.r_52, runA.sl.r_53, runA.sl.r_54, runA.sl.r_55, runA.sl.r_56, runA.sl.r_57, runA.sl.r_58, runA.sl.r_59, runA.sl.r_6, runA.sl.r_61, runA.sl.r_62, runA.sl.r_63, runA.sl.r_64, runA.sl.r_65, runA.sl.r_66, runA.sl.r_67, runA.sl.r_68, runA.sl.r_69, runA.sl.r_7, runA.sl.r_70, runA.sl.r_71, runA.sl.r_72, runA.sl.r_73, runA.sl.r_74, runA.sl.r_75, runA.sl.r_76, runA.sl.r_77, runA.sl.r_78, runA.sl.r_79, runA.sl.r_8, runA.sl.r_80, runA.sl.r_81, runA.sl.r_82, runA.sl.r_84, runA.sl.r_85, runA.sl.r_86, runA.sl.r_9, runA.sl.v615, whole_load, load_all]
  unfold up dn upA dnA upG dnG outS
  generalize s4 X k1_pay5 = s4, s3 X k1_pay5 = s3, s2 X k1_pay5 = s2, s1 X k1_pay5 = s1
  generalize k1_pay5 (F := F) = s
  exact ⟨rfl, rfl, rfl, rfl, rfl, rfl, rfl, rfl, rfl, rfl, rfl, rfl, rfl⟩

end Pieces

end Cert.KernelIdeal.Bwd

end
-- ==== Proof.BwdBody.lean ====
module

public import proofs.«01_k».proof.Proof.BwdStep
public import proofs.«01_k».proof.Proof.Gen.KernelIdeal.Launch
public import proofs.«01_k».proof.Proof.Gen.KernelIdeal.Points
public import Idealize.ShloMosaic.Lib.Pipeline.FrameBody
public import Idealize.ShloMosaic.Lib.VecWindow
public import Idealize.ShloMosaic.Lib.Ring

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## One grid point -/

/-- What the body leaves in each output window from the blocks `X` and the entering gradient of the state `s`: the stores cover the block. -/
def res0 (X : In F) (s : Vec F S8x128x128 .f32) : Vec F S4x4x64x128 .f32 := View.canon (up dU X s)
theorem read_res0 (X : In F) (s : Vec F S8x128x128 .f32) {M : Memref sig .tc .vmem S4x4x64x128 .f32} (f) : M.view.read (Elt F) (M.view.writes (Elt F) f (up dU X s)) = res0 X s :=
  View.read_writes_eq_canon _ f _ fun y => View.cover_of_tiledL (up dU X s) S1x4x64x128.size (by sl_kernel_rfl) y
def res1 (X : In F) (s : Vec F S8x128x128 .f32) : Vec F S4x4x64x128 .f32 := View.canon (dn dU X s)
theorem read_res1 (X : In F) (s : Vec F S8x128x128 .f32) {M : Memref sig .tc .vmem S4x4x64x128 .f32} (f) : M.view.read (Elt F) (M.view.writes (Elt F) f (dn dU X s)) = res1 X s :=
  View.read_writes_eq_canon _ f _ fun y => View.cover_of_tiledL (dn dU X s) S1x4x64x128.size (by sl_kernel_rfl) y
def res2 (X : In F) (s : Vec F S8x128x128 .f32) : Vec F S4x4x64x128 .f32 := View.canon (up dW X s)
theorem read_res2 (X : In F) (s : Vec F S8x128x128 .f32) {M : Memref sig .tc .vmem S4x4x64x128 .f32} (f) : M.view.read (Elt F) (M.view.writes (Elt F) f (up dW X s)) = res2 X s :=
  View.read_writes_eq_canon _ f _ fun y => View.cover_of_tiledL (up dW X s) S1x4x64x128.size (by sl_kernel_rfl) y
def res3 (X : In F) (s : Vec F S8x128x128 .f32) : Vec F S4x4x64x128 .f32 := View.canon (dn dW X s)
theorem read_res3 (X : In F) (s : Vec F S8x128x128 .f32) {M : Memref sig .tc .vmem S4x4x64x128 .f32} (f) : M.view.read (Elt F) (M.view.writes (Elt F) f (dn dW X s)) = res3 X s :=
  View.read_writes_eq_canon _ f _ fun y => View.cover_of_tiledL (dn dW X s) S1x4x64x128.size (by sl_kernel_rfl) y
def res4 (X : In F) (s : Vec F S8x128x128 .f32) : Vec F S4x4x64x128 .f32 := View.canon (up dQd X s)
theorem read_res4 (X : In F) (s : Vec F S8x128x128 .f32) {M : Memref sig .tc .vmem S4x4x64x128 .f32} (f) : M.view.read (Elt F) (M.view.writes (Elt F) f (up dQd X s)) = res4 X s :=
  View.read_writes_eq_canon _ f _ fun y => View.cover_of_tiledL (up dQd X s) S1x4x64x128.size (by sl_kernel_rfl) y
def res5 (X : In F) (s : Vec F S8x128x128 .f32) : Vec F S4x4x64x128 .f32 := View.canon (dn dQd X s)
theorem read_res5 (X : In F) (s : Vec F S8x128x128 .f32) {M : Memref sig .tc .vmem S4x4x64x128 .f32} (f) : M.view.read (Elt F) (M.view.writes (Elt F) f (dn dQd X s)) = res5 X s :=
  View.read_writes_eq_canon _ f _ fun y => View.cover_of_tiledL (dn dQd X s) S1x4x64x128.size (by sl_kernel_rfl) y
def res6 (X : In F) (s : Vec F S8x128x128 .f32) : Vec F S4x4x64x128 .f32 := View.canon (up dKs X s)
theorem read_res6 (X : In F) (s : Vec F S8x128x128 .f32) {M : Memref sig .tc .vmem S4x4x64x128 .f32} (f) : M.view.read (Elt F) (M.view.writes (Elt F) f (up dKs X s)) = res6 X s :=
  View.read_writes_eq_canon _ f _ fun y => View.cover_of_tiledL (up dKs X s) S1x4x64x128.size (by sl_kernel_rfl) y
def res7 (X : In F) (s : Vec F S8x128x128 .f32) : Vec F S4x4x64x128 .f32 := View.canon (dn dKs X s)
theorem read_res7 (X : In F) (s : Vec F S8x128x128 .f32) {M : Memref sig .tc .vmem S4x4x64x128 .f32} (f) : M.view.read (Elt F) (M.view.writes (Elt F) f (dn dKs X s)) = res7 X s :=
  View.read_writes_eq_canon _ f _ fun y => View.cover_of_tiledL (dn dKs X s) S1x4x64x128.size (by sl_kernel_rfl) y
def res8 (X : In F) (s : Vec F S8x128x128 .f32) : Vec F S4x4x64x64 .f32 := View.canon (upA dAqk X s)
theorem read_res8 (X : In F) (s : Vec F S8x128x128 .f32) {M : Memref sig .tc .vmem S4x4x64x64 .f32} (f) : M.view.read (Elt F) (M.view.writes (Elt F) f (upA dAqk X s)) = res8 X s :=
  View.read_writes_eq_canon _ f _ fun y => View.cover_of_tiledL (upA dAqk X s) S1x4x64x64.size (by sl_kernel_rfl) y
def res9 (X : In F) (s : Vec F S8x128x128 .f32) : Vec F S4x4x64x64 .f32 := View.canon (dnA dAqk X s)
theorem read_res9 (X : In F) (s : Vec F S8x128x128 .f32) {M : Memref sig .tc .vmem S4x4x64x64 .f32} (f) : M.view.read (Elt F) (M.view.writes (Elt F) f (dnA dAqk X s)) = res9 X s :=
  View.read_writes_eq_canon _ f _ fun y => View.cover_of_tiledL (dnA dAqk X s) S1x4x64x64.size (by sl_kernel_rfl) y
def res10 (X : In F) (s : Vec F S8x128x128 .f32) : Vec F S4x4x1x128 .f32 := View.canon (upG dGl X s)
theorem read_res10 (X : In F) (s : Vec F S8x128x128 .f32) {M : Memref sig .tc .vmem S4x4x1x128 .f32} (f) : M.view.read (Elt F) (M.view.writes (Elt F) f (upG dGl X s)) = res10 X s :=
  View.read_writes_eq_canon _ f _ fun y => View.cover_of_tiledL (upG dGl X s) S1x4x1x128.size (by sl_kernel_rfl) y
def res11 (X : In F) (s : Vec F S8x128x128 .f32) : Vec F S4x4x1x128 .f32 := View.canon (dnG dGl X s)
theorem read_res11 (X : In F) (s : Vec F S8x128x128 .f32) {M : Memref sig .tc .vmem S4x4x1x128 .f32} (f) : M.view.read (Elt F) (M.view.writes (Elt F) f (dnG dGl X s)) = res11 X s :=
  View.read_writes_eq_canon _ f _ fun y => View.cover_of_tiledL (dnG dGl X s) S1x4x1x128.size (by sl_kernel_rfl) y
theorem read_scratch (X : In F) (s : Vec F S8x128x128 .f32) (L) {M : Memref sig .tc .vmem S8x128x128 .f32} (f) : M.view.read (Elt F) (M.view.writes (Elt F) f (outS X s L)) = s4 X s :=
  (View.read_writes_full M.view f inb_S8x128x128_S8x128x128_0_0_0 _ L).trans (shapeCast_self _ _)

section Point

variable (c : Dev nD) (i : grid1.Coords)
  (arg1 : Memref sig .tc .vmem S4x4x64x128 .f32) (harg1 : arg1.IsWhole)
  (arg2 : Memref sig .tc .vmem S4x4x64x128 .f32) (harg2 : arg2.IsWhole)
  (arg3 : Memref sig .tc .vmem S4x4x64x128 .f32) (harg3 : arg3.IsWhole)
  (arg4 : Memref sig .tc .vmem S4x4x64x128 .f32) (harg4 : arg4.IsWhole)
  (arg5 : Memref sig .tc .vmem S4x4x64x128 .f32) (harg5 : arg5.IsWhole)
  (arg6 : Memref sig .tc .vmem S4x4x64x128 .f32) (harg6 : arg6.IsWhole)
  (arg7 : Memref sig .tc .vmem S4x4x64x128 .f32) (harg7 : arg7.IsWhole)
  (arg8 : Memref sig .tc .vmem S4x4x64x128 .f32) (harg8 : arg8.IsWhole)
  (arg9 : Memref sig .tc .vmem S4x4x64x64 .f32) (harg9 : arg9.IsWhole)
  (arg10 : Memref sig .tc .vmem S4x4x64x64 .f32) (harg10 : arg10.IsWhole)
  (arg11 : Memref sig .tc .vmem S4x4x1x128 .f32) (harg11 : arg11.IsWhole)
  (arg12 : Memref sig .tc .vmem S4x4x1x128 .f32) (harg12 : arg12.IsWhole)
  (arg13 : Memref sig .tc .vmem S4x4x128x128 .f32) (harg13 : arg13.IsWhole)
  (arg14 : Memref sig .tc .vmem S4x4x128x128 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S4x4x64x128 .f32) (harg17 : arg17.IsWhole)
  (arg18 : Memref sig .tc .vmem S4x4x64x128 .f32) (harg18 : arg18.IsWhole)
  (arg19 : Memref sig .tc .vmem S4x4x64x128 .f32) (harg19 : arg19.IsWhole)
  (arg20 : Memref sig .tc .vmem S4x4x64x128 .f32) (harg20 : arg20.IsWhole)
  (arg21 : Memref sig .tc .vmem S4x4x64x128 .f32) (harg21 : arg21.IsWhole)
  (arg22 : Memref sig .tc .vmem S4x4x64x128 .f32) (harg22 : arg22.IsWhole)
  (arg23 : Memref sig .tc .vmem S4x4x64x128 .f32) (harg23 : arg23.IsWhole)
  (arg24 : Memref sig .tc .vmem S4x4x64x128 .f32) (harg24 : arg24.IsWhole)
  (arg25 : Memref sig .tc .vmem S4x4x64x64 .f32) (harg25 : arg25.IsWhole)
  (arg26 : Memref sig .tc .vmem S4x4x64x64 .f32) (harg26 : arg26.IsWhole)
  (arg27 : Memref sig .tc .vmem S4x4x1x128 .f32) (harg27 : arg27.IsWhole)
  (arg28 : Memref sig .tc .vmem S4x4x1x128 .f32) (harg28 : arg28.IsWhole)
  (arg29 : Memref sig .tc .vmem S8x128x128 .f32) (harg29 : arg29.IsWhole)

set_option maxHeartbeats 6400000 in
/-- The body's triple: from the blocks `X` and the scratch, cleared or carried, to the results and the scratch at the state after the four chunks. -/
theorem point (X : In F) (xs s : Vec F S8x128x128 .f32) (hs : (cond i ∧ s = k1_pay5) ∨ (¬cond i ∧ s = xs)) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15
        ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15
            ∗ owns (c : Thread nD τ) arg17 fullShare (res0 X s) ∗ owns (c : Thread nD τ) arg18 fullShare (res1 X s) ∗ owns (c : Thread nD τ) arg19 fullShare (res2 X s) ∗ owns (c : Thread nD τ) arg20 fullShare (res3 X s) ∗ owns (c : Thread nD τ) arg21 fullShare (res4 X s) ∗ owns (c : Thread nD τ) arg22 fullShare (res5 X s) ∗ owns (c : Thread nD τ) arg23 fullShare (res6 X s) ∗ owns (c : Thread nD τ) arg24 fullShare (res7 X s) ∗ owns (c : Thread nD τ) arg25 fullShare (res8 X s) ∗ owns (c : Thread nD τ) arg26 fullShare (res9 X s) ∗ owns (c : Thread nD τ) arg27 fullShare (res10 X s) ∗ owns (c : Thread nD τ) arg28 fullShare (res11 X s) ∗ owns (c : Thread nD τ) arg29 fullShare (s4 X s)) -∗ K ()))
      ⊢ wp frame (wpE (defs₀ (F := F)) Variants.none c none) E (cc1_l0_dn_scan_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  rcases hs with ⟨hc, rfl⟩ | ⟨hc, rfl⟩
  · obtain ⟨p0, p1, p2, p3, p4, p5, p6, p7, p8, p9, p10, p11, pS⟩ := runA_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc
    iintro ⟨H0, H1, H2, H3, H4, H5, H6, H7, H8, H9, H10, H11, H12, H13, H14, H15, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, HS, Hk⟩
    iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X xs hc).2.2.2.2.2.2.2.2.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [HS]; · iexact HS
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es, HS⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · unfold owns; iexists _; isplitr; swap; (· iexact H16); ipureintro; rw [p0]; exact read_res0 X _ _
    isplitl [H17]; · unfold owns; iexists _; isplitr; swap; (· iexact H17); ipureintro; rw [p1]; exact read_res1 X _ _
    isplitl [H18]; · unfold owns; iexists _; isplitr; swap; (· iexact H18); ipureintro; rw [p2]; exact read_res2 X _ _
    isplitl [H19]; · unfold owns; iexists _; isplitr; swap; (· iexact H19); ipureintro; rw [p3]; exact read_res3 X _ _
    isplitl [H20]; · unfold owns; iexists _; isplitr; swap; (· iexact H20); ipureintro; rw [p4]; exact read_res4 X _ _
    isplitl [H21]; · unfold owns; iexists _; isplitr; swap; (· iexact H21); ipureintro; rw [p5]; exact read_res5 X _ _
    isplitl [H22]; · unfold owns; iexists _; isplitr; swap; (· iexact H22); ipureintro; rw [p6]; exact read_res6 X _ _
    isplitl [H23]; · unfold owns; iexists _; isplitr; swap; (· iexact H23); ipureintro; rw [p7]; exact read_res7 X _ _
    isplitl [H24]; · unfold owns; iexists _; isplitr; swap; (· iexact H24); ipureintro; rw [p8]; exact read_res8 X _ _
    isplitl [H25]; · unfold owns; iexists _; isplitr; swap; (· iexact H25); ipureintro; rw [p9]; exact read_res9 X _ _
    isplitl [H26]; · unfold owns; iexists _; isplitr; swap; (· iexact H26); ipureintro; rw [p10]; exact read_res10 X _ _
    isplitl [H27]; · unfold owns; iexists _; isplitr; swap; (· iexact H27); ipureintro; rw [p11]; exact read_res11 X _ _
    unfold owns; iexists _; isplitr; swap; (· iexact HS); ipureintro; rw [pS]; exact read_scratch X _ _ _
  · obtain ⟨p0, p1, p2, p3, p4, p5, p6, p7, p8, p9, p10, p11, pS⟩ := runB_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X s hc
    iintro ⟨H0, H1, H2, H3, H4, H5, H6, H7, H8, H9, H10, H11, H12, H13, H14, H15, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, HS, Hk⟩
    iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X s hc).2.2.2.2.2.2.2.2.2.2.2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [HS]; · iexact HS
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es, HS⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · unfold owns; iexists _; isplitr; swap; (· iexact H16); ipureintro; rw [p0]; exact read_res0 X _ _
    isplitl [H17]; · unfold owns; iexists _; isplitr; swap; (· iexact H17); ipureintro; rw [p1]; exact read_res1 X _ _
    isplitl [H18]; · unfold owns; iexists _; isplitr; swap; (· iexact H18); ipureintro; rw [p2]; exact read_res2 X _ _
    isplitl [H19]; · unfold owns; iexists _; isplitr; swap; (· iexact H19); ipureintro; rw [p3]; exact read_res3 X _ _
    isplitl [H20]; · unfold owns; iexists _; isplitr; swap; (· iexact H20); ipureintro; rw [p4]; exact read_res4 X _ _
    isplitl [H21]; · unfold owns; iexists _; isplitr; swap; (· iexact H21); ipureintro; rw [p5]; exact read_res5 X _ _
    isplitl [H22]; · unfold owns; iexists _; isplitr; swap; (· iexact H22); ipureintro; rw [p6]; exact read_res6 X _ _
    isplitl [H23]; · unfold owns; iexists _; isplitr; swap; (· iexact H23); ipureintro; rw [p7]; exact read_res7 X _ _
    isplitl [H24]; · unfold owns; iexists _; isplitr; swap; (· iexact H24); ipureintro; rw [p8]; exact read_res8 X _ _
    isplitl [H25]; · unfold owns; iexists _; isplitr; swap; (· iexact H25); ipureintro; rw [p9]; exact read_res9 X _ _
    isplitl [H26]; · unfold owns; iexists _; isplitr; swap; (· iexact H26); ipureintro; rw [p10]; exact read_res10 X _ _
    isplitl [H27]; · unfold owns; iexists _; isplitr; swap; (· iexact H27); ipureintro; rw [p11]; exact read_res11 X _ _
    unfold owns; iexists _; isplitr; swap; (· iexact HS); ipureintro; rw [pS]; exact read_scratch X _ _ _

end Point

/-! ## The grid's walk, from given contents of the region's arrays -/

variable (W : Dev nD → Valuation τ sig (Elt F))

/-- What window `w` holds of its array at point `t`. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The blocks the input windows hold at point `t`. -/
def blocks (c : Dev nD) (t : Fin cfg1.N) : In F where
  x0 := iblk W c 0 t
  x1 := iblk W c 1 t
  x2 := iblk W c 2 t
  x3 := iblk W c 3 t
  x4 := iblk W c 4 t
  x5 := iblk W c 5 t
  x6 := iblk W c 6 t
  x7 := iblk W c 7 t
  x8 := iblk W c 8 t
  x9 := iblk W c 9 t
  x10 := iblk W c 10 t
  x11 := iblk W c 11 t
  x12 := iblk W c 12 t
  x13 := iblk W c 13 t
  x14 := iblk W c 14 t
  x15 := iblk W c 15 t

/-- The scratch before point `n`. -/
def carried (c : Dev nD) : (n : ℕ) → n ≤ cfg1.N → Vec F S8x128x128 .f32
  | 0, _ => k1_pay5
  | n + 1, h => s4 (blocks W c ⟨n, h⟩) (carried c n (Nat.le_of_succ_le h))

abbrev entering (c : Dev nD) (t : Fin cfg1.N) : Vec F S8x128x128 .f32 := carried W c t.val (Nat.le_of_lt t.isLt)

/-- The scratch buffer. -/
abbrev scM : Memref sig .tc .vmem S8x128x128 .f32 := Memref.whole cc1_scratch0

/-- The invariant between points: the scratch holds the carried state, once the first point has run. -/
def Inv (c : Dev nD) (n : ℕ) (h : n ≤ cfg1.N) : sProp 𝕄 :=
  iprop((∃ xs, ⌜n ≠ 0 → xs = carried W c n h⌝ ∗ owns (c : Thread nD τ) scM fullShare xs)
    ∗ Pipeline.scopedRestBut (Ix := Unit) (Name := ℕ) (U := UR sig nD τ) (Lvl := ℕ) (Val := Elt F) spec1 c [cc1_scratch0])

/-- The proof data of the region. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => iblk W c 11 t
    | ⟨12, _⟩ => iblk W c 12 t
    | ⟨13, _⟩ => iblk W c 13 t
    | ⟨14, _⟩ => iblk W c 14 t
    | ⟨15, _⟩ => iblk W c 15 t
    | ⟨16, _⟩ => res0 (blocks W c t) (entering W c t)
    | ⟨17, _⟩ => res1 (blocks W c t) (entering W c t)
    | ⟨18, _⟩ => res2 (blocks W c t) (entering W c t)
    | ⟨19, _⟩ => res3 (blocks W c t) (entering W c t)
    | ⟨20, _⟩ => res4 (blocks W c t) (entering W c t)
    | ⟨21, _⟩ => res5 (blocks W c t) (entering W c t)
    | ⟨22, _⟩ => res6 (blocks W c t) (entering W c t)
    | ⟨23, _⟩ => res7 (blocks W c t) (entering W c t)
    | ⟨24, _⟩ => res8 (blocks W c t) (entering W c t)
    | ⟨25, _⟩ => res9 (blocks W c t) (entering W c t)
    | ⟨26, _⟩ => res10 (blocks W c t) (entering W c t)
    | ⟨27, _⟩ => res11 (blocks W c t) (entering W c t)
    | ⟨_ + 28, h⟩ => absurd h (Nat.not_lt.2 (Nat.le_add_left _ _))
  Φ t := Inv W c t.val (Nat.le_of_lt_succ t.isLt)
  q _ := fullShare
  owed _ := 0

theorem A_eq (c : Dev nD) (w : Fin cfg1.W) : (dat W c).A w = W c (Proc.devRef .tc (Pipeline.arrRef spec1 w)) := by dsimp only [dat]
theorem inv_castSucc (c : Dev nD) (t : Fin cfg1.N) : (dat W c).Φ t.castSucc = Inv W c t.val (Nat.le_of_lt t.isLt) := by
  dsimp only [dat]; exact Pipeline.Dat.Φ_castSucc (Inv W c) t

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = iblk W c 4 t := by dsimp only [dat]
theorem after_5 (c : Dev nD) (t : Fin cfg1.N) : (dat W c).after 5 t = iblk W c 5 t := by dsimp only [dat]
theorem after_6 (c : Dev nD) (t : Fin cfg1.N) : (dat W c).after 6 t = iblk W c 6 t := by dsimp only [dat]
theorem after_7 (c : Dev nD) (t : Fin cfg1.N) : (dat W c).after 7 t = iblk W c 7 t := by dsimp only [dat]
theorem after_8 (c : Dev nD) (t : Fin cfg1.N) : (dat W c).after 8 t = iblk W c 8 t := by dsimp only [dat]
theorem after_9 (c : Dev nD) (t : Fin cfg1.N) : (dat W c).after 9 t = iblk W c 9 t := by dsimp only [dat]
theorem after_10 (c : Dev nD) (t : Fin cfg1.N) : (dat W c).after 10 t = iblk W c 10 t := by dsimp only [dat]
theorem after_11 (c : Dev nD) (t : Fin cfg1.N) : (dat W c).after 11 t = iblk W c 11 t := by dsimp only [dat]
theorem after_12 (c : Dev nD) (t : Fin cfg1.N) : (dat W c).after 12 t = iblk W c 12 t := by dsimp only [dat]
theorem after_13 (c : Dev nD) (t : Fin cfg1.N) : (dat W c).after 13 t = iblk W c 13 t := by dsimp only [dat]
theorem after_14 (c : Dev nD) (t : Fin cfg1.N) : (dat W c).after 14 t = iblk W c 14 t := by dsimp only [dat]
theorem after_15 (c : Dev nD) (t : Fin cfg1.N) : (dat W c).after 15 t = iblk W c 15 t := by dsimp only [dat]
theorem after_16 (c : Dev nD) (t : Fin cfg1.N) : (dat W c).after 16 t = res0 (blocks W c t) (entering W c t) := by dsimp only [dat]
theorem after_17 (c : Dev nD) (t : Fin cfg1.N) : (dat W c).after 17 t = res1 (blocks W c t) (entering W c t) := by dsimp only [dat]
theorem after_18 (c : Dev nD) (t : Fin cfg1.N) : (dat W c).after 18 t = res2 (blocks W c t) (entering W c t) := by dsimp only [dat]
theorem after_19 (c : Dev nD) (t : Fin cfg1.N) : (dat W c).after 19 t = res3 (blocks W c t) (entering W c t) := by dsimp only [dat]
theorem after_20 (c : Dev nD) (t : Fin cfg1.N) : (dat W c).after 20 t = res4 (blocks W c t) (entering W c t) := by dsimp only [dat]
theorem after_21 (c : Dev nD) (t : Fin cfg1.N) : (dat W c).after 21 t = res5 (blocks W c t) (entering W c t) := by dsimp only [dat]
theorem after_22 (c : Dev nD) (t : Fin cfg1.N) : (dat W c).after 22 t = res6 (blocks W c t) (entering W c t) := by dsimp only [dat]
theorem after_23 (c : Dev nD) (t : Fin cfg1.N) : (dat W c).after 23 t = res7 (blocks W c t) (entering W c t) := by dsimp only [dat]
theorem after_24 (c : Dev nD) (t : Fin cfg1.N) : (dat W c).after 24 t = res8 (blocks W c t) (entering W c t) := by dsimp only [dat]
theorem after_25 (c : Dev nD) (t : Fin cfg1.N) : (dat W c).after 25 t = res9 (blocks W c t) (entering W c t) := by dsimp only [dat]
theorem after_26 (c : Dev nD) (t : Fin cfg1.N) : (dat W c).after 26 t = res10 (blocks W c t) (entering W c t) := by dsimp only [dat]
theorem after_27 (c : Dev nD) (t : Fin cfg1.N) : (dat W c).after 27 t = res11 (blocks W c t) (entering W c t) := by dsimp only [dat]

/-- An input window holds its array's block when the body runs. -/
theorem before_0 (c : Dev nD) (t : Fin cfg1.N) (d) : (dat W c).before 0 t d = (blocks W c t).x0 :=
  ((dat W c).before_in_eq_fetched 0 rfl (fun _ => rfl) (fun _ _ _ => rfl) (fun t => by rw [after_0]; unfold Dat.blockOf iblk; rw [A_eq]; try rfl) t d).trans
    (by unfold Dat.fetched Dat.blockOf; rw [A_eq]; rfl)
theorem before_1 (c : Dev nD) (t : Fin cfg1.N) (d) : (dat W c).before 1 t d = (blocks W c t).x1 :=
  ((dat W c).before_in_eq_fetched 1 rfl (fun _ => rfl) (fun _ _ _ => rfl) (fun t => by rw [after_1]; unfold Dat.blockOf iblk; rw [A_eq]; try rfl) t d).trans
    (by unfold Dat.fetched Dat.blockOf; rw [A_eq]; rfl)
theorem before_2 (c : Dev nD) (t : Fin cfg1.N) (d) : (dat W c).before 2 t d = (blocks W c t).x2 :=
  ((dat W c).before_in_eq_fetched 2 rfl (fun _ => rfl) (fun _ _ _ => rfl) (fun t => by rw [after_2]; unfold Dat.blockOf iblk; rw [A_eq]; try rfl) t d).trans
    (by unfold Dat.fetched Dat.blockOf; rw [A_eq]; rfl)
theorem before_3 (c : Dev nD) (t : Fin cfg1.N) (d) : (dat W c).before 3 t d = (blocks W c t).x3 :=
  ((dat W c).before_in_eq_fetched 3 rfl (fun _ => rfl) (fun _ _ _ => rfl) (fun t => by rw [after_3]; unfold Dat.blockOf iblk; rw [A_eq]; try rfl) t d).trans
    (by unfold Dat.fetched Dat.blockOf; rw [A_eq]; rfl)
theorem before_4 (c : Dev nD) (t : Fin cfg1.N) (d) : (dat W c).before 4 t d = (blocks W c t).x4 :=
  ((dat W c).before_in_eq_fetched 4 rfl (fun _ => rfl) (fun _ _ _ => rfl) (fun t => by rw [after_4]; unfold Dat.blockOf iblk; rw [A_eq]; try rfl) t d).trans
    (by unfold Dat.fetched Dat.blockOf; rw [A_eq]; rfl)
theorem before_5 (c : Dev nD) (t : Fin cfg1.N) (d) : (dat W c).before 5 t d = (blocks W c t).x5 :=
  ((dat W c).before_in_eq_fetched 5 rfl (fun _ => rfl) (fun _ _ _ => rfl) (fun t => by rw [after_5]; unfold Dat.blockOf iblk; rw [A_eq]; try rfl) t d).trans
    (by unfold Dat.fetched Dat.blockOf; rw [A_eq]; rfl)
theorem before_6 (c : Dev nD) (t : Fin cfg1.N) (d) : (dat W c).before 6 t d = (blocks W c t).x6 :=
  ((dat W c).before_in_eq_fetched 6 rfl (fun _ => rfl) (fun _ _ _ => rfl) (fun t => by rw [after_6]; unfold Dat.blockOf iblk; rw [A_eq]; try rfl) t d).trans
    (by unfold Dat.fetched Dat.blockOf; rw [A_eq]; rfl)
theorem before_7 (c : Dev nD) (t : Fin cfg1.N) (d) : (dat W c).before 7 t d = (blocks W c t).x7 :=
  ((dat W c).before_in_eq_fetched 7 rfl (fun _ => rfl) (fun _ _ _ => rfl) (fun t => by rw [after_7]; unfold Dat.blockOf iblk; rw [A_eq]; try rfl) t d).trans
    (by unfold Dat.fetched Dat.blockOf; rw [A_eq]; rfl)
theorem before_8 (c : Dev nD) (t : Fin cfg1.N) (d) : (dat W c).before 8 t d = (blocks W c t).x8 :=
  ((dat W c).before_in_eq_fetched 8 rfl (fun _ => rfl) (fun _ _ _ => rfl) (fun t => by rw [after_8]; unfold Dat.blockOf iblk; rw [A_eq]; try rfl) t d).trans
    (by unfold Dat.fetched Dat.blockOf; rw [A_eq]; rfl)
theorem before_9 (c : Dev nD) (t : Fin cfg1.N) (d) : (dat W c).before 9 t d = (blocks W c t).x9 :=
  ((dat W c).before_in_eq_fetched 9 rfl (fun _ => rfl) (fun _ _ _ => rfl) (fun t => by rw [after_9]; unfold Dat.blockOf iblk; rw [A_eq]; try rfl) t d).trans
    (by unfold Dat.fetched Dat.blockOf; rw [A_eq]; rfl)
theorem before_10 (c : Dev nD) (t : Fin cfg1.N) (d) : (dat W c).before 10 t d = (blocks W c t).x10 :=
  ((dat W c).before_in_eq_fetched 10 rfl (fun _ => rfl) (fun _ _ _ => rfl) (fun t => by rw [after_10]; unfold Dat.blockOf iblk; rw [A_eq]; try rfl) t d).trans
    (by unfold Dat.fetched Dat.blockOf; rw [A_eq]; rfl)
theorem before_11 (c : Dev nD) (t : Fin cfg1.N) (d) : (dat W c).before 11 t d = (blocks W c t).x11 :=
  ((dat W c).before_in_eq_fetched 11 rfl (fun _ => rfl) (fun _ _ _ => rfl) (fun t => by rw [after_11]; unfold Dat.blockOf iblk; rw [A_eq]; try rfl) t d).trans
    (by unfold Dat.fetched Dat.blockOf; rw [A_eq]; rfl)
theorem before_12 (c : Dev nD) (t : Fin cfg1.N) (d) : (dat W c).before 12 t d = (blocks W c t).x12 :=
  ((dat W c).before_in_eq_fetched 12 rfl (fun _ => rfl) (fun _ _ _ => rfl) (fun t => by rw [after_12]; unfold Dat.blockOf iblk; rw [A_eq]; try rfl) t d).trans
    (by unfold Dat.fetched Dat.blockOf; rw [A_eq]; rfl)
theorem before_13 (c : Dev nD) (t : Fin cfg1.N) (d) : (dat W c).before 13 t d = (blocks W c t).x13 :=
  ((dat W c).before_in_eq_fetched 13 rfl (fun _ => rfl) (fun _ _ _ => rfl) (fun t => by rw [after_13]; unfold Dat.blockOf iblk; rw [A_eq]; try rfl) t d).trans
    (by unfold Dat.fetched Dat.blockOf; rw [A_eq]; rfl)
theorem before_14 (c : Dev nD) (t : Fin cfg1.N) (d) : (dat W c).before 14 t d = (blocks W c t).x14 :=
  ((dat W c).before_in_eq_fetched 14 rfl (fun _ => rfl) (fun _ _ _ => rfl) (fun t => by rw [after_14]; unfold Dat.blockOf iblk; rw [A_eq]; try rfl) t d).trans
    (by unfold Dat.fetched Dat.blockOf; rw [A_eq]; rfl)
theorem before_15 (c : Dev nD) (t : Fin cfg1.N) (d) : (dat W c).before 15 t d = (blocks W c t).x15 :=
  ((dat W c).before_in_eq_fetched 15 rfl (fun _ => rfl) (fun _ _ _ => rfl) (fun t => by rw [after_15]; unfold Dat.blockOf iblk; rw [A_eq]; try rfl) t d).trans
    (by unfold Dat.fetched Dat.blockOf; rw [A_eq]; rfl)

/-- What the body holds at point `t`, before and after. -/
def bodyPre (c : Dev nD) (t : Fin cfg1.N) : sProp 𝕄 :=
  iprop((dat W c).Φ t.castSucc ∗ (dat W c).owesAt () t.castSucc
    ∗ (∃ d, owns (c : Thread nD τ) (win1_0.stage (cfg1.slots t 0)) fullShare ((dat W c).before 0 t d))
    ∗ (∃ d, owns (c : Thread nD τ) (win1_1.stage (cfg1.slots t 1)) fullShare ((dat W c).before 1 t d))
    ∗ (∃ d, owns (c : Thread nD τ) (win1_2.stage (cfg1.slots t 2)) fullShare ((dat W c).before 2 t d))
    ∗ (∃ d, owns (c : Thread nD τ) (win1_3.stage (cfg1.slots t 3)) fullShare ((dat W c).before 3 t d))
    ∗ (∃ d, owns (c : Thread nD τ) (win1_4.stage (cfg1.slots t 4)) fullShare ((dat W c).before 4 t d))
    ∗ (∃ d, owns (c : Thread nD τ) (win1_5.stage (cfg1.slots t 5)) fullShare ((dat W c).before 5 t d))
    ∗ (∃ d, owns (c : Thread nD τ) (win1_6.stage (cfg1.slots t 6)) fullShare ((dat W c).before 6 t d))
    ∗ (∃ d, owns (c : Thread nD τ) (win1_7.stage (cfg1.slots t 7)) fullShare ((dat W c).before 7 t d))
    ∗ (∃ d, owns (c : Thread nD τ) (win1_8.stage (cfg1.slots t 8)) fullShare ((dat W c).before 8 t d))
    ∗ (∃ d, owns (c : Thread nD τ) (win1_9.stage (cfg1.slots t 9)) fullShare ((dat W c).before 9 t d))
    ∗ (∃ d, owns (c : Thread nD τ) (win1_10.stage (cfg1.slots t 10)) fullShare ((dat W c).before 10 t d))
    ∗ (∃ d, owns (c : Thread nD τ) (win1_11.stage (cfg1.slots t 11)) fullShare ((dat W c).before 11 t d))
    ∗ (∃ d, owns (c : Thread nD τ) (win1_12.stage (cfg1.slots t 12)) fullShare ((dat W c).before 12 t d))
    ∗ (∃ d, owns (c : Thread nD τ) (win1_13.stage (cfg1.slots t 13)) fullShare ((dat W c).before 13 t d))
    ∗ (∃ d, owns (c : Thread nD τ) (win1_14.stage (cfg1.slots t 14)) fullShare ((dat W c).before 14 t d))
    ∗ (∃ d, owns (c : Thread nD τ) (win1_15.stage (cfg1.slots t 15)) fullShare ((dat W c).before 15 t d))
    ∗ (∃ d, owns (c : Thread nD τ) (win1_16.stage (cfg1.slots t 16)) fullShare ((dat W c).before 16 t d))
    ∗ (∃ d, owns (c : Thread nD τ) (win1_17.stage (cfg1.slots t 17)) fullShare ((dat W c).before 17 t d))
    ∗ (∃ d, owns (c : Thread nD τ) (win1_18.stage (cfg1.slots t 18)) fullShare ((dat W c).before 18 t d))
    ∗ (∃ d, owns (c : Thread nD τ) (win1_19.stage (cfg1.slots t 19)) fullShare ((dat W c).before 19 t d))
    ∗ (∃ d, owns (c : Thread nD τ) (win1_20.stage (cfg1.slots t 20)) fullShare ((dat W c).before 20 t d))
    ∗ (∃ d, owns (c : Thread nD τ) (win1_21.stage (cfg1.slots t 21)) fullShare ((dat W c).before 21 t d))
    ∗ (∃ d, owns (c : Thread nD τ) (win1_22.stage (cfg1.slots t 22)) fullShare ((dat W c).before 22 t d))
    ∗ (∃ d, owns (c : Thread nD τ) (win1_23.stage (cfg1.slots t 23)) fullShare ((dat W c).before 23 t d))
    ∗ (∃ d, owns (c : Thread nD τ) (win1_24.stage (cfg1.slots t 24)) fullShare ((dat W c).before 24 t d))
    ∗ (∃ d, owns (c : Thread nD τ) (win1_25.stage (cfg1.slots t 25)) fullShare ((dat W c).before 25 t d))
    ∗ (∃ d, owns (c : Thread nD τ) (win1_26.stage (cfg1.slots t 26)) fullShare ((dat W c).before 26 t d))
    ∗ (∃ d, owns (c : Thread nD τ) (win1_27.stage (cfg1.slots t 27)) fullShare ((dat W c).before 27 t d)))
def bodyPost (c : Dev nD) (t : Fin cfg1.N) : sProp 𝕄 :=
  iprop((dat W c).Φ t.succ ∗ (dat W c).owesAt () t.succ
    ∗ owns (c : Thread nD τ) (win1_0.stage (cfg1.slots t 0)) fullShare ((dat W c).after 0 t)
    ∗ owns (c : Thread nD τ) (win1_1.stage (cfg1.slots t 1)) fullShare ((dat W c).after 1 t)
    ∗ owns (c : Thread nD τ) (win1_2.stage (cfg1.slots t 2)) fullShare ((dat W c).after 2 t)
    ∗ owns (c : Thread nD τ) (win1_3.stage (cfg1.slots t 3)) fullShare ((dat W c).after 3 t)
    ∗ owns (c : Thread nD τ) (win1_4.stage (cfg1.slots t 4)) fullShare ((dat W c).after 4 t)
    ∗ owns (c : Thread nD τ) (win1_5.stage (cfg1.slots t 5)) fullShare ((dat W c).after 5 t)
    ∗ owns (c : Thread nD τ) (win1_6.stage (cfg1.slots t 6)) fullShare ((dat W c).after 6 t)
    ∗ owns (c : Thread nD τ) (win1_7.stage (cfg1.slots t 7)) fullShare ((dat W c).after 7 t)
    ∗ owns (c : Thread nD τ) (win1_8.stage (cfg1.slots t 8)) fullShare ((dat W c).after 8 t)
    ∗ owns (c : Thread nD τ) (win1_9.stage (cfg1.slots t 9)) fullShare ((dat W c).after 9 t)
    ∗ owns (c : Thread nD τ) (win1_10.stage (cfg1.slots t 10)) fullShare ((dat W c).after 10 t)
    ∗ owns (c : Thread nD τ) (win1_11.stage (cfg1.slots t 11)) fullShare ((dat W c).after 11 t)
    ∗ owns (c : Thread nD τ) (win1_12.stage (cfg1.slots t 12)) fullShare ((dat W c).after 12 t)
    ∗ owns (c : Thread nD τ) (win1_13.stage (cfg1.slots t 13)) fullShare ((dat W c).after 13 t)
    ∗ owns (c : Thread nD τ) (win1_14.stage (cfg1.slots t 14)) fullShare ((dat W c).after 14 t)
    ∗ owns (c : Thread nD τ) (win1_15.stage (cfg1.slots t 15)) fullShare ((dat W c).after 15 t)
    ∗ owns (c : Thread nD τ) (win1_16.stage (cfg1.slots t 16)) fullShare ((dat W c).after 16 t)
    ∗ owns (c : Thread nD τ) (win1_17.stage (cfg1.slots t 17)) fullShare ((dat W c).after 17 t)
    ∗ owns (c : Thread nD τ) (win1_18.stage (cfg1.slots t 18)) fullShare ((dat W c).after 18 t)
    ∗ owns (c : Thread nD τ) (win1_19.stage (cfg1.slots t 19)) fullShare ((dat W c).after 19 t)
    ∗ owns (c : Thread nD τ) (win1_20.stage (cfg1.slots t 20)) fullShare ((dat W c).after 20 t)
    ∗ owns (c : Thread nD τ) (win1_21.stage (cfg1.slots t 21)) fullShare ((dat W c).after 21 t)
    ∗ owns (c : Thread nD τ) (win1_22.stage (cfg1.slots t 22)) fullShare ((dat W c).after 22 t)
    ∗ owns (c : Thread nD τ) (win1_23.stage (cfg1.slots t 23)) fullShare ((dat W c).after 23 t)
    ∗ owns (c : Thread nD τ) (win1_24.stage (cfg1.slots t 24)) fullShare ((dat W c).after 24 t)
    ∗ owns (c : Thread nD τ) (win1_25.stage (cfg1.slots t 25)) fullShare ((dat W c).after 25 t)
    ∗ owns (c : Thread nD τ) (win1_26.stage (cfg1.slots t 26)) fullShare ((dat W c).after 26 t)
    ∗ owns (c : Thread nD τ) (win1_27.stage (cfg1.slots t 27)) fullShare ((dat W c).after 27 t))

set_option maxHeartbeats 12800000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6, before_7, before_8, before_9, before_10, before_11, before_12, before_13, before_14, before_15]
  rw [show (dat W c).owesAt () t.succ = (dat W c).owesAt () t.castSucc from rfl, after_0, after_1, after_2, after_3, after_4, after_5, after_6, after_7, after_8, after_9, after_10, after_11, after_12, after_13, after_14, after_15, after_16, after_17, after_18, after_19, after_20, after_21, after_22, after_23, after_24, after_25, after_26, after_27]
  rw [inv_castSucc W c t, show (dat W c).Φ t.succ = Inv W c (t.val + 1) t.isLt from rfl]
  unfold Inv
  iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  have hs : (cond (grid1.coords t) ∧ entering W c t = k1_pay5) ∨ (¬cond (grid1.coords t) ∧ entering W c t = xs) := by
    by_cases h : t.val = 0
    · refine .inl ⟨(cond_iff t).mpr h, ?_⟩
      obtain ⟨n, hn⟩ := t; obtain rfl : n = 0 := h; rfl
    · exact .inr ⟨fun hc => h ((cond_iff t).mp hc), (hxs h).symm⟩
  iapply (point c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (win1_22.stage (cfg1.slots t 22)) (hstage1_22 ((cfg1.slots t 22).cast nbuf1_22)) (win1_23.stage (cfg1.slots t 23)) (hstage1_23 ((cfg1.slots t 23).cast nbuf1_23)) (win1_24.stage (cfg1.slots t 24)) (hstage1_24 ((cfg1.slots t 24).cast nbuf1_24)) (win1_25.stage (cfg1.slots t 25)) (hstage1_25 ((cfg1.slots t 25).cast nbuf1_25)) (win1_26.stage (cfg1.slots t 26)) (hstage1_26 ((cfg1.slots t 26).cast nbuf1_26)) (win1_27.stage (cfg1.slots t 27)) (hstage1_27 ((cfg1.slots t 27).cast nbuf1_27)) scM (Memref.isWhole_whole _) (blocks W c t) xs (entering W c t) hs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HS]; · iexact HS
  iintro ⟨H0, H1, H2, H3, H4, H5, H6, H7, H8, H9, H10, H11, H12, H13, H14, H15, H16, H17, H18, H19, H20, H21, H22, H23, H24, H25, H26, H27, HS⟩
  isplitl [HS Hg]
  · isplitl [HS]
    · iexists _; isplitr; swap; (· iexact HS); ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs_row (t : Fin cfg1.N) : defs₀ (F := F) .tc cfg1.body (cfg1.bodyArgs t (cfg1.slots t)) = bodyAt1 t := by
  unfold defs₀; rw [Defs.onTc_tc]

set_option maxHeartbeats 1600000 in
/-- The library's body obligation. -/
theorem body_obligation (c : Dev nD) : BodyObligation (dat W c) (defs₀ (F := F)) Variants.none () Set.univ := fun t => by
  rw [bigSep_W1, bigSep_W1, defs_row]
  exact triple_restated (sound_body W c t) rfl .rfl fun _ => .rfl

/-- The region's own scoped buffers are the invariant before the first point, and the invariant after the last gives them back. -/
theorem inv_in (c : Dev nD) : (Pipeline.scopedRest (Ix := Unit) (Name := ℕ) (U := UR sig nD τ) (Lvl := ℕ) (Val := Elt F) spec1 c : sProp 𝕄) ⊢ (dat W c).Φ 0 := by
  rw [show (dat W c).Φ 0 = Inv W c 0 (Nat.zero_le _) from rfl, scopedRest1_split]
  unfold Inv
  iintro ⟨⟨%f, Hf⟩, Hg⟩
  isplitl [Hf]
  · iexists f; isplitr; · ipureintro; exact fun h => absurd rfl h
    rw [owns_whole]; iexact Hf
  iexact Hg
theorem inv_out (c : Dev nD) : (dat W c).Φ (Fin.last cfg1.N) ⊢ (Pipeline.scopedRest (Ix := Unit) (Name := ℕ) (U := UR sig nD τ) (Lvl := ℕ) (Val := Elt F) spec1 c : sProp 𝕄) := by
  rw [show (dat W c).Φ (Fin.last cfg1.N) = Inv W c cfg1.N (Nat.le_refl _) from rfl, scopedRest1_split]
  unfold Inv
  iintro ⟨⟨%xs, -, HS⟩, Hg⟩
  isplitl [HS]
  · iexists xs
    ihave H := (Entails.of_eq (owns_whole (c : Thread nD τ) cc1_scratch0 fullShare xs)) $$ HS
    iexact H
  iexact Hg

end Cert.KernelIdeal.Bwd

end
-- ==== Proof.KernelRun.lean ====
module

public import proofs.«01_k».proof.Proof.FwdBody
public import proofs.«01_k».proof.Proof.BwdBody
public import proofs.«01_k».proof.Proof.Gen.KernelIdeal.Regions
public import Idealize.ShloMosaic.Lib.Pipeline.RegionArraysS

@[expose] public section

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the two calls -/

/-- At launch, -/
abbrev Wstart (c : Dev nD) : Valuation τ sig (Elt F) := fun b => m (c, b)
/-- after the forward call, -/
def Wmid (c : Dev nD) : Valuation τ sig (Elt F) := Pipeline.afterRegion (Fwd.dat (Wstart m) c) (Wstart m c)
/-- and after the backward call. -/
def Wend (c : Dev nD) : Valuation τ sig (Elt F) := Pipeline.afterRegion (Bwd.dat (Wmid m) c) (Wmid m c)

/-- No call writes an argument. -/
theorem Wmid_of (c : Dev nD) (r : Ref sig .tc) (h : ∀ w, Pipeline.arrRef spec0 w = r → (cfg0.win w).isOut = false) :
    Wmid m c (Proc.devRef .tc r) = m ((c : Thread nD τ).loc r) :=
  Pipeline.afterRegion_keeps (Fwd.dat (Wstart m) c) (Wstart m c) launch0.win.arr_inj (Fwd.A_eq _ c) r h
theorem Wend_of (c : Dev nD) (r : Ref sig .tc) (h : ∀ w, Pipeline.arrRef spec1 w = r → (cfg1.win w).isOut = false) :
    Wend m c (Proc.devRef .tc r) = Wmid m c (Proc.devRef .tc r) :=
  Pipeline.afterRegion_keeps (Bwd.dat (Wmid m) c) (Wmid m c) launch1.win.arr_inj (Bwd.A_eq _ c) r h
/-- What each call leaves in a window's array. -/
theorem Wmid_arr (c : Dev nD) (w : Fin cfg0.W) : Wmid m c (Proc.devRef .tc (Pipeline.arrRef spec0 w)) = (Fwd.dat (Wstart m) c).arrAt w cfg0.N :=
  Pipeline.afterRegion_arr (Fwd.dat (Wstart m) c) (Wstart m c) launch0.win.arr_inj w
theorem Wend_arr (c : Dev nD) (w : Fin cfg1.W) : Wend m c (Proc.devRef .tc (Pipeline.arrRef spec1 w)) = (Bwd.dat (Wmid m) c).arrAt w cfg1.N :=
  Pipeline.afterRegion_arr (Bwd.dat (Wmid m) c) (Wmid m c) launch1.win.arr_inj w

/-! ## The two calls as segments -/

/-- Each call's proof data, at the contents it is entered with. -/
def pdats : (p : Fin 2) → (c : Dev nD) → Dat τ (Elt F) Unit ℕ (UR sig nD τ) ℕ (cfgs p) c
  | ⟨0, _⟩ => Fwd.dat (Wstart m)
  | ⟨1, _⟩ => Bwd.dat (Wmid m)

abbrev 𝒱₀ : Variants := Variants.none
/-- One level on the TensorCores' counters; no core owes another anything. -/
abbrev L : GSem nD τ sig → Finset Unit := fun g => if g.1.2 = .tc then {()} else ∅
abbrev lv : GSem nD τ sig → Unit → ℕ := fun _ _ => 0
/-- What rides beside the buffers: the core's dues. -/
abbrev R (c : Dev nD) : sProp 𝕄 := iprop(∃ W, owes (c : Thread nD τ) (0 : CellTallies nD τ sig Unit) W)

theorem cut (p : Fin 2) : Pipeline.LevelCut (pcfgs (F := F)) adm () L lv p (fun _ => 0) (fun _ => 0) where
  hι _ _ _ := by simp [L]
  hιb _ _ _ := Nat.le_refl _
  hD _ _ _ h := absurd h (Nat.lt_irrefl _)

theorem hin0 (c : Dev nD) : iprop(Pipeline.scopedRest spec0 c ∗ emp) ⊢ ((Fwd.dat (Wstart m) c).Φ 0 : sProp 𝕄) := by
  iintro ⟨H, -⟩
  iapply (Fwd.inv_in (Wstart m) c)
  iexact H
theorem hout0 (c : Dev nD) : ((Fwd.dat (Wstart m) c).Φ (Fin.last cfg0.N) : sProp 𝕄) ⊢ iprop(Pipeline.scopedRest spec0 c ∗ emp) := by
  iintro H
  isplitl [H]; · iapply (Fwd.inv_out (Wstart m) c); iexact H
  iempintro

set_option backward.isDefEq.respectTransparency.types false in
/-- The forward call, -/
def reg0 : RegionSeg (pcfgs (F := F)) adm (pdats m) () defs₀ 𝒱₀ L lv 0 :=
  RegionSeg.ofHeldIn (pcfgs (F := F)) adm (pdats m) () defs₀ 𝒱₀ L lv 0 (fun _ => 0) (Pipeline.ucRefs τ sig) (fun _ => iprop(emp)) (fun _ => iprop(emp))
    launch0.toP rfl (fun c => (Fwd.body_obligation (Wstart m) c).loose) (fun _ _ => rfl) (fun _ => rfl) (fun c => (Fwd.dat (Wstart m) c).share_full fun _ => rfl)
    (hin0 m) (hout0 m)
    (fun _ => 0) (cut 0) (fun _ => iprop(emp)) (Wstart m) (fun c w => Fwd.A_eq _ c w)

theorem hin1 (c : Dev nD) : iprop(Pipeline.scopedRest spec1 c ∗ emp) ⊢ ((Bwd.dat (Wmid m) c).Φ 0 : sProp 𝕄) := by
  iintro ⟨H, -⟩
  iapply (Bwd.inv_in (Wmid m) c)
  iexact H
theorem hout1 (c : Dev nD) : ((Bwd.dat (Wmid m) c).Φ (Fin.last cfg1.N) : sProp 𝕄) ⊢ iprop(Pipeline.scopedRest spec1 c ∗ emp) := by
  iintro H
  isplitl [H]; · iapply (Bwd.inv_out (Wmid m) c); iexact H
  iempintro

set_option backward.isDefEq.respectTransparency.types false in
/-- and the backward call, entered with what the forward call leaves. -/
def reg1 : RegionSeg (pcfgs (F := F)) adm (pdats m) () defs₀ 𝒱₀ L lv 1 :=
  RegionSeg.ofHeldIn (pcfgs (F := F)) adm (pdats m) () defs₀ 𝒱₀ L lv 1 (fun _ => 0) (Pipeline.ucRefs τ sig) (fun _ => iprop(emp)) (fun _ => iprop(emp))
    launch1.toP rfl (fun c => (Bwd.body_obligation (Wmid m) c).loose) (fun _ _ => rfl) (fun _ => rfl) (fun c => (Bwd.dat (Wmid m) c).share_full fun _ => rfl)
    (hin1 m) (hout1 m)
    (fun _ => 0) (cut 1) (fun _ => iprop(emp)) (Wmid m) (fun c w => Bwd.A_eq _ c w)

abbrev segsOf (c : Dev nD) : List (Seg (pcfgs (F := F)) adm (pdats m) () defs₀ 𝒱₀ L lv) := [.region (reg0 m), .region (reg1 m)]

/-- What rides beside the buffers between the calls: the dues and nothing else. -/
abbrev Rest (c : Dev nD) : sProp 𝕄 := iprop(R c ∗ emp ∗ emp)

theorem sub0 : Pipeline.arrRefs (τ := τ) spec0 ⊆ Pipeline.ucRefs τ sig := Pipeline.arrRefs_sub_ucRefs _ (by decide)
theorem sub1 : Pipeline.arrRefs (τ := τ) spec1 ⊆ Pipeline.ucRefs τ sig := Pipeline.arrRefs_sub_ucRefs _ (by decide)

set_option backward.isDefEq.respectTransparency.types false in
theorem pre0 (c : Dev nD) : iprop(StableHlo.held (c : Thread nD τ) (Pipeline.ucRefs τ sig) (Wstart m c) ∗ Rest c) ⊢ (reg0 m).pre c :=
  by delta reg0; exact RegionSeg.ofHeldIn_pre (pcs := pcfgs (F := F)) (a := adm) (pdats := pdats m) (ι := ()) (defs₀ := defs₀) (𝒱₀ := 𝒱₀) (L := L) (lv := lv) (p := 0) (D := fun _ => 0) (S := Pipeline.ucRefs τ sig) (X := fun _ => iprop(emp)) (Y := fun _ => iprop(emp)) (R := fun _ => iprop(emp)) (W := Wstart m) sub0 c
set_option backward.isDefEq.respectTransparency.types false in
theorem post0 (c : Dev nD) : (reg0 m).post c ⊢ iprop(StableHlo.held (c : Thread nD τ) (Pipeline.ucRefs τ sig) (Wmid m c) ∗ Rest c) :=
  by delta reg0; exact RegionSeg.ofHeldIn_post (pcs := pcfgs (F := F)) (a := adm) (pdats := pdats m) (ι := ()) (defs₀ := defs₀) (𝒱₀ := 𝒱₀) (L := L) (lv := lv) (p := 0) (D := fun _ => 0) (S := Pipeline.ucRefs τ sig) (X := fun _ => iprop(emp)) (Y := fun _ => iprop(emp)) (R := fun _ => iprop(emp)) (W := Wstart m) sub0 c
set_option backward.isDefEq.respectTransparency.types false in
theorem pre1 (c : Dev nD) : iprop(StableHlo.held (c : Thread nD τ) (Pipeline.ucRefs τ sig) (Wmid m c) ∗ Rest c) ⊢ (reg1 m).pre c :=
  by delta reg1; exact RegionSeg.ofHeldIn_pre (pcs := pcfgs (F := F)) (a := adm) (pdats := pdats m) (ι := ()) (defs₀ := defs₀) (𝒱₀ := 𝒱₀) (L := L) (lv := lv) (p := 1) (D := fun _ => 0) (S := Pipeline.ucRefs τ sig) (X := fun _ => iprop(emp)) (Y := fun _ => iprop(emp)) (R := fun _ => iprop(emp)) (W := Wmid m) sub1 c
set_option backward.isDefEq.respectTransparency.types false in
theorem post1 (c : Dev nD) : (reg1 m).post c ⊢ iprop(StableHlo.held (c : Thread nD τ) (Pipeline.ucRefs τ sig) (Wend m c) ∗ Rest c) :=
  by delta reg1; exact RegionSeg.ofHeldIn_post (pcs := pcfgs (F := F)) (a := adm) (pdats := pdats m) (ι := ()) (defs₀ := defs₀) (𝒱₀ := 𝒱₀) (L := L) (lv := lv) (p := 1) (D := fun _ => 0) (S := Pipeline.ucRefs τ sig) (X := fun _ => iprop(emp)) (Y := fun _ => iprop(emp)) (R := fun _ => iprop(emp)) (W := Wmid m) sub1 c

/-! ## The run -/

/-- The program's algebra is the pipeline library's. -/
abbrev EP : Emb (UR sig nD τ) 𝕄 := emb₁

set_option backward.isDefEq.respectTransparency.types false in
/-- At any float values, from any memory with zero counters: every weakly fair execution of the program terminates, every final state holds
    `Wend` in the unscoped buffers and has every counter at zero. -/
theorem run_main : θ_run defs (onTc (τ := τ) (main (F := F))) ⟨m, fun _ => 0, ρ⟩ (fun r =>
      (∀ (c : Dev nD) (b : Ref sig .tc), b.isScoped = false → r.2.mem ((c : Thread nD τ).loc b) = Wend m c (Proc.devRef .tc b)) ∧ r.2.sem = fun _ => 0) := by
  refine Pipeline.θ_run_regions_kit_dev_sems (pcfgs (F := F)) adm (pdats m) () cellOf_inj EP defs₀ 𝒱₀ L lv m ρ main (segsOf m)
    (fun c Q => by
      rewrite [main_chain c, Seg.run_eq_chain,
        show (segsOf m c).map Seg.prog = [Prog.lift (.customCall (Pipeline.entry 0) ()), Prog.lift (.customCall (Pipeline.entry 1) ())] from rfl]
      dsimp (config := { failIfUnchanged := false }) only
      exact .rfl)
    (fun c => by simp only [segsOf, Seg.pipes_host, Seg.pipes_region, Seg.pipes_nil]; decide) (fun _ => 0) (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (Wstart m c) ∗ Rest c))
    (Tₙ := fun c => StableHlo.held (c : Thread nD τ) (Pipeline.ucRefs τ sig) (Wend m c))
    (hch := fun c => ⟨pre0 m c, (post0 m c).trans (pre1 m c), (post1 m c).trans (sep_mono .rfl (by iintro ⟨H, -⟩; iexact H))⟩)
    (hinit := ?_) (QY := fun c s => ∀ b : Ref sig .tc, b.isScoped = false → s.mem ((c : Thread nD τ).loc b) = Wend m c (Proc.devRef .tc b))
    (hfin := fun c s' => ?_) (hQ := fun _ h hz => ⟨h, funext fun g => hz g (.inr (regions_no_unscoped g.2))⟩)
  · refine (show (ownU (initOf (Pipeline.cells cfgs cellOf_inj) (Pipeline.launchToks cfgs cellOf_inj)) : sProp 𝕄)
      ⊢ BI.own (EP (initOf (Pipeline.cells cfgs cellOf_inj) (Pipeline.launchToks cfgs cellOf_inj))) from BI.Entails.refl _).trans ?_
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (Wstart m c) from Pipeline.unscopedBufs_held c (Wstart m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (Wend m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simp [hb]⟩)
    iexact HSI

end Cert.KernelIdeal.Whole

end
-- ==== Proof.RefOps.lean ====
/- The operations of the reference's @main and of its two loop bodies, in order, as lists, with the facts that a run needs of them:
   each touches TensorCore references only, none allocates, and each program fragment is the run of its list. -/
module

public import proofs.«01_k».proof.Proof.Gen.ReferenceIdeal
public import Idealize.ShloMosaic.Lib.StableHlo.RunLoop
public import Idealize.ShloMosaic.Lib.Pipeline.Regions

@[expose] public section

set_option maxRecDepth 20000

noncomputable section

namespace Cert.ReferenceIdeal.Ops

open Idealize.ShloMosaic Idealize.ShloMosaic.TcCoe
open Idealize.SL Idealize.SL.Sem
open Cert.ReferenceIdeal Cert.ReferenceIdeal.Gen Idealize.ShloMosaic.StableHlo

/-- The float32 arrays of a shape. -/
abbrev Fl32 (F : FTy → Type) [FloatOps F] (s : Shape) : Type := (⟨s, .f32⟩ : BufTy).Contents (Elt F)

variable {F : FTy → Type} [FloatOps F]

/-- The first 60 operations of @main. -/
abbrev ops0 : List (HloOp τ sig (Elt F)) :=
  [ nullary main_cst (constant S_ .f32 0x00000000#32),
    unary main_cst main_v0 (broadcastInDim S2x4x128x128 ![] bcast_S_S2x4x128x128 : Fl32 F S_ → Fl32 F S2x4x128x128),
    unary main_arg1 main_v1 ((extractStridedSlice S4x4x64x128 ![0, 0, 0, 0] · slices_S132x4x64x128_S4x4x64x128_0_0_0_0) : Fl32 F S132x4x64x128 → Fl32 F S4x4x64x128),
    TRef.unary (.of main_v1 : TRef sig ⟨S4x4x64x128, .f32⟩) (.of main_v2 : TRef sig ⟨S4x4x64x128, .f32⟩) (Host.reverse [0]),
    unary main_arg1 main_v3 ((extractStridedSlice S128x4x64x128 ![4, 0, 0, 0] · slices_S132x4x64x128_S128x4x64x128_4_0_0_0) : Fl32 F S132x4x64x128 → Fl32 F S128x4x64x128),
    TRef.unary (.of main_v3 : TRef sig ⟨S128x4x64x128, .f32⟩) (.of main_v4 : TRef sig ⟨S128x4x64x128, .f32⟩) (Host.reverse [0]),
    binary main_v2 main_v4 main_v5 ((fun a b => concatenate S132x4x64x128 0 [⟨S4x4x64x128, a⟩, ⟨S128x4x64x128, b⟩] concatenates_S4x4x64x128_S128x4x64x128_S132x4x64x128_d0) : Fl32 F S4x4x64x128 → Fl32 F S128x4x64x128 → Fl32 F S132x4x64x128),
    unary main_arg0 main_v6 (broadcastInDim S132x1x4x64x128 ![0, 2, 3, 4] bcast_S132x4x64x128_S132x1x4x64x128_0_2_3_4 : Fl32 F S132x4x64x128 → Fl32 F S132x1x4x64x128),
    unary main_v5 main_v7 (broadcastInDim S132x1x4x64x128 ![0, 2, 3, 4] bcast_S132x4x64x128_S132x1x4x64x128_0_2_3_4 : Fl32 F S132x4x64x128 → Fl32 F S132x1x4x64x128),
    binary main_v6 main_v7 main_v8 ((fun a b => concatenate S132x2x4x64x128 1 [⟨S132x1x4x64x128, a⟩, ⟨S132x1x4x64x128, b⟩] concatenates_S132x1x4x64x128_S132x1x4x64x128_S132x2x4x64x128_d1) : Fl32 F S132x1x4x64x128 → Fl32 F S132x1x4x64x128 → Fl32 F S132x2x4x64x128),
    unary main_arg3 main_v9 ((extractStridedSlice S4x4x64x128 ![0, 0, 0, 0] · slices_S132x4x64x128_S4x4x64x128_0_0_0_0) : Fl32 F S132x4x64x128 → Fl32 F S4x4x64x128),
    TRef.unary (.of main_v9 : TRef sig ⟨S4x4x64x128, .f32⟩) (.of main_v10 : TRef sig ⟨S4x4x64x128, .f32⟩) (Host.reverse [0]),
    unary main_arg3 main_v11 ((extractStridedSlice S128x4x64x128 ![4, 0, 0, 0] · slices_S132x4x64x128_S128x4x64x128_4_0_0_0) : Fl32 F S132x4x64x128 → Fl32 F S128x4x64x128),
    TRef.unary (.of main_v11 : TRef sig ⟨S128x4x64x128, .f32⟩) (.of main_v12 : TRef sig ⟨S128x4x64x128, .f32⟩) (Host.reverse [0]),
    binary main_v10 main_v12 main_v13 ((fun a b => concatenate S132x4x64x128 0 [⟨S4x4x64x128, a⟩, ⟨S128x4x64x128, b⟩] concatenates_S4x4x64x128_S128x4x64x128_S132x4x64x128_d0) : Fl32 F S4x4x64x128 → Fl32 F S128x4x64x128 → Fl32 F S132x4x64x128),
    unary main_arg2 main_v14 (broadcastInDim S132x1x4x64x128 ![0, 2, 3, 4] bcast_S132x4x64x128_S132x1x4x64x128_0_2_3_4 : Fl32 F S132x4x64x128 → Fl32 F S132x1x4x64x128),
    unary main_v13 main_v15 (broadcastInDim S132x1x4x64x128 ![0, 2, 3, 4] bcast_S132x4x64x128_S132x1x4x64x128_0_2_3_4 : Fl32 F S132x4x64x128 → Fl32 F S132x1x4x64x128),
    binary main_v14 main_v15 main_v16 ((fun a b => concatenate S132x2x4x64x128 1 [⟨S132x1x4x64x128, a⟩, ⟨S132x1x4x64x128, b⟩] concatenates_S132x1x4x64x128_S132x1x4x64x128_S132x2x4x64x128_d1) : Fl32 F S132x1x4x64x128 → Fl32 F S132x1x4x64x128 → Fl32 F S132x2x4x64x128),
    unary main_arg7 main_v17 ((extractStridedSlice S4x4x64x128 ![0, 0, 0, 0] · slices_S132x4x64x128_S4x4x64x128_0_0_0_0) : Fl32 F S132x4x64x128 → Fl32 F S4x4x64x128),
    TRef.unary (.of main_v17 : TRef sig ⟨S4x4x64x128, .f32⟩) (.of main_v18 : TRef sig ⟨S4x4x64x128, .f32⟩) (Host.reverse [0]),
    unary main_arg7 main_v19 ((extractStridedSlice S128x4x64x128 ![4, 0, 0, 0] · slices_S132x4x64x128_S128x4x64x128_4_0_0_0) : Fl32 F S132x4x64x128 → Fl32 F S128x4x64x128),
    TRef.unary (.of main_v19 : TRef sig ⟨S128x4x64x128, .f32⟩) (.of main_v20 : TRef sig ⟨S128x4x64x128, .f32⟩) (Host.reverse [0]),
    binary main_v18 main_v20 main_v21 ((fun a b => concatenate S132x4x64x128 0 [⟨S4x4x64x128, a⟩, ⟨S128x4x64x128, b⟩] concatenates_S4x4x64x128_S128x4x64x128_S132x4x64x128_d0) : Fl32 F S4x4x64x128 → Fl32 F S128x4x64x128 → Fl32 F S132x4x64x128),
    unary main_arg6 main_v22 (broadcastInDim S132x1x4x64x128 ![0, 2, 3, 4] bcast_S132x4x64x128_S132x1x4x64x128_0_2_3_4 : Fl32 F S132x4x64x128 → Fl32 F S132x1x4x64x128),
    unary main_v21 main_v23 (broadcastInDim S132x1x4x64x128 ![0, 2, 3, 4] bcast_S132x4x64x128_S132x1x4x64x128_0_2_3_4 : Fl32 F S132x4x64x128 → Fl32 F S132x1x4x64x128),
    binary main_v22 main_v23 main_v24 ((fun a b => concatenate S132x2x4x64x128 1 [⟨S132x1x4x64x128, a⟩, ⟨S132x1x4x64x128, b⟩] concatenates_S132x1x4x64x128_S132x1x4x64x128_S132x2x4x64x128_d1) : Fl32 F S132x1x4x64x128 → Fl32 F S132x1x4x64x128 → Fl32 F S132x2x4x64x128),
    unary main_arg11 main_v25 ((extractStridedSlice S4x4x1x128 ![0, 0, 0, 0] · slices_S132x4x1x128_S4x4x1x128_0_0_0_0) : Fl32 F S132x4x1x128 → Fl32 F S4x4x1x128),
    TRef.unary (.of main_v25 : TRef sig ⟨S4x4x1x128, .f32⟩) (.of main_v26 : TRef sig ⟨S4x4x1x128, .f32⟩) (Host.reverse [0]),
    unary main_arg11 main_v27 ((extractStridedSlice S128x4x1x128 ![4, 0, 0, 0] · slices_S132x4x1x128_S128x4x1x128_4_0_0_0) : Fl32 F S132x4x1x128 → Fl32 F S128x4x1x128),
    TRef.unary (.of main_v27 : TRef sig ⟨S128x4x1x128, .f32⟩) (.of main_v28 : TRef sig ⟨S128x4x1x128, .f32⟩) (Host.reverse [0]),
    binary main_v26 main_v28 main_v29 ((fun a b => concatenate S132x4x1x128 0 [⟨S4x4x1x128, a⟩, ⟨S128x4x1x128, b⟩] concatenates_S4x4x1x128_S128x4x1x128_S132x4x1x128_d0) : Fl32 F S4x4x1x128 → Fl32 F S128x4x1x128 → Fl32 F S132x4x1x128),
    unary main_arg10 main_v30 (broadcastInDim S132x1x4x1x128 ![0, 2, 3, 4] bcast_S132x4x1x128_S132x1x4x1x128_0_2_3_4 : Fl32 F S132x4x1x128 → Fl32 F S132x1x4x1x128),
    unary main_v29 main_v31 (broadcastInDim S132x1x4x1x128 ![0, 2, 3, 4] bcast_S132x4x1x128_S132x1x4x1x128_0_2_3_4 : Fl32 F S132x4x1x128 → Fl32 F S132x1x4x1x128),
    binary main_v30 main_v31 main_v32 ((fun a b => concatenate S132x2x4x1x128 1 [⟨S132x1x4x1x128, a⟩, ⟨S132x1x4x1x128, b⟩] concatenates_S132x1x4x1x128_S132x1x4x1x128_S132x2x4x1x128_d1) : Fl32 F S132x1x4x1x128 → Fl32 F S132x1x4x1x128 → Fl32 F S132x2x4x1x128),
    unary main_arg5 main_v33 ((extractStridedSlice S4x4x64x128 ![0, 0, 0, 0] · slices_S132x4x64x128_S4x4x64x128_0_0_0_0) : Fl32 F S132x4x64x128 → Fl32 F S4x4x64x128),
    TRef.unary (.of main_v33 : TRef sig ⟨S4x4x64x128, .f32⟩) (.of main_v34 : TRef sig ⟨S4x4x64x128, .f32⟩) (Host.reverse [0]),
    unary main_arg5 main_v35 ((extractStridedSlice S128x4x64x128 ![4, 0, 0, 0] · slices_S132x4x64x128_S128x4x64x128_4_0_0_0) : Fl32 F S132x4x64x128 → Fl32 F S128x4x64x128),
    TRef.unary (.of main_v35 : TRef sig ⟨S128x4x64x128, .f32⟩) (.of main_v36 : TRef sig ⟨S128x4x64x128, .f32⟩) (Host.reverse [0]),
    binary main_v34 main_v36 main_v37 ((fun a b => concatenate S132x4x64x128 0 [⟨S4x4x64x128, a⟩, ⟨S128x4x64x128, b⟩] concatenates_S4x4x64x128_S128x4x64x128_S132x4x64x128_d0) : Fl32 F S4x4x64x128 → Fl32 F S128x4x64x128 → Fl32 F S132x4x64x128),
    unary main_arg4 main_v38 (broadcastInDim S132x1x4x64x128 ![0, 2, 3, 4] bcast_S132x4x64x128_S132x1x4x64x128_0_2_3_4 : Fl32 F S132x4x64x128 → Fl32 F S132x1x4x64x128),
    unary main_v37 main_v39 (broadcastInDim S132x1x4x64x128 ![0, 2, 3, 4] bcast_S132x4x64x128_S132x1x4x64x128_0_2_3_4 : Fl32 F S132x4x64x128 → Fl32 F S132x1x4x64x128),
    binary main_v38 main_v39 main_v40 ((fun a b => concatenate S132x2x4x64x128 1 [⟨S132x1x4x64x128, a⟩, ⟨S132x1x4x64x128, b⟩] concatenates_S132x1x4x64x128_S132x1x4x64x128_S132x2x4x64x128_d1) : Fl32 F S132x1x4x64x128 → Fl32 F S132x1x4x64x128 → Fl32 F S132x2x4x64x128),
    unary main_arg9 main_v41 ((extractStridedSlice S4x4x64x64 ![0, 0, 0, 0] · slices_S132x4x64x64_S4x4x64x64_0_0_0_0) : Fl32 F S132x4x64x64 → Fl32 F S4x4x64x64),
    TRef.unary (.of main_v41 : TRef sig ⟨S4x4x64x64, .f32⟩) (.of main_v42 : TRef sig ⟨S4x4x64x64, .f32⟩) (Host.reverse [0]),
    unary main_arg9 main_v43 ((extractStridedSlice S128x4x64x64 ![4, 0, 0, 0] · slices_S132x4x64x64_S128x4x64x64_4_0_0_0) : Fl32 F S132x4x64x64 → Fl32 F S128x4x64x64),
    TRef.unary (.of main_v43 : TRef sig ⟨S128x4x64x64, .f32⟩) (.of main_v44 : TRef sig ⟨S128x4x64x64, .f32⟩) (Host.reverse [0]),
    binary main_v42 main_v44 main_v45 ((fun a b => concatenate S132x4x64x64 0 [⟨S4x4x64x64, a⟩, ⟨S128x4x64x64, b⟩] concatenates_S4x4x64x64_S128x4x64x64_S132x4x64x64_d0) : Fl32 F S4x4x64x64 → Fl32 F S128x4x64x64 → Fl32 F S132x4x64x64),
    unary main_arg8 main_v46 (broadcastInDim S132x1x4x64x64 ![0, 2, 3, 4] bcast_S132x4x64x64_S132x1x4x64x64_0_2_3_4 : Fl32 F S132x4x64x64 → Fl32 F S132x1x4x64x64),
    unary main_v45 main_v47 (broadcastInDim S132x1x4x64x64 ![0, 2, 3, 4] bcast_S132x4x64x64_S132x1x4x64x64_0_2_3_4 : Fl32 F S132x4x64x64 → Fl32 F S132x1x4x64x64),
    binary main_v46 main_v47 main_v48 ((fun a b => concatenate S132x2x4x64x64 1 [⟨S132x1x4x64x64, a⟩, ⟨S132x1x4x64x64, b⟩] concatenates_S132x1x4x64x64_S132x1x4x64x64_S132x2x4x64x64_d1) : Fl32 F S132x1x4x64x64 → Fl32 F S132x1x4x64x64 → Fl32 F S132x2x4x64x64),
    nullary main_cst_0 (constant S_ .f32 0x00000000#32),
    unary main_cst_0 main_v49 (broadcastInDim S132x2x4x64x128 ![] bcast_S_S132x2x4x64x128 : Fl32 F S_ → Fl32 F S132x2x4x64x128),
    nullary main_cst_1 (constant S_ .f32 0x00000000#32),
    unary main_cst_1 main_v50 (broadcastInDim S132x2x4x128x128 ![] bcast_S_S132x2x4x128x128 : Fl32 F S_ → Fl32 F S132x2x4x128x128),
    nullary main_cst_2 (constant S_ .f32 0x00000000#32),
    unary main_cst_2 main_v51 (broadcastInDim S132x2x4x1x1 ![] bcast_S_S132x2x4x1x1 : Fl32 F S_ → Fl32 F S132x2x4x1x1),
    nullary main_cst_3 (constant S_ .f32 0x00000000#32),
    unary main_cst_3 main_v52 (broadcastInDim S132x2x4x64x128 ![] bcast_S_S132x2x4x64x128 : Fl32 F S_ → Fl32 F S132x2x4x64x128),
    nullary main_c (constantI S_ 32 0#32),
    unary main_v8 main_v53_0 id ]
theorem ops0_sub : (ops0 : List (HloOp τ sig (Elt F))).Forall fun op => op.bufs ⊆ tcRefs τ sig :=
  ⟨nullary_bufs_sub .., unary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., nullary_bufs_sub .., unary_bufs_sub .., nullary_bufs_sub .., unary_bufs_sub .., nullary_bufs_sub .., unary_bufs_sub .., nullary_bufs_sub .., unary_bufs_sub ..⟩
theorem ops0_fresh : ∀ op ∈ (ops0 : List (HloOp τ sig (Elt F))), op.fresh = ∅ := by
  rw [← List.forall_iff_forall_mem]; simp only [List.Forall]; repeat' constructor

/-- The rest up to the first loop. -/
abbrev ops1a : List (HloOp τ sig (Elt F)) :=
  [ unary main_v16 main_v53_1 id,
    unary main_v24 main_v53_2 id,
    unary main_v32 main_v53_3 id,
    unary main_v40 main_v53_4 id,
    unary main_v48 main_v53_5 id,
    unary main_c main_v53_6 id,
    unary main_v0 main_v53_7 id,
    unary main_v49 main_v53_8 id,
    unary main_v50 main_v53_9 id,
    unary main_v51 main_v53_10 id,
    unary main_v52 main_v53_11 id ]
theorem ops1a_sub : (ops1a : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops1a_fresh : ∀ op ∈ (ops1a : List (HloOp τ sig (Elt F))), op.fresh = ∅ := by
  rw [← List.forall_iff_forall_mem]; simp only [List.Forall]; repeat' constructor

/-- From the first loop on. -/
abbrev ops1b : List (HloOp τ sig (Elt F)) :=
  [ unary main_v53_8 main_v54 ((extractStridedSlice S132x1x4x64x128 ![0, 0, 0, 0, 0] · slices_S132x2x4x64x128_S132x1x4x64x128_0_0_0_0_0) : Fl32 F S132x2x4x64x128 → Fl32 F S132x1x4x64x128),
    reshape main_v54 main_v55 (rfl : (.f32 : EltTy) = .f32) shapeCasts_S132x1x4x64x128_S132x4x64x128,
    unary main_v55 main_v56 ((transpose S132x64x4x128 [0, 2, 1, 3] · transposes_S132x4x64x128_S132x64x4x128_0_2_1_3) : Fl32 F S132x4x64x128 → Fl32 F S132x64x4x128),
    reshape main_v56 main_v57 (rfl : (.f32 : EltTy) = .f32) shapeCasts_S132x64x4x128_S8448x512,
    unary main_v53_8 main_v58 ((extractStridedSlice S132x1x4x64x128 ![0, 1, 0, 0, 0] · slices_S132x2x4x64x128_S132x1x4x64x128_0_1_0_0_0) : Fl32 F S132x2x4x64x128 → Fl32 F S132x1x4x64x128),
    reshape main_v58 main_v59 (rfl : (.f32 : EltTy) = .f32) shapeCasts_S132x1x4x64x128_S132x4x64x128,
    unary main_v59 main_v60 ((extractStridedSlice S4x4x64x128 ![0, 0, 0, 0] · slices_S132x4x64x128_S4x4x64x128_0_0_0_0) : Fl32 F S132x4x64x128 → Fl32 F S4x4x64x128),
    TRef.unary (.of main_v60 : TRef sig ⟨S4x4x64x128, .f32⟩) (.of main_v61 : TRef sig ⟨S4x4x64x128, .f32⟩) (Host.reverse [0]),
    unary main_v59 main_v62 ((extractStridedSlice S128x4x64x128 ![4, 0, 0, 0] · slices_S132x4x64x128_S128x4x64x128_4_0_0_0) : Fl32 F S132x4x64x128 → Fl32 F S128x4x64x128),
    TRef.unary (.of main_v62 : TRef sig ⟨S128x4x64x128, .f32⟩) (.of main_v63 : TRef sig ⟨S128x4x64x128, .f32⟩) (Host.reverse [0]),
    binary main_v61 main_v63 main_v64 ((fun a b => concatenate S132x4x64x128 0 [⟨S4x4x64x128, a⟩, ⟨S128x4x64x128, b⟩] concatenates_S4x4x64x128_S128x4x64x128_S132x4x64x128_d0) : Fl32 F S4x4x64x128 → Fl32 F S128x4x64x128 → Fl32 F S132x4x64x128),
    unary main_v64 main_v65 ((transpose S132x64x4x128 [0, 2, 1, 3] · transposes_S132x4x64x128_S132x64x4x128_0_2_1_3) : Fl32 F S132x4x64x128 → Fl32 F S132x64x4x128),
    reshape main_v65 main_v66 (rfl : (.f32 : EltTy) = .f32) shapeCasts_S132x64x4x128_S8448x512,
    nullary main_cst_4 (constant S_ .f32 0x00000000#32),
    unary main_cst_4 main_v67 (broadcastInDim S2x4x128x128 ![] bcast_S_S2x4x128x128 : Fl32 F S_ → Fl32 F S2x4x128x128),
    reshape main_arg13 main_v68 (rfl : (.f32 : EltTy) = .f32) shapeCasts_S8448x512_S132x64x4x128,
    unary main_v68 main_v69 ((transpose S132x4x64x128 [0, 2, 1, 3] · transposes_S132x64x4x128_S132x4x64x128_0_2_1_3) : Fl32 F S132x64x4x128 → Fl32 F S132x4x64x128),
    unary main_v69 main_v70 ((extractStridedSlice S4x4x64x128 ![0, 0, 0, 0] · slices_S132x4x64x128_S4x4x64x128_0_0_0_0) : Fl32 F S132x4x64x128 → Fl32 F S4x4x64x128),
    unary main_v69 main_v71 ((extractStridedSlice S128x4x64x128 ![4, 0, 0, 0] · slices_S132x4x64x128_S128x4x64x128_4_0_0_0) : Fl32 F S132x4x64x128 → Fl32 F S128x4x64x128),
    TRef.unary (.of main_v71 : TRef sig ⟨S128x4x64x128, .f32⟩) (.of main_v72 : TRef sig ⟨S128x4x64x128, .f32⟩) (Host.reverse [0]),
    nullary main_cst_5 (constant S_ .f32 0x00000000#32),
    binary main_v72 main_cst_5 main_v73 ((fun x v => pad S132x4x64x128 ![4, 0, 0, 0] ![0, 0, 0, 0] ![0, 0, 0, 0] x v pads_S128x4x64x128_S132x4x64x128_400_000_000_000 h_S_) : Fl32 F S128x4x64x128 → Fl32 F S_ → Fl32 F S132x4x64x128),
    TRef.unary (.of main_v70 : TRef sig ⟨S4x4x64x128, .f32⟩) (.of main_v74 : TRef sig ⟨S4x4x64x128, .f32⟩) (Host.reverse [0]),
    nullary main_cst_6 (constant S_ .f32 0x00000000#32),
    binary main_v74 main_cst_6 main_v75 ((fun x v => pad S132x4x64x128 ![0, 0, 0, 0] ![128, 0, 0, 0] ![0, 0, 0, 0] x v pads_S4x4x64x128_S132x4x64x128_01280_000_000_000 h_S_) : Fl32 F S4x4x64x128 → Fl32 F S_ → Fl32 F S132x4x64x128),
    binary main_v73 main_v75 main_v76 (addf : Fl32 F S132x4x64x128 → Fl32 F S132x4x64x128 → Fl32 F S132x4x64x128),
    unary main_v76 main_v77 (broadcastInDim S132x1x4x64x128 ![0, 2, 3, 4] bcast_S132x4x64x128_S132x1x4x64x128_0_2_3_4 : Fl32 F S132x4x64x128 → Fl32 F S132x1x4x64x128),
    nullary main_cst_7 (constant S_ .f32 0x00000000#32),
    binary main_v77 main_cst_7 main_v78 ((fun x v => pad S132x2x4x64x128 ![0, 1, 0, 0, 0] ![0, 0, 0, 0, 0] ![0, 0, 0, 0, 0] x v pads_S132x1x4x64x128_S132x2x4x64x128_000_100_000_000_000 h_S_) : Fl32 F S132x1x4x64x128 → Fl32 F S_ → Fl32 F S132x2x4x64x128),
    reshape main_arg12 main_v79 (rfl : (.f32 : EltTy) = .f32) shapeCasts_S8448x512_S132x64x4x128,
    unary main_v79 main_v80 ((transpose S132x4x64x128 [0, 2, 1, 3] · transposes_S132x64x4x128_S132x4x64x128_0_2_1_3) : Fl32 F S132x64x4x128 → Fl32 F S132x4x64x128),
    unary main_v80 main_v81 (broadcastInDim S132x1x4x64x128 ![0, 2, 3, 4] bcast_S132x4x64x128_S132x1x4x64x128_0_2_3_4 : Fl32 F S132x4x64x128 → Fl32 F S132x1x4x64x128),
    nullary main_cst_8 (constant S_ .f32 0x00000000#32),
    binary main_v81 main_cst_8 main_v82 ((fun x v => pad S132x2x4x64x128 ![0, 0, 0, 0, 0] ![0, 1, 0, 0, 0] ![0, 0, 0, 0, 0] x v pads_S132x1x4x64x128_S132x2x4x64x128_000_010_000_000_000 h_S_) : Fl32 F S132x1x4x64x128 → Fl32 F S_ → Fl32 F S132x2x4x64x128),
    binary main_v78 main_v82 main_v83 (addf : Fl32 F S132x2x4x64x128 → Fl32 F S132x2x4x64x128 → Fl32 F S132x2x4x64x128),
    nullary main_cst_9 (constant S_ .f32 0x00000000#32),
    unary main_cst_9 main_v84 (broadcastInDim S2x4x128x128 ![] bcast_S_S2x4x128x128 : Fl32 F S_ → Fl32 F S2x4x128x128),
    nullary main_cst_10 (constant S_ .f32 0x00000000#32),
    unary main_cst_10 main_v85 (broadcastInDim S132x2x4x64x128 ![] bcast_S_S132x2x4x64x128 : Fl32 F S_ → Fl32 F S132x2x4x64x128),
    nullary main_cst_11 (constant S_ .f32 0x00000000#32),
    unary main_cst_11 main_v86 (broadcastInDim S132x2x4x64x128 ![] bcast_S_S132x2x4x64x128 : Fl32 F S_ → Fl32 F S132x2x4x64x128),
    nullary main_cst_12 (constant S_ .f32 0x00000000#32),
    unary main_cst_12 main_v87 (broadcastInDim S132x2x4x64x128 ![] bcast_S_S132x2x4x64x128 : Fl32 F S_ → Fl32 F S132x2x4x64x128),
    nullary main_cst_13 (constant S_ .f32 0x00000000#32),
    unary main_cst_13 main_v88 (broadcastInDim S132x2x4x1x128 ![] bcast_S_S132x2x4x1x128 : Fl32 F S_ → Fl32 F S132x2x4x1x128),
    nullary main_cst_14 (constant S_ .f32 0x00000000#32),
    unary main_cst_14 main_v89 (broadcastInDim S132x2x4x64x128 ![] bcast_S_S132x2x4x64x128 : Fl32 F S_ → Fl32 F S132x2x4x64x128),
    nullary main_cst_15 (constant S_ .f32 0x00000000#32) ]
theorem ops1b_sub : (ops1b : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., unary_bufs_sub .., unary_bufs_sub .., unary_bufs_sub .., binary_bufs_sub .., unary_bufs_sub .., reshape_bufs_sub .., nullary_bufs_sub .., unary_bufs_sub .., reshape_bufs_sub .., unary_bufs_sub .., unary_bufs_sub .., unary_bufs_sub .., unary_bufs_sub .., nullary_bufs_sub .., binary_bufs_sub .., unary_bufs_sub .., nullary_bufs_sub .., binary_bufs_sub .., binary_bufs_sub .., unary_bufs_sub .., nullary_bufs_sub .., binary_bufs_sub .., reshape_bufs_sub .., unary_bufs_sub .., unary_bufs_sub .., nullary_bufs_sub .., binary_bufs_sub .., binary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub ..⟩
theorem ops1b_fresh : ∀ op ∈ (ops1b : List (HloOp τ sig (Elt F))), op.fresh = ∅ := by
  rw [← List.forall_iff_forall_mem]; simp only [List.Forall]; repeat' constructor

/-- Up to the second loop. -/
abbrev ops2a : List (HloOp τ sig (Elt F)) :=
  [ unary main_cst_15 main_v90 (broadcastInDim S132x2x4x64x64 ![] bcast_S_S132x2x4x64x64 : Fl32 F S_ → Fl32 F S132x2x4x64x64),
    nullary main_c_16 (constantI S_ 32 0#32),
    unary main_v83 main_v91_0 id,
    unary main_v53_9 main_v91_1 id,
    unary main_v16 main_v91_2 id,
    unary main_v53_10 main_v91_3 id,
    unary main_v53_11 main_v91_4 id,
    unary main_v24 main_v91_5 id,
    unary main_v40 main_v91_6 id,
    unary main_v48 main_v91_7 id,
    unary main_c_16 main_v91_8 id,
    unary main_v84 main_v91_9 id,
    unary main_v85 main_v91_10 id,
    unary main_v86 main_v91_11 id,
    unary main_v87 main_v91_12 id,
    unary main_v88 main_v91_13 id,
    unary main_v89 main_v91_14 id,
    unary main_v90 main_v91_15 id ]
theorem ops2a_sub : (ops2a : List (HloOp τ sig (Elt F))).Forall fun op => op.bufs ⊆ tcRefs τ sig :=
  ⟨unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops2a_fresh : ∀ op ∈ (ops2a : List (HloOp τ sig (Elt F))), op.fresh = ∅ := by
  rw [← List.forall_iff_forall_mem]; simp only [List.Forall]; repeat' constructor

/-- From the second loop on. -/
abbrev ops2b : List (HloOp τ sig (Elt F)) :=
  [ unary main_v91_15 main_v92 ((extractStridedSlice S132x1x4x64x64 ![0, 0, 0, 0, 0] · slices_S132x2x4x64x64_S132x1x4x64x64_0_0_0_0_0) : Fl32 F S132x2x4x64x64 → Fl32 F S132x1x4x64x64),
    reshape main_v92 main_v93 (rfl : (.f32 : EltTy) = .f32) shapeCasts_S132x1x4x64x64_S132x4x64x64,
    unary main_v91_15 main_v94 ((extractStridedSlice S132x1x4x64x64 ![0, 1, 0, 0, 0] · slices_S132x2x4x64x64_S132x1x4x64x64_0_1_0_0_0) : Fl32 F S132x2x4x64x64 → Fl32 F S132x1x4x64x64),
    reshape main_v94 main_v95 (rfl : (.f32 : EltTy) = .f32) shapeCasts_S132x1x4x64x64_S132x4x64x64,
    unary main_v95 main_v96 ((extractStridedSlice S4x4x64x64 ![0, 0, 0, 0] · slices_S132x4x64x64_S4x4x64x64_0_0_0_0) : Fl32 F S132x4x64x64 → Fl32 F S4x4x64x64),
    unary main_v95 main_v97 ((extractStridedSlice S128x4x64x64 ![4, 0, 0, 0] · slices_S132x4x64x64_S128x4x64x64_4_0_0_0) : Fl32 F S132x4x64x64 → Fl32 F S128x4x64x64),
    TRef.unary (.of main_v97 : TRef sig ⟨S128x4x64x64, .f32⟩) (.of main_v98 : TRef sig ⟨S128x4x64x64, .f32⟩) (Host.reverse [0]),
    nullary main_cst_17 (constant S_ .f32 0x00000000#32),
    binary main_v98 main_cst_17 main_v99 ((fun x v => pad S132x4x64x64 ![4, 0, 0, 0] ![0, 0, 0, 0] ![0, 0, 0, 0] x v pads_S128x4x64x64_S132x4x64x64_400_000_000_000 h_S_) : Fl32 F S128x4x64x64 → Fl32 F S_ → Fl32 F S132x4x64x64),
    TRef.unary (.of main_v96 : TRef sig ⟨S4x4x64x64, .f32⟩) (.of main_v100 : TRef sig ⟨S4x4x64x64, .f32⟩) (Host.reverse [0]),
    nullary main_cst_18 (constant S_ .f32 0x00000000#32),
    binary main_v100 main_cst_18 main_v101 ((fun x v => pad S132x4x64x64 ![0, 0, 0, 0] ![128, 0, 0, 0] ![0, 0, 0, 0] x v pads_S4x4x64x64_S132x4x64x64_01280_000_000_000 h_S_) : Fl32 F S4x4x64x64 → Fl32 F S_ → Fl32 F S132x4x64x64),
    binary main_v99 main_v101 main_v102 (addf : Fl32 F S132x4x64x64 → Fl32 F S132x4x64x64 → Fl32 F S132x4x64x64),
    unary main_v91_14 main_v103 ((extractStridedSlice S132x1x4x64x128 ![0, 0, 0, 0, 0] · slices_S132x2x4x64x128_S132x1x4x64x128_0_0_0_0_0) : Fl32 F S132x2x4x64x128 → Fl32 F S132x1x4x64x128),
    reshape main_v103 main_v104 (rfl : (.f32 : EltTy) = .f32) shapeCasts_S132x1x4x64x128_S132x4x64x128,
    unary main_v91_14 main_v105 ((extractStridedSlice S132x1x4x64x128 ![0, 1, 0, 0, 0] · slices_S132x2x4x64x128_S132x1x4x64x128_0_1_0_0_0) : Fl32 F S132x2x4x64x128 → Fl32 F S132x1x4x64x128),
    reshape main_v105 main_v106 (rfl : (.f32 : EltTy) = .f32) shapeCasts_S132x1x4x64x128_S132x4x64x128,
    unary main_v106 main_v107 ((extractStridedSlice S4x4x64x128 ![0, 0, 0, 0] · slices_S132x4x64x128_S4x4x64x128_0_0_0_0) : Fl32 F S132x4x64x128 → Fl32 F S4x4x64x128),
    unary main_v106 main_v108 ((extractStridedSlice S128x4x64x128 ![4, 0, 0, 0] · slices_S132x4x64x128_S128x4x64x128_4_0_0_0) : Fl32 F S132x4x64x128 → Fl32 F S128x4x64x128),
    TRef.unary (.of main_v108 : TRef sig ⟨S128x4x64x128, .f32⟩) (.of main_v109 : TRef sig ⟨S128x4x64x128, .f32⟩) (Host.reverse [0]),
    nullary main_cst_19 (constant S_ .f32 0x00000000#32),
    binary main_v109 main_cst_19 main_v110 ((fun x v => pad S132x4x64x128 ![4, 0, 0, 0] ![0, 0, 0, 0] ![0, 0, 0, 0] x v pads_S128x4x64x128_S132x4x64x128_400_000_000_000 h_S_) : Fl32 F S128x4x64x128 → Fl32 F S_ → Fl32 F S132x4x64x128),
    TRef.unary (.of main_v107 : TRef sig ⟨S4x4x64x128, .f32⟩) (.of main_v111 : TRef sig ⟨S4x4x64x128, .f32⟩) (Host.reverse [0]),
    nullary main_cst_20 (constant S_ .f32 0x00000000#32),
    binary main_v111 main_cst_20 main_v112 ((fun x v => pad S132x4x64x128 ![0, 0, 0, 0] ![128, 0, 0, 0] ![0, 0, 0, 0] x v pads_S4x4x64x128_S132x4x64x128_01280_000_000_000 h_S_) : Fl32 F S4x4x64x128 → Fl32 F S_ → Fl32 F S132x4x64x128),
    binary main_v110 main_v112 main_v113 (addf : Fl32 F S132x4x64x128 → Fl32 F S132x4x64x128 → Fl32 F S132x4x64x128),
    unary main_v91_13 main_v114 ((extractStridedSlice S132x1x4x1x128 ![0, 0, 0, 0, 0] · slices_S132x2x4x1x128_S132x1x4x1x128_0_0_0_0_0) : Fl32 F S132x2x4x1x128 → Fl32 F S132x1x4x1x128),
    reshape main_v114 main_v115 (rfl : (.f32 : EltTy) = .f32) shapeCasts_S132x1x4x1x128_S132x4x1x128,
    unary main_v91_13 main_v116 ((extractStridedSlice S132x1x4x1x128 ![0, 1, 0, 0, 0] · slices_S132x2x4x1x128_S132x1x4x1x128_0_1_0_0_0) : Fl32 F S132x2x4x1x128 → Fl32 F S132x1x4x1x128),
    reshape main_v116 main_v117 (rfl : (.f32 : EltTy) = .f32) shapeCasts_S132x1x4x1x128_S132x4x1x128,
    unary main_v117 main_v118 ((extractStridedSlice S4x4x1x128 ![0, 0, 0, 0] · slices_S132x4x1x128_S4x4x1x128_0_0_0_0) : Fl32 F S132x4x1x128 → Fl32 F S4x4x1x128),
    unary main_v117 main_v119 ((extractStridedSlice S128x4x1x128 ![4, 0, 0, 0] · slices_S132x4x1x128_S128x4x1x128_4_0_0_0) : Fl32 F S132x4x1x128 → Fl32 F S128x4x1x128),
    TRef.unary (.of main_v119 : TRef sig ⟨S128x4x1x128, .f32⟩) (.of main_v120 : TRef sig ⟨S128x4x1x128, .f32⟩) (Host.reverse [0]),
    nullary main_cst_21 (constant S_ .f32 0x00000000#32),
    binary main_v120 main_cst_21 main_v121 ((fun x v => pad S132x4x1x128 ![4, 0, 0, 0] ![0, 0, 0, 0] ![0, 0, 0, 0] x v pads_S128x4x1x128_S132x4x1x128_400_000_000_000 h_S_) : Fl32 F S128x4x1x128 → Fl32 F S_ → Fl32 F S132x4x1x128),
    TRef.unary (.of main_v118 : TRef sig ⟨S4x4x1x128, .f32⟩) (.of main_v122 : TRef sig ⟨S4x4x1x128, .f32⟩) (Host.reverse [0]),
    nullary main_cst_22 (constant S_ .f32 0x00000000#32),
    binary main_v122 main_cst_22 main_v123 ((fun x v => pad S132x4x1x128 ![0, 0, 0, 0] ![128, 0, 0, 0] ![0, 0, 0, 0] x v pads_S4x4x1x128_S132x4x1x128_01280_000_000_000 h_S_) : Fl32 F S4x4x1x128 → Fl32 F S_ → Fl32 F S132x4x1x128),
    binary main_v121 main_v123 main_v124 (addf : Fl32 F S132x4x1x128 → Fl32 F S132x4x1x128 → Fl32 F S132x4x1x128),
    unary main_v91_12 main_v125 ((extractStridedSlice S132x1x4x64x128 ![0, 0, 0, 0, 0] · slices_S132x2x4x64x128_S132x1x4x64x128_0_0_0_0_0) : Fl32 F S132x2x4x64x128 → Fl32 F S132x1x4x64x128),
    reshape main_v125 main_v126 (rfl : (.f32 : EltTy) = .f32) shapeCasts_S132x1x4x64x128_S132x4x64x128 ]
theorem ops2b_sub : (ops2b : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., nullary_bufs_sub .., binary_bufs_sub .., unary_bufs_sub .., nullary_bufs_sub .., binary_bufs_sub .., binary_bufs_sub .., unary_bufs_sub .., reshape_bufs_sub .., unary_bufs_sub .., reshape_bufs_sub .., unary_bufs_sub .., unary_bufs_sub .., unary_bufs_sub .., nullary_bufs_sub .., binary_bufs_sub .., unary_bufs_sub .., nullary_bufs_sub .., binary_bufs_sub .., binary_bufs_sub .., unary_bufs_sub .., reshape_bufs_sub .., unary_bufs_sub .., reshape_bufs_sub .., unary_bufs_sub .., unary_bufs_sub .., unary_bufs_sub .., nullary_bufs_sub .., binary_bufs_sub .., unary_bufs_sub .., nullary_bufs_sub .., binary_bufs_sub .., binary_bufs_sub .., unary_bufs_sub .., reshape_bufs_sub ..⟩
theorem ops2b_fresh : ∀ op ∈ (ops2b : List (HloOp τ sig (Elt F))), op.fresh = ∅ := by
  rw [← List.forall_iff_forall_mem]; simp only [List.Forall]; repeat' constructor

/-- The last operations of @main. -/
abbrev ops3 : List (HloOp τ sig (Elt F)) :=
  [ unary main_v91_12 main_v127 ((extractStridedSlice S132x1x4x64x128 ![0, 1, 0, 0, 0] · slices_S132x2x4x64x128_S132x1x4x64x128_0_1_0_0_0) : Fl32 F S132x2x4x64x128 → Fl32 F S132x1x4x64x128),
    reshape main_v127 main_v128 (rfl : (.f32 : EltTy) = .f32) shapeCasts_S132x1x4x64x128_S132x4x64x128,
    unary main_v128 main_v129 ((extractStridedSlice S4x4x64x128 ![0, 0, 0, 0] · slices_S132x4x64x128_S4x4x64x128_0_0_0_0) : Fl32 F S132x4x64x128 → Fl32 F S4x4x64x128),
    unary main_v128 main_v130 ((extractStridedSlice S128x4x64x128 ![4, 0, 0, 0] · slices_S132x4x64x128_S128x4x64x128_4_0_0_0) : Fl32 F S132x4x64x128 → Fl32 F S128x4x64x128),
    TRef.unary (.of main_v130 : TRef sig ⟨S128x4x64x128, .f32⟩) (.of main_v131 : TRef sig ⟨S128x4x64x128, .f32⟩) (Host.reverse [0]),
    nullary main_cst_23 (constant S_ .f32 0x00000000#32),
    binary main_v131 main_cst_23 main_v132 ((fun x v => pad S132x4x64x128 ![4, 0, 0, 0] ![0, 0, 0, 0] ![0, 0, 0, 0] x v pads_S128x4x64x128_S132x4x64x128_400_000_000_000 h_S_) : Fl32 F S128x4x64x128 → Fl32 F S_ → Fl32 F S132x4x64x128),
    TRef.unary (.of main_v129 : TRef sig ⟨S4x4x64x128, .f32⟩) (.of main_v133 : TRef sig ⟨S4x4x64x128, .f32⟩) (Host.reverse [0]),
    nullary main_cst_24 (constant S_ .f32 0x00000000#32),
    binary main_v133 main_cst_24 main_v134 ((fun x v => pad S132x4x64x128 ![0, 0, 0, 0] ![128, 0, 0, 0] ![0, 0, 0, 0] x v pads_S4x4x64x128_S132x4x64x128_01280_000_000_000 h_S_) : Fl32 F S4x4x64x128 → Fl32 F S_ → Fl32 F S132x4x64x128),
    binary main_v132 main_v134 main_v135 (addf : Fl32 F S132x4x64x128 → Fl32 F S132x4x64x128 → Fl32 F S132x4x64x128),
    unary main_v91_11 main_v136 ((extractStridedSlice S132x1x4x64x128 ![0, 0, 0, 0, 0] · slices_S132x2x4x64x128_S132x1x4x64x128_0_0_0_0_0) : Fl32 F S132x2x4x64x128 → Fl32 F S132x1x4x64x128),
    reshape main_v136 main_v137 (rfl : (.f32 : EltTy) = .f32) shapeCasts_S132x1x4x64x128_S132x4x64x128,
    unary main_v91_11 main_v138 ((extractStridedSlice S132x1x4x64x128 ![0, 1, 0, 0, 0] · slices_S132x2x4x64x128_S132x1x4x64x128_0_1_0_0_0) : Fl32 F S132x2x4x64x128 → Fl32 F S132x1x4x64x128),
    reshape main_v138 main_v139 (rfl : (.f32 : EltTy) = .f32) shapeCasts_S132x1x4x64x128_S132x4x64x128,
    unary main_v139 main_v140 ((extractStridedSlice S4x4x64x128 ![0, 0, 0, 0] · slices_S132x4x64x128_S4x4x64x128_0_0_0_0) : Fl32 F S132x4x64x128 → Fl32 F S4x4x64x128),
    unary main_v139 main_v141 ((extractStridedSlice S128x4x64x128 ![4, 0, 0, 0] · slices_S132x4x64x128_S128x4x64x128_4_0_0_0) : Fl32 F S132x4x64x128 → Fl32 F S128x4x64x128),
    TRef.unary (.of main_v141 : TRef sig ⟨S128x4x64x128, .f32⟩) (.of main_v142 : TRef sig ⟨S128x4x64x128, .f32⟩) (Host.reverse [0]),
    nullary main_cst_25 (constant S_ .f32 0x00000000#32),
    binary main_v142 main_cst_25 main_v143 ((fun x v => pad S132x4x64x128 ![4, 0, 0, 0] ![0, 0, 0, 0] ![0, 0, 0, 0] x v pads_S128x4x64x128_S132x4x64x128_400_000_000_000 h_S_) : Fl32 F S128x4x64x128 → Fl32 F S_ → Fl32 F S132x4x64x128),
    TRef.unary (.of main_v140 : TRef sig ⟨S4x4x64x128, .f32⟩) (.of main_v144 : TRef sig ⟨S4x4x64x128, .f32⟩) (Host.reverse [0]),
    nullary main_cst_26 (constant S_ .f32 0x00000000#32),
    binary main_v144 main_cst_26 main_v145 ((fun x v => pad S132x4x64x128 ![0, 0, 0, 0] ![128, 0, 0, 0] ![0, 0, 0, 0] x v pads_S4x4x64x128_S132x4x64x128_01280_000_000_000 h_S_) : Fl32 F S4x4x64x128 → Fl32 F S_ → Fl32 F S132x4x64x128),
    binary main_v143 main_v145 main_v146 (addf : Fl32 F S132x4x64x128 → Fl32 F S132x4x64x128 → Fl32 F S132x4x64x128),
    unary main_v91_10 main_v147 ((extractStridedSlice S132x1x4x64x128 ![0, 0, 0, 0, 0] · slices_S132x2x4x64x128_S132x1x4x64x128_0_0_0_0_0) : Fl32 F S132x2x4x64x128 → Fl32 F S132x1x4x64x128),
    reshape main_v147 main_v148 (rfl : (.f32 : EltTy) = .f32) shapeCasts_S132x1x4x64x128_S132x4x64x128,
    unary main_v91_10 main_v149 ((extractStridedSlice S132x1x4x64x128 ![0, 1, 0, 0, 0] · slices_S132x2x4x64x128_S132x1x4x64x128_0_1_0_0_0) : Fl32 F S132x2x4x64x128 → Fl32 F S132x1x4x64x128),
    reshape main_v149 main_v150 (rfl : (.f32 : EltTy) = .f32) shapeCasts_S132x1x4x64x128_S132x4x64x128,
    unary main_v150 main_v151 ((extractStridedSlice S4x4x64x128 ![0, 0, 0, 0] · slices_S132x4x64x128_S4x4x64x128_0_0_0_0) : Fl32 F S132x4x64x128 → Fl32 F S4x4x64x128),
    unary main_v150 main_v152 ((extractStridedSlice S128x4x64x128 ![4, 0, 0, 0] · slices_S132x4x64x128_S128x4x64x128_4_0_0_0) : Fl32 F S132x4x64x128 → Fl32 F S128x4x64x128),
    TRef.unary (.of main_v152 : TRef sig ⟨S128x4x64x128, .f32⟩) (.of main_v153 : TRef sig ⟨S128x4x64x128, .f32⟩) (Host.reverse [0]),
    nullary main_cst_27 (constant S_ .f32 0x00000000#32),
    binary main_v153 main_cst_27 main_v154 ((fun x v => pad S132x4x64x128 ![4, 0, 0, 0] ![0, 0, 0, 0] ![0, 0, 0, 0] x v pads_S128x4x64x128_S132x4x64x128_400_000_000_000 h_S_) : Fl32 F S128x4x64x128 → Fl32 F S_ → Fl32 F S132x4x64x128),
    TRef.unary (.of main_v151 : TRef sig ⟨S4x4x64x128, .f32⟩) (.of main_v155 : TRef sig ⟨S4x4x64x128, .f32⟩) (Host.reverse [0]),
    nullary main_cst_28 (constant S_ .f32 0x00000000#32),
    binary main_v155 main_cst_28 main_v156 ((fun x v => pad S132x4x64x128 ![0, 0, 0, 0] ![128, 0, 0, 0] ![0, 0, 0, 0] x v pads_S4x4x64x128_S132x4x64x128_01280_000_000_000 h_S_) : Fl32 F S4x4x64x128 → Fl32 F S_ → Fl32 F S132x4x64x128),
    binary main_v154 main_v156 main_v157 (addf : Fl32 F S132x4x64x128 → Fl32 F S132x4x64x128 → Fl32 F S132x4x64x128) ]
theorem ops3_sub : (ops3 : List (HloOp τ sig (Elt F))).Forall fun op => op.bufs ⊆ tcRefs τ sig :=
  ⟨unary_bufs_sub .., reshape_bufs_sub .., unary_bufs_sub .., unary_bufs_sub .., unary_bufs_sub .., nullary_bufs_sub .., binary_bufs_sub .., unary_bufs_sub .., nullary_bufs_sub .., binary_bufs_sub .., binary_bufs_sub .., unary_bufs_sub .., reshape_bufs_sub .., unary_bufs_sub .., reshape_bufs_sub .., unary_bufs_sub .., unary_bufs_sub .., unary_bufs_sub .., nullary_bufs_sub .., binary_bufs_sub .., unary_bufs_sub .., nullary_bufs_sub .., binary_bufs_sub .., binary_bufs_sub .., unary_bufs_sub .., reshape_bufs_sub .., unary_bufs_sub .., reshape_bufs_sub .., unary_bufs_sub .., unary_bufs_sub .., unary_bufs_sub .., nullary_bufs_sub .., binary_bufs_sub .., unary_bufs_sub .., nullary_bufs_sub .., binary_bufs_sub .., binary_bufs_sub ..⟩
theorem ops3_fresh : ∀ op ∈ (ops3 : List (HloOp τ sig (Elt F))), op.fresh = ∅ := by
  rw [← List.forall_iff_forall_mem]; simp only [List.Forall]; repeat' constructor

/-- The first loop's body. -/
abbrev body0 : List (HloOp τ sig (Elt F)) :=
  [ TRef.nullary (.of main_while0b_call12_c : TRef sig ⟨S_, .i32⟩) (constantI S_ 32 0#32),
    TRef.nullary (.of main_while0b_call12_c_0 : TRef sig ⟨S_, .i32⟩) (constantI S_ 32 0#32),
    TRef.nullary (.of main_while0b_call12_c_1 : TRef sig ⟨S_, .i32⟩) (constantI S_ 32 0#32),
    TRef.nullary (.of main_while0b_call12_c_2 : TRef sig ⟨S_, .i32⟩) (constantI S_ 32 0#32),
    TRef.unaryIndexed (.of main_v53_0 : TRef sig ⟨S132x2x4x64x128, .f32⟩) ![(.of main_v53_6 : TRef sig ⟨S_, .i32⟩), (.of main_while0b_call12_c : TRef sig ⟨S_, .i32⟩), (.of main_while0b_call12_c_0 : TRef sig ⟨S_, .i32⟩), (.of main_while0b_call12_c_1 : TRef sig ⟨S_, .i32⟩), (.of main_while0b_call12_c_2 : TRef sig ⟨S_, .i32⟩)] (.of main_while0b_call12_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while0b_call12_v0 : TRef sig ⟨S1x2x4x64x128, .f32⟩) (.of main_while0b_v158 : TRef sig ⟨S2x4x64x128, .f32⟩) (rfl : (.f32 : EltTy) = .f32) shapeCasts_S1x2x4x64x128_S2x4x64x128,
    TRef.nullary (.of main_while0b_call13_c : TRef sig ⟨S_, .i32⟩) (constantI S_ 32 0#32),
    TRef.nullary (.of main_while0b_call13_c_0 : TRef sig ⟨S_, .i32⟩) (constantI S_ 32 0#32),
    TRef.nullary (.of main_while0b_call13_c_1 : TRef sig ⟨S_, .i32⟩) (constantI S_ 32 0#32),
    TRef.nullary (.of main_while0b_call13_c_2 : TRef sig ⟨S_, .i32⟩) (constantI S_ 32 0#32),
    TRef.unaryIndexed (.of main_v53_1 : TRef sig ⟨S132x2x4x64x128, .f32⟩) ![(.of main_v53_6 : TRef sig ⟨S_, .i32⟩), (.of main_while0b_call13_c : TRef sig ⟨S_, .i32⟩), (.of main_while0b_call13_c_0 : TRef sig ⟨S_, .i32⟩), (.of main_while0b_call13_c_1 : TRef sig ⟨S_, .i32⟩), (.of main_while0b_call13_c_2 : TRef sig ⟨S_, .i32⟩)] (.of main_while0b_call13_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while0b_call13_v0 : TRef sig ⟨S1x2x4x64x128, .f32⟩) (.of main_while0b_v159 : TRef sig ⟨S2x4x64x128, .f32⟩) (rfl : (.f32 : EltTy) = .f32) shapeCasts_S1x2x4x64x128_S2x4x64x128,
    TRef.nullary (.of main_while0b_call14_c : TRef sig ⟨S_, .i32⟩) (constantI S_ 32 0#32),
    TRef.nullary (.of main_while0b_call14_c_0 : TRef sig ⟨S_, .i32⟩) (constantI S_ 32 0#32),
    TRef.nullary (.of main_while0b_call14_c_1 : TRef sig ⟨S_, .i32⟩) (constantI S_ 32 0#32),
    TRef.nullary (.of main_while0b_call14_c_2 : TRef sig ⟨S_, .i32⟩) (constantI S_ 32 0#32),
    TRef.unaryIndexed (.of main_v53_2 : TRef sig ⟨S132x2x4x64x128, .f32⟩) ![(.of main_v53_6 : TRef sig ⟨S_, .i32⟩), (.of main_while0b_call14_c : TRef sig ⟨S_, .i32⟩), (.of main_while0b_call14_c_0 : TRef sig ⟨S_, .i32⟩), (.of main_while0b_call14_c_1 : TRef sig ⟨S_, .i32⟩), (.of main_while0b_call14_c_2 : TRef sig ⟨S_, .i32⟩)] (.of main_while0b_call14_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while0b_call14_v0 : TRef sig ⟨S1x2x4x64x128, .f32⟩) (.of main_while0b_v160 : TRef sig ⟨S2x4x64x128, .f32⟩) (rfl : (.f32 : EltTy) = .f32) shapeCasts_S1x2x4x64x128_S2x4x64x128,
    TRef.nullary (.of main_while0b_call15_c : TRef sig ⟨S_, .i32⟩) (constantI S_ 32 0#32),
    TRef.nullary (.of main_while0b_call15_c_0 : TRef sig ⟨S_, .i32⟩) (constantI S_ 32 0#32),
    TRef.nullary (.of main_while0b_call15_c_1 : TRef sig ⟨S_, .i32⟩) (constantI S_ 32 0#32),
    TRef.nullary (.of main_while0b_call15_c_2 : TRef sig ⟨S_, .i32⟩) (constantI S_ 32 0#32),
    TRef.unaryIndexed (.of main_v53_3 : TRef sig ⟨S132x2x4x1x128, .f32⟩) ![(.of main_v53_6 : TRef sig ⟨S_, .i32⟩), (.of main_while0b_call15_c : TRef sig ⟨S_, .i32⟩), (.of main_while0b_call15_c_0 : TRef sig ⟨S_, .i32⟩), (.of main_while0b_call15_c_1 : TRef sig ⟨S_, .i32⟩), (.of main_while0b_call15_c_2 : TRef sig ⟨S_, .i32⟩)] (.of main_while0b_call15_v0 : TRef sig ⟨S1x2x4x1x128, .f32⟩) (fun x i => Host.dynamicSlice S1x2x4x1x128 x (fun k => (i k (Shape.Idx.first h_S_)).toInt) sliceFits_S132x2x4x1x128_S1x2x4x1x128),
    TRef.reshape (.of main_while0b_call15_v0 : TRef sig ⟨S1x2x4x1x128, .f32⟩) (.of main_while0b_v161 : TRef sig ⟨S2x4x1x128, .f32⟩) (rfl : (.f32 : EltTy) = .f32) shapeCasts_S1x2x4x1x128_S2x4x1x128,
    TRef.nullary (.of main_while0b_call16_c : TRef sig ⟨S_, .i32⟩) (constantI S_ 32 0#32),
    TRef.nullary (.of main_while0b_call16_c_0 : TRef sig ⟨S_, .i32⟩) (constantI S_ 32 0#32),
    TRef.nullary (.of main_while0b_call16_c_1 : TRef sig ⟨S_, .i32⟩) (constantI S_ 32 0#32),
    TRef.nullary (.of main_while0b_call16_c_2 : TRef sig ⟨S_, .i32⟩) (constantI S_ 32 0#32),
    TRef.unaryIndexed (.of main_v53_4 : TRef sig ⟨S132x2x4x64x128, .f32⟩) ![(.of main_v53_6 : TRef sig ⟨S_, .i32⟩), (.of main_while0b_call16_c : TRef sig ⟨S_, .i32⟩), (.of main_while0b_call16_c_0 : TRef sig ⟨S_, .i32⟩), (.of main_while0b_call16_c_1 : TRef sig ⟨S_, .i32⟩), (.of main_while0b_call16_c_2 : TRef sig ⟨S_, .i32⟩)] (.of main_while0b_call16_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while0b_call16_v0 : TRef sig ⟨S1x2x4x64x128, .f32⟩) (.of main_while0b_v162 : TRef sig ⟨S2x4x64x128, .f32⟩) (rfl : (.f32 : EltTy) = .f32) shapeCasts_S1x2x4x64x128_S2x4x64x128,
    TRef.nullary (.of main_while0b_call17_c : TRef sig ⟨S_, .i32⟩) (constantI S_ 32 0#32),
    TRef.nullary (.of main_while0b_call17_c_0 : TRef sig ⟨S_, .i32⟩) (constantI S_ 32 0#32),
    TRef.nullary (.of main_while0b_call17_c_1 : TRef sig ⟨S_, .i32⟩) (constantI S_ 32 0#32),
    TRef.nullary (.of main_while0b_call17_c_2 : TRef sig ⟨S_, .i32⟩) (constantI S_ 32 0#32),
    TRef.unaryIndexed (.of main_v53_5 : TRef sig ⟨S132x2x4x64x64, .f32⟩) ![(.of main_v53_6 : TRef sig ⟨S_, .i32⟩), (.of main_while0b_call17_c : TRef sig ⟨S_, .i32⟩), (.of main_while0b_call17_c_0 : TRef sig ⟨S_, .i32⟩), (.of main_while0b_call17_c_1 : TRef sig ⟨S_, .i32⟩), (.of main_while0b_call17_c_2 : TRef sig ⟨S_, .i32⟩)] (.of main_while0b_call17_v0 : TRef sig ⟨S1x2x4x64x64, .f32⟩) (fun x i => Host.dynamicSlice S1x2x4x64x64 x (fun k => (i k (Shape.Idx.first h_S_)).toInt) sliceFits_S132x2x4x64x64_S1x2x4x64x64),
    TRef.reshape (.of main_while0b_call17_v0 : TRef sig ⟨S1x2x4x64x64, .f32⟩) (.of main_while0b_v163 : TRef sig ⟨S2x4x64x64, .f32⟩) (rfl : (.f32 : EltTy) = .f32) shapeCasts_S1x2x4x64x64_S2x4x64x64,
    binary main_while0b_v159 main_v53_7 main_while0b_v164 ((fun l r => Host.dotGeneral dot_S2x4x64x128_S2x4x128x128_S2x4x64x128_3_2_2_3_01_01 none l r) : Fl32 F S2x4x64x128 → Fl32 F S2x4x128x128 → Fl32 F S2x4x64x128),
    binary main_while0b_v158 main_while0b_v164 main_while0b_v165 (subf : Fl32 F S2x4x64x128 → Fl32 F S2x4x64x128 → Fl32 F S2x4x64x128),
    unary main_while0b_v161 main_while0b_v166 ((extractStridedSlice S2x4x1x1 ![0, 0, 0, 0] · slices_S2x4x1x128_S2x4x1x1_0_0_0_0) : Fl32 F S2x4x1x128 → Fl32 F S2x4x1x1),
    unary main_while0b_v166 main_while0b_v167 (broadcastInDim S2x4x128x128 ![0, 1, 2, 3] bcast_S2x4x1x1_S2x4x128x128_0_1_2_3 : Fl32 F S2x4x1x1 → Fl32 F S2x4x128x128),
    binary main_v53_7 main_while0b_v167 main_while0b_v168 (mulf : Fl32 F S2x4x128x128 → Fl32 F S2x4x128x128 → Fl32 F S2x4x128x128),
    binary main_while0b_v160 main_while0b_v165 main_while0b_v169 ((fun l r => Host.dotGeneral dot_S2x4x64x128_S2x4x64x128_S2x4x128x128_2_2_3_3_01_01 none l r) : Fl32 F S2x4x64x128 → Fl32 F S2x4x64x128 → Fl32 F S2x4x128x128),
    binary main_while0b_v168 main_while0b_v169 main_while0b_v170 (addf : Fl32 F S2x4x128x128 → Fl32 F S2x4x128x128 → Fl32 F S2x4x128x128),
    binary main_while0b_v162 main_v53_7 main_while0b_v171 ((fun l r => Host.dotGeneral dot_S2x4x64x128_S2x4x128x128_S2x4x64x128_3_2_2_3_01_01 none l r) : Fl32 F S2x4x64x128 → Fl32 F S2x4x128x128 → Fl32 F S2x4x64x128),
    binary main_while0b_v163 main_while0b_v165 main_while0b_v172 ((fun l r => Host.dotGeneral dot_S2x4x64x64_S2x4x64x128_S2x4x64x128_3_2_2_3_01_01 none l r) : Fl32 F S2x4x64x64 → Fl32 F S2x4x64x128 → Fl32 F S2x4x64x128),
    binary main_while0b_v171 main_while0b_v172 main_while0b_v173 (addf : Fl32 F S2x4x64x128 → Fl32 F S2x4x64x128 → Fl32 F S2x4x64x128),
    TRef.unary (.of main_while0b_v173 : TRef sig ⟨S2x4x64x128, .f32⟩) (.of main_while0b_call18_v0 : TRef sig ⟨S1x2x4x64x128, .f32⟩) (broadcastInDim S1x2x4x64x128 ![1, 2, 3, 4] bcast_S2x4x64x128_S1x2x4x64x128_1_2_3_4),
    TRef.nullary (.of main_while0b_call18_c : TRef sig ⟨S_, .i32⟩) (constantI S_ 32 0#32),
    TRef.nullary (.of main_while0b_call18_c_0 : TRef sig ⟨S_, .i32⟩) (constantI S_ 32 0#32),
    TRef.nullary (.of main_while0b_call18_c_1 : TRef sig ⟨S_, .i32⟩) (constantI S_ 32 0#32),
    TRef.nullary (.of main_while0b_call18_c_2 : TRef sig ⟨S_, .i32⟩) (constantI S_ 32 0#32),
    TRef.binaryIndexed (.of main_v53_8 : TRef sig ⟨S132x2x4x64x128, .f32⟩) (.of main_while0b_call18_v0 : TRef sig ⟨S1x2x4x64x128, .f32⟩) ![(.of main_v53_6 : TRef sig ⟨S_, .i32⟩), (.of main_while0b_call18_c : TRef sig ⟨S_, .i32⟩), (.of main_while0b_call18_c_0 : TRef sig ⟨S_, .i32⟩), (.of main_while0b_call18_c_1 : TRef sig ⟨S_, .i32⟩), (.of main_while0b_call18_c_2 : TRef sig ⟨S_, .i32⟩)] (.of main_while0b_v174 : TRef sig ⟨S132x2x4x64x128, .f32⟩) (fun x u i => Host.dynamicUpdateSlice x u (fun k => (i k (Shape.Idx.first h_S_)).toInt) updateFits_S132x2x4x64x128_S1x2x4x64x128),
    TRef.unary (.of main_v53_7 : TRef sig ⟨S2x4x128x128, .f32⟩) (.of main_while0b_call19_v0 : TRef sig ⟨S1x2x4x128x128, .f32⟩) (broadcastInDim S1x2x4x128x128 ![1, 2, 3, 4] bcast_S2x4x128x128_S1x2x4x128x128_1_2_3_4),
    TRef.nullary (.of main_while0b_call19_c : TRef sig ⟨S_, .i32⟩) (constantI S_ 32 0#32),
    TRef.nullary (.of main_while0b_call19_c_0 : TRef sig ⟨S_, .i32⟩) (constantI S_ 32 0#32),
    TRef.nullary (.of main_while0b_call19_c_1 : TRef sig ⟨S_, .i32⟩) (constantI S_ 32 0#32),
    TRef.nullary (.of main_while0b_call19_c_2 : TRef sig ⟨S_, .i32⟩) (constantI S_ 32 0#32),
    TRef.binaryIndexed (.of main_v53_9 : TRef sig ⟨S132x2x4x128x128, .f32⟩) (.of main_while0b_call19_v0 : TRef sig ⟨S1x2x4x128x128, .f32⟩) ![(.of main_v53_6 : TRef sig ⟨S_, .i32⟩), (.of main_while0b_call19_c : TRef sig ⟨S_, .i32⟩), (.of main_while0b_call19_c_0 : TRef sig ⟨S_, .i32⟩), (.of main_while0b_call19_c_1 : TRef sig ⟨S_, .i32⟩), (.of main_while0b_call19_c_2 : TRef sig ⟨S_, .i32⟩)] (.of main_while0b_v175 : TRef sig ⟨S132x2x4x128x128, .f32⟩) (fun x u i => Host.dynamicUpdateSlice x u (fun k => (i k (Shape.Idx.first h_S_)).toInt) updateFits_S132x2x4x128x128_S1x2x4x128x128),
    TRef.unary (.of main_while0b_v166 : TRef sig ⟨S2x4x1x1, .f32⟩) (.of main_while0b_call20_v0 : TRef sig ⟨S1x2x4x1x1, .f32⟩) (broadcastInDim S1x2x4x1x1 ![1, 2, 3, 4] bcast_S2x4x1x1_S1x2x4x1x1_1_2_3_4),
    TRef.nullary (.of main_while0b_call20_c : TRef sig ⟨S_, .i32⟩) (constantI S_ 32 0#32),
    TRef.nullary (.of main_while0b_call20_c_0 : TRef sig ⟨S_, .i32⟩) (constantI S_ 32 0#32),
    TRef.nullary (.of main_while0b_call20_c_1 : TRef sig ⟨S_, .i32⟩) (constantI S_ 32 0#32),
    TRef.nullary (.of main_while0b_call20_c_2 : TRef sig ⟨S_, .i32⟩) (constantI S_ 32 0#32),
    TRef.binaryIndexed (.of main_v53_10 : TRef sig ⟨S132x2x4x1x1, .f32⟩) (.of main_while0b_call20_v0 : TRef sig ⟨S1x2x4x1x1, .f32⟩) ![(.of main_v53_6 : TRef sig ⟨S_, .i32⟩), (.of main_while0b_call20_c : TRef sig ⟨S_, .i32⟩), (.of main_while0b_call20_c_0 : TRef sig ⟨S_, .i32⟩), (.of main_while0b_call20_c_1 : TRef sig ⟨S_, .i32⟩), (.of main_while0b_call20_c_2 : TRef sig ⟨S_, .i32⟩)] (.of main_while0b_v176 : TRef sig ⟨S132x2x4x1x1, .f32⟩) (fun x u i => Host.dynamicUpdateSlice x u (fun k => (i k (Shape.Idx.first h_S_)).toInt) updateFits_S132x2x4x1x1_S1x2x4x1x1),
    TRef.unary (.of main_while0b_v165 : TRef sig ⟨S2x4x64x128, .f32⟩) (.of main_while0b_call21_v0 : TRef sig ⟨S1x2x4x64x128, .f32⟩) (broadcastInDim S1x2x4x64x128 ![1, 2, 3, 4] bcast_S2x4x64x128_S1x2x4x64x128_1_2_3_4),
    TRef.nullary (.of main_while0b_call21_c : TRef sig ⟨S_, .i32⟩) (constantI S_ 32 0#32),
    TRef.nullary (.of main_while0b_call21_c_0 : TRef sig ⟨S_, .i32⟩) (constantI S_ 32 0#32),
    TRef.nullary (.of main_while0b_call21_c_1 : TRef sig ⟨S_, .i32⟩) (constantI S_ 32 0#32),
    TRef.nullary (.of main_while0b_call21_c_2 : TRef sig ⟨S_, .i32⟩) (constantI S_ 32 0#32),
    TRef.binaryIndexed (.of main_v53_11 : TRef sig ⟨S132x2x4x64x128, .f32⟩) (.of main_while0b_call21_v0 : TRef sig ⟨S1x2x4x64x128, .f32⟩) ![(.of main_v53_6 : TRef sig ⟨S_, .i32⟩), (.of main_while0b_call21_c : TRef sig ⟨S_, .i32⟩), (.of main_while0b_call21_c_0 : TRef sig ⟨S_, .i32⟩), (.of main_while0b_call21_c_1 : TRef sig ⟨S_, .i32⟩), (.of main_while0b_call21_c_2 : TRef sig ⟨S_, .i32⟩)] (.of main_while0b_v177 : TRef sig ⟨S132x2x4x64x128, .f32⟩) (fun x u i => Host.dynamicUpdateSlice x u (fun k => (i k (Shape.Idx.first h_S_)).toInt) updateFits_S132x2x4x64x128_S1x2x4x64x128),
    nullary main_while0b_c_40 (constantI S_ 32 1#32),
    binary main_v53_6 main_while0b_c_40 main_while0b_v178 (addi : (⟨S_, .i32⟩ : BufTy).Contents (Elt F) → (⟨S_, .i32⟩ : BufTy).Contents (Elt F) → (⟨S_, .i32⟩ : BufTy).Contents (Elt F)),
    unary main_while0b_v178 main_v53_6 id,
    unary main_while0b_v170 main_v53_7 id,
    unary main_while0b_v174 main_v53_8 id,
    unary main_while0b_v175 main_v53_9 id,
    unary main_while0b_v176 main_v53_10 id,
    unary main_while0b_v177 main_v53_11 id ]
theorem body0_sub : (body0 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., binary_bufs_sub .., binary_bufs_sub .., unary_bufs_sub .., unary_bufs_sub .., binary_bufs_sub .., binary_bufs_sub .., binary_bufs_sub .., binary_bufs_sub .., binary_bufs_sub .., binary_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., nullary_bufs_sub .., binary_bufs_sub .., unary_bufs_sub .., unary_bufs_sub .., unary_bufs_sub .., unary_bufs_sub .., unary_bufs_sub .., unary_bufs_sub ..⟩
theorem body0_fresh : ∀ op ∈ (body0 : List (HloOp τ sig (Elt F))), op.fresh = ∅ := by
  rw [← List.forall_iff_forall_mem]; simp only [List.Forall]; repeat' constructor

/-- The second loop's body. -/
abbrev body1 : List (HloOp τ sig (Elt F)) :=
  [ nullary main_while1b_c_44 (constantI S_ 32 132#32),
    binary main_while1b_c_44 main_v91_8 main_while1b_v158 (subi : (⟨S_, .i32⟩ : BufTy).Contents (Elt F) → (⟨S_, .i32⟩ : BufTy).Contents (Elt F) → (⟨S_, .i32⟩ : BufTy).Contents (Elt F)),
    nullary main_while1b_c_45 (constantI S_ 32 1#32),
    binary main_while1b_v158 main_while1b_c_45 main_while1b_v159 (subi : (⟨S_, .i32⟩ : BufTy).Contents (Elt F) → (⟨S_, .i32⟩ : BufTy).Contents (Elt F) → (⟨S_, .i32⟩ : BufTy).Contents (Elt F)),
    TRef.nullary (.of main_while1b_call26_c : TRef sig ⟨S_, .i32⟩) (constantI S_ 32 0#32),
    TRef.nullary (.of main_while1b_call26_c_0 : TRef sig ⟨S_, .i32⟩) (constantI S_ 32 0#32),
    TRef.nullary (.of main_while1b_call26_c_1 : TRef sig ⟨S_, .i32⟩) (constantI S_ 32 0#32),
    TRef.nullary (.of main_while1b_call26_c_2 : TRef sig ⟨S_, .i32⟩) (constantI S_ 32 0#32),
    TRef.unaryIndexed (.of main_v91_0 : TRef sig ⟨S132x2x4x64x128, .f32⟩) ![(.of main_while1b_v159 : TRef sig ⟨S_, .i32⟩), (.of main_while1b_call26_c : TRef sig ⟨S_, .i32⟩), (.of main_while1b_call26_c_0 : TRef sig ⟨S_, .i32⟩), (.of main_while1b_call26_c_1 : TRef sig ⟨S_, .i32⟩), (.of main_while1b_call26_c_2 : TRef sig ⟨S_, .i32⟩)] (.of main_while1b_call26_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while1b_call26_v0 : TRef sig ⟨S1x2x4x64x128, .f32⟩) (.of main_while1b_v160 : TRef sig ⟨S2x4x64x128, .f32⟩) (rfl : (.f32 : EltTy) = .f32) shapeCasts_S1x2x4x64x128_S2x4x64x128,
    TRef.nullary (.of main_while1b_call27_c : TRef sig ⟨S_, .i32⟩) (constantI S_ 32 0#32),
    TRef.nullary (.of main_while1b_call27_c_0 : TRef sig ⟨S_, .i32⟩) (constantI S_ 32 0#32),
    TRef.nullary (.of main_while1b_call27_c_1 : TRef sig ⟨S_, .i32⟩) (constantI S_ 32 0#32),
    TRef.nullary (.of main_while1b_call27_c_2 : TRef sig ⟨S_, .i32⟩) (constantI S_ 32 0#32),
    TRef.unaryIndexed (.of main_v91_1 : TRef sig ⟨S132x2x4x128x128, .f32⟩) ![(.of main_while1b_v159 : TRef sig ⟨S_, .i32⟩), (.of main_while1b_call27_c : TRef sig ⟨S_, .i32⟩), (.of main_while1b_call27_c_0 : TRef sig ⟨S_, .i32⟩), (.of main_while1b_call27_c_1 : TRef sig ⟨S_, .i32⟩), (.of main_while1b_call27_c_2 : TRef sig ⟨S_, .i32⟩)] (.of main_while1b_call27_v0 : TRef sig ⟨S1x2x4x128x128, .f32⟩) (fun x i => Host.dynamicSlice S1x2x4x128x128 x (fun k => (i k (Shape.Idx.first h_S_)).toInt) sliceFits_S132x2x4x128x128_S1x2x4x128x128),
    TRef.reshape (.of main_while1b_call27_v0 : TRef sig ⟨S1x2x4x128x128, .f32⟩) (.of main_while1b_v161 : TRef sig ⟨S2x4x128x128, .f32⟩) (rfl : (.f32 : EltTy) = .f32) shapeCasts_S1x2x4x128x128_S2x4x128x128,
    TRef.nullary (.of main_while1b_call28_c : TRef sig ⟨S_, .i32⟩) (constantI S_ 32 0#32),
    TRef.nullary (.of main_while1b_call28_c_0 : TRef sig ⟨S_, .i32⟩) (constantI S_ 32 0#32),
    TRef.nullary (.of main_while1b_call28_c_1 : TRef sig ⟨S_, .i32⟩) (constantI S_ 32 0#32),
    TRef.nullary (.of main_while1b_call28_c_2 : TRef sig ⟨S_, .i32⟩) (constantI S_ 32 0#32),
    TRef.unaryIndexed (.of main_v91_2 : TRef sig ⟨S132x2x4x64x128, .f32⟩) ![(.of main_while1b_v159 : TRef sig ⟨S_, .i32⟩), (.of main_while1b_call28_c : TRef sig ⟨S_, .i32⟩), (.of main_while1b_call28_c_0 : TRef sig ⟨S_, .i32⟩), (.of main_while1b_call28_c_1 : TRef sig ⟨S_, .i32⟩), (.of main_while1b_call28_c_2 : TRef sig ⟨S_, .i32⟩)] (.of main_while1b_call28_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while1b_call28_v0 : TRef sig ⟨S1x2x4x64x128, .f32⟩) (.of main_while1b_v162 : TRef sig ⟨S2x4x64x128, .f32⟩) (rfl : (.f32 : EltTy) = .f32) shapeCasts_S1x2x4x64x128_S2x4x64x128,
    TRef.nullary (.of main_while1b_call29_c : TRef sig ⟨S_, .i32⟩) (constantI S_ 32 0#32),
    TRef.nullary (.of main_while1b_call29_c_0 : TRef sig ⟨S_, .i32⟩) (constantI S_ 32 0#32),
    TRef.nullary (.of main_while1b_call29_c_1 : TRef sig ⟨S_, .i32⟩) (constantI S_ 32 0#32),
    TRef.nullary (.of main_while1b_call29_c_2 : TRef sig ⟨S_, .i32⟩) (constantI S_ 32 0#32),
    TRef.unaryIndexed (.of main_v91_3 : TRef sig ⟨S132x2x4x1x1, .f32⟩) ![(.of main_while1b_v159 : TRef sig ⟨S_, .i32⟩), (.of main_while1b_call29_c : TRef sig ⟨S_, .i32⟩), (.of main_while1b_call29_c_0 : TRef sig ⟨S_, .i32⟩), (.of main_while1b_call29_c_1 : TRef sig ⟨S_, .i32⟩), (.of main_while1b_call29_c_2 : TRef sig ⟨S_, .i32⟩)] (.of main_while1b_call29_v0 : TRef sig ⟨S1x2x4x1x1, .f32⟩) (fun x i => Host.dynamicSlice S1x2x4x1x1 x (fun k => (i k (Shape.Idx.first h_S_)).toInt) sliceFits_S132x2x4x1x1_S1x2x4x1x1),
    TRef.reshape (.of main_while1b_call29_v0 : TRef sig ⟨S1x2x4x1x1, .f32⟩) (.of main_while1b_v163 : TRef sig ⟨S2x4x1x1, .f32⟩) (rfl : (.f32 : EltTy) = .f32) shapeCasts_S1x2x4x1x1_S2x4x1x1,
    TRef.nullary (.of main_while1b_call30_c : TRef sig ⟨S_, .i32⟩) (constantI S_ 32 0#32),
    TRef.nullary (.of main_while1b_call30_c_0 : TRef sig ⟨S_, .i32⟩) (constantI S_ 32 0#32),
    TRef.nullary (.of main_while1b_call30_c_1 : TRef sig ⟨S_, .i32⟩) (constantI S_ 32 0#32),
    TRef.nullary (.of main_while1b_call30_c_2 : TRef sig ⟨S_, .i32⟩) (constantI S_ 32 0#32),
    TRef.unaryIndexed (.of main_v91_4 : TRef sig ⟨S132x2x4x64x128, .f32⟩) ![(.of main_while1b_v159 : TRef sig ⟨S_, .i32⟩), (.of main_while1b_call30_c : TRef sig ⟨S_, .i32⟩), (.of main_while1b_call30_c_0 : TRef sig ⟨S_, .i32⟩), (.of main_while1b_call30_c_1 : TRef sig ⟨S_, .i32⟩), (.of main_while1b_call30_c_2 : TRef sig ⟨S_, .i32⟩)] (.of main_while1b_call30_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while1b_call30_v0 : TRef sig ⟨S1x2x4x64x128, .f32⟩) (.of main_while1b_v164 : TRef sig ⟨S2x4x64x128, .f32⟩) (rfl : (.f32 : EltTy) = .f32) shapeCasts_S1x2x4x64x128_S2x4x64x128,
    TRef.nullary (.of main_while1b_call31_c : TRef sig ⟨S_, .i32⟩) (constantI S_ 32 0#32),
    TRef.nullary (.of main_while1b_call31_c_0 : TRef sig ⟨S_, .i32⟩) (constantI S_ 32 0#32),
    TRef.nullary (.of main_while1b_call31_c_1 : TRef sig ⟨S_, .i32⟩) (constantI S_ 32 0#32),
    TRef.nullary (.of main_while1b_call31_c_2 : TRef sig ⟨S_, .i32⟩) (constantI S_ 32 0#32),
    TRef.unaryIndexed (.of main_v91_5 : TRef sig ⟨S132x2x4x64x128, .f32⟩) ![(.of main_while1b_v159 : TRef sig ⟨S_, .i32⟩), (.of main_while1b_call31_c : TRef sig ⟨S_, .i32⟩), (.of main_while1b_call31_c_0 : TRef sig ⟨S_, .i32⟩), (.of main_while1b_call31_c_1 : TRef sig ⟨S_, .i32⟩), (.of main_while1b_call31_c_2 : TRef sig ⟨S_, .i32⟩)] (.of main_while1b_call31_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while1b_call31_v0 : TRef sig ⟨S1x2x4x64x128, .f32⟩) (.of main_while1b_v165 : TRef sig ⟨S2x4x64x128, .f32⟩) (rfl : (.f32 : EltTy) = .f32) shapeCasts_S1x2x4x64x128_S2x4x64x128,
    TRef.nullary (.of main_while1b_call32_c : TRef sig ⟨S_, .i32⟩) (constantI S_ 32 0#32),
    TRef.nullary (.of main_while1b_call32_c_0 : TRef sig ⟨S_, .i32⟩) (constantI S_ 32 0#32),
    TRef.nullary (.of main_while1b_call32_c_1 : TRef sig ⟨S_, .i32⟩) (constantI S_ 32 0#32),
    TRef.nullary (.of main_while1b_call32_c_2 : TRef sig ⟨S_, .i32⟩) (constantI S_ 32 0#32),
    TRef.unaryIndexed (.of main_v91_6 : TRef sig ⟨S132x2x4x64x128, .f32⟩) ![(.of main_while1b_v159 : TRef sig ⟨S_, .i32⟩), (.of main_while1b_call32_c : TRef sig ⟨S_, .i32⟩), (.of main_while1b_call32_c_0 : TRef sig ⟨S_, .i32⟩), (.of main_while1b_call32_c_1 : TRef sig ⟨S_, .i32⟩), (.of main_while1b_call32_c_2 : TRef sig ⟨S_, .i32⟩)] (.of main_while1b_call32_v0 : TRef sig ⟨S1x2x4x64x128, .f32⟩) (fun x i => Host.dynamicSlice S1x2x4x64x128 x (fun k => (i k (Shape.Idx.first h_S_)).toInt) sliceFits_S132x2x4x64x128_S1x2x4x64x128),
    TRef.reshape (.of main_while1b_call32_v0 : TRef sig ⟨S1x2x4x64x128, .f32⟩) (.of main_while1b_v166 : TRef sig ⟨S2x4x64x128, .f32⟩) (rfl : (.f32 : EltTy) = .f32) shapeCasts_S1x2x4x64x128_S2x4x64x128,
    TRef.nullary (.of main_while1b_call33_c : TRef sig ⟨S_, .i32⟩) (constantI S_ 32 0#32),
    TRef.nullary (.of main_while1b_call33_c_0 : TRef sig ⟨S_, .i32⟩) (constantI S_ 32 0#32),
    TRef.nullary (.of main_while1b_call33_c_1 : TRef sig ⟨S_, .i32⟩) (constantI S_ 32 0#32),
    TRef.nullary (.of main_while1b_call33_c_2 : TRef sig ⟨S_, .i32⟩) (constantI S_ 32 0#32),
    TRef.unaryIndexed (.of main_v91_7 : TRef sig ⟨S132x2x4x64x64, .f32⟩) ![(.of main_while1b_v159 : TRef sig ⟨S_, .i32⟩), (.of main_while1b_call33_c : TRef sig ⟨S_, .i32⟩), (.of main_while1b_call33_c_0 : TRef sig ⟨S_, .i32⟩), (.of main_while1b_call33_c_1 : TRef sig ⟨S_, .i32⟩), (.of main_while1b_call33_c_2 : TRef sig ⟨S_, .i32⟩)] (.of main_while1b_call33_v0 : TRef sig ⟨S1x2x4x64x64, .f32⟩) (fun x i => Host.dynamicSlice S1x2x4x64x64 x (fun k => (i k (Shape.Idx.first h_S_)).toInt) sliceFits_S132x2x4x64x64_S1x2x4x64x64),
    TRef.reshape (.of main_while1b_call33_v0 : TRef sig ⟨S1x2x4x64x64, .f32⟩) (.of main_while1b_v167 : TRef sig ⟨S2x4x64x64, .f32⟩) (rfl : (.f32 : EltTy) = .f32) shapeCasts_S1x2x4x64x64_S2x4x64x64,
    binary main_while1b_v160 main_while1b_v167 main_while1b_v168 ((fun l r => Host.dotGeneral dot_S2x4x64x128_S2x4x64x64_S2x4x128x64_2_2_3_3_01_01 none l r) : Fl32 F S2x4x64x128 → Fl32 F S2x4x64x64 → Fl32 F S2x4x128x64),
    unary main_while1b_v168 main_while1b_v169 ((transpose S2x4x64x128 [0, 1, 3, 2] · transposes_S2x4x128x64_S2x4x64x128_0_1_3_2) : Fl32 F S2x4x128x64 → Fl32 F S2x4x64x128),
    binary main_while1b_v160 main_while1b_v164 main_while1b_v170 ((fun l r => Host.dotGeneral dot_S2x4x64x128_S2x4x64x128_S2x4x64x64_3_3_2_2_01_01 none l r) : Fl32 F S2x4x64x128 → Fl32 F S2x4x64x128 → Fl32 F S2x4x64x64),
    binary main_while1b_v160 main_while1b_v166 main_while1b_v171 ((fun l r => Host.dotGeneral dot_S2x4x64x128_S2x4x64x128_S2x4x128x128_2_2_3_3_01_01 none l r) : Fl32 F S2x4x64x128 → Fl32 F S2x4x64x128 → Fl32 F S2x4x128x128),
    unary main_while1b_v171 main_while1b_v172 ((transpose S2x4x128x128 [0, 1, 3, 2] · transposes_S2x4x128x128_S2x4x128x128_0_1_3_2) : Fl32 F S2x4x128x128 → Fl32 F S2x4x128x128),
    binary main_while1b_v160 main_while1b_v161 main_while1b_v173 ((fun l r => Host.dotGeneral dot_S2x4x64x128_S2x4x128x128_S2x4x64x128_3_3_2_2_01_01 none l r) : Fl32 F S2x4x64x128 → Fl32 F S2x4x128x128 → Fl32 F S2x4x64x128),
    binary main_v91_9 main_while1b_v165 main_while1b_v174 ((fun l r => Host.dotGeneral dot_S2x4x128x128_S2x4x64x128_S2x4x128x64_2_3_3_2_01_01 none l r) : Fl32 F S2x4x128x128 → Fl32 F S2x4x64x128 → Fl32 F S2x4x128x64),
    unary main_while1b_v174 main_while1b_v175 ((transpose S2x4x64x128 [0, 1, 3, 2] · transposes_S2x4x128x64_S2x4x64x128_0_1_3_2) : Fl32 F S2x4x128x64 → Fl32 F S2x4x64x128),
    binary main_while1b_v169 main_while1b_v175 main_while1b_v176 (addf : Fl32 F S2x4x64x128 → Fl32 F S2x4x64x128 → Fl32 F S2x4x64x128),
    binary main_v91_9 main_while1b_v164 main_while1b_v177 ((fun l r => Host.dotGeneral dot_S2x4x128x128_S2x4x64x128_S2x4x128x64_3_3_2_2_01_01 none l r) : Fl32 F S2x4x128x128 → Fl32 F S2x4x64x128 → Fl32 F S2x4x128x64),
    unary main_while1b_v177 main_while1b_v178 ((transpose S2x4x64x128 [0, 1, 3, 2] · transposes_S2x4x128x64_S2x4x64x128_0_1_3_2) : Fl32 F S2x4x128x64 → Fl32 F S2x4x64x128),
    binary main_while1b_v161 main_v91_9 main_while1b_v179 (mulf : Fl32 F S2x4x128x128 → Fl32 F S2x4x128x128 → Fl32 F S2x4x128x128),
    nullary main_while1b_cst_46 (constant S_ .f32 0x00000000#32),
    binary main_while1b_v179 main_while1b_cst_46 main_while1b_v180 ((fun x v => Host.reduceAdd x v reducesTo_S2x4x128x128_S2x4_d2_3 h_S_) : Fl32 F S2x4x128x128 → Fl32 F S_ → Fl32 F S2x4),
    reshape main_while1b_v180 main_while1b_v181 (rfl : (.f32 : EltTy) = .f32) shapeCasts_S2x4_S2x4x1x1,
    unary main_while1b_v163 main_while1b_v182 (broadcastInDim S2x4x128x128 ![0, 1, 2, 3] bcast_S2x4x1x1_S2x4x128x128_0_1_2_3 : Fl32 F S2x4x1x1 → Fl32 F S2x4x128x128),
    binary main_v91_9 main_while1b_v182 main_while1b_v183 (mulf : Fl32 F S2x4x128x128 → Fl32 F S2x4x128x128 → Fl32 F S2x4x128x128),
    binary main_while1b_v172 main_while1b_v183 main_while1b_v184 (addf : Fl32 F S2x4x128x128 → Fl32 F S2x4x128x128 → Fl32 F S2x4x128x128),
    nullary main_while1b_cst_47 (constant S_ .f32 0x00000000#32),
    binary main_while1b_v181 main_while1b_cst_47 main_while1b_v185 ((fun x v => pad S2x4x1x128 ![0, 0, 0, 0] ![0, 0, 0, 127] ![0, 0, 0, 0] x v pads_S2x4x1x1_S2x4x1x128_000_000_000_01270 h_S_) : Fl32 F S2x4x1x1 → Fl32 F S_ → Fl32 F S2x4x1x128),
    unary main_while1b_v176 main_while1b_v186 (Host.negf : Fl32 F S2x4x64x128 → Fl32 F S2x4x64x128),
    binary main_while1b_v186 main_while1b_v162 main_while1b_v187 ((fun l r => Host.dotGeneral dot_S2x4x64x128_S2x4x64x128_S2x4x128x128_2_2_3_3_01_01 none l r) : Fl32 F S2x4x64x128 → Fl32 F S2x4x64x128 → Fl32 F S2x4x128x128),
    unary main_while1b_v187 main_while1b_v188 ((transpose S2x4x128x128 [0, 1, 3, 2] · transposes_S2x4x128x128_S2x4x128x128_0_1_3_2) : Fl32 F S2x4x128x128 → Fl32 F S2x4x128x128),
    binary main_while1b_v184 main_while1b_v188 main_while1b_v189 (addf : Fl32 F S2x4x128x128 → Fl32 F S2x4x128x128 → Fl32 F S2x4x128x128),
    binary main_while1b_v186 main_while1b_v161 main_while1b_v190 ((fun l r => Host.dotGeneral dot_S2x4x64x128_S2x4x128x128_S2x4x64x128_3_3_2_2_01_01 none l r) : Fl32 F S2x4x64x128 → Fl32 F S2x4x128x128 → Fl32 F S2x4x64x128),
    TRef.unary (.of main_while1b_v176 : TRef sig ⟨S2x4x64x128, .f32⟩) (.of main_while1b_call34_v0 : TRef sig ⟨S1x2x4x64x128, .f32⟩) (broadcastInDim S1x2x4x64x128 ![1, 2, 3, 4] bcast_S2x4x64x128_S1x2x4x64x128_1_2_3_4),
    TRef.nullary (.of main_while1b_call34_c : TRef sig ⟨S_, .i32⟩) (constantI S_ 32 0#32),
    TRef.nullary (.of main_while1b_call34_c_0 : TRef sig ⟨S_, .i32⟩) (constantI S_ 32 0#32),
    TRef.nullary (.of main_while1b_call34_c_1 : TRef sig ⟨S_, .i32⟩) (constantI S_ 32 0#32),
    TRef.nullary (.of main_while1b_call34_c_2 : TRef sig ⟨S_, .i32⟩) (constantI S_ 32 0#32),
    TRef.binaryIndexed (.of main_v91_10 : TRef sig ⟨S132x2x4x64x128, .f32⟩) (.of main_while1b_call34_v0 : TRef sig ⟨S1x2x4x64x128, .f32⟩) ![(.of main_while1b_v159 : TRef sig ⟨S_, .i32⟩), (.of main_while1b_call34_c : TRef sig ⟨S_, .i32⟩), (.of main_while1b_call34_c_0 : TRef sig ⟨S_, .i32⟩), (.of main_while1b_call34_c_1 : TRef sig ⟨S_, .i32⟩), (.of main_while1b_call34_c_2 : TRef sig ⟨S_, .i32⟩)] (.of main_while1b_v191 : TRef sig ⟨S132x2x4x64x128, .f32⟩) (fun x u i => Host.dynamicUpdateSlice x u (fun k => (i k (Shape.Idx.first h_S_)).toInt) updateFits_S132x2x4x64x128_S1x2x4x64x128),
    TRef.unary (.of main_while1b_v190 : TRef sig ⟨S2x4x64x128, .f32⟩) (.of main_while1b_call35_v0 : TRef sig ⟨S1x2x4x64x128, .f32⟩) (broadcastInDim S1x2x4x64x128 ![1, 2, 3, 4] bcast_S2x4x64x128_S1x2x4x64x128_1_2_3_4),
    TRef.nullary (.of main_while1b_call35_c : TRef sig ⟨S_, .i32⟩) (constantI S_ 32 0#32),
    TRef.nullary (.of main_while1b_call35_c_0 : TRef sig ⟨S_, .i32⟩) (constantI S_ 32 0#32),
    TRef.nullary (.of main_while1b_call35_c_1 : TRef sig ⟨S_, .i32⟩) (constantI S_ 32 0#32),
    TRef.nullary (.of main_while1b_call35_c_2 : TRef sig ⟨S_, .i32⟩) (constantI S_ 32 0#32),
    TRef.binaryIndexed (.of main_v91_11 : TRef sig ⟨S132x2x4x64x128, .f32⟩) (.of main_while1b_call35_v0 : TRef sig ⟨S1x2x4x64x128, .f32⟩) ![(.of main_while1b_v159 : TRef sig ⟨S_, .i32⟩), (.of main_while1b_call35_c : TRef sig ⟨S_, .i32⟩), (.of main_while1b_call35_c_0 : TRef sig ⟨S_, .i32⟩), (.of main_while1b_call35_c_1 : TRef sig ⟨S_, .i32⟩), (.of main_while1b_call35_c_2 : TRef sig ⟨S_, .i32⟩)] (.of main_while1b_v192 : TRef sig ⟨S132x2x4x64x128, .f32⟩) (fun x u i => Host.dynamicUpdateSlice x u (fun k => (i k (Shape.Idx.first h_S_)).toInt) updateFits_S132x2x4x64x128_S1x2x4x64x128),
    TRef.unary (.of main_while1b_v178 : TRef sig ⟨S2x4x64x128, .f32⟩) (.of main_while1b_call36_v0 : TRef sig ⟨S1x2x4x64x128, .f32⟩) (broadcastInDim S1x2x4x64x128 ![1, 2, 3, 4] bcast_S2x4x64x128_S1x2x4x64x128_1_2_3_4),
    TRef.nullary (.of main_while1b_call36_c : TRef sig ⟨S_, .i32⟩) (constantI S_ 32 0#32),
    TRef.nullary (.of main_while1b_call36_c_0 : TRef sig ⟨S_, .i32⟩) (constantI S_ 32 0#32),
    TRef.nullary (.of main_while1b_call36_c_1 : TRef sig ⟨S_, .i32⟩) (constantI S_ 32 0#32),
    TRef.nullary (.of main_while1b_call36_c_2 : TRef sig ⟨S_, .i32⟩) (constantI S_ 32 0#32),
    TRef.binaryIndexed (.of main_v91_12 : TRef sig ⟨S132x2x4x64x128, .f32⟩) (.of main_while1b_call36_v0 : TRef sig ⟨S1x2x4x64x128, .f32⟩) ![(.of main_while1b_v159 : TRef sig ⟨S_, .i32⟩), (.of main_while1b_call36_c : TRef sig ⟨S_, .i32⟩), (.of main_while1b_call36_c_0 : TRef sig ⟨S_, .i32⟩), (.of main_while1b_call36_c_1 : TRef sig ⟨S_, .i32⟩), (.of main_while1b_call36_c_2 : TRef sig ⟨S_, .i32⟩)] (.of main_while1b_v193 : TRef sig ⟨S132x2x4x64x128, .f32⟩) (fun x u i => Host.dynamicUpdateSlice x u (fun k => (i k (Shape.Idx.first h_S_)).toInt) updateFits_S132x2x4x64x128_S1x2x4x64x128),
    TRef.unary (.of main_while1b_v185 : TRef sig ⟨S2x4x1x128, .f32⟩) (.of main_while1b_call37_v0 : TRef sig ⟨S1x2x4x1x128, .f32⟩) (broadcastInDim S1x2x4x1x128 ![1, 2, 3, 4] bcast_S2x4x1x128_S1x2x4x1x128_1_2_3_4),
    TRef.nullary (.of main_while1b_call37_c : TRef sig ⟨S_, .i32⟩) (constantI S_ 32 0#32),
    TRef.nullary (.of main_while1b_call37_c_0 : TRef sig ⟨S_, .i32⟩) (constantI S_ 32 0#32),
    TRef.nullary (.of main_while1b_call37_c_1 : TRef sig ⟨S_, .i32⟩) (constantI S_ 32 0#32),
    TRef.nullary (.of main_while1b_call37_c_2 : TRef sig ⟨S_, .i32⟩) (constantI S_ 32 0#32),
    TRef.binaryIndexed (.of main_v91_13 : TRef sig ⟨S132x2x4x1x128, .f32⟩) (.of main_while1b_call37_v0 : TRef sig ⟨S1x2x4x1x128, .f32⟩) ![(.of main_while1b_v159 : TRef sig ⟨S_, .i32⟩), (.of main_while1b_call37_c : TRef sig ⟨S_, .i32⟩), (.of main_while1b_call37_c_0 : TRef sig ⟨S_, .i32⟩), (.of main_while1b_call37_c_1 : TRef sig ⟨S_, .i32⟩), (.of main_while1b_call37_c_2 : TRef sig ⟨S_, .i32⟩)] (.of main_while1b_v194 : TRef sig ⟨S132x2x4x1x128, .f32⟩) (fun x u i => Host.dynamicUpdateSlice x u (fun k => (i k (Shape.Idx.first h_S_)).toInt) updateFits_S132x2x4x1x128_S1x2x4x1x128),
    TRef.unary (.of main_while1b_v173 : TRef sig ⟨S2x4x64x128, .f32⟩) (.of main_while1b_call38_v0 : TRef sig ⟨S1x2x4x64x128, .f32⟩) (broadcastInDim S1x2x4x64x128 ![1, 2, 3, 4] bcast_S2x4x64x128_S1x2x4x64x128_1_2_3_4),
    TRef.nullary (.of main_while1b_call38_c : TRef sig ⟨S_, .i32⟩) (constantI S_ 32 0#32),
    TRef.nullary (.of main_while1b_call38_c_0 : TRef sig ⟨S_, .i32⟩) (constantI S_ 32 0#32),
    TRef.nullary (.of main_while1b_call38_c_1 : TRef sig ⟨S_, .i32⟩) (constantI S_ 32 0#32),
    TRef.nullary (.of main_while1b_call38_c_2 : TRef sig ⟨S_, .i32⟩) (constantI S_ 32 0#32),
    TRef.binaryIndexed (.of main_v91_14 : TRef sig ⟨S132x2x4x64x128, .f32⟩) (.of main_while1b_call38_v0 : TRef sig ⟨S1x2x4x64x128, .f32⟩) ![(.of main_while1b_v159 : TRef sig ⟨S_, .i32⟩), (.of main_while1b_call38_c : TRef sig ⟨S_, .i32⟩), (.of main_while1b_call38_c_0 : TRef sig ⟨S_, .i32⟩), (.of main_while1b_call38_c_1 : TRef sig ⟨S_, .i32⟩), (.of main_while1b_call38_c_2 : TRef sig ⟨S_, .i32⟩)] (.of main_while1b_v195 : TRef sig ⟨S132x2x4x64x128, .f32⟩) (fun x u i => Host.dynamicUpdateSlice x u (fun k => (i k (Shape.Idx.first h_S_)).toInt) updateFits_S132x2x4x64x128_S1x2x4x64x128),
    TRef.unary (.of main_while1b_v170 : TRef sig ⟨S2x4x64x64, .f32⟩) (.of main_while1b_call39_v0 : TRef sig ⟨S1x2x4x64x64, .f32⟩) (broadcastInDim S1x2x4x64x64 ![1, 2, 3, 4] bcast_S2x4x64x64_S1x2x4x64x64_1_2_3_4),
    TRef.nullary (.of main_while1b_call39_c : TRef sig ⟨S_, .i32⟩) (constantI S_ 32 0#32),
    TRef.nullary (.of main_while1b_call39_c_0 : TRef sig ⟨S_, .i32⟩) (constantI S_ 32 0#32),
    TRef.nullary (.of main_while1b_call39_c_1 : TRef sig ⟨S_, .i32⟩) (constantI S_ 32 0#32),
    TRef.nullary (.of main_while1b_call39_c_2 : TRef sig ⟨S_, .i32⟩) (constantI S_ 32 0#32),
    TRef.binaryIndexed (.of main_v91_15 : TRef sig ⟨S132x2x4x64x64, .f32⟩) (.of main_while1b_call39_v0 : TRef sig ⟨S1x2x4x64x64, .f32⟩) ![(.of main_while1b_v159 : TRef sig ⟨S_, .i32⟩), (.of main_while1b_call39_c : TRef sig ⟨S_, .i32⟩), (.of main_while1b_call39_c_0 : TRef sig ⟨S_, .i32⟩), (.of main_while1b_call39_c_1 : TRef sig ⟨S_, .i32⟩), (.of main_while1b_call39_c_2 : TRef sig ⟨S_, .i32⟩)] (.of main_while1b_v196 : TRef sig ⟨S132x2x4x64x64, .f32⟩) (fun x u i => Host.dynamicUpdateSlice x u (fun k => (i k (Shape.Idx.first h_S_)).toInt) updateFits_S132x2x4x64x64_S1x2x4x64x64),
    nullary main_while1b_c_48 (constantI S_ 32 1#32),
    binary main_v91_8 main_while1b_c_48 main_while1b_v197 (addi : (⟨S_, .i32⟩ : BufTy).Contents (Elt F) → (⟨S_, .i32⟩ : BufTy).Contents (Elt F) → (⟨S_, .i32⟩ : BufTy).Contents (Elt F)),
    unary main_while1b_v197 main_v91_8 id,
    unary main_while1b_v189 main_v91_9 id,
    unary main_while1b_v191 main_v91_10 id,
    unary main_while1b_v192 main_v91_11 id,
    unary main_while1b_v193 main_v91_12 id,
    unary main_while1b_v194 main_v91_13 id,
    unary main_while1b_v195 main_v91_14 id,
    unary main_while1b_v196 main_v91_15 id ]
theorem body1_sub : (body1 : List (HloOp τ sig (Elt F))).Forall fun op => op.bufs ⊆ tcRefs τ sig :=
  ⟨nullary_bufs_sub .., binary_bufs_sub .., nullary_bufs_sub .., binary_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., nullary_bufs_sub .., nullary_bufs_sub .., nullary_bufs_sub .., nullary_bufs_sub .., unaryIndexed_bufs_sub .., reshape_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., nullary_bufs_sub .., binary_bufs_sub .., reshape_bufs_sub .., unary_bufs_sub .., binary_bufs_sub .., binary_bufs_sub .., nullary_bufs_sub .., binary_bufs_sub .., unary_bufs_sub .., binary_bufs_sub .., unary_bufs_sub .., binary_bufs_sub .., binary_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., unary_bufs_sub .., nullary_bufs_sub .., nullary_bufs_sub .., nullary_bufs_sub .., nullary_bufs_sub .., binaryIndexed_bufs_sub .., nullary_bufs_sub .., binary_bufs_sub .., unary_bufs_sub .., unary_bufs_sub .., unary_bufs_sub .., unary_bufs_sub .., unary_bufs_sub .., unary_bufs_sub .., unary_bufs_sub .., unary_bufs_sub ..⟩
theorem body1_fresh : ∀ op ∈ (body1 : List (HloOp τ sig (Elt F))), op.fresh = ∅ := by
  rw [← List.forall_iff_forall_mem]; simp only [List.Forall]; repeat' constructor

/-- The first window of @main is the run of its list. -/
theorem part0_seq (c : Dev nD) : main_part0 (F := F) c = (seq ops0 : Prog (TpuEff nD τ sig (Elt F) (HostLoop.Sig (Pipeline.Sig Λ₀ (Fin 0) fun p => (pcfgs (F := F) p).Adm) 2) .tc) PUnit) := by chain_rfl
/-- The second window is two lists around the first loop. -/
theorem part1_seq (c : Dev nD) : main_part1 (F := F) c = (Pipeline.chain [seq ops1a, HostLoop.enter 0, seq ops1b] : Prog (TpuEff nD τ sig (Elt F) (HostLoop.Sig (Pipeline.Sig Λ₀ (Fin 0) fun p => (pcfgs (F := F) p).Adm) 2) .tc) PUnit) := by chain_rfl
/-- The third window is two lists around the second loop. -/
theorem part2_seq (c : Dev nD) : main_part2 (F := F) c = (Pipeline.chain [seq ops2a, HostLoop.enter 1, seq ops2b] : Prog (TpuEff nD τ sig (Elt F) (HostLoop.Sig (Pipeline.Sig Λ₀ (Fin 0) fun p => (pcfgs (F := F) p).Adm) 2) .tc) PUnit) := by chain_rfl
/-- The last window is the run of its list. -/
theorem part3_seq (c : Dev nD) : main_part3 (F := F) c = (seq ops3 : Prog (TpuEff nD τ sig (Elt F) (HostLoop.Sig (Pipeline.Sig Λ₀ (Fin 0) fun p => (pcfgs (F := F) p).Adm) 2) .tc) PUnit) := by chain_rfl
/-- The first loop's body is the run of its list. -/
theorem body0_seq : main_while0_body (F := F) = (Pipeline.chain [seq body0] : Prog (TpuEff nD τ sig (Elt F) (HostLoop.Sig (Pipeline.Sig Λ₀ (Fin 0) fun p => (pcfgs (F := F) p).Adm) 2) .tc) PUnit) := by chain_rfl
/-- The second loop's body is the run of its list. -/
theorem body1_seq : main_while1_body (F := F) = (Pipeline.chain [seq body1] : Prog (TpuEff nD τ sig (Elt F) (HostLoop.Sig (Pipeline.Sig Λ₀ (Fin 0) fun p => (pcfgs (F := F) p).Adm) 2) .tc) PUnit) := by chain_rfl

end Cert.ReferenceIdeal.Ops

end
-- ==== Proof.RefRun.lean ====
/- THE RUN of the reference: @main is host operations, the forward loop, host operations, the backward loop and host operations. Every
   execution terminates, and every buffer of the program ends at `Vend`: the operations' fold over the launch contents, each loop's body 132 times. -/
module

public import proofs.«01_k».proof.Proof.RefOps
public import Idealize.ShloMosaic.Lib.Scf.ExitTest
public import Idealize.ShloMosaic.Lib.Scf.Counter

@[expose] public section

set_option maxRecDepth 20000

noncomputable section

namespace Cert.ReferenceIdeal.Ops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen

variable {F : FTy → Type} [FloatOps F]

local notation "𝕄" => MT nD τ sig Unit (Elt F) ℕ (Option PUnit) ℕ

/-! ## What the lists write -/

/-- The argument arrays. -/
abbrev argRefs : List (Ref sig .tc) := [main_arg0, main_arg1, main_arg2, main_arg3, main_arg4, main_arg5, main_arg6, main_arg7, main_arg8, main_arg9, main_arg10, main_arg11, main_arg12, main_arg13]
abbrev ops0_W : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_cst_0, main_v49, main_cst_1, main_v50, main_cst_2, main_v51, main_cst_3, main_v52, main_c, main_v53_0]
theorem ops0_writes : (ops0 : List (HloOp τ sig (Elt F))).Forall fun op => op.writes ⊆ (ops0_W.map (Proc.devRef (τ := τ) .tc)).toFinset :=
  StableHlo.forall_writes_sub_of_map rfl
theorem ops0_args : ∀ a ∈ argRefs, a ∉ ops0_W := by decide
abbrev ops1a_W : List (Ref sig .tc) := [main_v53_1, main_v53_2, main_v53_3, main_v53_4, main_v53_5, main_v53_6, main_v53_7, main_v53_8, main_v53_9, main_v53_10, main_v53_11]
theorem ops1a_writes : (ops1a : List (HloOp τ sig (Elt F))).Forall fun op => op.writes ⊆ (ops1a_W.map (Proc.devRef (τ := τ) .tc)).toFinset :=
  StableHlo.forall_writes_sub_of_map rfl
theorem ops1a_args : ∀ a ∈ argRefs, a ∉ ops1a_W := by decide
abbrev ops1b_W : List (Ref sig .tc) := [main_v54, main_v55, main_v56, main_v57, main_v58, main_v59, main_v60, main_v61, main_v62, main_v63, main_v64, main_v65, main_v66, main_cst_4, main_v67, main_v68, main_v69, main_v70, main_v71, main_v72, main_cst_5, main_v73, main_v74, main_cst_6, main_v75, main_v76, main_v77, main_cst_7, main_v78, main_v79, main_v80, main_v81, main_cst_8, main_v82, main_v83, main_cst_9, main_v84, main_cst_10, main_v85, main_cst_11, main_v86, main_cst_12, main_v87, main_cst_13, main_v88, main_cst_14, main_v89, main_cst_15]
theorem ops1b_writes : (ops1b : List (HloOp τ sig (Elt F))).Forall fun op => op.writes ⊆ (ops1b_W.map (Proc.devRef (τ := τ) .tc)).toFinset :=
  StableHlo.forall_writes_sub_of_map rfl
theorem ops1b_args : ∀ a ∈ argRefs, a ∉ ops1b_W := by decide
abbrev ops2a_W : List (Ref sig .tc) := [main_v90, main_c_16, main_v91_0, main_v91_1, main_v91_2, main_v91_3, main_v91_4, main_v91_5, main_v91_6, main_v91_7, main_v91_8, main_v91_9, main_v91_10, main_v91_11, main_v91_12, main_v91_13, main_v91_14, main_v91_15]
theorem ops2a_writes : (ops2a : List (HloOp τ sig (Elt F))).Forall fun op => op.writes ⊆ (ops2a_W.map (Proc.devRef (τ := τ) .tc)).toFinset :=
  StableHlo.forall_writes_sub_of_map rfl
theorem ops2a_args : ∀ a ∈ argRefs, a ∉ ops2a_W := by decide
abbrev ops2b_W : List (Ref sig .tc) := [main_v92, main_v93, main_v94, main_v95, main_v96, main_v97, main_v98, main_cst_17, main_v99, main_v100, main_cst_18, main_v101, main_v102, main_v103, main_v104, main_v105, main_v106, main_v107, main_v108, main_v109, main_cst_19, main_v110, main_v111, main_cst_20, main_v112, main_v113, main_v114, main_v115, main_v116, main_v117, main_v118, main_v119, main_v120, main_cst_21, main_v121, main_v122, main_cst_22, main_v123, main_v124, main_v125, main_v126]
theorem ops2b_writes : (ops2b : List (HloOp τ sig (Elt F))).Forall fun op => op.writes ⊆ (ops2b_W.map (Proc.devRef (τ := τ) .tc)).toFinset :=
  StableHlo.forall_writes_sub_of_map rfl
theorem ops2b_args : ∀ a ∈ argRefs, a ∉ ops2b_W := by decide
abbrev ops3_W : List (Ref sig .tc) := [main_v127, main_v128, main_v129, main_v130, main_v131, main_cst_23, main_v132, main_v133, main_cst_24, main_v134, main_v135, main_v136, main_v137, main_v138, main_v139, main_v140, main_v141, main_v142, main_cst_25, main_v143, main_v144, main_cst_26, main_v145, main_v146, main_v147, main_v148, main_v149, main_v150, main_v151, main_v152, main_v153, main_cst_27, main_v154, main_v155, main_cst_28, main_v156, main_v157]
theorem ops3_writes : (ops3 : List (HloOp τ sig (Elt F))).Forall fun op => op.writes ⊆ (ops3_W.map (Proc.devRef (τ := τ) .tc)).toFinset :=
  StableHlo.forall_writes_sub_of_map rfl
theorem ops3_args : ∀ a ∈ argRefs, a ∉ ops3_W := by decide
abbrev body0_W : List (Ref sig .tc) := [main_while0b_call12_c, main_while0b_call12_c_0, main_while0b_call12_c_1, main_while0b_call12_c_2, main_while0b_call12_v0, main_while0b_v158, main_while0b_call13_c, main_while0b_call13_c_0, main_while0b_call13_c_1, main_while0b_call13_c_2, main_while0b_call13_v0, main_while0b_v159, main_while0b_call14_c, main_while0b_call14_c_0, main_while0b_call14_c_1, main_while0b_call14_c_2, main_while0b_call14_v0, main_while0b_v160, main_while0b_call15_c, main_while0b_call15_c_0, main_while0b_call15_c_1, main_while0b_call15_c_2, main_while0b_call15_v0, main_while0b_v161, main_while0b_call16_c, main_while0b_call16_c_0, main_while0b_call16_c_1, main_while0b_call16_c_2, main_while0b_call16_v0, main_while0b_v162, main_while0b_call17_c, main_while0b_call17_c_0, main_while0b_call17_c_1, main_while0b_call17_c_2, main_while0b_call17_v0, main_while0b_v163, main_while0b_v164, main_while0b_v165, main_while0b_v166, main_while0b_v167, main_while0b_v168, main_while0b_v169, main_while0b_v170, main_while0b_v171, main_while0b_v172, main_while0b_v173, main_while0b_call18_v0, main_while0b_call18_c, main_while0b_call18_c_0, main_while0b_call18_c_1, main_while0b_call18_c_2, main_while0b_v174, main_while0b_call19_v0, main_while0b_call19_c, main_while0b_call19_c_0, main_while0b_call19_c_1, main_while0b_call19_c_2, main_while0b_v175, main_while0b_call20_v0, main_while0b_call20_c, main_while0b_call20_c_0, main_while0b_call20_c_1, main_while0b_call20_c_2, main_while0b_v176, main_while0b_call21_v0, main_while0b_call21_c, main_while0b_call21_c_0, main_while0b_call21_c_1, main_while0b_call21_c_2, main_while0b_v177, main_while0b_c_40, main_while0b_v178, main_v53_6, main_v53_7, main_v53_8, main_v53_9, main_v53_10, main_v53_11]
theorem body0_writes : (body0 : List (HloOp τ sig (Elt F))).Forall fun op => op.writes ⊆ (body0_W.map (Proc.devRef (τ := τ) .tc)).toFinset :=
  StableHlo.forall_writes_sub_of_map rfl
theorem body0_args : ∀ a ∈ argRefs, a ∉ body0_W := by decide
abbrev body1_W : List (Ref sig .tc) := [main_while1b_c_44, main_while1b_v158, main_while1b_c_45, main_while1b_v159, main_while1b_call26_c, main_while1b_call26_c_0, main_while1b_call26_c_1, main_while1b_call26_c_2, main_while1b_call26_v0, main_while1b_v160, main_while1b_call27_c, main_while1b_call27_c_0, main_while1b_call27_c_1, main_while1b_call27_c_2, main_while1b_call27_v0, main_while1b_v161, main_while1b_call28_c, main_while1b_call28_c_0, main_while1b_call28_c_1, main_while1b_call28_c_2, main_while1b_call28_v0, main_while1b_v162, main_while1b_call29_c, main_while1b_call29_c_0, main_while1b_call29_c_1, main_while1b_call29_c_2, main_while1b_call29_v0, main_while1b_v163, main_while1b_call30_c, main_while1b_call30_c_0, main_while1b_call30_c_1, main_while1b_call30_c_2, main_while1b_call30_v0, main_while1b_v164, main_while1b_call31_c, main_while1b_call31_c_0, main_while1b_call31_c_1, main_while1b_call31_c_2, main_while1b_call31_v0, main_while1b_v165, main_while1b_call32_c, main_while1b_call32_c_0, main_while1b_call32_c_1, main_while1b_call32_c_2, main_while1b_call32_v0, main_while1b_v166, main_while1b_call33_c, main_while1b_call33_c_0, main_while1b_call33_c_1, main_while1b_call33_c_2, main_while1b_call33_v0, main_while1b_v167, main_while1b_v168, main_while1b_v169, main_while1b_v170, main_while1b_v171, main_while1b_v172, main_while1b_v173, main_while1b_v174, main_while1b_v175, main_while1b_v176, main_while1b_v177, main_while1b_v178, main_while1b_v179, main_while1b_cst_46, main_while1b_v180, main_while1b_v181, main_while1b_v182, main_while1b_v183, main_while1b_v184, main_while1b_cst_47, main_while1b_v185, main_while1b_v186, main_while1b_v187, main_while1b_v188, main_while1b_v189, main_while1b_v190, main_while1b_call34_v0, main_while1b_call34_c, main_while1b_call34_c_0, main_while1b_call34_c_1, main_while1b_call34_c_2, main_while1b_v191, main_while1b_call35_v0, main_while1b_call35_c, main_while1b_call35_c_0, main_while1b_call35_c_1, main_while1b_call35_c_2, main_while1b_v192, main_while1b_call36_v0, main_while1b_call36_c, main_while1b_call36_c_0, main_while1b_call36_c_1, main_while1b_call36_c_2, main_while1b_v193, main_while1b_call37_v0, main_while1b_call37_c, main_while1b_call37_c_0, main_while1b_call37_c_1, main_while1b_call37_c_2, main_while1b_v194, main_while1b_call38_v0, main_while1b_call38_c, main_while1b_call38_c_0, main_while1b_call38_c_1, main_while1b_call38_c_2, main_while1b_v195, main_while1b_call39_v0, main_while1b_call39_c, main_while1b_call39_c_0, main_while1b_call39_c_1, main_while1b_call39_c_2, main_while1b_v196, main_while1b_c_48, main_while1b_v197, main_v91_8, main_v91_9, main_v91_10, main_v91_11, main_v91_12, main_v91_13, main_v91_14, main_v91_15]
theorem body1_writes : (body1 : List (HloOp τ sig (Elt F))).Forall fun op => op.writes ⊆ (body1_W.map (Proc.devRef (τ := τ) .tc)).toFinset :=
  StableHlo.forall_writes_sub_of_map rfl
theorem body1_args : ∀ a ∈ argRefs, a ∉ body1_W := by decide
/-- The first loop's condition: the bound and the comparison. -/
abbrev cond0 : List (HloOp τ sig (Elt F)) :=
  [ StableHlo.nullary main_while0c_c_40 (constantI S_ 32 132#32),
    StableHlo.binary main_v53_6 main_while0c_c_40 main_while0c_v158 (cmpi .slt : (⟨S_, .i32⟩ : BufTy).Contents (Elt F) → (⟨S_, .i32⟩ : BufTy).Contents (Elt F) → (⟨S_, .i1⟩ : BufTy).Contents (Elt F)) ]
/-- The second loop's condition. -/
abbrev cond1 : List (HloOp τ sig (Elt F)) :=
  [ StableHlo.nullary main_while1c_c_44 (constantI S_ 32 132#32),
    StableHlo.binary main_v91_8 main_while1c_c_44 main_while1c_v158 (cmpi .slt : (⟨S_, .i32⟩ : BufTy).Contents (Elt F) → (⟨S_, .i32⟩ : BufTy).Contents (Elt F) → (⟨S_, .i1⟩ : BufTy).Contents (Elt F)) ]
abbrev cond0_W : List (Ref sig .tc) := [main_while0c_c_40, main_while0c_v158]
theorem cond0_writes : (cond0 : List (HloOp τ sig (Elt F))).Forall fun op => op.writes ⊆ (cond0_W.map (Proc.devRef (τ := τ) .tc)).toFinset :=
  StableHlo.forall_writes_sub_of_map rfl
abbrev cond1_W : List (Ref sig .tc) := [main_while1c_c_44, main_while1c_v158]
theorem cond1_writes : (cond1 : List (HloOp τ sig (Elt F))).Forall fun op => op.writes ⊆ (cond1_W.map (Proc.devRef (τ := τ) .tc)).toFinset :=
  StableHlo.forall_writes_sub_of_map rfl

/-! ## The contents at each boundary -/

variable (m : (ℓ : Loc nD τ sig) → Buf (Elt F) ℓ)

/-- The number of trips of each loop: the number of chunks. -/
abbrev nT : ℕ := 132
/-- The buffers when the first loop is entered. -/
abbrev Vpre (c : Dev nD) : Valuation τ sig (Elt F) := afterL [ops0, ops1a] (launchContents m c)
/-- The buffers before the `k`-th run of the first loop's condition. -/
abbrev L0 (k : ℕ) (c : Dev nD) : Valuation τ sig (Elt F) := atTrip cond0 [body0] (Vpre m) k c
/-- The buffers when the second loop is entered. -/
abbrev Vmid (c : Dev nD) : Valuation τ sig (Elt F) := afterL [ops1b, ops2a] (after cond0 (L0 m nT c))
/-- The buffers before the `k`-th run of the second loop's condition. -/
abbrev L1 (k : ℕ) (c : Dev nD) : Valuation τ sig (Elt F) := atTrip cond1 [body1] (Vmid m) k c
/-- The buffers at @main's end. -/
abbrev Vend (c : Dev nD) : Valuation τ sig (Elt F) := afterL [ops2b, ops3] (after cond1 (L1 m nT c))

/-! ## The arguments are kept -/

theorem Vpre_args (c : Dev nD) : ∀ a ∈ argRefs, Vpre m c (Proc.devRef .tc a) = m ((c : Thread nD τ).loc a) := fun a ha => by
  simp only [Vpre, afterL_cons, afterL_nil]
  rw [after_of_writes_sub ops1a _ ops1a_writes (ops1a_args a ha), after_of_writes_sub ops0 _ ops0_writes (ops0_args a ha)]
/-- A loop whose condition and body do not write `a` leaves it as it was. -/
theorem atTrip_keeps {condOps body : List (HloOp τ sig (Elt F))} {Wc Wb : List (Ref sig .tc)} (a : Ref sig .tc)
    (hc : condOps.Forall fun op => op.writes ⊆ (Wc.map (Proc.devRef (τ := τ) .tc)).toFinset) (hb : body.Forall fun op => op.writes ⊆ (Wb.map (Proc.devRef (τ := τ) .tc)).toFinset)
    (hac : a ∉ Wc) (hab : a ∉ Wb) (V : Dev nD → Valuation τ sig (Elt F)) (c : Dev nD) :
    ∀ k, atTrip condOps [body] V k c (Proc.devRef .tc a) = V c (Proc.devRef .tc a)
  | 0 => rfl
  | k + 1 => by
    rw [atTrip_succ]
    simp only [afterL_cons, afterL_nil]
    rw [after_of_writes_sub body _ hb hab, after_of_writes_sub condOps _ hc hac]
    exact atTrip_keeps a hc hb hac hab V c k
theorem cond0_args : ∀ a ∈ argRefs, a ∉ cond0_W := by decide
theorem cond1_args : ∀ a ∈ argRefs, a ∉ cond1_W := by decide
theorem Vmid_args (c : Dev nD) : ∀ a ∈ argRefs, Vmid m c (Proc.devRef .tc a) = m ((c : Thread nD τ).loc a) := fun a ha => by
  simp only [Vmid, afterL_cons, afterL_nil]
  rw [after_of_writes_sub ops2a _ ops2a_writes (ops2a_args a ha), after_of_writes_sub ops1b _ ops1b_writes (ops1b_args a ha),
    after_of_writes_sub cond0 _ cond0_writes (cond0_args a ha)]
  exact (atTrip_keeps a cond0_writes body0_writes (cond0_args a ha) (body0_args a ha) _ c nT).trans (Vpre_args m c a ha)
theorem Vend_args (c : Dev nD) : ∀ a ∈ argRefs, Vend m c (Proc.devRef .tc a) = m ((c : Thread nD τ).loc a) := fun a ha => by
  simp only [Vend, afterL_cons, afterL_nil]
  rw [after_of_writes_sub ops3 _ ops3_writes (ops3_args a ha), after_of_writes_sub ops2b _ ops2b_writes (ops2b_args a ha),
    after_of_writes_sub cond1 _ cond1_writes (cond1_args a ha)]
  exact (atTrip_keeps a cond1_writes body1_writes (cond1_args a ha) (body1_args a ha) _ c nT).trans (Vmid_args m c a ha)

/-! ## The trip counters -/

theorem ctr0_step (X : Valuation τ sig (Elt F)) :
    after body0 X (Proc.devRef .tc main_v53_6) = addi (X (Proc.devRef .tc main_v53_6)) (constantI S_ 32 1#32) := by
  after_results
  rfl
theorem ctr0_entry (c : Dev nD) : Vpre m c (Proc.devRef .tc main_v53_6) = fun _ => (0#32 : BitVec 32) := by
  simp only [Vpre, afterL_cons, afterL_nil]
  after_results
  rfl
theorem ctr1_step (X : Valuation τ sig (Elt F)) :
    after body1 X (Proc.devRef .tc main_v91_8) = addi (X (Proc.devRef .tc main_v91_8)) (constantI S_ 32 1#32) := by
  after_results
  rfl
theorem ctr1_entry (c : Dev nD) : Vmid m c (Proc.devRef .tc main_v91_8) = fun _ => (0#32 : BitVec 32) := by
  simp only [Vmid, afterL_cons, afterL_nil]
  after_results
  rfl
/-- A loop's counter before trip `k`, given what its body adds. -/
theorem ctr_at {condOps body : List (HloOp τ sig (Elt F))} {Wc : List (Ref sig .tc)} {V : Dev nD → Valuation τ sig (Elt F)} (r : Ref sig .tc)
    (hc : condOps.Forall fun op => op.writes ⊆ (Wc.map (Proc.devRef (τ := τ) .tc)).toFinset) (hr : r ∉ Wc) (c : Dev nD)
    (z : ℕ → (Proc.devRef (τ := τ) .tc r).ty.Contents (Elt F)) (h0 : V c (Proc.devRef .tc r) = z 0)
    (hs : ∀ (k : ℕ) (X : Valuation τ sig (Elt F)), X (Proc.devRef .tc r) = z k → after body X (Proc.devRef .tc r) = z (k + 1)) :
    ∀ k, atTrip condOps [body] V k c (Proc.devRef .tc r) = z k
  | 0 => h0
  | k + 1 => by
    rw [atTrip_succ]
    simp only [afterL_cons, afterL_nil]
    exact hs k _ ((after_of_writes_sub condOps _ hc hr).trans (ctr_at r hc hr c z h0 hs k))
theorem ctr0_at (c : Dev nD) (k : ℕ) : L0 m k c (Proc.devRef .tc main_v53_6) = fun _ => Scf.iv 0#32 1#32 k :=
  ctr_at main_v53_6 cond0_writes (by decide) c (fun k => fun _ => Scf.iv 0#32 1#32 k) (by rw [ctr0_entry, Scf.iv_zero])
    (fun k X hX => by rw [ctr0_step, hX, Scf.iv_succ]; rfl) k
theorem ctr1_at (c : Dev nD) (k : ℕ) : L1 m k c (Proc.devRef .tc main_v91_8) = fun _ => Scf.iv 0#32 1#32 k :=
  ctr_at main_v91_8 cond1_writes (by decide) c (fun k => fun _ => Scf.iv 0#32 1#32 k) (by rw [ctr1_entry, Scf.iv_zero])
    (fun k X hX => by rw [ctr1_step, hX, Scf.iv_succ]; rfl) k

/-! ## The conditions -/

/-- No pipeline, so no admissibility data, no ticket and no level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
/-- What rides beside the buffers: the core owes nothing. -/
abbrev Rw (c : Dev nD) : sProp 𝕄 := iprop(∃ W, owes (c : Thread nD τ) (0 : CellTallies nD τ sig Unit) W)

set_option backward.isDefEq.respectTransparency.types false in
theorem cond0_spec : LoopCond (pcfgs (F := F)) defs₀ Variants.none loops Rw (main_while0_cond (F := F)) cond0 [body0] (Vpre m) nT := by
  intro k hk c bd
  have hctr := ctr0_at m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (L0 m k c) main_v53_6 HostLoop.idx0)
        (HloOp.result _ (L0 m k c) main_while0c_c_40 HostLoop.idx0) = 1#1) (k < nT)
    rw [nullary_result_ne _ _ _ _ (by decide), nullary_result, hctr]
    exact Scf.cmpi_slt_iv_ub_iff (lb := 0#32) (ub := 132#32) (st := 1#32) (by decide) (show k ≤ Scf.trips 0#32 132#32 1#32 from hk)
  isplitl [Hb]; · iexact Hb
  isplitl [Hh]; · rw [after_cons, after_cons, after_nil]; iexact Hh
  iexact HR

set_option backward.isDefEq.respectTransparency.types false in
theorem cond1_spec : LoopCond (pcfgs (F := F)) defs₀ Variants.none loops Rw (main_while1_cond (F := F)) cond1 [body1] (Vmid m) nT := by
  intro k hk c bd
  have hctr := ctr1_at m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (L1 m k c) main_v91_8 HostLoop.idx0)
        (HloOp.result _ (L1 m k c) main_while1c_c_44 HostLoop.idx0) = 1#1) (k < nT)
    rw [nullary_result_ne _ _ _ _ (by decide), nullary_result, hctr]
    exact Scf.cmpi_slt_iv_ub_iff (lb := 0#32) (ub := 132#32) (st := 1#32) (by decide) (show k ≤ Scf.trips 0#32 132#32 1#32 from hk)
  isplitl [Hb]; · iexact Hb
  isplitl [Hh]; · rw [after_cons, after_cons, after_nil]; iexact Hh
  iexact HR

/-! ## The segments -/

theorem pre_plain : Plain ([ops0, ops1a] : List (List (HloOp τ sig (Elt F)))) := .cons ops0_sub (.cons ops1a_sub .nil ops1a_fresh) ops0_fresh
theorem mid_plain : Plain ([ops1b, ops2a] : List (List (HloOp τ sig (Elt F)))) := .cons ops1b_sub (.cons ops2a_sub .nil ops2a_fresh) ops1b_fresh
theorem post_plain : Plain ([ops2b, ops3] : List (List (HloOp τ sig (Elt F)))) := .cons ops2b_sub (.cons ops3_sub .nil ops3_fresh) ops2b_fresh
theorem body0_plain : Plain ([body0] : List (List (HloOp τ sig (Elt F)))) := .cons body0_sub .nil body0_fresh
theorem body1_plain : Plain ([body1] : List (List (HloOp τ sig (Elt F)))) := .cons body1_sub .nil body1_fresh

abbrev KSeg : Type 1 := Pipeline.CSeg (pcfgs (F := F)) adm defs₀ Variants.none L lv loops tk

abbrev loopSeg0 : KSeg (F := F) :=
  loopSeg _ _ _ _ _ _ _ _ 0 (main_while0_cond (F := F)) (main_while0_body (F := F)) rfl cond0 [body0] body0_plain body0_seq nT (Vpre m) Rw (cond0_spec m)
abbrev loopSeg1 : KSeg (F := F) :=
  loopSeg _ _ _ _ _ _ _ _ 1 (main_while1_cond (F := F)) (main_while1_body (F := F)) rfl cond1 [body1] body1_plain body1_seq nT (Vmid m) Rw (cond1_spec m)
/-- @main's segments: three stretches of host operations around the two loops. -/
def runSegs : List (KSeg (F := F)) :=
  segsOf _ _ _ _ _ _ _ _ Rw [ops0, ops1a] pre_plain (launchContents m)
    ++ loopSeg0 m :: (segsOf _ _ _ _ _ _ _ _ Rw [ops1b, ops2a] mid_plain (fun c => after cond0 (L0 m nT c))
      ++ loopSeg1 m :: segsOf _ _ _ _ _ _ _ _ Rw [ops2b, ops3] post_plain (fun c => after cond1 (L1 m nT c)))

theorem runSegs_chains :
    Pipeline.CSeg.Chains (fun c => iprop(held (c : Thread nD τ) (ucRefs τ sig) (launchContents m c) ∗ Rw c)) (runSegs m)
      (fun c => iprop(iprop(held (c : Thread nD τ) (ucRefs τ sig) (Vend m c)) ∗ ∃ W, owes (c : Thread nD τ) (0 : CellTallies nD τ sig Unit) W)) := by
  unfold runSegs
  exact Pipeline.CSeg.Chains.append (segsOf_chains _ _ _ _ _ _ _ _ Rw [ops0, ops1a] pre_plain _)
    ⟨fun _ => .rfl, Pipeline.CSeg.Chains.append (segsOf_chains _ _ _ _ _ _ _ _ Rw [ops1b, ops2a] mid_plain _)
      ⟨fun _ => .rfl, segsOf_chains _ _ _ _ _ _ _ _ Rw [ops2b, ops3] post_plain _⟩⟩

theorem main_eq_chain (c : Dev nD) : main (F := F) c = Pipeline.chain [seq ops0, seq ops1a, HostLoop.enter 0, seq ops1b, seq ops2a, HostLoop.enter 1, seq ops2b, seq ops3] := by
  show (main_part0 (F := F) c >>= fun _ => main_part1 (F := F) c >>= fun _ => main_part2 (F := F) c >>= fun _ => main_part3 (F := F) c) = _
  rw [part0_seq, part1_seq, part2_seq, part3_seq]
  simp only [Pipeline.chain_cons, Pipeline.chain_nil, bind_assoc, pure_bind]
  rfl

theorem main_runL (c : Dev nD) : main (F := F) c = Pipeline.CSeg.runL (runSegs m) := by
  rw [main_eq_chain]
  unfold Pipeline.CSeg.runL runSegs
  rw [List.map_append, List.map_cons, List.map_append, List.map_cons, segsOf_prog, segsOf_prog, segsOf_prog]
  rfl

theorem no_unscoped : ∀ sm : SemLoc sig, sm.isScoped .tc = true := by decide

set_option backward.isDefEq.respectTransparency.types false in
/-- THE RUN: every execution of @main terminates with every buffer of the program at `Vend` and every semaphore counter at zero. -/
theorem run_main (ρ : Dev nD → PrngReg) : θ_run defs (onTc (τ := τ) (main (F := F))) ⟨m, fun _ => 0, ρ⟩
    (fun r => (∀ (c : Dev nD), ∀ b ∈ ucRefs τ sig, r.2.mem ((c : Dev nD), b) = Vend m c b) ∧ r.2.sem = fun _ => 0) :=
  Pipeline.θ_run_regions_loop_kit_sems (pcfgs (F := F)) adm (fun k => k.1.elim0) defs₀ Variants.none L lv loops tk m ρ main (runSegs m)
    (fun c Q => by rw [main_runL m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Vend m c)))
    (hch := runSegs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Vend m c b)
    (hfin := fun c s' => by
      unfold held
      iintro ⟨Hh, HSI⟩
      ihave Hr := (pointsTo_read_all (ucRefs τ sig) (fun b => ((c : Dev nD), b)) (fun b => Vend m c b) s') $$ [Hh HSI]
      · isplitl [Hh] <;> iassumption
      icases Hr with ⟨%h, HSI⟩
      imodintro
      isplitr; · ipureintro; exact h
      iexact HSI)
    (hQ := fun _ h hz => ⟨h, funext fun g => hz g (.inr (no_unscoped g.2))⟩)

/-- A buffer of the program at the run's end. -/
theorem run_read (ρ : Dev nD → PrngReg) : θ_run defs (onTc (τ := τ) (main (F := F))) ⟨m, fun _ => 0, ρ⟩
    (fun r => (∀ (c : Dev nD) (b : Ref sig .tc), (Proc.devRef .tc b : DevRef τ sig).isScoped = false →
        r.2.mem ((c : Thread nD τ).loc b) = Vend m c (Proc.devRef .tc b)) ∧ r.2.sem = fun _ => 0) :=
  (θ_run defs _ _).mono (fun _ h => ⟨fun c b hb => h.1 c _ (devRef_mem_ucRefs b hb), h.2⟩) (run_main m ρ)

end Cert.ReferenceIdeal.Ops

end
-- ==== Proof.Frames.lean ====
module

public import proofs.«01_k».proof.Defs
public import proofs.«01_k».proof.Proof.Gen.Kernel
public import proofs.«01_k».proof.Proof.KernelRun
public import proofs.«01_k».proof.Proof.RefRun
public import Idealize.ShloMosaic.Lib.Tactic

@[expose] public section

noncomputable section

namespace Cert.Proof

open Idealize.ShloMosaic Idealize.ShloMosaic.TcCoe Idealize.SL.Sem

/-! ## The frames: no argument changes and every counter ends at zero -/

section Kernel

open Cert.KernelIdeal Cert.KernelIdeal.Gen

variable {F : FTy → Type} [FloatOps F]

/-- An array that no call writes ends as launched. -/
theorem kept (m : (ℓ : Loc nD τ sig) → Buf (Elt F) ℓ) (c : Dev nD) (r : Ref sig .tc)
    (h : (∀ w, Pipeline.arrRef spec0 w = r → (cfg0.win w).isOut = false) ∧ (∀ w, Pipeline.arrRef spec1 w = r → (cfg1.win w).isOut = false)) :
    Whole.Wend m c (Proc.devRef .tc r) = m ((c : Thread nD τ).loc r) :=
  (Whole.Wend_of m c r h.2).trans (Whole.Wmid_of m c r h.1)

end Kernel

/-- The kernel's frame at any float values. -/
def Frame (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

theorem frame (F : FTy → Type) [FloatOps F] : Frame F := fun m ρ _ =>
  (θ_run Cert.KernelIdeal.defs _ _).mono (fun _ h => ⟨fun c => ⟨(h.1 c Cert.KernelIdeal.main_arg0 rfl).trans (kept m c Cert.KernelIdeal.main_arg0 (by decide)), (h.1 c Cert.KernelIdeal.main_arg1 rfl).trans (kept m c Cert.KernelIdeal.main_arg1 (by decide)), (h.1 c Cert.KernelIdeal.main_arg2 rfl).trans (kept m c Cert.KernelIdeal.main_arg2 (by decide)), (h.1 c Cert.KernelIdeal.main_arg3 rfl).trans (kept m c Cert.KernelIdeal.main_arg3 (by decide)), (h.1 c Cert.KernelIdeal.main_arg4 rfl).trans (kept m c Cert.KernelIdeal.main_arg4 (by decide)), (h.1 c Cert.KernelIdeal.main_arg5 rfl).trans (kept m c Cert.KernelIdeal.main_arg5 (by decide)), (h.1 c Cert.KernelIdeal.main_arg6 rfl).trans (kept m c Cert.KernelIdeal.main_arg6 (by decide)), (h.1 c Cert.KernelIdeal.main_arg7 rfl).trans (kept m c Cert.KernelIdeal.main_arg7 (by decide)), (h.1 c Cert.KernelIdeal.main_arg8 rfl).trans (kept m c Cert.KernelIdeal.main_arg8 (by decide)), (h.1 c Cert.KernelIdeal.main_arg9 rfl).trans (kept m c Cert.KernelIdeal.main_arg9 (by decide)), (h.1 c Cert.KernelIdeal.main_arg10 rfl).trans (kept m c Cert.KernelIdeal.main_arg10 (by decide)), (h.1 c Cert.KernelIdeal.main_arg11 rfl).trans (kept m c Cert.KernelIdeal.main_arg11 (by decide)), (h.1 c Cert.KernelIdeal.main_arg12 rfl).trans (kept m c Cert.KernelIdeal.main_arg12 (by decide)), (h.1 c Cert.KernelIdeal.main_arg13 rfl).trans (kept m c Cert.KernelIdeal.main_arg13 (by decide))⟩, h.2⟩) (Cert.KernelIdeal.Whole.run_main (F := F) m ρ)

/-- The two prints of the kernel are one program. -/
theorem kernel_print : Cert.quiescent_Kernel (hKernel := Cert.Kernel.Gen.facts) = Frame Bits := by sl_kernel_rfl
theorem frame_kernel : Cert.quiescent_Kernel (hKernel := Cert.Kernel.Gen.facts) := kernel_print.mpr (frame Bits)

theorem kernelIdeal_print : Cert.quiescent_KernelIdeal (hKernelIdeal := Cert.KernelIdeal.Gen.facts) = Frame Ideal := by sl_kernel_rfl
theorem frame_kernelIdeal : Cert.quiescent_KernelIdeal (hKernelIdeal := Cert.KernelIdeal.Gen.facts) := kernelIdeal_print.mpr (frame Ideal)

theorem frame_reference : Cert.quiescent_ReferenceIdeal (hReferenceIdeal := Cert.ReferenceIdeal.Gen.facts) := fun m ρ _ =>
  (θ_run Cert.ReferenceIdeal.defs _ _).mono (fun _ h => ⟨fun c => ⟨(h.1 c Cert.ReferenceIdeal.main_arg0 rfl).trans (Cert.ReferenceIdeal.Ops.Vend_args m c Cert.ReferenceIdeal.main_arg0 (by simp [Cert.ReferenceIdeal.Ops.argRefs])), (h.1 c Cert.ReferenceIdeal.main_arg1 rfl).trans (Cert.ReferenceIdeal.Ops.Vend_args m c Cert.ReferenceIdeal.main_arg1 (by simp [Cert.ReferenceIdeal.Ops.argRefs])), (h.1 c Cert.ReferenceIdeal.main_arg2 rfl).trans (Cert.ReferenceIdeal.Ops.Vend_args m c Cert.ReferenceIdeal.main_arg2 (by simp [Cert.ReferenceIdeal.Ops.argRefs])), (h.1 c Cert.ReferenceIdeal.main_arg3 rfl).trans (Cert.ReferenceIdeal.Ops.Vend_args m c Cert.ReferenceIdeal.main_arg3 (by simp [Cert.ReferenceIdeal.Ops.argRefs])), (h.1 c Cert.ReferenceIdeal.main_arg4 rfl).trans (Cert.ReferenceIdeal.Ops.Vend_args m c Cert.ReferenceIdeal.main_arg4 (by simp [Cert.ReferenceIdeal.Ops.argRefs])), (h.1 c Cert.ReferenceIdeal.main_arg5 rfl).trans (Cert.ReferenceIdeal.Ops.Vend_args m c Cert.ReferenceIdeal.main_arg5 (by simp [Cert.ReferenceIdeal.Ops.argRefs])), (h.1 c Cert.ReferenceIdeal.main_arg6 rfl).trans (Cert.ReferenceIdeal.Ops.Vend_args m c Cert.ReferenceIdeal.main_arg6 (by simp [Cert.ReferenceIdeal.Ops.argRefs])), (h.1 c Cert.ReferenceIdeal.main_arg7 rfl).trans (Cert.ReferenceIdeal.Ops.Vend_args m c Cert.ReferenceIdeal.main_arg7 (by simp [Cert.ReferenceIdeal.Ops.argRefs])), (h.1 c Cert.ReferenceIdeal.main_arg8 rfl).trans (Cert.ReferenceIdeal.Ops.Vend_args m c Cert.ReferenceIdeal.main_arg8 (by simp [Cert.ReferenceIdeal.Ops.argRefs])), (h.1 c Cert.ReferenceIdeal.main_arg9 rfl).trans (Cert.ReferenceIdeal.Ops.Vend_args m c Cert.ReferenceIdeal.main_arg9 (by simp [Cert.ReferenceIdeal.Ops.argRefs])), (h.1 c Cert.ReferenceIdeal.main_arg10 rfl).trans (Cert.ReferenceIdeal.Ops.Vend_args m c Cert.ReferenceIdeal.main_arg10 (by simp [Cert.ReferenceIdeal.Ops.argRefs])), (h.1 c Cert.ReferenceIdeal.main_arg11 rfl).trans (Cert.ReferenceIdeal.Ops.Vend_args m c Cert.ReferenceIdeal.main_arg11 (by simp [Cert.ReferenceIdeal.Ops.argRefs])), (h.1 c Cert.ReferenceIdeal.main_arg12 rfl).trans (Cert.ReferenceIdeal.Ops.Vend_args m c Cert.ReferenceIdeal.main_arg12 (by simp [Cert.ReferenceIdeal.Ops.argRefs])), (h.1 c Cert.ReferenceIdeal.main_arg13 rfl).trans (Cert.ReferenceIdeal.Ops.Vend_args m c Cert.ReferenceIdeal.main_arg13 (by simp [Cert.ReferenceIdeal.Ops.argRefs]))⟩, h.2⟩) (Cert.ReferenceIdeal.Ops.run_read m ρ)

end Cert.Proof

end
-- ==== Proof.Spec.lean ====
module

public import Idealize.ShloMosaic.Lib.Pointwise

@[expose] public section

noncomputable section

/-! # The gated delta rule over a sequence of chunks, head by head, on extended reals

One head's state is a matrix of keys by values. `next` is a chunk's step, `prev` its step back along the gradient of the state,
and the `d…` functions are the gradients of what the step reads. -/

namespace Cert.Delta

/-- What one step reads of one head: `a` is the masked product of queries and keys, `g` the chunk's decay, `dO` the gradient of its output. -/
structure Chunk where
  u : Fin 64 → Fin 128 → EReal
  w : Fin 64 → Fin 128 → EReal
  qd : Fin 64 → Fin 128 → EReal
  ks : Fin 64 → Fin 128 → EReal
  a : Fin 64 → Fin 64 → EReal
  g : EReal
  dO : Fin 64 → Fin 128 → EReal

abbrev State : Type := Fin 128 → Fin 128 → EReal

variable (A : Chunk) (s d : State)

/-- The values the step writes: what is to be stored less what the state already recalls. -/
def vnew (c : Fin 64) (v : Fin 128) : EReal := A.u c v - ∑ k, A.w c k * s k v
def out (c : Fin 64) (v : Fin 128) : EReal := (∑ k, A.qd c k * s k v) + ∑ j, A.a c j * vnew A s j v
def next : State := fun k v => s k v * A.g + ∑ c, A.ks c k * vnew A s c v

/-- The gradient of `vnew`, from the gradient `d` of the state the step leaves. -/
def dvn (c : Fin 64) (v : Fin 128) : EReal := (∑ k, A.ks c k * d k v) + ∑ i, A.a i c * A.dO i v
def dW (c : Fin 64) (k : Fin 128) : EReal := ∑ v, -dvn A d c v * s k v
def dQd (c : Fin 64) (k : Fin 128) : EReal := ∑ v, A.dO c v * s k v
def dKs (c : Fin 64) (k : Fin 128) : EReal := ∑ v, vnew A s c v * d k v
def dA (i j : Fin 64) : EReal := ∑ v, A.dO i v * vnew A s j v
def dG : EReal := ∑ k, ∑ v, s k v * d k v
/-- The gradient of the state the step starts from. -/
def prev : State := fun k v => d k v * A.g + (∑ c, A.w c k * -dvn A d c v) + ∑ c, A.qd c k * A.dO c v

/-- The states of a walk over `X`, forward from nothing, -/
def states (X : ℕ → Chunk) : ℕ → State
  | 0 => fun _ _ => 0
  | n + 1 => next (X n) (states X n)
/-- and the gradients, `n` chunks back from the end of a walk of 132. -/
def grads (X : ℕ → Chunk) : ℕ → State
  | 0 => fun _ _ => 0
  | n + 1 => prev (X (131 - n)) (grads X n)

end Cert.Delta

end
-- ==== Proof.Walk.lean ====
module

public import proofs.«01_k».proof.Proof.Spec
public import Idealize.ShloMosaic.Lib.Pointwise

@[expose] public section

noncomputable section

/-! # Both walks over the arrays, and what they leave

Direction 0 walks the 132 chunks in order. Direction 1 walks the context's four chunks last first, and then the others last first. -/

namespace Cert.Delta

open Idealize.ShloMosaic

/-- The chunk that the walk in direction `e` meets at step `p`, and the step at which it meets chunk `n`. -/
def place (e : Fin 2) (p : ℕ) : Fin 132 := if e = 0 then ⟨p % 132, by omega⟩ else if h : p < 4 then ⟨3 - p, by omega⟩ else ⟨135 - p, by omega⟩
def pos (e : Fin 2) (n : Fin 132) : ℕ := if e = 0 then n else if n.val < 4 then 3 - n else 135 - n

theorem pos_lt (e : Fin 2) (n : Fin 132) : pos e n < 132 := by unfold pos; split <;> [skip; split] <;> omega
theorem place_pos (e : Fin 2) (n : Fin 132) : place e (pos e n) = n := by
  unfold place pos; apply Fin.ext; split <;> [skip; (split <;> split)] <;> simp only [] <;> omega
theorem pos_place (e : Fin 2) (p : ℕ) (hp : p < 132) : pos e (place e p) = p := by
  unfold place pos; split <;> [skip; (split <;> split)] <;> simp only [] at * <;> omega

/-- The arrays that the recurrence reads, by direction: chunk, head, row within the chunk, lane. -/
structure Args where
  u : Fin 2 → (⟨4, ![132, 4, 64, 128]⟩ : Shape).Idx → EReal
  w : Fin 2 → (⟨4, ![132, 4, 64, 128]⟩ : Shape).Idx → EReal
  qd : Fin 2 → (⟨4, ![132, 4, 64, 128]⟩ : Shape).Idx → EReal
  ks : Fin 2 → (⟨4, ![132, 4, 64, 128]⟩ : Shape).Idx → EReal
  a : Fin 2 → (⟨4, ![132, 4, 64, 64]⟩ : Shape).Idx → EReal
  g : Fin 2 → (⟨4, ![132, 4, 1, 128]⟩ : Shape).Idx → EReal
  dO : Fin 2 → (⟨2, ![8448, 512]⟩ : Shape).Idx → EReal

namespace Args

variable (I : Args) (e : Fin 2)

def chunk (h : Fin 4) (n : Fin 132) : Chunk where
  u c k := I.u e (ix4 n h c k)
  w c k := I.w e (ix4 n h c k)
  qd c k := I.qd e (ix4 n h c k)
  ks c k := I.ks e (ix4 n h c k)
  a i j := I.a e (ix4 n h i j)
  g := I.g e (ix4 n h 0 0)
  dO c v := I.dO e (ix2 ⟨n.val * 64 + c.val, by omega⟩ ⟨h.val * 128 + v.val, by omega⟩)

abbrev walk (h : Fin 4) (p : ℕ) : Chunk := I.chunk e h (place e p)

theorem walk_pos (h : Fin 4) (n : Fin 132) : I.walk e h (pos e n) = I.chunk e h n := by rw [walk, place_pos]

/-- The state in front of a chunk, and the gradient of the state behind it. -/
def state (h : Fin 4) (n : Fin 132) : State := states (I.walk e h) (pos e n)
def grad (h : Fin 4) (n : Fin 132) : State := grads (I.walk e h) (131 - pos e n)

/-- The results: the output, and the gradients of what the recurrence reads. -/
def o (i : (⟨2, ![8448, 512]⟩ : Shape).Idx) : EReal :=
  out (I.chunk e ⟨(i 1).val / 128, Nat.div_lt_of_lt_mul (i 1).isLt⟩ ⟨(i 0).val / 64, Nat.div_lt_of_lt_mul (i 0).isLt⟩)
    (I.state e ⟨(i 1).val / 128, Nat.div_lt_of_lt_mul (i 1).isLt⟩ ⟨(i 0).val / 64, Nat.div_lt_of_lt_mul (i 0).isLt⟩)
    ⟨(i 0).val % 64, Nat.mod_lt _ (by decide)⟩ ⟨(i 1).val % 128, Nat.mod_lt _ (by decide)⟩
def s (i : (⟨4, ![132, 4, 128, 128]⟩ : Shape).Idx) : EReal := I.state e (i 1) (i 0) (i 2) (i 3)
def du (i : (⟨4, ![132, 4, 64, 128]⟩ : Shape).Idx) : EReal := dvn (I.chunk e (i 1) (i 0)) (I.grad e (i 1) (i 0)) (i 2) (i 3)
def dw (i : (⟨4, ![132, 4, 64, 128]⟩ : Shape).Idx) : EReal :=
  dW (I.chunk e (i 1) (i 0)) (I.state e (i 1) (i 0)) (I.grad e (i 1) (i 0)) (i 2) (i 3)
def dqd (i : (⟨4, ![132, 4, 64, 128]⟩ : Shape).Idx) : EReal := dQd (I.chunk e (i 1) (i 0)) (I.state e (i 1) (i 0)) (i 2) (i 3)
def dks (i : (⟨4, ![132, 4, 64, 128]⟩ : Shape).Idx) : EReal :=
  dKs (I.chunk e (i 1) (i 0)) (I.state e (i 1) (i 0)) (I.grad e (i 1) (i 0)) (i 2) (i 3)
def da (i : (⟨4, ![132, 4, 64, 64]⟩ : Shape).Idx) : EReal := dA (I.chunk e (i 1) (i 0)) (I.state e (i 1) (i 0)) (i 2) (i 3)
def dg (i : (⟨4, ![132, 4, 1, 128]⟩ : Shape).Idx) : EReal := if (i 3).val = 0 then dG (I.state e (i 1) (i 0)) (I.grad e (i 1) (i 0)) else 0

end Args

/-- Head `b` of the eight that a step carries is head `b % 4` of direction `b / 4`. -/
def dir (b : Fin 8) : Fin 2 := ⟨b.val / 4, by omega⟩
def hd (b : Fin 8) : Fin 4 := ⟨b.val % 4, by omega⟩
def up (h : Fin 4) : Fin 8 := ⟨h.val, by omega⟩
def dn (h : Fin 4) : Fin 8 := ⟨4 + h.val, by omega⟩

theorem dir_up (h : Fin 4) : dir (up h) = 0 := by revert h; decide
theorem dir_dn (h : Fin 4) : dir (dn h) = 1 := by revert h; decide
theorem hd_up (h : Fin 4) : hd (up h) = h := by revert h; decide
theorem hd_dn (h : Fin 4) : hd (dn h) = h := by revert h; decide
theorem up_or_dn (b : Fin 8) : (∃ h, b = up h) ∨ ∃ h, b = dn h := by revert b; decide

end Cert.Delta

end
-- ==== Proof.FwdValue.lean ====
module

public import proofs.«01_k».proof.Proof.FwdBody
public import proofs.«01_k».proof.Proof.Walk
public import Idealize.ShloMosaic.Lib.Pipeline.ValueKit

@[expose] public section

set_option maxRecDepth 16384

noncomputable section

/-! # What the forward call leaves, on extended reals -/

namespace Cert.KernelIdeal.Fwd

open Idealize.ShloMosaic Idealize.ShloMosaic.Tactic
open Cert.KernelIdeal.Gen
open Cert.Delta (dir hd Args Chunk State)

/-! ## A step, head by head -/

variable (A : StepIn Ideal) (s : FVec Ideal S8x128x128 .f32) (b : Fin 8) (dO : Fin 64 → Fin 128 → EReal)

/-- Head `b` of a step's inputs, with a given gradient of its output. -/
def StepIn.head : Chunk where
  u c k := A.u (ix3 b c k)
  w c k := A.w (ix3 b c k)
  qd c k := A.qd (ix3 b c k)
  ks c k := A.ks (ix3 b c k)
  a i j := A.aqk (ix3 b i j)
  g := if h : b.val < 4 then A.ga (ix4 0 ⟨b, h⟩ 0 0) else A.gb (ix4 0 ⟨b - 4, by omega⟩ 0 0)
  dO := dO

/-- Head `b` of a state. -/
abbrev headS : State := fun k v => s (ix3 b k v)

theorem vnew_at (c : Fin 64) (v : Fin 128) : k0_pay24 s A.u A.w A.qd (ix3 b c v) = Delta.vnew (A.head b dO) (headS s b) c v := by
  pointwise [k0_pay24, k0_pay23]
  rfl
theorem out_at (c : Fin 64) (v : Fin 128) : k0_pay25 s A.u A.w A.qd A.aqk (ix3 b c v) = Delta.out (A.head b dO) (headS s b) c v := by
  unfold k0_pay25
  pointwise [k0_pay23]
  simp only [vnew_at A s b dO]
  rfl
theorem next_at (k v : Fin 128) : next A s (ix3 b k v) = Delta.next (A.head b dO) (headS s b) k v := by
  unfold next k0_pay26
  pointwise
  simp only [vnew_at A s b dO]
  rfl
theorem oFwd_at (c : Fin 64) (h : Fin 4) (v : Fin 128) :
    oFwd A s (ix2 c ⟨h.val * 128 + v.val, by omega⟩) = Delta.out (A.head (Delta.up h) dO) (headS s (Delta.up h)) c v := by
  rw [← out_at]
  unfold oFwd k0_pay27
  have hv := v.isLt
  fin_cases h <;> pointwise <;> (repeat first | rw [dif_pos (by omega)] | rw [dif_neg (by omega)]) <;>
    (refine congrArg _ ((ix3_inj _ _ _ _ _ _).mpr ⟨rfl, rfl, Fin.ext (by first | omega | (simp only []; omega) | rfl)⟩))
theorem oBwd_at (c : Fin 64) (h : Fin 4) (v : Fin 128) :
    oBwd A s (ix2 c ⟨h.val * 128 + v.val, by omega⟩) = Delta.out (A.head (Delta.dn h) dO) (headS s (Delta.dn h)) c v := by
  rw [← out_at]
  unfold oBwd k0_pay28
  have hv := v.isLt
  fin_cases h <;> pointwise <;> (repeat first | rw [dif_pos (by omega)] | rw [dif_neg (by omega)]) <;>
    (refine congrArg _ ((ix3_inj _ _ _ _ _ _).mpr ⟨rfl, rfl, Fin.ext (by first | omega | (simp only []; omega) | rfl)⟩))
theorem sFwd_at (h : Fin 4) (k v : Fin 128) : sFwd s (ix4 0 h k v) = s (ix3 (Delta.up h) k v) := by
  unfold sFwd k0_pay29
  pointwise
  rfl
theorem sBwd_at (h : Fin 4) (k v : Fin 128) : sBwd s (ix4 0 h k v) = s (ix3 (Delta.dn h) k v) := by
  unfold sBwd k0_pay30
  pointwise
  rfl

/-! ## A grid point's steps, from its blocks -/

variable (X : In Ideal)

/-- Row `j` of the blocks, of one direction. -/
def upHead (j : Fin 4) (h : Fin 4) : Chunk where
  u c k := X.x0 (ix4 j h c k)
  w c k := X.x2 (ix4 j h c k)
  qd c k := X.x4 (ix4 j h c k)
  ks c k := X.x6 (ix4 j h c k)
  a i k := X.x8 (ix4 j h i k)
  g := X.x10 (ix4 j h 0 0)
  dO := dO
def dnHead (j : Fin 4) (h : Fin 4) : Chunk where
  u c k := X.x1 (ix4 j h c k)
  w c k := X.x3 (ix4 j h c k)
  qd c k := X.x5 (ix4 j h c k)
  ks c k := X.x7 (ix4 j h c k)
  a i k := X.x9 (ix4 j h i k)
  g := X.x11 (ix4 j h 0 0)
  dO := dO

theorem row_at (j : ℕ) (hj) (x : Vec Ideal S4x4x64x128 .f32) (h : Fin 4) (c : Fin 64) (k : Fin 128) :
    row j hj x (ix4 0 h c k) = x (ix4 ⟨j, by have := hj 0; simp at this; omega⟩ h c k) := by
  unfold row
  pointwise
theorem rowA_at (j : ℕ) (hj) (x : Vec Ideal S4x4x64x64 .f32) (h : Fin 4) (c k : Fin 64) :
    rowA j hj x (ix4 0 h c k) = x (ix4 ⟨j, by have := hj 0; simp at this; omega⟩ h c k) := by
  unfold rowA
  pointwise
theorem rowG_at (j : ℕ) (hj) (x : Vec Ideal S4x4x1x128 .f32) (h : Fin 4) (k : Fin 128) :
    rowG j hj x (ix4 0 h 0 k) = x (ix4 ⟨j, by have := hj 0; simp at this; omega⟩ h 0 k) := by
  unfold rowG
  pointwise

theorem stepIn_up (j k : ℕ) (hj hk hja hka hjg hkg) (h : Fin 4) :
    (stepIn j k hj hk hja hka hjg hkg X).head (Delta.up h) dO = upHead dO X ⟨j, by have := hj 0; simp at this; omega⟩ h := by
  unfold stepIn StepIn.head upHead
  have hh := h.isLt
  simp only [k0_pay19, k0_pay22, Delta.up]
  pointwise
  congr 1 <;> first | (funext c i; exact row_at _ _ _ _ _ _) | (funext c i; exact rowA_at _ _ _ _ _ _) | exact rowG_at _ _ _ _ _
theorem stepIn_dn (j k : ℕ) (hj hk hja hka hjg hkg) (h : Fin 4) :
    (stepIn j k hj hk hja hka hjg hkg X).head (Delta.dn h) dO = dnHead dO X ⟨k, by have := hk 0; simp at this; omega⟩ h := by
  unfold stepIn StepIn.head dnHead
  have hh := h.isLt
  simp only [k0_pay19, k0_pay22, Delta.dn]
  pointwise
  congr 1 <;> first | (funext c i; exact row_at _ _ _ _ _ _) | (funext c i; exact rowA_at _ _ _ _ _ _) | exact rowG_at _ _ _ _ _

/-! ## The grid's walk -/

variable (W : Dev nD → Valuation τ sig (Elt Ideal)) (c : Dev nD)

/-- The recurrence's arrays among a device's. -/
def args : Args where
  u := ![W c (Proc.devRef .tc main_arg0), W c (Proc.devRef .tc main_arg1)]
  w := ![W c (Proc.devRef .tc main_arg2), W c (Proc.devRef .tc main_arg3)]
  qd := ![W c (Proc.devRef .tc main_arg4), W c (Proc.devRef .tc main_arg5)]
  ks := ![W c (Proc.devRef .tc main_arg6), W c (Proc.devRef .tc main_arg7)]
  a := ![W c (Proc.devRef .tc main_arg8), W c (Proc.devRef .tc main_arg9)]
  g := ![W c (Proc.devRef .tc main_arg10), W c (Proc.devRef .tc main_arg11)]
  dO := ![W c (Proc.devRef .tc main_arg12), W c (Proc.devRef .tc main_arg13)]

/-- The block that the walk in direction 1 is at. -/
def back (n : ℕ) : ℕ := if n = 0 then 0 else 33 - n

theorem index_up : ∀ t : Fin cfg0.N,
    win0_0.index t = ![t.val, 0, 0, 0] ∧ win0_2.index t = ![t.val, 0, 0, 0] ∧ win0_4.index t = ![t.val, 0, 0, 0] ∧ win0_6.index t = ![t.val, 0, 0, 0]
      ∧ win0_8.index t = ![t.val, 0, 0, 0] ∧ win0_10.index t = ![t.val, 0, 0, 0] ∧ win0_12.index t = ![t.val, 0] ∧ win0_14.index t = ![t.val, 0, 0, 0] :=
  (by decide +kernel : ∀ t : Fin grid0.N, _)
theorem index_dn : ∀ t : Fin cfg0.N,
    win0_1.index t = ![back t.val, 0, 0, 0] ∧ win0_3.index t = ![back t.val, 0, 0, 0] ∧ win0_5.index t = ![back t.val, 0, 0, 0] ∧ win0_7.index t = ![back t.val, 0, 0, 0]
      ∧ win0_9.index t = ![back t.val, 0, 0, 0] ∧ win0_11.index t = ![back t.val, 0, 0, 0] ∧ win0_13.index t = ![back t.val, 0] ∧ win0_15.index t = ![back t.val, 0, 0, 0] :=
  (by decide +kernel : ∀ t : Fin grid0.N, _)

set_option maxHeartbeats 1600000 in
theorem blocks_up (t : Fin cfg0.N) (j h : Fin 4) :
    upHead ((args W c).walk 0 h (4 * t.val + j.val)).dO (blocks W c t) j h = (args W c).walk 0 h (4 * t.val + j.val) := by
  obtain ⟨h0, h2, h4, h6, h8, h10, -, -⟩ := index_up t
  have ht : t.val < 33 := t.isLt
  unfold upHead blocks Args.walk Args.chunk args
  simp only [Matrix.cons_val_zero]
  congr 1
  all_goals (try funext c k)
  all_goals blk_ext [iblk, h0, h2, h4, h6, h8, h10, Delta.place, if_true]
set_option maxHeartbeats 1600000 in
theorem blocks_dn (t : Fin cfg0.N) (j h : Fin 4) :
    dnHead ((args W c).walk 1 h (4 * t.val + j.val)).dO (blocks W c t) j.rev h = (args W c).walk 1 h (4 * t.val + j.val) := by
  obtain ⟨h1, h3, h5, h7, h9, h11, -, -⟩ := index_dn t
  have ht : t.val < 33 := t.isLt
  unfold dnHead blocks Args.walk Args.chunk args
  simp only [Matrix.cons_val_zero, Matrix.cons_val_one]
  have hp : (Delta.place 1 (4 * t.val + j.val)).val = 4 * back t.val + (3 - j.val) := by
    unfold Delta.place back
    rw [if_neg (by decide)]
    split_ifs <;> simp only [] <;> omega
  congr 1
  all_goals (try funext c k)
  all_goals blk_ext [iblk, h1, h3, h5, h7, h9, h11, hp, Fin.val_rev]

theorem head_up (t : Fin cfg0.N) (h : Fin 4) :
    (in0 (blocks W c t)).head (Delta.up h) ((args W c).walk 0 h (4 * t.val + 0)).dO = (args W c).walk 0 h (4 * t.val + 0)
      ∧ (in1 (blocks W c t)).head (Delta.up h) ((args W c).walk 0 h (4 * t.val + 1)).dO = (args W c).walk 0 h (4 * t.val + 1)
      ∧ (in2 (blocks W c t)).head (Delta.up h) ((args W c).walk 0 h (4 * t.val + 2)).dO = (args W c).walk 0 h (4 * t.val + 2)
      ∧ (in3 (blocks W c t)).head (Delta.up h) ((args W c).walk 0 h (4 * t.val + 3)).dO = (args W c).walk 0 h (4 * t.val + 3) :=
  ⟨(stepIn_up _ _ _ _ _ _ _ _ _ _ _).trans (blocks_up W c t 0 h), (stepIn_up _ _ _ _ _ _ _ _ _ _ _).trans (blocks_up W c t 1 h),
    (stepIn_up _ _ _ _ _ _ _ _ _ _ _).trans (blocks_up W c t 2 h), (stepIn_up _ _ _ _ _ _ _ _ _ _ _).trans (blocks_up W c t 3 h)⟩
theorem head_dn (t : Fin cfg0.N) (h : Fin 4) :
    (in0 (blocks W c t)).head (Delta.dn h) ((args W c).walk 1 h (4 * t.val + 0)).dO = (args W c).walk 1 h (4 * t.val + 0)
      ∧ (in1 (blocks W c t)).head (Delta.dn h) ((args W c).walk 1 h (4 * t.val + 1)).dO = (args W c).walk 1 h (4 * t.val + 1)
      ∧ (in2 (blocks W c t)).head (Delta.dn h) ((args W c).walk 1 h (4 * t.val + 2)).dO = (args W c).walk 1 h (4 * t.val + 2)
      ∧ (in3 (blocks W c t)).head (Delta.dn h) ((args W c).walk 1 h (4 * t.val + 3)).dO = (args W c).walk 1 h (4 * t.val + 3) :=
  ⟨(stepIn_dn _ _ _ _ _ _ _ _ _ _ _).trans (blocks_dn W c t 0 h), (stepIn_dn _ _ _ _ _ _ _ _ _ _ _).trans (blocks_dn W c t 1 h),
    (stepIn_dn _ _ _ _ _ _ _ _ _ _ _).trans (blocks_dn W c t 2 h), (stepIn_dn _ _ _ _ _ _ _ _ _ _ _).trans (blocks_dn W c t 3 h)⟩

/-- The chunk that step `j` of point `t` meets. -/
abbrev met (t : Fin cfg0.N) (j : ℕ) : Chunk := (args W c).walk (dir b) (hd b) (4 * t.val + j)

theorem head_eq (t : Fin cfg0.N) :
    (in0 (blocks W c t)).head b (met b W c t 0).dO = met b W c t 0 ∧ (in1 (blocks W c t)).head b (met b W c t 1).dO = met b W c t 1
      ∧ (in2 (blocks W c t)).head b (met b W c t 2).dO = met b W c t 2 ∧ (in3 (blocks W c t)).head b (met b W c t 3).dO = met b W c t 3 := by
  rcases Delta.up_or_dn b with ⟨h, rfl⟩ | ⟨h, rfl⟩
  · rw [met, met, met, met, Delta.dir_up, Delta.hd_up]; exact head_up W c t h
  · rw [met, met, met, met, Delta.dir_dn, Delta.hd_dn]; exact head_dn W c t h

/-- The states that a point's steps start from. -/
theorem steps (t : Fin cfg0.N) (s : FVec Ideal S8x128x128 .f32) (n : ℕ) (hn : n = 4 * t.val)
    (hs : headS s b = Delta.states ((args W c).walk (dir b) (hd b)) n) :
    headS (s1 (blocks W c t) s) b = Delta.states ((args W c).walk (dir b) (hd b)) (n + 1)
      ∧ headS (s2 (blocks W c t) s) b = Delta.states ((args W c).walk (dir b) (hd b)) (n + 2)
      ∧ headS (s3 (blocks W c t) s) b = Delta.states ((args W c).walk (dir b) (hd b)) (n + 3)
      ∧ headS (s4 (blocks W c t) s) b = Delta.states ((args W c).walk (dir b) (hd b)) (n + 4) := by
  subst hn
  obtain ⟨h0, h1, h2, h3⟩ := head_eq b W c t
  have e1 : headS (s1 (blocks W c t) s) b = Delta.states ((args W c).walk (dir b) (hd b)) (4 * t.val + 1) := by
    funext k v; exact (next_at _ _ b (met b W c t 0).dO k v).trans (by rw [h0, hs]; rfl)
  have e2 : headS (s2 (blocks W c t) s) b = Delta.states ((args W c).walk (dir b) (hd b)) (4 * t.val + 2) := by
    funext k v; exact (next_at _ _ b (met b W c t 1).dO k v).trans (by rw [h1, e1]; rfl)
  have e3 : headS (s3 (blocks W c t) s) b = Delta.states ((args W c).walk (dir b) (hd b)) (4 * t.val + 3) := by
    funext k v; exact (next_at _ _ b (met b W c t 2).dO k v).trans (by rw [h2, e2]; rfl)
  refine ⟨e1, e2, e3, ?_⟩
  funext k v; exact (next_at _ _ b (met b W c t 3).dO k v).trans (by rw [h3, e3]; rfl)

theorem carried_eq (n : ℕ) (hn : n ≤ cfg0.N) : headS (carried W c n hn) b = Delta.states ((args W c).walk (dir b) (hd b)) (4 * n) := by
  induction n with
  | zero => funext k v; unfold carried headS k0_pay2; pointwise; rfl
  | succ n ih => unfold carried; exact (steps b W c ⟨n, hn⟩ _ _ rfl (ih _)).2.2.2

end Cert.KernelIdeal.Fwd

end
-- ==== Proof.FwdOut.lean ====
module

public import proofs.«01_k».proof.Proof.FwdValue

@[expose] public section

set_option maxRecDepth 16384

noncomputable section

/-! # The forward call's four arrays -/

namespace Cert.KernelIdeal.Fwd

open Idealize.ShloMosaic Idealize.ShloMosaic.Tactic
open Cert.KernelIdeal.Gen
open Cert.Delta (dir hd Args Chunk State)

variable (W : Dev nD → Valuation τ sig (Elt Ideal)) (c : Dev nD)

theorem at_up (h : Fin 4) (p : ℕ) : Delta.states ((args W c).walk (dir (Delta.up h)) (hd (Delta.up h))) p = Delta.states ((args W c).walk 0 h) p := by
  rw [Delta.dir_up, Delta.hd_up]
theorem at_dn (h : Fin 4) (p : ℕ) : Delta.states ((args W c).walk (dir (Delta.dn h)) (hd (Delta.dn h))) p = Delta.states ((args W c).walk 1 h) p := by
  rw [Delta.dir_dn, Delta.hd_dn]

/-- A piece of a state's array, and of an output's, is the walk's at the chunk of its place. -/
theorem piece_s0 (s : FVec Ideal S8x128x128 .f32) (p : ℕ) (hs : ∀ b, headS s b = Delta.states ((args W c).walk (dir b) (hd b)) p)
    (x : S1x4x128x128.Idx) (i : (⟨4, ![132, 4, 128, 128]⟩ : Shape).Idx) (hp : Delta.pos 0 (i 0) = p)
    (h1 : (i 1).val = (x 1).val) (h2 : (i 2).val = (x 2).val) (h3 : (i 3).val = (x 3).val) : sFwd s x = (args W c).s 0 i := by
  obtain rfl : x = ix4 0 (i 1) (i 2) (i 3) := by
    rw [eq_ix4 x]; exact (ix4_inj _ _ _ _ _ _ _ _).mpr ⟨Subsingleton.elim _ _, Fin.ext h1.symm, Fin.ext h2.symm, Fin.ext h3.symm⟩
  refine (sFwd_at s (i 1) (i 2) (i 3)).trans ((congrFun (congrFun ((hs (Delta.up (i 1))).trans (at_up W c (i 1) p)) (i 2)) (i 3)).trans ?_)
  unfold Args.s Args.state
  rw [hp]
theorem piece_s1 (s : FVec Ideal S8x128x128 .f32) (p : ℕ) (hs : ∀ b, headS s b = Delta.states ((args W c).walk (dir b) (hd b)) p)
    (x : S1x4x128x128.Idx) (i : (⟨4, ![132, 4, 128, 128]⟩ : Shape).Idx) (hp : Delta.pos 1 (i 0) = p)
    (h1 : (i 1).val = (x 1).val) (h2 : (i 2).val = (x 2).val) (h3 : (i 3).val = (x 3).val) : sBwd s x = (args W c).s 1 i := by
  obtain rfl : x = ix4 0 (i 1) (i 2) (i 3) := by
    rw [eq_ix4 x]; exact (ix4_inj _ _ _ _ _ _ _ _).mpr ⟨Subsingleton.elim _ _, Fin.ext h1.symm, Fin.ext h2.symm, Fin.ext h3.symm⟩
  refine (sBwd_at s (i 1) (i 2) (i 3)).trans ((congrFun (congrFun ((hs (Delta.dn (i 1))).trans (at_dn W c (i 1) p)) (i 2)) (i 3)).trans ?_)
  unfold Args.s Args.state
  rw [hp]
theorem piece_o0 (A : StepIn Ideal) (s : FVec Ideal S8x128x128 .f32) (p : ℕ) (hA : ∀ b, A.head b ((args W c).walk (dir b) (hd b) p).dO = (args W c).walk (dir b) (hd b) p)
    (hs : ∀ b, headS s b = Delta.states ((args W c).walk (dir b) (hd b)) p) (x : S64x512.Idx) (i : (⟨2, ![8448, 512]⟩ : Shape).Idx)
    (hp : Delta.pos 0 ⟨(i 0).val / 64, Nat.div_lt_of_lt_mul (i 0).isLt⟩ = p) (h0 : (i 0).val % 64 = (x 0).val) (h1 : (i 1).val = (x 1).val) :
    oFwd A s x = (args W c).o 0 i := by
  have hi : (i 1).val < 512 := (i 1).isLt
  have ex : x = ix2 ⟨(i 0).val % 64, Nat.mod_lt _ (by decide)⟩
      ⟨(⟨(i 1).val / 128, Nat.div_lt_of_lt_mul (i 1).isLt⟩ : Fin 4).val * 128 + (⟨(i 1).val % 128, Nat.mod_lt _ (by decide)⟩ : Fin 128).val, by simp only []; omega⟩ :=
    (eq_ix2 x).trans ((ix2_inj _ _ _ _).mpr ⟨Fin.ext h0.symm, Fin.ext (by simp only []; omega)⟩)
  refine (congrArg _ ex).trans <| (oFwd_at A s ((args W c).walk 0 ⟨(i 1).val / 128, Nat.div_lt_of_lt_mul (i 1).isLt⟩ p).dO _ _ _).trans ?_
  have e := hA (Delta.up ⟨(i 1).val / 128, Nat.div_lt_of_lt_mul (i 1).isLt⟩)
  rw [hs]
  rw [Delta.dir_up, Delta.hd_up] at e ⊢
  rw [e]
  unfold Args.o Args.state
  rw [hp, ← Args.walk_pos (args W c) 0 _ ⟨(i 0).val / 64, Nat.div_lt_of_lt_mul (i 0).isLt⟩, hp]
theorem piece_o1 (A : StepIn Ideal) (s : FVec Ideal S8x128x128 .f32) (p : ℕ) (hA : ∀ b, A.head b ((args W c).walk (dir b) (hd b) p).dO = (args W c).walk (dir b) (hd b) p)
    (hs : ∀ b, headS s b = Delta.states ((args W c).walk (dir b) (hd b)) p) (x : S64x512.Idx) (i : (⟨2, ![8448, 512]⟩ : Shape).Idx)
    (hp : Delta.pos 1 ⟨(i 0).val / 64, Nat.div_lt_of_lt_mul (i 0).isLt⟩ = p) (h0 : (i 0).val % 64 = (x 0).val) (h1 : (i 1).val = (x 1).val) :
    oBwd A s x = (args W c).o 1 i := by
  have hi : (i 1).val < 512 := (i 1).isLt
  have ex : x = ix2 ⟨(i 0).val % 64, Nat.mod_lt _ (by decide)⟩
      ⟨(⟨(i 1).val / 128, Nat.div_lt_of_lt_mul (i 1).isLt⟩ : Fin 4).val * 128 + (⟨(i 1).val % 128, Nat.mod_lt _ (by decide)⟩ : Fin 128).val, by simp only []; omega⟩ :=
    (eq_ix2 x).trans ((ix2_inj _ _ _ _).mpr ⟨Fin.ext h0.symm, Fin.ext (by simp only []; omega)⟩)
  refine (congrArg _ ex).trans <| (oBwd_at A s ((args W c).walk 1 ⟨(i 1).val / 128, Nat.div_lt_of_lt_mul (i 1).isLt⟩ p).dO _ _ _).trans ?_
  have e := hA (Delta.dn ⟨(i 1).val / 128, Nat.div_lt_of_lt_mul (i 1).isLt⟩)
  rw [hs]
  rw [Delta.dir_dn, Delta.hd_dn] at e ⊢
  rw [e]
  unfold Args.o Args.state
  rw [hp, ← Args.walk_pos (args W c) 1 _ ⟨(i 0).val / 64, Nat.div_lt_of_lt_mul (i 0).isLt⟩, hp]

/-- Where the chunk of step `j` at point `t` lies. -/
theorem pos_up (t j : ℕ) (n : Fin 132) (hn : n.val = 4 * t + j) : Delta.pos 0 n = 4 * t + j := by unfold Delta.pos; rw [if_pos rfl, hn]
theorem pos_dn (t j : ℕ) (ht : t < 33) (hj : j < 4) (n : Fin 132) (hn : n.val = 4 * back t + (3 - j)) : Delta.pos 1 n = 4 * t + j := by
  unfold Delta.pos back at *; rw [if_neg (by decide)]; split_ifs at hn ⊢ <;> omega

theorem arr_s0 : (dat W c).arrAt 14 cfg0.N = (args W c).s 0 := by
  refine (dat W c).arrAt_eq_of_covers 14 _ (by decide +kernel) fun t hf y => ?_
  blk_simp
  rw [after_14]
  unfold res2 out2
  obtain ⟨-, -, -, -, -, -, -, i⟩ := index_up t
  have e := fun b => carried_eq b W c t.val (Nat.le_of_lt t.isLt)
  have q := fun b => steps b W c t _ _ rfl (e b)
  canon_tiles x h
  · refine piece_s0 W c _ _ (fun b => (q b).2.2.1) x _ (pos_up _ _ _ ?_) ?_ ?_ ?_ <;> (blk_simp [i]; (try simp only []); omega)
  · refine piece_s0 W c _ _ (fun b => (q b).2.1) x _ (pos_up _ _ _ ?_) ?_ ?_ ?_ <;> (blk_simp [i]; (try simp only []); omega)
  · refine piece_s0 W c _ _ (fun b => (q b).1) x _ (pos_up _ _ _ ?_) ?_ ?_ ?_ <;> (blk_simp [i]; (try simp only []); omega)
  · refine piece_s0 W c _ _ e x _ (pos_up t.val 0 _ ?_) ?_ ?_ ?_ <;> (blk_simp [i]; (try simp only []); omega)
theorem arr_s1 : (dat W c).arrAt 15 cfg0.N = (args W c).s 1 := by
  refine (dat W c).arrAt_eq_of_covers 15 _ (by decide +kernel) fun t hf y => ?_
  blk_simp
  rw [after_15]
  unfold res3 out3
  obtain ⟨-, -, -, -, -, -, -, i⟩ := index_dn t
  have e := fun b => carried_eq b W c t.val (Nat.le_of_lt t.isLt)
  have q := fun b => steps b W c t _ _ rfl (e b)
  have ht : t.val < 33 := t.isLt
  canon_tiles x h
  · refine piece_s1 W c _ _ (fun b => (q b).2.2.1) x _ (pos_dn _ _ ht (by decide) _ ?_) ?_ ?_ ?_ <;> (blk_simp [i]; (try simp only []); omega)
  · refine piece_s1 W c _ _ (fun b => (q b).2.1) x _ (pos_dn _ _ ht (by decide) _ ?_) ?_ ?_ ?_ <;> (blk_simp [i]; (try simp only []); omega)
  · refine piece_s1 W c _ _ (fun b => (q b).1) x _ (pos_dn _ _ ht (by decide) _ ?_) ?_ ?_ ?_ <;> (blk_simp [i]; (try simp only []); omega)
  · refine piece_s1 W c _ _ e x _ (pos_dn t.val 0 ht (by decide) _ ?_) ?_ ?_ ?_ <;> (blk_simp [i]; (try simp only []); omega)
theorem arr_o0 : (dat W c).arrAt 12 cfg0.N = (args W c).o 0 := by
  refine (dat W c).arrAt_eq_of_covers 12 _ (by decide +kernel) fun t hf y => ?_
  blk_simp
  rw [after_12]
  unfold res0 out0
  obtain ⟨-, -, -, -, -, -, i, -⟩ := index_up t
  have e := fun b => carried_eq b W c t.val (Nat.le_of_lt t.isLt)
  have q := fun b => steps b W c t _ _ rfl (e b)
  have r := fun b => head_eq b W c t
  canon_tiles x h
  · refine piece_o0 W c _ _ _ (fun b => (r b).2.2.2) (fun b => (q b).2.2.1) x _ (pos_up _ _ _ ?_) ?_ ?_ <;> (blk_simp [i]; (try simp only []); omega)
  · refine piece_o0 W c _ _ _ (fun b => (r b).2.2.1) (fun b => (q b).2.1) x _ (pos_up _ _ _ ?_) ?_ ?_ <;> (blk_simp [i]; (try simp only []); omega)
  · refine piece_o0 W c _ _ _ (fun b => (r b).2.1) (fun b => (q b).1) x _ (pos_up _ _ _ ?_) ?_ ?_ <;> (blk_simp [i]; (try simp only []); omega)
  · refine piece_o0 W c _ _ _ (fun b => (r b).1) e x _ (pos_up t.val 0 _ ?_) ?_ ?_ <;> (blk_simp [i]; (try simp only []); omega)
theorem arr_o1 : (dat W c).arrAt 13 cfg0.N = (args W c).o 1 := by
  refine (dat W c).arrAt_eq_of_covers 13 _ (by decide +kernel) fun t hf y => ?_
  blk_simp
  rw [after_13]
  unfold res1 out1
  obtain ⟨-, -, -, -, -, -, i, -⟩ := index_dn t
  have e := fun b => carried_eq b W c t.val (Nat.le_of_lt t.isLt)
  have q := fun b => steps b W c t _ _ rfl (e b)
  have r := fun b => head_eq b W c t
  have ht : t.val < 33 := t.isLt
  canon_tiles x h
  · refine piece_o1 W c _ _ _ (fun b => (r b).2.2.2) (fun b => (q b).2.2.1) x _ (pos_dn _ _ ht (by decide) _ ?_) ?_ ?_ <;> (blk_simp [i]; (try simp only []); omega)
  · refine piece_o1 W c _ _ _ (fun b => (r b).2.2.1) (fun b => (q b).2.1) x _ (pos_dn _ _ ht (by decide) _ ?_) ?_ ?_ <;> (blk_simp [i]; (try simp only []); omega)
  · refine piece_o1 W c _ _ _ (fun b => (r b).2.1) (fun b => (q b).1) x _ (pos_dn _ _ ht (by decide) _ ?_) ?_ ?_ <;> (blk_simp [i]; (try simp only []); omega)
  · refine piece_o1 W c _ _ _ (fun b => (r b).1) e x _ (pos_dn t.val 0 ht (by decide) _ ?_) ?_ ?_ <;> (blk_simp [i]; (try simp only []); omega)

end Cert.KernelIdeal.Fwd

end
-- ==== Proof.BwdValue.lean ====
module

public import proofs.«01_k».proof.Proof.BwdBody
public import proofs.«01_k».proof.Proof.FwdValue

@[expose] public section

set_option maxRecDepth 16384

noncomputable section

/-! # What the backward call leaves, on extended reals -/

namespace Cert.KernelIdeal.Bwd

open Idealize.ShloMosaic Idealize.ShloMosaic.Tactic
open Cert.KernelIdeal.Gen
open Cert.Delta (dir hd Args Chunk State)
open Cert.KernelIdeal.Fwd (row rowA rowG row_at rowA_at rowG_at args)

/-! ## A step, head by head -/

variable (A : StepIn Ideal) (d : FVec Ideal S8x128x128 .f32) (b : Fin 8)

/-- Head `b` of a step's inputs, of the state it started from, and of a gradient of the state it left. -/
def StepIn.head : Chunk where
  u c k := A.u (ix3 b c k)
  w c k := A.w (ix3 b c k)
  qd c k := A.qd (ix3 b c k)
  ks c k := A.ks (ix3 b c k)
  a i j := A.aqk (ix3 b i j)
  g := A.gl (ix3 b 0 0)
  dO c k := A.dO (ix3 b c k)
abbrev StepIn.state : State := fun k v => A.s (ix3 b k v)
abbrev grad : State := fun k v => d (ix3 b k v)

theorem dvn_at (c : Fin 64) (v : Fin 128) :
    (∑ x, d (ix3 b x v) * A.ks (ix3 b c x)) + ∑ x, A.dO (ix3 b x v) * A.aqk (ix3 b x c) = Delta.dvn (A.head b) (grad d b) c v :=
  congrArg₂ (· + ·) (Finset.sum_congr rfl fun _ _ => mul_comm _ _) (Finset.sum_congr rfl fun _ _ => mul_comm _ _)
theorem dU_at (c : Fin 64) (v : Fin 128) : dU A d (ix3 b c v) = Delta.dvn (A.head b) (grad d b) c v := by
  unfold dU
  pointwise [k1_pay60]
  exact dvn_at A d b c v
theorem dW_at (c : Fin 64) (v : Fin 128) : dW A d (ix3 b c v) = Delta.dW (A.head b) (A.state b) (grad d b) c v := by
  unfold dW
  unfold_payloads
  pointwise [sb]
  unfold Delta.dW
  refine Finset.sum_congr rfl fun x _ => ?_
  rw [dvn_at A d b c x, zero_sub]
theorem dQd_at (c : Fin 64) (v : Fin 128) : dQd A d (ix3 b c v) = Delta.dQd (A.head b) (A.state b) c v := by
  unfold dQd
  unfold_payloads
  pointwise [sb]
  rfl
theorem dKs_at (c : Fin 64) (v : Fin 128) : dKs A d (ix3 b c v) = Delta.dKs (A.head b) (A.state b) (grad d b) c v := by
  unfold dKs
  unfold_payloads
  pointwise [sb, wq, acc, k1_pay55]
  exact Finset.sum_congr rfl fun _ _ => mul_comm _ _
theorem dAqk_at (c v : Fin 64) : dAqk A d (ix3 b c v) = Delta.dA (A.head b) (A.state b) c v := by
  unfold dAqk
  unfold_payloads
  pointwise [sb, wq, acc, k1_pay55]
  rfl
theorem dGl_at (l : Fin 128) : dGl A d (ix3 b 0 l) = if l.val = 0 then Delta.dG (A.state b) (grad d b) else 0 := by
  unfold dGl
  unfold_payloads
  pointwise
  split_ifs <;> first | rfl | omega
theorem prev_at (k v : Fin 128) : prev A d (ix3 b k v) = Delta.prev (A.head b) (grad d b) k v := by
  unfold prev
  unfold_payloads
  pointwise [wq, k1_pay55]
  simp only [dvn_at A d b, zero_sub]
  unfold Delta.prev
  rw [add_assoc]
  refine congrArg (d (ix3 b k v) * A.gl (ix3 b 0 0) + ·) (congrArg₂ (· + ·) ?_ ?_) <;> exact Finset.sum_congr rfl fun _ _ => mul_comm _ _

/-! ## A grid point's steps, from its blocks -/

variable (X : In Ideal)

/-- Row `j` of the blocks, of one direction. -/
def upHead (j h : Fin 4) : Chunk where
  u c k := X.x0 (ix4 j h c k)
  w c k := X.x2 (ix4 j h c k)
  qd c k := X.x4 (ix4 j h c k)
  ks c k := X.x6 (ix4 j h c k)
  a i k := X.x8 (ix4 j h i k)
  g := X.x10 (ix4 j h 0 0)
  dO c v := X.x14 (ix2 ⟨j.val * 64 + c.val, by omega⟩ ⟨h.val * 128 + v.val, by omega⟩)
abbrev upState (j h : Fin 4) : State := fun k v => X.x12 (ix4 j h k v)
def dnHead (j h : Fin 4) : Chunk where
  u c k := X.x1 (ix4 j h c k)
  w c k := X.x3 (ix4 j h c k)
  qd c k := X.x5 (ix4 j h c k)
  ks c k := X.x7 (ix4 j h c k)
  a i k := X.x9 (ix4 j h i k)
  g := X.x11 (ix4 j h 0 0)
  dO c v := X.x15 (ix2 ⟨j.val * 64 + c.val, by omega⟩ ⟨h.val * 128 + v.val, by omega⟩)
abbrev dnState (j h : Fin 4) : State := fun k v => X.x13 (ix4 j h k v)

theorem rowS_at (j : ℕ) (hj) (x : Vec Ideal S4x4x128x128 .f32) (h : Fin 4) (k v : Fin 128) :
    rowS j hj x (ix4 0 h k v) = x (ix4 ⟨j, by have := hj 0; simp at this; omega⟩ h k v) := by
  unfold rowS
  pointwise
theorem rowO_at (j : ℕ) (hj) (x : Vec Ideal S256x512 .f32) (c : Fin 64) (v : Fin 512) :
    rowO j hj x (ix2 c v) = x (ix2 ⟨j + c.val, by have := hj 0; simp at this; omega⟩ v) := by
  unfold rowO
  pointwise

/-- A step's inputs out of row `j` of direction 0's blocks and row `k` of direction 1's. -/
def stepIn (j k jo ko : ℕ) (hj : ∀ a, (![j, 0, 0, 0] : Fin 4 → ℕ) a + S1x4x64x128.size a ≤ S4x4x64x128.size a)
    (hk : ∀ a, (![k, 0, 0, 0] : Fin 4 → ℕ) a + S1x4x64x128.size a ≤ S4x4x64x128.size a)
    (hja : ∀ a, (![j, 0, 0, 0] : Fin 4 → ℕ) a + S1x4x64x64.size a ≤ S4x4x64x64.size a) (hka : ∀ a, (![k, 0, 0, 0] : Fin 4 → ℕ) a + S1x4x64x64.size a ≤ S4x4x64x64.size a)
    (hjg : ∀ a, (![j, 0, 0, 0] : Fin 4 → ℕ) a + S1x4x1x128.size a ≤ S4x4x1x128.size a) (hkg : ∀ a, (![k, 0, 0, 0] : Fin 4 → ℕ) a + S1x4x1x128.size a ≤ S4x4x1x128.size a)
    (hjs : ∀ a, (![j, 0, 0, 0] : Fin 4 → ℕ) a + S1x4x128x128.size a ≤ S4x4x128x128.size a) (hks : ∀ a, (![k, 0, 0, 0] : Fin 4 → ℕ) a + S1x4x128x128.size a ≤ S4x4x128x128.size a)
    (hjo : ∀ a, (![jo, 0] : Fin 2 → ℕ) a + S64x512.size a ≤ S256x512.size a) (hko : ∀ a, (![ko, 0] : Fin 2 → ℕ) a + S64x512.size a ≤ S256x512.size a) : StepIn Ideal where
  u := k1_pay46 (row j hj X.x0) (row k hk X.x1)
  w := k1_pay46 (row j hj X.x2) (row k hk X.x3)
  qd := k1_pay46 (row j hj X.x4) (row k hk X.x5)
  ks := k1_pay46 (row j hj X.x6) (row k hk X.x7)
  aqk := k1_pay51 (k1_pay50 (rowA j hja X.x8)) (rowA k hka X.x9)
  gl := k1_pay52 (rowG j hjg X.x10) (rowG k hkg X.x11)
  s := k1_pay53 (rowS j hjs X.x12) (rowS k hks X.x13)
  dO := k1_pay54 (rowO jo hjo X.x14) (rowO ko hko X.x15)

theorem heads_up (x y : FVec Ideal S1x4x64x128 .f32) (h : Fin 4) (c : Fin 64) (k : Fin 128) : k1_pay46 x y (ix3 (Delta.up h) c k) = x (ix4 0 h c k) := by
  have hh := h.isLt
  simp only [k1_pay46, Delta.up]
  pointwise
theorem heads_dn (x y : FVec Ideal S1x4x64x128 .f32) (h : Fin 4) (c : Fin 64) (k : Fin 128) : k1_pay46 x y (ix3 (Delta.dn h) c k) = y (ix4 0 h c k) := by
  have hh := h.isLt
  simp only [k1_pay46, Delta.dn]
  pointwise
theorem headsO_up (x y : FVec Ideal S64x512 .f32) (h : Fin 4) (c : Fin 64) (v : Fin 128) :
    k1_pay54 x y (ix3 (Delta.up h) c v) = x (ix2 c ⟨h.val * 128 + v.val, by omega⟩) := by
  have hv := v.isLt
  fin_cases h <;> simp only [k1_pay54, Delta.up] <;> pointwise <;> (repeat first | rw [dif_pos (by omega)] | rw [dif_neg (by omega)]) <;>
    (refine congrArg _ ((ix2_inj _ _ _ _).mpr ⟨rfl, Fin.ext (by first | omega | (simp only []; omega) | rfl)⟩))
theorem headsO_dn (x y : FVec Ideal S64x512 .f32) (h : Fin 4) (c : Fin 64) (v : Fin 128) :
    k1_pay54 x y (ix3 (Delta.dn h) c v) = y (ix2 c ⟨h.val * 128 + v.val, by omega⟩) := by
  have hv := v.isLt
  fin_cases h <;> simp only [k1_pay54, Delta.dn] <;> pointwise <;> (repeat first | rw [dif_pos (by omega)] | rw [dif_neg (by omega)]) <;>
    (refine congrArg _ ((ix2_inj _ _ _ _).mpr ⟨rfl, Fin.ext (by first | omega | (simp only []; omega) | rfl)⟩))

theorem stepIn_up (j k jo ko : ℕ) (hj hk hja hka hjg hkg hjs hks hjo hko) (h : Fin 4) (e : jo = j * 64) :
    (stepIn X j k jo ko hj hk hja hka hjg hkg hjs hks hjo hko).head (Delta.up h) = upHead X ⟨j, by have := hj 0; simp at this; omega⟩ h
      ∧ (stepIn X j k jo ko hj hk hja hka hjg hkg hjs hks hjo hko).state (Delta.up h) = upState X ⟨j, by have := hj 0; simp at this; omega⟩ h := by
  subst e
  have hh := h.isLt
  constructor
  · unfold stepIn StepIn.head upHead
    congr 1
    any_goals (funext c i; exact (heads_up _ _ _ _ _).trans (row_at _ _ _ _ _ _))
    · funext c i; simp only [k1_pay51, k1_pay50, Delta.up]; pointwise; exact rowA_at _ _ _ _ _ _
    · simp only [k1_pay52, Delta.up]; pointwise; exact rowG_at _ _ _ _ _
    · funext c i; exact (headsO_up _ _ _ _ _).trans (rowO_at _ _ _ _ _)
  · funext c i; simp only [StepIn.state, upState, stepIn, k1_pay53, Delta.up]; pointwise; exact rowS_at _ _ _ _ _ _
theorem stepIn_dn (j k jo ko : ℕ) (hj hk hja hka hjg hkg hjs hks hjo hko) (h : Fin 4) (e : ko = k * 64) :
    (stepIn X j k jo ko hj hk hja hka hjg hkg hjs hks hjo hko).head (Delta.dn h) = dnHead X ⟨k, by have := hk 0; simp at this; omega⟩ h
      ∧ (stepIn X j k jo ko hj hk hja hka hjg hkg hjs hks hjo hko).state (Delta.dn h) = dnState X ⟨k, by have := hk 0; simp at this; omega⟩ h := by
  subst e
  have hh := h.isLt
  constructor
  · unfold stepIn StepIn.head dnHead
    congr 1
    any_goals (funext c i; exact (heads_dn _ _ _ _ _).trans (row_at _ _ _ _ _ _))
    · funext c i; simp only [k1_pay51, k1_pay50, Delta.dn]; pointwise; exact rowA_at _ _ _ _ _ _
    · simp only [k1_pay52, Delta.dn]; pointwise; exact rowG_at _ _ _ _ _
    · funext c i; exact (headsO_dn _ _ _ _ _).trans (rowO_at _ _ _ _ _)
  · funext c i; simp only [StepIn.state, dnState, stepIn, k1_pay53, Delta.dn]; pointwise; exact rowS_at _ _ _ _ _ _

/-! ## The grid's walk -/

variable (W : Dev nD → Valuation τ sig (Elt Ideal)) (c : Dev nD)

/-- The block that the walk back in direction 1 is at. -/
def ahead (n : ℕ) : ℕ := if n = 32 then 0 else n + 1

theorem index_up : ∀ t : Fin cfg1.N,
    win1_0.index t = ![32 - t.val, 0, 0, 0] ∧ win1_2.index t = ![32 - t.val, 0, 0, 0] ∧ win1_4.index t = ![32 - t.val, 0, 0, 0] ∧ win1_6.index t = ![32 - t.val, 0, 0, 0]
      ∧ win1_8.index t = ![32 - t.val, 0, 0, 0] ∧ win1_10.index t = ![32 - t.val, 0, 0, 0] ∧ win1_12.index t = ![32 - t.val, 0, 0, 0] ∧ win1_14.index t = ![32 - t.val, 0] :=
  (by decide +kernel : ∀ t : Fin grid1.N, _)
theorem index_dn : ∀ t : Fin cfg1.N,
    win1_1.index t = ![ahead t.val, 0, 0, 0] ∧ win1_3.index t = ![ahead t.val, 0, 0, 0] ∧ win1_5.index t = ![ahead t.val, 0, 0, 0] ∧ win1_7.index t = ![ahead t.val, 0, 0, 0]
      ∧ win1_9.index t = ![ahead t.val, 0, 0, 0] ∧ win1_11.index t = ![ahead t.val, 0, 0, 0] ∧ win1_13.index t = ![ahead t.val, 0, 0, 0] ∧ win1_15.index t = ![ahead t.val, 0] :=
  (by decide +kernel : ∀ t : Fin grid1.N, _)

theorem place_up (t j : ℕ) (ht : t < 33) (hj : j < 4) : (Delta.place 0 (131 - (4 * t + j))).val = 4 * (32 - t) + (3 - j) := by
  unfold Delta.place
  rw [if_pos rfl]
  simp only []
  omega
theorem place_dn (t j : ℕ) (ht : t < 33) (hj : j < 4) : (Delta.place 1 (131 - (4 * t + j))).val = 4 * ahead t + j := by
  unfold Delta.place ahead
  rw [if_neg (by decide)]
  split_ifs <;> simp only [] <;> omega

/-- The states that the forward call saved. -/
def Saved : Prop := W c (Proc.devRef .tc main_v0_2) = (args W c).s 0 ∧ W c (Proc.devRef .tc main_v0_3) = (args W c).s 1

set_option maxHeartbeats 1600000 in
theorem blocks_up (t : Fin cfg1.N) (j h : Fin 4) : upHead (blocks W c t) j.rev h = (args W c).walk 0 h (131 - (4 * t.val + j.val)) := by
  obtain ⟨h0, h2, h4, h6, h8, h10, -, h14⟩ := index_up t
  have ht : t.val < 33 := t.isLt
  have hp := place_up t.val j.val ht j.isLt
  unfold upHead blocks Args.walk Args.chunk args
  simp only [Matrix.cons_val_zero]
  congr 1
  all_goals (try funext c k)
  all_goals blk_ext [iblk, h0, h2, h4, h6, h8, h10, h14, hp, Fin.val_rev]
set_option maxHeartbeats 1600000 in
theorem blocks_dn (t : Fin cfg1.N) (j h : Fin 4) : dnHead (blocks W c t) j h = (args W c).walk 1 h (131 - (4 * t.val + j.val)) := by
  obtain ⟨h1, h3, h5, h7, h9, h11, -, h15⟩ := index_dn t
  have ht : t.val < 33 := t.isLt
  have hp := place_dn t.val j.val ht j.isLt
  unfold dnHead blocks Args.walk Args.chunk args
  simp only [Matrix.cons_val_zero, Matrix.cons_val_one]
  congr 1
  all_goals (try funext c k)
  all_goals blk_ext [iblk, h1, h3, h5, h7, h9, h11, h15, hp]
theorem states_up (hS : Saved W c) (t : Fin cfg1.N) (j h : Fin 4) :
    upState (blocks W c t) j.rev h = Delta.states ((args W c).walk 0 h) (131 - (4 * t.val + j.val)) := by
  obtain ⟨-, -, -, -, -, -, h12, -⟩ := index_up t
  have ht : t.val < 33 := t.isLt
  have e : (args W c).state 0 h (Delta.place 0 (131 - (4 * t.val + j.val))) = Delta.states ((args W c).walk 0 h) (131 - (4 * t.val + j.val)) := by
    unfold Args.state; rw [Delta.pos_place _ _ (by omega)]
  have hp := place_up t.val j.val ht j.isLt
  funext k v
  refine Eq.trans ?_ (congrFun (congrFun e k) v)
  refine Eq.trans ?_ (congrFun hS.1 (ix4 (Delta.place 0 (131 - (4 * t.val + j.val))) h k v))
  change iblk W c 12 t _ = _
  blk_ext [iblk, h12, hp, Fin.val_rev]
theorem states_dn (hS : Saved W c) (t : Fin cfg1.N) (j h : Fin 4) :
    dnState (blocks W c t) j h = Delta.states ((args W c).walk 1 h) (131 - (4 * t.val + j.val)) := by
  obtain ⟨-, -, -, -, -, -, h13, -⟩ := index_dn t
  have ht : t.val < 33 := t.isLt
  have e : (args W c).state 1 h (Delta.place 1 (131 - (4 * t.val + j.val))) = Delta.states ((args W c).walk 1 h) (131 - (4 * t.val + j.val)) := by
    unfold Args.state; rw [Delta.pos_place _ _ (by omega)]
  have hp := place_dn t.val j.val ht j.isLt
  funext k v
  refine Eq.trans ?_ (congrFun (congrFun e k) v)
  refine Eq.trans ?_ (congrFun hS.2 (ix4 (Delta.place 1 (131 - (4 * t.val + j.val))) h k v))
  change iblk W c 13 t _ = _
  blk_ext [iblk, h13, hp]

/-- A step's inputs are the walk's at place `p`, for every head. -/
def Fed (A : StepIn Ideal) (p : ℕ) : Prop := ∀ b, A.head b = (args W c).walk (dir b) (hd b) p ∧ A.state b = Delta.states ((args W c).walk (dir b) (hd b)) p
/-- The entering gradient is the walk's, `n` steps back. -/
def Due (d : FVec Ideal S8x128x128 .f32) (n : ℕ) : Prop := ∀ b, grad d b = Delta.grads ((args W c).walk (dir b) (hd b)) n

theorem fed (hS : Saved W c) (t : Fin cfg1.N) (j : Fin 4) (jo ko : ℕ) (hj hk hja hka hjg hkg hjs hks hjo hko) (ej : jo = j.rev.val * 64) (ek : ko = j.val * 64) :
    Fed W c (stepIn (blocks W c t) j.rev.val j.val jo ko hj hk hja hka hjg hkg hjs hks hjo hko) (131 - (4 * t.val + j.val)) := by
  intro b
  rcases Delta.up_or_dn b with ⟨h, rfl⟩ | ⟨h, rfl⟩
  · rw [Delta.dir_up, Delta.hd_up]
    have e := stepIn_up (blocks W c t) _ _ _ _ hj hk hja hka hjg hkg hjs hks hjo hko h ej
    exact ⟨e.1.trans (blocks_up W c t j h), e.2.trans (states_up W c hS t j h)⟩
  · rw [Delta.dir_dn, Delta.hd_dn]
    have e := stepIn_dn (blocks W c t) _ _ _ _ hj hk hja hka hjg hkg hjs hks hjo hko h ek
    exact ⟨e.1.trans (blocks_dn W c t j h), e.2.trans (states_dn W c hS t j h)⟩
theorem fed_all (hS : Saved W c) (t : Fin cfg1.N) :
    Fed W c (in0 (blocks W c t)) (131 - (4 * t.val + 0)) ∧ Fed W c (in1 (blocks W c t)) (131 - (4 * t.val + 1))
      ∧ Fed W c (in2 (blocks W c t)) (131 - (4 * t.val + 2)) ∧ Fed W c (in3 (blocks W c t)) (131 - (4 * t.val + 3)) :=
  ⟨fed W c hS t 0 _ _ _ _ _ _ _ _ _ _ _ _ rfl rfl, fed W c hS t 1 _ _ _ _ _ _ _ _ _ _ _ _ rfl rfl,
    fed W c hS t 2 _ _ _ _ _ _ _ _ _ _ _ _ rfl rfl, fed W c hS t 3 _ _ _ _ _ _ _ _ _ _ _ _ rfl rfl⟩

theorem due_next (A : StepIn Ideal) (d : FVec Ideal S8x128x128 .f32) (n : ℕ) (hA : Fed W c A (131 - n)) (hd : Due W c d n) : Due W c (prev A d) (n + 1) := by
  intro b
  funext k v
  refine (prev_at A d b k v).trans ?_
  rw [(hA b).1, hd b]
  rfl
theorem due_first (d : FVec Ideal S8x128x128 .f32) (n : ℕ) (hd : Due W c d n) : Due W c (k1_pay21 d) n := by
  intro b
  refine Eq.trans ?_ (hd b)
  funext k v
  unfold grad k1_pay21
  pointwise
theorem dues (hS : Saved W c) (t : Fin cfg1.N) (d : FVec Ideal S8x128x128 .f32) (hd : Due W c d (4 * t.val)) :
    Due W c (k1_pay21 d) (4 * t.val + 0) ∧ Due W c (s1 (blocks W c t) d) (4 * t.val + 1) ∧ Due W c (s2 (blocks W c t) d) (4 * t.val + 2)
      ∧ Due W c (s3 (blocks W c t) d) (4 * t.val + 3) ∧ Due W c (s4 (blocks W c t) d) (4 * t.val + 4) := by
  obtain ⟨f0, f1, f2, f3⟩ := fed_all W c hS t
  have e0 := due_first W c d _ hd
  have e1 := due_next W c _ _ _ f0 e0
  have e2 := due_next W c _ _ _ f1 e1
  have e3 := due_next W c _ _ _ f2 e2
  exact ⟨e0, e1, e2, e3, due_next W c _ _ _ f3 e3⟩
theorem carried_due (hS : Saved W c) (n : ℕ) (hn : n ≤ cfg1.N) : Due W c (carried W c n hn) (4 * n) := by
  induction n with
  | zero => intro b; funext k v; unfold carried grad k1_pay5; pointwise; rfl
  | succ n ih => unfold carried; exact (dues W c hS ⟨n, hn⟩ _ (ih _)).2.2.2.2

end Cert.KernelIdeal.Bwd

end
-- ==== Proof.BwdOut.lean ====
module

public import proofs.«01_k».proof.Proof.BwdValue

@[expose] public section

set_option maxRecDepth 16384

noncomputable section

/-! # The backward call's twelve arrays -/

namespace Cert.KernelIdeal.Bwd

open Idealize.ShloMosaic Idealize.ShloMosaic.Tactic
open Cert.KernelIdeal.Gen
open Cert.Delta (dir hd Args Chunk State)
open Cert.KernelIdeal.Fwd (args)

variable (W : Dev nD → Valuation τ sig (Elt Ideal)) (c : Dev nD)

/-- What a step computes for each input of the recurrence is that input's gradient at the step's chunk. -/
def Right {r n : ℕ} (f : StepIn Ideal → FVec Ideal S8x128x128 .f32 → FVec Ideal (⟨3, ![8, r, n]⟩ : Shape) .f32) (T : Fin 2 → (⟨4, ![132, 4, r, n]⟩ : Shape).Idx → EReal) : Prop :=
  ∀ (A : StepIn Ideal) (d : FVec Ideal S8x128x128 .f32) (p : ℕ), p < 132 → Fed W c A p → Due W c d (131 - p) →
    ∀ (b : Fin 8) (i : Fin r) (j : Fin n), f A d (ix3 b i j) = T (dir b) (ix4 (Delta.place (dir b) p) (hd b) i j)

theorem at_up {r n : ℕ} (T : Fin 2 → (⟨4, ![132, 4, r, n]⟩ : Shape).Idx → EReal) (p : ℕ) (h : Fin 4) (i : Fin r) (j : Fin n) :
    T (dir (Delta.up h)) (ix4 (Delta.place (dir (Delta.up h)) p) (hd (Delta.up h)) i j) = T 0 (ix4 (Delta.place 0 p) h i j) := by rw [Delta.dir_up, Delta.hd_up]
theorem at_dn {r n : ℕ} (T : Fin 2 → (⟨4, ![132, 4, r, n]⟩ : Shape).Idx → EReal) (p : ℕ) (h : Fin 4) (i : Fin r) (j : Fin n) :
    T (dir (Delta.dn h)) (ix4 (Delta.place (dir (Delta.dn h)) p) (hd (Delta.dn h)) i j) = T 1 (ix4 (Delta.place 1 p) h i j) := by rw [Delta.dir_dn, Delta.hd_dn]

theorem right_dU : Right W c dU (args W c).du := by
  intro A d p hp hA hD b i j
  refine (dU_at A d b i j).trans ?_
  unfold Args.du Args.grad
  have e : Delta.pos (dir b) (ix4 (Delta.place (dir b) p) (hd b) i j 0) = p := Delta.pos_place _ _ hp
  rw [e, (hA b).1, hD b]
  rfl
theorem right_dW : Right W c dW (args W c).dw := by
  intro A d p hp hA hD b i j
  refine (dW_at A d b i j).trans ?_
  unfold Args.dw Args.state Args.grad
  have e : Delta.pos (dir b) (ix4 (Delta.place (dir b) p) (hd b) i j 0) = p := Delta.pos_place _ _ hp
  rw [e, (hA b).1, (hA b).2, hD b]
  rfl
theorem right_dQd : Right W c dQd (args W c).dqd := by
  intro A d p hp hA hD b i j
  refine (dQd_at A d b i j).trans ?_
  unfold Args.dqd Args.state
  have e : Delta.pos (dir b) (ix4 (Delta.place (dir b) p) (hd b) i j 0) = p := Delta.pos_place _ _ hp
  rw [e, (hA b).1, (hA b).2]
  rfl
theorem right_dKs : Right W c dKs (args W c).dks := by
  intro A d p hp hA hD b i j
  refine (dKs_at A d b i j).trans ?_
  unfold Args.dks Args.state Args.grad
  have e : Delta.pos (dir b) (ix4 (Delta.place (dir b) p) (hd b) i j 0) = p := Delta.pos_place _ _ hp
  rw [e, (hA b).1, (hA b).2, hD b]
  rfl
theorem right_dAqk : Right W c dAqk (args W c).da := by
  intro A d p hp hA hD b i j
  refine (dAqk_at A d b i j).trans ?_
  unfold Args.da Args.state
  have e : Delta.pos (dir b) (ix4 (Delta.place (dir b) p) (hd b) i j 0) = p := Delta.pos_place _ _ hp
  rw [e, (hA b).1, (hA b).2]
  rfl
theorem right_dGl : Right W c dGl (args W c).dg := by
  intro A d p hp hA hD b i j
  obtain rfl : i = 0 := Subsingleton.elim _ _
  refine (dGl_at A d b j).trans ?_
  unfold Args.dg Args.state Args.grad
  have e : Delta.pos (dir b) (ix4 (Delta.place (dir b) p) (hd b) (0 : Fin 1) j 0) = p := Delta.pos_place _ _ hp
  rw [e, (hA b).2, hD b]
  rfl

/-- The block that a point's four steps fill, of direction 0. -/
theorem half_up (y : FVec Ideal (⟨3, ![8, 64, 128]⟩ : Shape) .f32) (h : Fin 4) (i : Fin 64) (j : Fin 128) : k1_pay70 y (ix4 0 h i j) = y (ix3 (Delta.up h) i j) := by
  unfold k1_pay70
  pointwise
  rfl
theorem piece_up {f : StepIn Ideal → FVec Ideal S8x128x128 .f32 → FVec Ideal S8x64x128 .f32} {T : Fin 2 → (⟨4, ![132, 4, 64, 128]⟩ : Shape).Idx → EReal} (hf : Right W c f T) (A : StepIn Ideal) (d : FVec Ideal S8x128x128 .f32) (p : ℕ) (hp : p < 132) (hA : Fed W c A p) (hD : Due W c d (131 - p))
    (x : S1x4x64x128.Idx) (i : (⟨4, ![132, 4, 64, 128]⟩ : Shape).Idx) (h0 : (i 0).val = (Delta.place 0 p).val)
    (h1 : (i 1).val = (x 1).val) (h2 : (i 2).val = (x 2).val) (h3 : (i 3).val = (x 3).val) : k1_pay70 (f A d) x = T 0 i := by
  have ex : x = ix4 0 (x 1) (x 2) (x 3) := (eq_ix4 x).trans ((ix4_inj _ _ _ _ _ _ _ _).mpr ⟨Subsingleton.elim _ _, rfl, rfl, rfl⟩)
  have ei : i = ix4 (Delta.place 0 p) (x 1) (x 2) (x 3) := (eq_ix4 i).trans ((ix4_inj _ _ _ _ _ _ _ _).mpr ⟨Fin.ext h0, Fin.ext h1, Fin.ext h2, Fin.ext h3⟩)
  refine (congrArg _ ex).trans ((half_up (f A d) (x 1) (x 2) (x 3)).trans ((hf A d p hp hA hD _ _ _).trans ((at_up T p _ _ _).trans (congrArg _ ei.symm))))
theorem block_up {f : StepIn Ideal → FVec Ideal S8x128x128 .f32 → FVec Ideal S8x64x128 .f32} {T : Fin 2 → (⟨4, ![132, 4, 64, 128]⟩ : Shape).Idx → EReal} (hf : Right W c f T) (hS : Saved W c) (t : Fin cfg1.N) (y : S4x4x64x128.Idx) (i : (⟨4, ![132, 4, 64, 128]⟩ : Shape).Idx)
    (h0 : (i 0).val = 4 * (32 - t.val) + (y 0).val) (h1 : (i 1).val = (y 1).val) (h2 : (i 2).val = (y 2).val) (h3 : (i 3).val = (y 3).val) :
    View.canon (up f (blocks W c t) (entering W c t)) y = T 0 i := by
  have ht : t.val < 33 := t.isLt
  obtain ⟨f0, f1, f2, f3⟩ := fed_all W c hS t
  obtain ⟨d0, d1, d2, d3, -⟩ := dues W c hS t _ (carried_due W c hS t.val (Nat.le_of_lt t.isLt))
  unfold up
  canon_tiles x h
  · refine piece_up W c hf _ _ _ (by omega) f3 (by rw [show 131 - (131 - (4 * t.val + 3)) = 4 * t.val + 3 by omega]; exact d3) x i ?_ ?_ ?_ ?_
    · rw [place_up _ _ ht (by decide)]; omega
    all_goals omega
  · refine piece_up W c hf _ _ _ (by omega) f2 (by rw [show 131 - (131 - (4 * t.val + 2)) = 4 * t.val + 2 by omega]; exact d2) x i ?_ ?_ ?_ ?_
    · rw [place_up _ _ ht (by decide)]; omega
    all_goals omega
  · refine piece_up W c hf _ _ _ (by omega) f1 (by rw [show 131 - (131 - (4 * t.val + 1)) = 4 * t.val + 1 by omega]; exact d1) x i ?_ ?_ ?_ ?_
    · rw [place_up _ _ ht (by decide)]; omega
    all_goals omega
  · refine piece_up W c hf _ _ _ (by omega) f0 (by rw [show 131 - (131 - (4 * t.val + 0)) = 4 * t.val + 0 by omega]; exact d0) x i ?_ ?_ ?_ ?_
    · rw [place_up _ _ ht (by decide)]; omega
    all_goals omega
/-- The block that a point's four steps fill, of direction 1. -/
theorem half_dn (y : FVec Ideal (⟨3, ![8, 64, 128]⟩ : Shape) .f32) (h : Fin 4) (i : Fin 64) (j : Fin 128) : k1_pay71 y (ix4 0 h i j) = y (ix3 (Delta.dn h) i j) := by
  unfold k1_pay71
  pointwise
  rfl
theorem piece_dn {f : StepIn Ideal → FVec Ideal S8x128x128 .f32 → FVec Ideal S8x64x128 .f32} {T : Fin 2 → (⟨4, ![132, 4, 64, 128]⟩ : Shape).Idx → EReal} (hf : Right W c f T) (A : StepIn Ideal) (d : FVec Ideal S8x128x128 .f32) (p : ℕ) (hp : p < 132) (hA : Fed W c A p) (hD : Due W c d (131 - p))
    (x : S1x4x64x128.Idx) (i : (⟨4, ![132, 4, 64, 128]⟩ : Shape).Idx) (h0 : (i 0).val = (Delta.place 1 p).val)
    (h1 : (i 1).val = (x 1).val) (h2 : (i 2).val = (x 2).val) (h3 : (i 3).val = (x 3).val) : k1_pay71 (f A d) x = T 1 i := by
  have ex : x = ix4 0 (x 1) (x 2) (x 3) := (eq_ix4 x).trans ((ix4_inj _ _ _ _ _ _ _ _).mpr ⟨Subsingleton.elim _ _, rfl, rfl, rfl⟩)
  have ei : i = ix4 (Delta.place 1 p) (x 1) (x 2) (x 3) := (eq_ix4 i).trans ((ix4_inj _ _ _ _ _ _ _ _).mpr ⟨Fin.ext h0, Fin.ext h1, Fin.ext h2, Fin.ext h3⟩)
  refine (congrArg _ ex).trans ((half_dn (f A d) (x 1) (x 2) (x 3)).trans ((hf A d p hp hA hD _ _ _).trans ((at_dn T p _ _ _).trans (congrArg _ ei.symm))))
theorem block_dn {f : StepIn Ideal → FVec Ideal S8x128x128 .f32 → FVec Ideal S8x64x128 .f32} {T : Fin 2 → (⟨4, ![132, 4, 64, 128]⟩ : Shape).Idx → EReal} (hf : Right W c f T) (hS : Saved W c) (t : Fin cfg1.N) (y : S4x4x64x128.Idx) (i : (⟨4, ![132, 4, 64, 128]⟩ : Shape).Idx)
    (h0 : (i 0).val = 4 * ahead t.val + (y 0).val) (h1 : (i 1).val = (y 1).val) (h2 : (i 2).val = (y 2).val) (h3 : (i 3).val = (y 3).val) :
    View.canon (dn f (blocks W c t) (entering W c t)) y = T 1 i := by
  have ht : t.val < 33 := t.isLt
  obtain ⟨f0, f1, f2, f3⟩ := fed_all W c hS t
  obtain ⟨d0, d1, d2, d3, -⟩ := dues W c hS t _ (carried_due W c hS t.val (Nat.le_of_lt t.isLt))
  unfold dn
  canon_tiles x h
  · refine piece_dn W c hf _ _ _ (by omega) f3 (by rw [show 131 - (131 - (4 * t.val + 3)) = 4 * t.val + 3 by omega]; exact d3) x i ?_ ?_ ?_ ?_
    · rw [place_dn _ _ ht (by decide)]; omega
    all_goals omega
  · refine piece_dn W c hf _ _ _ (by omega) f2 (by rw [show 131 - (131 - (4 * t.val + 2)) = 4 * t.val + 2 by omega]; exact d2) x i ?_ ?_ ?_ ?_
    · rw [place_dn _ _ ht (by decide)]; omega
    all_goals omega
  · refine piece_dn W c hf _ _ _ (by omega) f1 (by rw [show 131 - (131 - (4 * t.val + 1)) = 4 * t.val + 1 by omega]; exact d1) x i ?_ ?_ ?_ ?_
    · rw [place_dn _ _ ht (by decide)]; omega
    all_goals omega
  · refine piece_dn W c hf _ _ _ (by omega) f0 (by rw [show 131 - (131 - (4 * t.val + 0)) = 4 * t.val + 0 by omega]; exact d0) x i ?_ ?_ ?_ ?_
    · rw [place_dn _ _ ht (by decide)]; omega
    all_goals omega
/-- The block that a point's four steps fill, of direction 0. -/
theorem half_upA (y : FVec Ideal (⟨3, ![8, 64, 64]⟩ : Shape) .f32) (h : Fin 4) (i : Fin 64) (j : Fin 64) : k1_pay77 y (ix4 0 h i j) = y (ix3 (Delta.up h) i j) := by
  unfold k1_pay77
  pointwise
  rfl
theorem piece_upA {f : StepIn Ideal → FVec Ideal S8x128x128 .f32 → FVec Ideal S8x64x64 .f32} {T : Fin 2 → (⟨4, ![132, 4, 64, 64]⟩ : Shape).Idx → EReal} (hf : Right W c f T) (A : StepIn Ideal) (d : FVec Ideal S8x128x128 .f32) (p : ℕ) (hp : p < 132) (hA : Fed W c A p) (hD : Due W c d (131 - p))
    (x : S1x4x64x64.Idx) (i : (⟨4, ![132, 4, 64, 64]⟩ : Shape).Idx) (h0 : (i 0).val = (Delta.place 0 p).val)
    (h1 : (i 1).val = (x 1).val) (h2 : (i 2).val = (x 2).val) (h3 : (i 3).val = (x 3).val) : k1_pay77 (f A d) x = T 0 i := by
  have ex : x = ix4 0 (x 1) (x 2) (x 3) := (eq_ix4 x).trans ((ix4_inj _ _ _ _ _ _ _ _).mpr ⟨Subsingleton.elim _ _, rfl, rfl, rfl⟩)
  have ei : i = ix4 (Delta.place 0 p) (x 1) (x 2) (x 3) := (eq_ix4 i).trans ((ix4_inj _ _ _ _ _ _ _ _).mpr ⟨Fin.ext h0, Fin.ext h1, Fin.ext h2, Fin.ext h3⟩)
  refine (congrArg _ ex).trans ((half_upA (f A d) (x 1) (x 2) (x 3)).trans ((hf A d p hp hA hD _ _ _).trans ((at_up T p _ _ _).trans (congrArg _ ei.symm))))
theorem block_upA {f : StepIn Ideal → FVec Ideal S8x128x128 .f32 → FVec Ideal S8x64x64 .f32} {T : Fin 2 → (⟨4, ![132, 4, 64, 64]⟩ : Shape).Idx → EReal} (hf : Right W c f T) (hS : Saved W c) (t : Fin cfg1.N) (y : S4x4x64x64.Idx) (i : (⟨4, ![132, 4, 64, 64]⟩ : Shape).Idx)
    (h0 : (i 0).val = 4 * (32 - t.val) + (y 0).val) (h1 : (i 1).val = (y 1).val) (h2 : (i 2).val = (y 2).val) (h3 : (i 3).val = (y 3).val) :
    View.canon (upA f (blocks W c t) (entering W c t)) y = T 0 i := by
  have ht : t.val < 33 := t.isLt
  obtain ⟨f0, f1, f2, f3⟩ := fed_all W c hS t
  obtain ⟨d0, d1, d2, d3, -⟩ := dues W c hS t _ (carried_due W c hS t.val (Nat.le_of_lt t.isLt))
  unfold upA
  canon_tiles x h
  · refine piece_upA W c hf _ _ _ (by omega) f3 (by rw [show 131 - (131 - (4 * t.val + 3)) = 4 * t.val + 3 by omega]; exact d3) x i ?_ ?_ ?_ ?_
    · rw [place_up _ _ ht (by decide)]; omega
    all_goals omega
  · refine piece_upA W c hf _ _ _ (by omega) f2 (by rw [show 131 - (131 - (4 * t.val + 2)) = 4 * t.val + 2 by omega]; exact d2) x i ?_ ?_ ?_ ?_
    · rw [place_up _ _ ht (by decide)]; omega
    all_goals omega
  · refine piece_upA W c hf _ _ _ (by omega) f1 (by rw [show 131 - (131 - (4 * t.val + 1)) = 4 * t.val + 1 by omega]; exact d1) x i ?_ ?_ ?_ ?_
    · rw [place_up _ _ ht (by decide)]; omega
    all_goals omega
  · refine piece_upA W c hf _ _ _ (by omega) f0 (by rw [show 131 - (131 - (4 * t.val + 0)) = 4 * t.val + 0 by omega]; exact d0) x i ?_ ?_ ?_ ?_
    · rw [place_up _ _ ht (by decide)]; omega
    all_goals omega
/-- The block that a point's four steps fill, of direction 1. -/
theorem half_dnA (y : FVec Ideal (⟨3, ![8, 64, 64]⟩ : Shape) .f32) (h : Fin 4) (i : Fin 64) (j : Fin 64) : k1_pay78 y (ix4 0 h i j) = y (ix3 (Delta.dn h) i j) := by
  unfold k1_pay78
  pointwise
  rfl
theorem piece_dnA {f : StepIn Ideal → FVec Ideal S8x128x128 .f32 → FVec Ideal S8x64x64 .f32} {T : Fin 2 → (⟨4, ![132, 4, 64, 64]⟩ : Shape).Idx → EReal} (hf : Right W c f T) (A : StepIn Ideal) (d : FVec Ideal S8x128x128 .f32) (p : ℕ) (hp : p < 132) (hA : Fed W c A p) (hD : Due W c d (131 - p))
    (x : S1x4x64x64.Idx) (i : (⟨4, ![132, 4, 64, 64]⟩ : Shape).Idx) (h0 : (i 0).val = (Delta.place 1 p).val)
    (h1 : (i 1).val = (x 1).val) (h2 : (i 2).val = (x 2).val) (h3 : (i 3).val = (x 3).val) : k1_pay78 (f A d) x = T 1 i := by
  have ex : x = ix4 0 (x 1) (x 2) (x 3) := (eq_ix4 x).trans ((ix4_inj _ _ _ _ _ _ _ _).mpr ⟨Subsingleton.elim _ _, rfl, rfl, rfl⟩)
  have ei : i = ix4 (Delta.place 1 p) (x 1) (x 2) (x 3) := (eq_ix4 i).trans ((ix4_inj _ _ _ _ _ _ _ _).mpr ⟨Fin.ext h0, Fin.ext h1, Fin.ext h2, Fin.ext h3⟩)
  refine (congrArg _ ex).trans ((half_dnA (f A d) (x 1) (x 2) (x 3)).trans ((hf A d p hp hA hD _ _ _).trans ((at_dn T p _ _ _).trans (congrArg _ ei.symm))))
theorem block_dnA {f : StepIn Ideal → FVec Ideal S8x128x128 .f32 → FVec Ideal S8x64x64 .f32} {T : Fin 2 → (⟨4, ![132, 4, 64, 64]⟩ : Shape).Idx → EReal} (hf : Right W c f T) (hS : Saved W c) (t : Fin cfg1.N) (y : S4x4x64x64.Idx) (i : (⟨4, ![132, 4, 64, 64]⟩ : Shape).Idx)
    (h0 : (i 0).val = 4 * ahead t.val + (y 0).val) (h1 : (i 1).val = (y 1).val) (h2 : (i 2).val = (y 2).val) (h3 : (i 3).val = (y 3).val) :
    View.canon (dnA f (blocks W c t) (entering W c t)) y = T 1 i := by
  have ht : t.val < 33 := t.isLt
  obtain ⟨f0, f1, f2, f3⟩ := fed_all W c hS t
  obtain ⟨d0, d1, d2, d3, -⟩ := dues W c hS t _ (carried_due W c hS t.val (Nat.le_of_lt t.isLt))
  unfold dnA
  canon_tiles x h
  · refine piece_dnA W c hf _ _ _ (by omega) f3 (by rw [show 131 - (131 - (4 * t.val + 3)) = 4 * t.val + 3 by omega]; exact d3) x i ?_ ?_ ?_ ?_
    · rw [place_dn _ _ ht (by decide)]; omega
    all_goals omega
  · refine piece_dnA W c hf _ _ _ (by omega) f2 (by rw [show 131 - (131 - (4 * t.val + 2)) = 4 * t.val + 2 by omega]; exact d2) x i ?_ ?_ ?_ ?_
    · rw [place_dn _ _ ht (by decide)]; omega
    all_goals omega
  · refine piece_dnA W c hf _ _ _ (by omega) f1 (by rw [show 131 - (131 - (4 * t.val + 1)) = 4 * t.val + 1 by omega]; exact d1) x i ?_ ?_ ?_ ?_
    · rw [place_dn _ _ ht (by decide)]; omega
    all_goals omega
  · refine piece_dnA W c hf _ _ _ (by omega) f0 (by rw [show 131 - (131 - (4 * t.val + 0)) = 4 * t.val + 0 by omega]; exact d0) x i ?_ ?_ ?_ ?_
    · rw [place_dn _ _ ht (by decide)]; omega
    all_goals omega
/-- The block that a point's four steps fill, of direction 0. -/
theorem half_upG (y : FVec Ideal (⟨3, ![8, 1, 128]⟩ : Shape) .f32) (h : Fin 4) (i : Fin 1) (j : Fin 128) : k1_pay79 y (ix4 0 h i j) = y (ix3 (Delta.up h) i j) := by
  obtain rfl : i = 0 := Subsingleton.elim _ _
  unfold k1_pay79
  pointwise
  rfl
theorem piece_upG {f : StepIn Ideal → FVec Ideal S8x128x128 .f32 → FVec Ideal S8x1x128 .f32} {T : Fin 2 → (⟨4, ![132, 4, 1, 128]⟩ : Shape).Idx → EReal} (hf : Right W c f T) (A : StepIn Ideal) (d : FVec Ideal S8x128x128 .f32) (p : ℕ) (hp : p < 132) (hA : Fed W c A p) (hD : Due W c d (131 - p))
    (x : S1x4x1x128.Idx) (i : (⟨4, ![132, 4, 1, 128]⟩ : Shape).Idx) (h0 : (i 0).val = (Delta.place 0 p).val)
    (h1 : (i 1).val = (x 1).val) (h2 : (i 2).val = (x 2).val) (h3 : (i 3).val = (x 3).val) : k1_pay79 (f A d) x = T 0 i := by
  have ex : x = ix4 0 (x 1) (x 2) (x 3) := (eq_ix4 x).trans ((ix4_inj _ _ _ _ _ _ _ _).mpr ⟨Subsingleton.elim _ _, rfl, rfl, rfl⟩)
  have ei : i = ix4 (Delta.place 0 p) (x 1) (x 2) (x 3) := (eq_ix4 i).trans ((ix4_inj _ _ _ _ _ _ _ _).mpr ⟨Fin.ext h0, Fin.ext h1, Fin.ext h2, Fin.ext h3⟩)
  refine (congrArg _ ex).trans ((half_upG (f A d) (x 1) (x 2) (x 3)).trans ((hf A d p hp hA hD _ _ _).trans ((at_up T p _ _ _).trans (congrArg _ ei.symm))))
theorem block_upG {f : StepIn Ideal → FVec Ideal S8x128x128 .f32 → FVec Ideal S8x1x128 .f32} {T : Fin 2 → (⟨4, ![132, 4, 1, 128]⟩ : Shape).Idx → EReal} (hf : Right W c f T) (hS : Saved W c) (t : Fin cfg1.N) (y : S4x4x1x128.Idx) (i : (⟨4, ![132, 4, 1, 128]⟩ : Shape).Idx)
    (h0 : (i 0).val = 4 * (32 - t.val) + (y 0).val) (h1 : (i 1).val = (y 1).val) (h2 : (i 2).val = (y 2).val) (h3 : (i 3).val = (y 3).val) :
    View.canon (upG f (blocks W c t) (entering W c t)) y = T 0 i := by
  have ht : t.val < 33 := t.isLt
  obtain ⟨f0, f1, f2, f3⟩ := fed_all W c hS t
  obtain ⟨d0, d1, d2, d3, -⟩ := dues W c hS t _ (carried_due W c hS t.val (Nat.le_of_lt t.isLt))
  unfold upG
  canon_tiles x h
  · refine piece_upG W c hf _ _ _ (by omega) f3 (by rw [show 131 - (131 - (4 * t.val + 3)) = 4 * t.val + 3 by omega]; exact d3) x i ?_ ?_ ?_ ?_
    · rw [place_up _ _ ht (by decide)]; omega
    all_goals omega
  · refine piece_upG W c hf _ _ _ (by omega) f2 (by rw [show 131 - (131 - (4 * t.val + 2)) = 4 * t.val + 2 by omega]; exact d2) x i ?_ ?_ ?_ ?_
    · rw [place_up _ _ ht (by decide)]; omega
    all_goals omega
  · refine piece_upG W c hf _ _ _ (by omega) f1 (by rw [show 131 - (131 - (4 * t.val + 1)) = 4 * t.val + 1 by omega]; exact d1) x i ?_ ?_ ?_ ?_
    · rw [place_up _ _ ht (by decide)]; omega
    all_goals omega
  · refine piece_upG W c hf _ _ _ (by omega) f0 (by rw [show 131 - (131 - (4 * t.val + 0)) = 4 * t.val + 0 by omega]; exact d0) x i ?_ ?_ ?_ ?_
    · rw [place_up _ _ ht (by decide)]; omega
    all_goals omega
/-- The block that a point's four steps fill, of direction 1. -/
theorem half_dnG (y : FVec Ideal (⟨3, ![8, 1, 128]⟩ : Shape) .f32) (h : Fin 4) (i : Fin 1) (j : Fin 128) : k1_pay80 y (ix4 0 h i j) = y (ix3 (Delta.dn h) i j) := by
  obtain rfl : i = 0 := Subsingleton.elim _ _
  unfold k1_pay80
  pointwise
  rfl
theorem piece_dnG {f : StepIn Ideal → FVec Ideal S8x128x128 .f32 → FVec Ideal S8x1x128 .f32} {T : Fin 2 → (⟨4, ![132, 4, 1, 128]⟩ : Shape).Idx → EReal} (hf : Right W c f T) (A : StepIn Ideal) (d : FVec Ideal S8x128x128 .f32) (p : ℕ) (hp : p < 132) (hA : Fed W c A p) (hD : Due W c d (131 - p))
    (x : S1x4x1x128.Idx) (i : (⟨4, ![132, 4, 1, 128]⟩ : Shape).Idx) (h0 : (i 0).val = (Delta.place 1 p).val)
    (h1 : (i 1).val = (x 1).val) (h2 : (i 2).val = (x 2).val) (h3 : (i 3).val = (x 3).val) : k1_pay80 (f A d) x = T 1 i := by
  have ex : x = ix4 0 (x 1) (x 2) (x 3) := (eq_ix4 x).trans ((ix4_inj _ _ _ _ _ _ _ _).mpr ⟨Subsingleton.elim _ _, rfl, rfl, rfl⟩)
  have ei : i = ix4 (Delta.place 1 p) (x 1) (x 2) (x 3) := (eq_ix4 i).trans ((ix4_inj _ _ _ _ _ _ _ _).mpr ⟨Fin.ext h0, Fin.ext h1, Fin.ext h2, Fin.ext h3⟩)
  refine (congrArg _ ex).trans ((half_dnG (f A d) (x 1) (x 2) (x 3)).trans ((hf A d p hp hA hD _ _ _).trans ((at_dn T p _ _ _).trans (congrArg _ ei.symm))))
theorem block_dnG {f : StepIn Ideal → FVec Ideal S8x128x128 .f32 → FVec Ideal S8x1x128 .f32} {T : Fin 2 → (⟨4, ![132, 4, 1, 128]⟩ : Shape).Idx → EReal} (hf : Right W c f T) (hS : Saved W c) (t : Fin cfg1.N) (y : S4x4x1x128.Idx) (i : (⟨4, ![132, 4, 1, 128]⟩ : Shape).Idx)
    (h0 : (i 0).val = 4 * ahead t.val + (y 0).val) (h1 : (i 1).val = (y 1).val) (h2 : (i 2).val = (y 2).val) (h3 : (i 3).val = (y 3).val) :
    View.canon (dnG f (blocks W c t) (entering W c t)) y = T 1 i := by
  have ht : t.val < 33 := t.isLt
  obtain ⟨f0, f1, f2, f3⟩ := fed_all W c hS t
  obtain ⟨d0, d1, d2, d3, -⟩ := dues W c hS t _ (carried_due W c hS t.val (Nat.le_of_lt t.isLt))
  unfold dnG
  canon_tiles x h
  · refine piece_dnG W c hf _ _ _ (by omega) f3 (by rw [show 131 - (131 - (4 * t.val + 3)) = 4 * t.val + 3 by omega]; exact d3) x i ?_ ?_ ?_ ?_
    · rw [place_dn _ _ ht (by decide)]; omega
    all_goals omega
  · refine piece_dnG W c hf _ _ _ (by omega) f2 (by rw [show 131 - (131 - (4 * t.val + 2)) = 4 * t.val + 2 by omega]; exact d2) x i ?_ ?_ ?_ ?_
    · rw [place_dn _ _ ht (by decide)]; omega
    all_goals omega
  · refine piece_dnG W c hf _ _ _ (by omega) f1 (by rw [show 131 - (131 - (4 * t.val + 1)) = 4 * t.val + 1 by omega]; exact d1) x i ?_ ?_ ?_ ?_
    · rw [place_dn _ _ ht (by decide)]; omega
    all_goals omega
  · refine piece_dnG W c hf _ _ _ (by omega) f0 (by rw [show 131 - (131 - (4 * t.val + 0)) = 4 * t.val + 0 by omega]; exact d0) x i ?_ ?_ ?_ ?_
    · rw [place_dn _ _ ht (by decide)]; omega
    all_goals omega

theorem index_up_out : ∀ t : Fin cfg1.N,
    win1_16.index t = ![32 - t.val, 0, 0, 0] ∧ win1_18.index t = ![32 - t.val, 0, 0, 0] ∧ win1_20.index t = ![32 - t.val, 0, 0, 0] ∧ win1_22.index t = ![32 - t.val, 0, 0, 0] ∧ win1_24.index t = ![32 - t.val, 0, 0, 0] ∧ win1_26.index t = ![32 - t.val, 0, 0, 0] :=
  (by decide +kernel : ∀ t : Fin grid1.N, _)
theorem index_dn_out : ∀ t : Fin cfg1.N,
    win1_17.index t = ![ahead t.val, 0, 0, 0] ∧ win1_19.index t = ![ahead t.val, 0, 0, 0] ∧ win1_21.index t = ![ahead t.val, 0, 0, 0] ∧ win1_23.index t = ![ahead t.val, 0, 0, 0] ∧ win1_25.index t = ![ahead t.val, 0, 0, 0] ∧ win1_27.index t = ![ahead t.val, 0, 0, 0] :=
  (by decide +kernel : ∀ t : Fin grid1.N, _)

theorem arr_du0 (hS : Saved W c) : (dat W c).arrAt 16 cfg1.N = (args W c).du 0 := by
  refine (dat W c).arrAt_eq_of_covers 16 _ (by decide +kernel) fun t hf y => ?_
  blk_simp
  rw [after_16]
  obtain ⟨i, -, -, -, -, -⟩ := index_up_out t
  refine block_up W c (right_dU W c) hS t y _ ?_ ?_ ?_ ?_ <;> (blk_simp [i]; try omega)
theorem arr_du1 (hS : Saved W c) : (dat W c).arrAt 17 cfg1.N = (args W c).du 1 := by
  refine (dat W c).arrAt_eq_of_covers 17 _ (by decide +kernel) fun t hf y => ?_
  blk_simp
  rw [after_17]
  obtain ⟨i, -, -, -, -, -⟩ := index_dn_out t
  refine block_dn W c (right_dU W c) hS t y _ ?_ ?_ ?_ ?_ <;> (blk_simp [i]; try omega)
theorem arr_dw0 (hS : Saved W c) : (dat W c).arrAt 18 cfg1.N = (args W c).dw 0 := by
  refine (dat W c).arrAt_eq_of_covers 18 _ (by decide +kernel) fun t hf y => ?_
  blk_simp
  rw [after_18]
  obtain ⟨-, i, -, -, -, -⟩ := index_up_out t
  refine block_up W c (right_dW W c) hS t y _ ?_ ?_ ?_ ?_ <;> (blk_simp [i]; try omega)
theorem arr_dw1 (hS : Saved W c) : (dat W c).arrAt 19 cfg1.N = (args W c).dw 1 := by
  refine (dat W c).arrAt_eq_of_covers 19 _ (by decide +kernel) fun t hf y => ?_
  blk_simp
  rw [after_19]
  obtain ⟨-, i, -, -, -, -⟩ := index_dn_out t
  refine block_dn W c (right_dW W c) hS t y _ ?_ ?_ ?_ ?_ <;> (blk_simp [i]; try omega)
theorem arr_dqd0 (hS : Saved W c) : (dat W c).arrAt 20 cfg1.N = (args W c).dqd 0 := by
  refine (dat W c).arrAt_eq_of_covers 20 _ (by decide +kernel) fun t hf y => ?_
  blk_simp
  rw [after_20]
  obtain ⟨-, -, i, -, -, -⟩ := index_up_out t
  refine block_up W c (right_dQd W c) hS t y _ ?_ ?_ ?_ ?_ <;> (blk_simp [i]; try omega)
theorem arr_dqd1 (hS : Saved W c) : (dat W c).arrAt 21 cfg1.N = (args W c).dqd 1 := by
  refine (dat W c).arrAt_eq_of_covers 21 _ (by decide +kernel) fun t hf y => ?_
  blk_simp
  rw [after_21]
  obtain ⟨-, -, i, -, -, -⟩ := index_dn_out t
  refine block_dn W c (right_dQd W c) hS t y _ ?_ ?_ ?_ ?_ <;> (blk_simp [i]; try omega)
theorem arr_dks0 (hS : Saved W c) : (dat W c).arrAt 22 cfg1.N = (args W c).dks 0 := by
  refine (dat W c).arrAt_eq_of_covers 22 _ (by decide +kernel) fun t hf y => ?_
  blk_simp
  rw [after_22]
  obtain ⟨-, -, -, i, -, -⟩ := index_up_out t
  refine block_up W c (right_dKs W c) hS t y _ ?_ ?_ ?_ ?_ <;> (blk_simp [i]; try omega)
theorem arr_dks1 (hS : Saved W c) : (dat W c).arrAt 23 cfg1.N = (args W c).dks 1 := by
  refine (dat W c).arrAt_eq_of_covers 23 _ (by decide +kernel) fun t hf y => ?_
  blk_simp
  rw [after_23]
  obtain ⟨-, -, -, i, -, -⟩ := index_dn_out t
  refine block_dn W c (right_dKs W c) hS t y _ ?_ ?_ ?_ ?_ <;> (blk_simp [i]; try omega)
theorem arr_da0 (hS : Saved W c) : (dat W c).arrAt 24 cfg1.N = (args W c).da 0 := by
  refine (dat W c).arrAt_eq_of_covers 24 _ (by decide +kernel) fun t hf y => ?_
  blk_simp
  rw [after_24]
  obtain ⟨-, -, -, -, i, -⟩ := index_up_out t
  refine block_upA W c (right_dAqk W c) hS t y _ ?_ ?_ ?_ ?_ <;> (blk_simp [i]; try omega)
theorem arr_da1 (hS : Saved W c) : (dat W c).arrAt 25 cfg1.N = (args W c).da 1 := by
  refine (dat W c).arrAt_eq_of_covers 25 _ (by decide +kernel) fun t hf y => ?_
  blk_simp
  rw [after_25]
  obtain ⟨-, -, -, -, i, -⟩ := index_dn_out t
  refine block_dnA W c (right_dAqk W c) hS t y _ ?_ ?_ ?_ ?_ <;> (blk_simp [i]; try omega)
theorem arr_dg0 (hS : Saved W c) : (dat W c).arrAt 26 cfg1.N = (args W c).dg 0 := by
  refine (dat W c).arrAt_eq_of_covers 26 _ (by decide +kernel) fun t hf y => ?_
  blk_simp
  rw [after_26]
  obtain ⟨-, -, -, -, -, i⟩ := index_up_out t
  refine block_upG W c (right_dGl W c) hS t y _ ?_ ?_ ?_ ?_ <;> (blk_simp [i]; try omega)
theorem arr_dg1 (hS : Saved W c) : (dat W c).arrAt 27 cfg1.N = (args W c).dg 1 := by
  refine (dat W c).arrAt_eq_of_covers 27 _ (by decide +kernel) fun t hf y => ?_
  blk_simp
  rw [after_27]
  obtain ⟨-, -, -, -, -, i⟩ := index_dn_out t
  refine block_dnG W c (right_dGl W c) hS t y _ ?_ ?_ ?_ ?_ <;> (blk_simp [i]; try omega)

end Cert.KernelIdeal.Bwd

end
-- ==== Proof.KernelValue.lean ====
module

public import proofs.«01_k».proof.Proof.KernelRun
public import proofs.«01_k».proof.Proof.FwdOut
public import proofs.«01_k».proof.Proof.BwdOut

@[expose] public section

set_option maxRecDepth 16384

noncomputable section

/-! # What both calls leave, of the program's own arguments -/

namespace Cert.KernelIdeal.Whole

open Idealize.ShloMosaic Idealize.ShloMosaic.TcCoe
open Cert.KernelIdeal.Gen
open Cert.KernelIdeal.Fwd (args)

variable (m : (ℓ : Loc nD τ sig) → Buf (Elt Ideal) ℓ) (c : Dev nD)

/-- The forward call leaves the arguments as they were. -/
theorem args_mid : args (Wmid m) c = args (Wstart m) c := by
  unfold args
  rw [Wmid_of m c main_arg0 (by decide)]
  rw [Wmid_of m c main_arg1 (by decide)]
  rw [Wmid_of m c main_arg2 (by decide)]
  rw [Wmid_of m c main_arg3 (by decide)]
  rw [Wmid_of m c main_arg4 (by decide)]
  rw [Wmid_of m c main_arg5 (by decide)]
  rw [Wmid_of m c main_arg6 (by decide)]
  rw [Wmid_of m c main_arg7 (by decide)]
  rw [Wmid_of m c main_arg8 (by decide)]
  rw [Wmid_of m c main_arg9 (by decide)]
  rw [Wmid_of m c main_arg10 (by decide)]
  rw [Wmid_of m c main_arg11 (by decide)]
  rw [Wmid_of m c main_arg12 (by decide)]
  rw [Wmid_of m c main_arg13 (by decide)]
/-- The states that the backward call reads are the walks' own. -/
theorem saved : Bwd.Saved (Wmid m) c := by
  unfold Bwd.Saved
  rw [args_mid]
  exact ⟨(Wmid_arr m c 14).trans (Fwd.arr_s0 _ c), (Wmid_arr m c 15).trans (Fwd.arr_s1 _ c)⟩

theorem left_o0 : Wend m c (Proc.devRef .tc main_v0_0) = (args (Wstart m) c).o 0 :=
  (Wend_of m c main_v0_0 (by decide)).trans ((Wmid_arr m c 12).trans (Fwd.arr_o0 _ c))
theorem left_o1 : Wend m c (Proc.devRef .tc main_v0_1) = (args (Wstart m) c).o 1 :=
  (Wend_of m c main_v0_1 (by decide)).trans ((Wmid_arr m c 13).trans (Fwd.arr_o1 _ c))
theorem left_du0 : Wend m c (Proc.devRef .tc main_v1_0) = (args (Wstart m) c).du 0 :=
  (Wend_arr m c 16).trans ((Bwd.arr_du0 _ c (saved m c)).trans (by rw [args_mid]))
theorem left_du1 : Wend m c (Proc.devRef .tc main_v1_1) = (args (Wstart m) c).du 1 :=
  (Wend_arr m c 17).trans ((Bwd.arr_du1 _ c (saved m c)).trans (by rw [args_mid]))
theorem left_dw0 : Wend m c (Proc.devRef .tc main_v1_2) = (args (Wstart m) c).dw 0 :=
  (Wend_arr m c 18).trans ((Bwd.arr_dw0 _ c (saved m c)).trans (by rw [args_mid]))
theorem left_dw1 : Wend m c (Proc.devRef .tc main_v1_3) = (args (Wstart m) c).dw 1 :=
  (Wend_arr m c 19).trans ((Bwd.arr_dw1 _ c (saved m c)).trans (by rw [args_mid]))
theorem left_dqd0 : Wend m c (Proc.devRef .tc main_v1_4) = (args (Wstart m) c).dqd 0 :=
  (Wend_arr m c 20).trans ((Bwd.arr_dqd0 _ c (saved m c)).trans (by rw [args_mid]))
theorem left_dqd1 : Wend m c (Proc.devRef .tc main_v1_5) = (args (Wstart m) c).dqd 1 :=
  (Wend_arr m c 21).trans ((Bwd.arr_dqd1 _ c (saved m c)).trans (by rw [args_mid]))
theorem left_dks0 : Wend m c (Proc.devRef .tc main_v1_6) = (args (Wstart m) c).dks 0 :=
  (Wend_arr m c 22).trans ((Bwd.arr_dks0 _ c (saved m c)).trans (by rw [args_mid]))
theorem left_dks1 : Wend m c (Proc.devRef .tc main_v1_7) = (args (Wstart m) c).dks 1 :=
  (Wend_arr m c 23).trans ((Bwd.arr_dks1 _ c (saved m c)).trans (by rw [args_mid]))
theorem left_da0 : Wend m c (Proc.devRef .tc main_v1_8) = (args (Wstart m) c).da 0 :=
  (Wend_arr m c 24).trans ((Bwd.arr_da0 _ c (saved m c)).trans (by rw [args_mid]))
theorem left_da1 : Wend m c (Proc.devRef .tc main_v1_9) = (args (Wstart m) c).da 1 :=
  (Wend_arr m c 25).trans ((Bwd.arr_da1 _ c (saved m c)).trans (by rw [args_mid]))
theorem left_dg0 : Wend m c (Proc.devRef .tc main_v1_10) = (args (Wstart m) c).dg 0 :=
  (Wend_arr m c 26).trans ((Bwd.arr_dg0 _ c (saved m c)).trans (by rw [args_mid]))
theorem left_dg1 : Wend m c (Proc.devRef .tc main_v1_11) = (args (Wstart m) c).dg 1 :=
  (Wend_arr m c 27).trans ((Bwd.arr_dg1 _ c (saved m c)).trans (by rw [args_mid]))

end Cert.KernelIdeal.Whole

end
-- ==== Proof.RefRow.lean ====
/- One step's rows of a stacked array of the reference: the array is indexed by step, direction, head, row and lane, a loop's body
   reads the rows of its step and writes them, each by an index that is held in memory. -/
module

public import proofs.«01_k».proof.Proof.RefRun
public import proofs.«01_k».proof.Proof.Walk
public import Idealize.ShloMosaic.Lib.WordCmp
public import Idealize.ShloMosaic.Lib.StableHlo.RunClose

@[expose] public section

set_option maxRecDepth 20000

noncomputable section

namespace Cert.ReferenceIdeal.Ops

open Idealize.ShloMosaic Idealize.ShloMosaic.TcCoe Idealize.ShloMosaic.StableHlo
open Cert.ReferenceIdeal Cert.ReferenceIdeal.Gen

abbrev Stack (r n : ℕ) : Shape := ⟨5, ![132, 2, 4, r, n]⟩
abbrev Lone (r n : ℕ) : Shape := ⟨5, ![1, 2, 4, r, n]⟩
abbrev Rows (r n : ℕ) : Shape := ⟨4, ![2, 4, r, n]⟩

/-- The start of a step's rows: the index and four zeros. -/
def starts (ix : IVec S_ 32) (a : Fin 5) : ℤ :=
  BitVec.toInt ((![ix, constantI S_ 32 0#32, constantI S_ 32 0#32, constantI S_ 32 0#32, constantI S_ 32 0#32] : Fin 5 → IVec S_ 32) a (Shape.Idx.first h_S_))

variable {r n : ℕ} {ix : IVec S_ 32} {k : ℕ}

theorem starts_eq (hx : ∀ i, (ix i).toInt = k) : ∀ a, starts ix a = ((![k, 0, 0, 0, 0] : Fin 5 → ℕ) a : ℤ) := by
  intro a
  fin_cases a
  · exact hx _
  all_goals rfl

theorem fits (hk : k < 132) : (Stack r n).Slices ![k, 0, 0, 0, 0] (Lone r n) :=
  ⟨rfl, fun a => by fin_cases a <;> simp [Shape.size] <;> omega⟩

/-- The rows at the index. -/
def rowsAt (h : (Stack r n).Slices (fun _ => 0) (Lone r n)) (h' : (Lone r n).ShapeCasts (Rows r n)) (ix : IVec S_ 32) (t : (Stack r n).Idx → EReal) :
    (Rows r n).Idx → EReal :=
  shapeCast (Rows r n) (Host.dynamicSlice (Lone r n) t (starts ix) h) h'
/-- The array with the rows at the index replaced. -/
def putAt (h : (Stack r n).Slices (fun _ => 0) (Lone r n)) (h' : (Rows r n).BroadcastsInDim (Lone r n) (![1, 2, 3, 4] : Fin 4 → Fin 5)) (ix : IVec S_ 32)
    (t : (Stack r n).Idx → EReal) (x : (Rows r n).Idx → EReal) : (Stack r n).Idx → EReal :=
  Host.dynamicUpdateSlice t (broadcastInDim (Lone r n) ![1, 2, 3, 4] h' x) (starts ix) h

theorem rowsAt_apply {h : (Stack r n).Slices (fun _ => 0) (Lone r n)} {h' : (Lone r n).ShapeCasts (Rows r n)} (hk : k < 132) (hx : ∀ i, (ix i).toInt = k)
    (t : (Stack r n).Idx → EReal) (e : Fin 2) (d : Fin 4) (c : Fin r) (v : Fin n) :
    rowsAt h h' ix t (ix4 e d c v) = t (ix5 ⟨k, hk⟩ e d c v) := by
  rw [rowsAt, WordCmp.dynamicSlice_eq_extract _ _ _ _ _ (fits hk) (starts_eq hx), shapeCast_dropUnit_apply]
  refine congrArg t (funext fun a => Fin.ext ?_)
  fin_cases a <;> simp [ix5] <;> rfl

theorem putAt_apply {h : (Stack r n).Slices (fun _ => 0) (Lone r n)} {h' : (Rows r n).BroadcastsInDim (Lone r n) (![1, 2, 3, 4] : Fin 4 → Fin 5)} (hk : k < 132)
    (hx : ∀ i, (ix i).toInt = k) (t : (Stack r n).Idx → EReal) (x : (Rows r n).Idx → EReal) (p : Fin 132) (e : Fin 2) (d : Fin 4) (c : Fin r) (v : Fin n) :
    putAt h h' ix t x (ix5 p e d c v) = if p.val = k then x (ix4 e d c v) else t (ix5 p e d c v) := by
  rw [putAt, WordCmp.dynamicUpdateSlice_eq_update _ _ _ _ _ (fits hk) (starts_eq hx), updateSlice]
  by_cases hp : p.val = k
  · rw [if_pos hp, dif_pos]
    · refine congrArg x (funext fun a => Fin.ext ?_)
      have hb := (ix4 e d c v a).isLt
      split
      · rename_i h1
        exact (Nat.lt_one_iff.mp (lt_of_lt_of_eq hb h1)).symm
      · fin_cases a <;> rfl
    · intro a
      fin_cases a <;> simp [ix5] <;> omega
  · rw [if_neg hp, dif_neg]
    intro hin
    obtain ⟨h1, h2⟩ : k ≤ p.val ∧ p.val < k + 1 := hin 0
    omega

end Cert.ReferenceIdeal.Ops

end
-- ==== Proof.RefFwd.lean ====
/- The reference's first loop: what one trip does to the state and to the stacked results, and what they hold before each trip. -/
module

public import proofs.«01_k».proof.Proof.RefRow

@[expose] public section

set_option maxRecDepth 20000

noncomputable section

namespace Cert.ReferenceIdeal.Ops

open Idealize.ShloMosaic Idealize.ShloMosaic.TcCoe Idealize.ShloMosaic.Tactic Idealize.ShloMosaic.StableHlo
open Cert.ReferenceIdeal Cert.ReferenceIdeal.Gen
open Cert.Delta (Args)

variable (X : Valuation τ sig (Elt Ideal))

abbrev ix0 : IVec S_ 32 := X (Proc.devRef .tc main_v53_6)
def u0 : FVec Ideal S2x4x64x128 .f32 := rowsAt sliceFits_S132x2x4x64x128_S1x2x4x64x128 shapeCasts_S1x2x4x64x128_S2x4x64x128 (ix0 X) (X (Proc.devRef .tc main_v53_0))
def w0 : FVec Ideal S2x4x64x128 .f32 := rowsAt sliceFits_S132x2x4x64x128_S1x2x4x64x128 shapeCasts_S1x2x4x64x128_S2x4x64x128 (ix0 X) (X (Proc.devRef .tc main_v53_1))
def ks0 : FVec Ideal S2x4x64x128 .f32 := rowsAt sliceFits_S132x2x4x64x128_S1x2x4x64x128 shapeCasts_S1x2x4x64x128_S2x4x64x128 (ix0 X) (X (Proc.devRef .tc main_v53_2))
def gl0 : FVec Ideal S2x4x1x128 .f32 := rowsAt sliceFits_S132x2x4x1x128_S1x2x4x1x128 shapeCasts_S1x2x4x1x128_S2x4x1x128 (ix0 X) (X (Proc.devRef .tc main_v53_3))
def qd0 : FVec Ideal S2x4x64x128 .f32 := rowsAt sliceFits_S132x2x4x64x128_S1x2x4x64x128 shapeCasts_S1x2x4x64x128_S2x4x64x128 (ix0 X) (X (Proc.devRef .tc main_v53_4))
def a0 : FVec Ideal S2x4x64x64 .f32 := rowsAt sliceFits_S132x2x4x64x64_S1x2x4x64x64 shapeCasts_S1x2x4x64x64_S2x4x64x64 (ix0 X) (X (Proc.devRef .tc main_v53_5))
abbrev s0 : FVec Ideal S2x4x128x128 .f32 := X (Proc.devRef .tc main_v53_7)
def g0 : FVec Ideal S2x4x1x1 .f32 := extractStridedSlice S2x4x1x1 ![0, 0, 0, 0] (gl0 X) slices_S2x4x1x128_S2x4x1x1_0_0_0_0
def vnew0 : FVec Ideal S2x4x64x128 .f32 := subf (u0 X) (Host.dotGeneral dot_S2x4x64x128_S2x4x128x128_S2x4x64x128_3_2_2_3_01_01 none (w0 X) (s0 X))
def out0 : FVec Ideal S2x4x64x128 .f32 :=
  addf (Host.dotGeneral dot_S2x4x64x128_S2x4x128x128_S2x4x64x128_3_2_2_3_01_01 none (qd0 X) (s0 X))
    (Host.dotGeneral dot_S2x4x64x64_S2x4x64x128_S2x4x64x128_3_2_2_3_01_01 none (a0 X) (vnew0 X))
def next0 : FVec Ideal S2x4x128x128 .f32 :=
  addf (mulf (s0 X) (broadcastInDim S2x4x128x128 ![0, 1, 2, 3] bcast_S2x4x1x1_S2x4x128x128_0_1_2_3 (g0 X)))
    (Host.dotGeneral dot_S2x4x64x128_S2x4x64x128_S2x4x128x128_2_2_3_3_01_01 none (ks0 X) (vnew0 X))

/-! ## What a trip writes -/

theorem step0_next : after body0 X (Proc.devRef .tc main_v53_7) = next0 X := by
  after_results_simp_entrywise
  rfl
theorem step0_o : after body0 X (Proc.devRef .tc main_v53_8)
    = putAt updateFits_S132x2x4x64x128_S1x2x4x64x128 bcast_S2x4x64x128_S1x2x4x64x128_1_2_3_4 (ix0 X) (X (Proc.devRef .tc main_v53_8)) (out0 X) := by
  after_results_simp_entrywise
  rfl
theorem step0_s : after body0 X (Proc.devRef .tc main_v53_9)
    = putAt updateFits_S132x2x4x128x128_S1x2x4x128x128 bcast_S2x4x128x128_S1x2x4x128x128_1_2_3_4 (ix0 X) (X (Proc.devRef .tc main_v53_9)) (s0 X) := by
  after_results_simp_entrywise
  rfl
theorem step0_g : after body0 X (Proc.devRef .tc main_v53_10)
    = putAt updateFits_S132x2x4x1x1_S1x2x4x1x1 bcast_S2x4x1x1_S1x2x4x1x1_1_2_3_4 (ix0 X) (X (Proc.devRef .tc main_v53_10)) (g0 X) := by
  after_results_simp_entrywise
  rfl
theorem step0_v : after body0 X (Proc.devRef .tc main_v53_11)
    = putAt updateFits_S132x2x4x64x128_S1x2x4x64x128 bcast_S2x4x64x128_S1x2x4x64x128_1_2_3_4 (ix0 X) (X (Proc.devRef .tc main_v53_11)) (vnew0 X) := by
  after_results_simp_entrywise
  rfl

/-! ## Its values -/

/-- The stacked inputs of the first loop are the walks' chunks. -/
structure In0 (A : Args) : Prop where
  u : ∀ (p : Fin 132) (e : Fin 2) (h : Fin 4) (c : Fin 64) (v : Fin 128), X (Proc.devRef .tc main_v53_0) (ix5 p e h c v) = (A.walk e h p).u c v
  w : ∀ (p : Fin 132) (e : Fin 2) (h : Fin 4) (c : Fin 64) (v : Fin 128), X (Proc.devRef .tc main_v53_1) (ix5 p e h c v) = (A.walk e h p).w c v
  ks : ∀ (p : Fin 132) (e : Fin 2) (h : Fin 4) (c : Fin 64) (v : Fin 128), X (Proc.devRef .tc main_v53_2) (ix5 p e h c v) = (A.walk e h p).ks c v
  g : ∀ (p : Fin 132) (e : Fin 2) (h : Fin 4), X (Proc.devRef .tc main_v53_3) (ix5 p e h (0 : Fin 1) (0 : Fin 128)) = (A.walk e h p).g
  qd : ∀ (p : Fin 132) (e : Fin 2) (h : Fin 4) (c : Fin 64) (v : Fin 128), X (Proc.devRef .tc main_v53_4) (ix5 p e h c v) = (A.walk e h p).qd c v
  a : ∀ (p : Fin 132) (e : Fin 2) (h : Fin 4) (c : Fin 64) (v : Fin 64), X (Proc.devRef .tc main_v53_5) (ix5 p e h c v) = (A.walk e h p).a c v

variable {X} {A : Args} (hI : In0 X A) {k : ℕ} (hk : k < 132) (hx : ∀ i, (ix0 X i).toInt = k) (e : Fin 2) (h : Fin 4)

/-- The state at direction `e`, head `h`. -/
abbrev sAt (X : Valuation τ sig (Elt Ideal)) (e : Fin 2) (h : Fin 4) : Delta.State := fun i v => s0 X (ix4 e h i v)

include hI hk hx

theorem u0_apply (c : Fin 64) (v : Fin 128) : u0 X (ix4 e h c v) = (A.walk e h k).u c v := (rowsAt_apply hk hx _ e h c v).trans (hI.u ⟨k, hk⟩ e h c v)
theorem w0_apply (c : Fin 64) (v : Fin 128) : w0 X (ix4 e h c v) = (A.walk e h k).w c v := (rowsAt_apply hk hx _ e h c v).trans (hI.w ⟨k, hk⟩ e h c v)
theorem ks0_apply (c : Fin 64) (v : Fin 128) : ks0 X (ix4 e h c v) = (A.walk e h k).ks c v := (rowsAt_apply hk hx _ e h c v).trans (hI.ks ⟨k, hk⟩ e h c v)
theorem gl0_apply : gl0 X (ix4 e h 0 0) = (A.walk e h k).g := (rowsAt_apply hk hx _ e h (0 : Fin 1) (0 : Fin 128)).trans (hI.g ⟨k, hk⟩ e h)
theorem qd0_apply (c : Fin 64) (v : Fin 128) : qd0 X (ix4 e h c v) = (A.walk e h k).qd c v := (rowsAt_apply hk hx _ e h c v).trans (hI.qd ⟨k, hk⟩ e h c v)
theorem a0_apply (c : Fin 64) (v : Fin 64) : a0 X (ix4 e h c v) = (A.walk e h k).a c v := (rowsAt_apply hk hx _ e h c v).trans (hI.a ⟨k, hk⟩ e h c v)

theorem g0_apply : g0 X (ix4 e h 0 0) = (A.walk e h k).g := by
  refine Eq.trans ?_ (gl0_apply hI hk hx e h)
  pointwise [g0]
theorem vnew0_apply (c : Fin 64) (v : Fin 128) : vnew0 X (ix4 e h c v) = Delta.vnew (A.walk e h k) (sAt X e h) c v := by
  pointwise [vnew0]
  simp only [u0_apply hI hk hx, w0_apply hI hk hx]
  rfl
theorem out0_apply (c : Fin 64) (v : Fin 128) : out0 X (ix4 e h c v) = Delta.out (A.walk e h k) (sAt X e h) c v := by
  pointwise [out0]
  simp only [qd0_apply hI hk hx, a0_apply hI hk hx, vnew0_apply hI hk hx]
  rfl
theorem next0_apply (i : Fin 128) (v : Fin 128) : next0 X (ix4 e h i v) = Delta.next (A.walk e h k) (sAt X e h) i v := by
  pointwise [next0]
  simp only [ks0_apply hI hk hx, vnew0_apply hI hk hx, g0_apply hI hk hx]
  rfl

end Cert.ReferenceIdeal.Ops

end
-- ==== Proof.RefFlip.lean ====
/- How the reference lays out two directions: an array by chunk is flipped for direction 1, two arrays are stacked, and a stacked
   array is taken apart. -/
module

public import proofs.«01_k».proof.Proof.RefRow

@[expose] public section

set_option maxRecDepth 20000

noncomputable section

namespace Cert.ReferenceIdeal.Ops

open Idealize.ShloMosaic Idealize.ShloMosaic.TcCoe Idealize.ShloMosaic.Tactic Idealize.ShloMosaic.StableHlo
open Cert.ReferenceIdeal Cert.ReferenceIdeal.Gen
open Cert.Delta (place)

abbrev Arr (m r n : ℕ) : Shape := ⟨4, ![m, 4, r, n]⟩
abbrev Side (r n : ℕ) : Shape := ⟨5, ![132, 1, 4, r, n]⟩

variable {r n : ℕ}

theorem place_early {p : ℕ} (hp : p < 4) : (place 1 p).val = 3 - p := by simp [place, hp]
theorem place_late {p : ℕ} (hp : ¬ p < 4) : (place 1 p).val = 135 - p := by simp [place, hp]

/-- The first four chunks last first, and then the others last first. -/
def flip (h1 : (Arr 132 r n).Slices ![0, 0, 0, 0] (Arr 4 r n)) (h2 : (Arr 132 r n).Slices ![4, 0, 0, 0] (Arr 128 r n))
    (h3 : Shape.Concatenates [Arr 4 r n, Arr 128 r n] (Arr 132 r n) 0) (x : FVec Ideal (Arr 132 r n) .f32) : FVec Ideal (Arr 132 r n) .f32 :=
  concatenate (Arr 132 r n) 0 [⟨Arr 4 r n, Host.reverse [0] (extractStridedSlice (Arr 4 r n) ![0, 0, 0, 0] x h1)⟩,
    ⟨Arr 128 r n, Host.reverse [0] (extractStridedSlice (Arr 128 r n) ![4, 0, 0, 0] x h2)⟩] h3

theorem flip_apply {h1 : (Arr 132 r n).Slices ![0, 0, 0, 0] (Arr 4 r n)} {h2 : (Arr 132 r n).Slices ![4, 0, 0, 0] (Arr 128 r n)}
    {h3 : Shape.Concatenates [Arr 4 r n, Arr 128 r n] (Arr 132 r n) 0} (x : FVec Ideal (Arr 132 r n) .f32) (p : Fin 132) (d : Fin 4) (c : Fin r) (v : Fin n) :
    flip h1 h2 h3 x (ix4 p d c v) = x (ix4 (place 1 p) d c v) := by
  pointwise [flip]
  split
  · rename_i hp
    refine congrArg x (funext fun a => Fin.ext ?_)
    fin_cases a
    · show 0 + (4 - (p.val + 1)) = (place 1 p).val
      rw [place_early hp]; omega
    all_goals exact Nat.zero_add _
  · rename_i hp
    refine congrArg x (funext fun a => Fin.ext ?_)
    fin_cases a
    · show 4 + (128 - (p.val - 4 + 1)) = (place 1 p).val
      rw [place_late hp]; omega
    all_goals exact Nat.zero_add _

/-- The same flip, by two padded halves that are added: what its transpose does. -/
def unflip (h1 : (Arr 132 r n).Slices ![0, 0, 0, 0] (Arr 4 r n)) (h2 : (Arr 132 r n).Slices ![4, 0, 0, 0] (Arr 128 r n))
    (h3 : (Arr 128 r n).Pads ![4, 0, 0, 0] ![0, 0, 0, 0] ![0, 0, 0, 0] (Arr 132 r n))
    (h4 : (Arr 4 r n).Pads ![0, 0, 0, 0] ![128, 0, 0, 0] ![0, 0, 0, 0] (Arr 132 r n)) (x : FVec Ideal (Arr 132 r n) .f32) : FVec Ideal (Arr 132 r n) .f32 :=
  addf (pad (Arr 132 r n) ![4, 0, 0, 0] ![0, 0, 0, 0] ![0, 0, 0, 0] (Host.reverse [0] (extractStridedSlice (Arr 128 r n) ![4, 0, 0, 0] x h2))
      (constant S_ .f32 0x00000000#32 : FVec Ideal S_ .f32) h3 h_S_)
    (pad (Arr 132 r n) ![0, 0, 0, 0] ![128, 0, 0, 0] ![0, 0, 0, 0] (Host.reverse [0] (extractStridedSlice (Arr 4 r n) ![0, 0, 0, 0] x h1))
      (constant S_ .f32 0x00000000#32 : FVec Ideal S_ .f32) h4 h_S_)

theorem unflip_apply {h1 : (Arr 132 r n).Slices ![0, 0, 0, 0] (Arr 4 r n)} {h2 : (Arr 132 r n).Slices ![4, 0, 0, 0] (Arr 128 r n)}
    {h3 : (Arr 128 r n).Pads ![4, 0, 0, 0] ![0, 0, 0, 0] ![0, 0, 0, 0] (Arr 132 r n)}
    {h4 : (Arr 4 r n).Pads ![0, 0, 0, 0] ![128, 0, 0, 0] ![0, 0, 0, 0] (Arr 132 r n)} (x : FVec Ideal (Arr 132 r n) .f32)
    (p : Fin 132) (d : Fin 4) (c : Fin r) (v : Fin n) :
    unflip h1 h2 h3 h4 x (ix4 p d c v) = x (ix4 (place 1 p) d c v) := by
  by_cases hp : p.val < 4
  · pointwise [unflip]
    rw [dif_neg (by omega), dif_pos hp, zero_add]
    refine congrArg x (funext fun a => Fin.ext ?_)
    fin_cases a
    · show 0 + (4 - ((p.val - 0) / (0 + 1) + 1)) = (place 1 p).val
      rw [place_early hp]; omega
    all_goals exact (Nat.zero_add _).trans (Nat.div_one _)
  · pointwise [unflip]
    rw [dif_pos ⟨by omega, by omega⟩, dif_neg hp, add_zero]
    refine congrArg x (funext fun a => Fin.ext ?_)
    fin_cases a
    · show 4 + (128 - ((p.val - 4) / (0 + 1) + 1)) = (place 1 p).val
      rw [place_late hp]; omega
    all_goals exact (Nat.zero_add _).trans (Nat.div_one _)

/-- Two arrays, one for each direction. -/
def stack (h1 : (Arr 132 r n).BroadcastsInDim (Side r n) (![0, 2, 3, 4] : Fin 4 → Fin 5)) (h2 : Shape.Concatenates [Side r n, Side r n] (Stack r n) 1)
    (x y : FVec Ideal (Arr 132 r n) .f32) : FVec Ideal (Stack r n) .f32 :=
  concatenate (Stack r n) 1 [⟨Side r n, broadcastInDim (Side r n) ![0, 2, 3, 4] h1 x⟩, ⟨Side r n, broadcastInDim (Side r n) ![0, 2, 3, 4] h1 y⟩] h2

theorem stack_apply {h1 : (Arr 132 r n).BroadcastsInDim (Side r n) (![0, 2, 3, 4] : Fin 4 → Fin 5)} {h2 : Shape.Concatenates [Side r n, Side r n] (Stack r n) 1}
    (x y : FVec Ideal (Arr 132 r n) .f32) (p : Fin 132) (e : Fin 2) (d : Fin 4) (c : Fin r) (v : Fin n) :
    stack h1 h2 x y (ix5 p e d c v) = if e = 0 then x (ix4 p d c v) else y (ix4 p d c v) := by
  have hb : ∀ a, ((ix4 p d c v : (Arr 132 r n).Idx) a).val < (Arr 132 r n).size a := fun a => (ix4 p d c v : (Arr 132 r n).Idx) a |>.isLt
  pointwise [stack]
  by_cases he : e = 0
  · subst he
    rw [dif_pos (by decide), if_pos rfl]
    refine congrArg x (funext fun a => Fin.ext ?_)
    change (dite _ _ _ : Fin _).val = _
    split
    · rename_i h1
      exact (Nat.lt_one_iff.mp (lt_of_lt_of_eq (hb a) h1)).symm
    · fin_cases a <;> rfl
  · rw [dif_neg (by omega), if_neg he]
    refine congrArg y (funext fun a => Fin.ext ?_)
    change (dite _ _ _ : Fin _).val = _
    split
    · rename_i h1
      exact (Nat.lt_one_iff.mp (lt_of_lt_of_eq (hb a) h1)).symm
    · fin_cases a <;> rfl

theorem place_zero (p : Fin 132) : place 0 p = p := Fin.ext (Nat.mod_eq_of_lt p.isLt)
theorem two (e : Fin 2) : e = 0 ∨ e = 1 := by revert e; decide

/-- An array for each direction, the second flipped, is read by the walks' steps. -/
theorem stack_flip_apply {h1 : (Arr 132 r n).BroadcastsInDim (Side r n) (![0, 2, 3, 4] : Fin 4 → Fin 5)} {h2 : Shape.Concatenates [Side r n, Side r n] (Stack r n) 1}
    {h3 : (Arr 132 r n).Slices ![0, 0, 0, 0] (Arr 4 r n)} {h4 : (Arr 132 r n).Slices ![4, 0, 0, 0] (Arr 128 r n)}
    {h5 : Shape.Concatenates [Arr 4 r n, Arr 128 r n] (Arr 132 r n) 0}
    (x y : FVec Ideal (Arr 132 r n) .f32) (p : Fin 132) (e : Fin 2) (d : Fin 4) (c : Fin r) (v : Fin n) :
    stack h1 h2 x (flip h3 h4 h5 y) (ix5 p e d c v) = (![x, y] : Fin 2 → _) e (ix4 (place e p) d c v) := by
  rw [stack_apply]
  rcases two e with rfl | rfl
  · rw [if_pos rfl, place_zero]; rfl
  · rw [if_neg (by decide), flip_apply]; rfl

theorem lone_apply {h : (Side r n).ShapeCasts (Arr 132 r n)} (x : FVec Ideal (Side r n) .f32) (p : Fin 132) (d : Fin 4) (c : Fin r) (v : Fin n) :
    shapeCast (Arr 132 r n) x h (ix4 p d c v) = x (ix5 p 0 d c v) := by
  refine shapeCast_apply x h _ _ ?_
  rw [rowMajor_val4 _ _ _ _ rfl rfl rfl, rowMajor_val5 _ _ _ _ _ rfl rfl rfl rfl]
  show p.val * (1 * (4 * (r * n))) + 0 * (4 * (r * n)) + d.val * (r * n) + c.val * n + v.val = p.val * (4 * (r * n)) + d.val * (r * n) + c.val * n + v.val
  rw [one_mul, zero_mul, add_zero]

/-- The array of direction 0, and of direction 1. -/
def side0 (h1 : (Stack r n).Slices ![0, 0, 0, 0, 0] (Side r n)) (h2 : (Side r n).ShapeCasts (Arr 132 r n)) (x : FVec Ideal (Stack r n) .f32) :
    FVec Ideal (Arr 132 r n) .f32 := shapeCast (Arr 132 r n) (extractStridedSlice (Side r n) ![0, 0, 0, 0, 0] x h1) h2
def side1 (h1 : (Stack r n).Slices ![0, 1, 0, 0, 0] (Side r n)) (h2 : (Side r n).ShapeCasts (Arr 132 r n)) (x : FVec Ideal (Stack r n) .f32) :
    FVec Ideal (Arr 132 r n) .f32 := shapeCast (Arr 132 r n) (extractStridedSlice (Side r n) ![0, 1, 0, 0, 0] x h1) h2

theorem side0_apply {h1 : (Stack r n).Slices ![0, 0, 0, 0, 0] (Side r n)} {h2 : (Side r n).ShapeCasts (Arr 132 r n)} (x : FVec Ideal (Stack r n) .f32)
    (p : Fin 132) (d : Fin 4) (c : Fin r) (v : Fin n) : side0 h1 h2 x (ix4 p d c v) = x (ix5 p 0 d c v) := by
  rw [side0, lone_apply]
  refine congrArg x (funext fun a => Fin.ext ?_)
  fin_cases a <;> exact Nat.zero_add _
theorem side1_apply {h1 : (Stack r n).Slices ![0, 1, 0, 0, 0] (Side r n)} {h2 : (Side r n).ShapeCasts (Arr 132 r n)} (x : FVec Ideal (Stack r n) .f32)
    (p : Fin 132) (d : Fin 4) (c : Fin r) (v : Fin n) : side1 h1 h2 x (ix4 p d c v) = x (ix5 p 1 d c v) := by
  rw [side1, lone_apply]
  refine congrArg x (funext fun a => Fin.ext ?_)
  fin_cases a <;> first | rfl | exact Nat.zero_add _

end Cert.ReferenceIdeal.Ops

end
-- ==== Proof.RefFwdLoop.lean ====
/- The reference's first loop over its trips: the state before trip `k` is the walks' after `k` chunks, and the stacked results hold
   the first `k` steps. -/
module

public import proofs.«01_k».proof.Proof.RefFwd
public import proofs.«01_k».proof.Proof.RefFlip

@[expose] public section

set_option maxRecDepth 20000

noncomputable section

namespace Cert.ReferenceIdeal.Ops

open Idealize.ShloMosaic Idealize.ShloMosaic.TcCoe Idealize.ShloMosaic.Tactic Idealize.ShloMosaic.StableHlo
open Cert.ReferenceIdeal Cert.ReferenceIdeal.Gen
open Cert.Delta (Args)

/-- The arrays in the reference's arguments. -/
def args (V : Valuation τ sig (Elt Ideal)) : Args where
  u := ![V (Proc.devRef .tc main_arg0), V (Proc.devRef .tc main_arg1)]
  w := ![V (Proc.devRef .tc main_arg2), V (Proc.devRef .tc main_arg3)]
  qd := ![V (Proc.devRef .tc main_arg4), V (Proc.devRef .tc main_arg5)]
  ks := ![V (Proc.devRef .tc main_arg6), V (Proc.devRef .tc main_arg7)]
  a := ![V (Proc.devRef .tc main_arg8), V (Proc.devRef .tc main_arg9)]
  g := ![V (Proc.devRef .tc main_arg10), V (Proc.devRef .tc main_arg11)]
  dO := ![V (Proc.devRef .tc main_arg12), V (Proc.devRef .tc main_arg13)]

variable (V : Valuation τ sig (Elt Ideal))

/-- An array for each direction of the shapes that the loops read. -/
abbrev both128 (x y : FVec Ideal S132x4x64x128 .f32) : FVec Ideal S132x2x4x64x128 .f32 :=
  stack bcast_S132x4x64x128_S132x1x4x64x128_0_2_3_4 concatenates_S132x1x4x64x128_S132x1x4x64x128_S132x2x4x64x128_d1 x
    (flip slices_S132x4x64x128_S4x4x64x128_0_0_0_0 slices_S132x4x64x128_S128x4x64x128_4_0_0_0 concatenates_S4x4x64x128_S128x4x64x128_S132x4x64x128_d0 y)
abbrev both64 (x y : FVec Ideal S132x4x64x64 .f32) : FVec Ideal S132x2x4x64x64 .f32 :=
  stack bcast_S132x4x64x64_S132x1x4x64x64_0_2_3_4 concatenates_S132x1x4x64x64_S132x1x4x64x64_S132x2x4x64x64_d1 x
    (flip slices_S132x4x64x64_S4x4x64x64_0_0_0_0 slices_S132x4x64x64_S128x4x64x64_4_0_0_0 concatenates_S4x4x64x64_S128x4x64x64_S132x4x64x64_d0 y)
abbrev both1 (x y : FVec Ideal S132x4x1x128 .f32) : FVec Ideal S132x2x4x1x128 .f32 :=
  stack bcast_S132x4x1x128_S132x1x4x1x128_0_2_3_4 concatenates_S132x1x4x1x128_S132x1x4x1x128_S132x2x4x1x128_d1 x
    (flip slices_S132x4x1x128_S4x4x1x128_0_0_0_0 slices_S132x4x1x128_S128x4x1x128_4_0_0_0 concatenates_S4x4x1x128_S128x4x1x128_S132x4x1x128_d0 y)

theorem pre_u : after ops1a (after ops0 V) (Proc.devRef .tc main_v53_0) = both128 (V (Proc.devRef .tc main_arg0)) (V (Proc.devRef .tc main_arg1)) := by
  after_results_simp_entrywise
  rfl
theorem pre_w : after ops1a (after ops0 V) (Proc.devRef .tc main_v53_1) = both128 (V (Proc.devRef .tc main_arg2)) (V (Proc.devRef .tc main_arg3)) := by
  after_results_simp_entrywise
  rfl
theorem pre_ks : after ops1a (after ops0 V) (Proc.devRef .tc main_v53_2) = both128 (V (Proc.devRef .tc main_arg6)) (V (Proc.devRef .tc main_arg7)) := by
  after_results_simp_entrywise
  rfl
theorem pre_g : after ops1a (after ops0 V) (Proc.devRef .tc main_v53_3) = both1 (V (Proc.devRef .tc main_arg10)) (V (Proc.devRef .tc main_arg11)) := by
  after_results_simp_entrywise
  rfl
theorem pre_qd : after ops1a (after ops0 V) (Proc.devRef .tc main_v53_4) = both128 (V (Proc.devRef .tc main_arg4)) (V (Proc.devRef .tc main_arg5)) := by
  after_results_simp_entrywise
  rfl
theorem pre_a : after ops1a (after ops0 V) (Proc.devRef .tc main_v53_5) = both64 (V (Proc.devRef .tc main_arg8)) (V (Proc.devRef .tc main_arg9)) := by
  after_results_simp_entrywise
  rfl
theorem pre_s (e : Fin 2) (h : Fin 4) : sAt (after ops1a (after ops0 V)) e h = fun _ _ => (0 : EReal) := by
  have hz : s0 (after ops1a (after ops0 V)) = broadcastInDim S2x4x128x128 ![] bcast_S_S2x4x128x128 (constant S_ .f32 0x00000000#32 : FVec Ideal S_ .f32) := by
    after_results_simp_entrywise
    rfl
  funext i v
  show s0 _ _ = _
  rw [hz]
  exact Ideal.ofBits_zero_f32
theorem pre_in : In0 (after ops1a (after ops0 V)) (args V) where
  u p e h c v := by rw [pre_u]; exact stack_flip_apply _ _ p e h c v
  w p e h c v := by rw [pre_w]; exact stack_flip_apply _ _ p e h c v
  ks p e h c v := by rw [pre_ks]; exact stack_flip_apply _ _ p e h c v
  g p e h := by rw [pre_g]; exact stack_flip_apply _ _ p e h (0 : Fin 1) (0 : Fin 128)
  qd p e h c v := by rw [pre_qd]; exact stack_flip_apply _ _ p e h c v
  a p e h c v := by rw [pre_a]; exact stack_flip_apply _ _ p e h c v

/-! ## The trips -/

/-- What the buffers hold after `k` trips. -/
structure At0 (X : Valuation τ sig (Elt Ideal)) (A : Args) (k : ℕ) : Prop where
  inp : In0 X A
  s : ∀ (e : Fin 2) (h : Fin 4), sAt X e h = Delta.states (A.walk e h) k
  o : ∀ (p : Fin 132) (e : Fin 2) (h : Fin 4) (c : Fin 64) (v : Fin 128), p.val < k →
    X (Proc.devRef .tc main_v53_8) (ix5 p e h c v) = Delta.out (A.walk e h p) (Delta.states (A.walk e h) p) c v
  st : ∀ (p : Fin 132) (e : Fin 2) (h : Fin 4) (i v : Fin 128), p.val < k →
    X (Proc.devRef .tc main_v53_9) (ix5 p e h i v) = Delta.states (A.walk e h) p i v
  g : ∀ (p : Fin 132) (e : Fin 2) (h : Fin 4), p.val < k →
    X (Proc.devRef .tc main_v53_10) (ix5 p e h (0 : Fin 1) (0 : Fin 1)) = (A.walk e h p).g
  vn : ∀ (p : Fin 132) (e : Fin 2) (h : Fin 4) (c : Fin 64) (v : Fin 128), p.val < k →
    X (Proc.devRef .tc main_v53_11) (ix5 p e h c v) = Delta.vnew (A.walk e h p) (Delta.states (A.walk e h) p) c v

/-- The buffers that `In0` reads, and those that `At0` reads too. -/
abbrev in0Refs : List (Ref sig .tc) := [main_v53_0, main_v53_1, main_v53_2, main_v53_3, main_v53_4, main_v53_5]
abbrev at0Refs : List (Ref sig .tc) := in0Refs ++ [main_v53_7, main_v53_8, main_v53_9, main_v53_10, main_v53_11]

variable {X Y : Valuation τ sig (Elt Ideal)} {A : Args} {k : ℕ}

theorem In0.keep (hI : In0 X A) (hY : ∀ r ∈ in0Refs, Y (Proc.devRef .tc r) = X (Proc.devRef .tc r)) : In0 Y A where
  u p e h c v := by rw [hY main_v53_0 (by decide)]; exact hI.u p e h c v
  w p e h c v := by rw [hY main_v53_1 (by decide)]; exact hI.w p e h c v
  ks p e h c v := by rw [hY main_v53_2 (by decide)]; exact hI.ks p e h c v
  g p e h := by rw [hY main_v53_3 (by decide)]; exact hI.g p e h
  qd p e h c v := by rw [hY main_v53_4 (by decide)]; exact hI.qd p e h c v
  a p e h c v := by rw [hY main_v53_5 (by decide)]; exact hI.a p e h c v
theorem At0.keep (hA : At0 X A k) (hY : ∀ r ∈ at0Refs, Y (Proc.devRef .tc r) = X (Proc.devRef .tc r)) : At0 Y A k where
  inp := hA.inp.keep fun r hr => hY r (List.mem_append_left _ hr)
  s e h := by rw [← hA.s e h]; funext i v; exact congrFun (hY main_v53_7 (by decide)) _
  o p e h c v hp := by rw [hY main_v53_8 (by decide)]; exact hA.o p e h c v hp
  st p e h i v hp := by rw [hY main_v53_9 (by decide)]; exact hA.st p e h i v hp
  g p e h hp := by rw [hY main_v53_10 (by decide)]; exact hA.g p e h hp
  vn p e h c v hp := by rw [hY main_v53_11 (by decide)]; exact hA.vn p e h c v hp

theorem At0.trip (hA : At0 X A k) (hk : k < 132) (hx : ∀ i, (ix0 X i).toInt = k) : At0 (after body0 X) A (k + 1) where
  inp := hA.inp.keep fun r hr => after_of_writes_sub body0 _ body0_writes ((by decide : ∀ r ∈ in0Refs, r ∉ body0_W) r hr)
  s e h := by
    funext i v
    refine (congrFun (step0_next X) _).trans ((next0_apply hA.inp hk hx e h i v).trans ?_)
    rw [hA.s e h]; rfl
  o p e h c v hp := by
    rw [step0_o]
    refine (putAt_apply hk hx _ _ p e h c v).trans ?_
    split
    · rename_i hpk
      rw [out0_apply hA.inp hk hx, hA.s, ← hpk]
    · exact hA.o p e h c v (by omega)
  st p e h i v hp := by
    rw [step0_s]
    refine (putAt_apply hk hx _ _ p e h i v).trans ?_
    split
    · rename_i hpk
      rw [hpk]; exact congrFun (congrFun (hA.s e h) i) v
    · exact hA.st p e h i v (by omega)
  g p e h hp := by
    rw [step0_g]
    refine (putAt_apply hk hx _ _ p e h (0 : Fin 1) (0 : Fin 1)).trans ?_
    split
    · rename_i hpk
      rw [g0_apply hA.inp hk hx, ← hpk]
    · exact hA.g p e h (by omega)
  vn p e h c v hp := by
    rw [step0_v]
    refine (putAt_apply hk hx _ _ p e h c v).trans ?_
    split
    · rename_i hpk
      rw [vnew0_apply hA.inp hk hx, hA.s, ← hpk]
    · exact hA.vn p e h c v (by omega)

theorem iv_toInt {k : ℕ} (hk : k ≤ 132) : (Scf.iv 0#32 1#32 k).toInt = k := by
  rw [Scf.toInt_iv (ub := 132#32) (by decide) (show k ≤ Scf.trips 0#32 132#32 1#32 from hk)]
  show (0 : ℤ) + k * 1 = k
  omega

variable (m : (ℓ : Loc nD τ sig) → Buf (Elt Ideal) ℓ) (c : Dev nD)

theorem at0 : ∀ k, k ≤ 132 → At0 (L0 m k c) (args (launchContents m c)) k
  | 0, _ => by
    show At0 (Vpre m c) _ 0
    simp only [Vpre, afterL_cons, afterL_nil]
    exact ⟨pre_in _, fun e h => pre_s _ e h, fun _ _ _ _ _ hp => absurd hp (Nat.not_lt_zero _), fun _ _ _ _ _ hp => absurd hp (Nat.not_lt_zero _),
      fun _ _ _ hp => absurd hp (Nat.not_lt_zero _), fun _ _ _ _ _ hp => absurd hp (Nat.not_lt_zero _)⟩
  | k + 1, hk => by
    have hkeep : ∀ r, r ∉ cond0_W → after cond0 (L0 m k c) (Proc.devRef .tc r) = L0 m k c (Proc.devRef .tc r) :=
      fun r hr => after_of_writes_sub cond0 _ cond0_writes hr
    rw [L0, atTrip_succ]
    simp only [afterL_cons, afterL_nil]
    refine ((at0 k (by omega)).keep fun r hr => hkeep r ((by decide : ∀ r ∈ at0Refs, r ∉ cond0_W) r hr)).trip (by omega) fun i => ?_
    show BitVec.toInt (after cond0 (L0 m k c) (Proc.devRef .tc main_v53_6) i) = k
    rw [hkeep main_v53_6 (by decide), ctr0_at]
    exact iv_toInt (by omega)

/-- What the first loop leaves. -/
theorem left0 : At0 (after cond0 (L0 m nT c)) (args (launchContents m c)) 132 :=
  (at0 m c 132 (Nat.le_refl _)).keep fun r hr => after_of_writes_sub cond0 _ cond0_writes ((by decide : ∀ r ∈ at0Refs, r ∉ cond0_W) r hr)

end Cert.ReferenceIdeal.Ops

end
-- ==== Proof.RefBwd.lean ====
/- The reference's second loop: what one trip does to the gradient of the state and to the stacked gradients. A trip takes the steps
   from the last to the first. -/
module

public import proofs.«01_k».proof.Proof.RefRow

@[expose] public section

set_option maxRecDepth 20000

noncomputable section

namespace Cert.ReferenceIdeal.Ops

open Idealize.ShloMosaic Idealize.ShloMosaic.TcCoe Idealize.ShloMosaic.Tactic Idealize.ShloMosaic.StableHlo
open Cert.ReferenceIdeal Cert.ReferenceIdeal.Gen
open Cert.Delta (Args)

variable (X : Valuation τ sig (Elt Ideal))

/-- The step that a trip takes. -/
def ix1' : IVec S_ 32 := subi (subi (constantI S_ 32 132#32) (X (Proc.devRef .tc main_v91_8) : IVec S_ 32)) (constantI S_ 32 1#32)
def dO1 : FVec Ideal S2x4x64x128 .f32 := rowsAt sliceFits_S132x2x4x64x128_S1x2x4x64x128 shapeCasts_S1x2x4x64x128_S2x4x64x128 (ix1' X) (X (Proc.devRef .tc main_v91_0))
def s1 : FVec Ideal S2x4x128x128 .f32 := rowsAt sliceFits_S132x2x4x128x128_S1x2x4x128x128 shapeCasts_S1x2x4x128x128_S2x4x128x128 (ix1' X) (X (Proc.devRef .tc main_v91_1))
def w1 : FVec Ideal S2x4x64x128 .f32 := rowsAt sliceFits_S132x2x4x64x128_S1x2x4x64x128 shapeCasts_S1x2x4x64x128_S2x4x64x128 (ix1' X) (X (Proc.devRef .tc main_v91_2))
def g1 : FVec Ideal S2x4x1x1 .f32 := rowsAt sliceFits_S132x2x4x1x1_S1x2x4x1x1 shapeCasts_S1x2x4x1x1_S2x4x1x1 (ix1' X) (X (Proc.devRef .tc main_v91_3))
def vn1 : FVec Ideal S2x4x64x128 .f32 := rowsAt sliceFits_S132x2x4x64x128_S1x2x4x64x128 shapeCasts_S1x2x4x64x128_S2x4x64x128 (ix1' X) (X (Proc.devRef .tc main_v91_4))
def ks1 : FVec Ideal S2x4x64x128 .f32 := rowsAt sliceFits_S132x2x4x64x128_S1x2x4x64x128 shapeCasts_S1x2x4x64x128_S2x4x64x128 (ix1' X) (X (Proc.devRef .tc main_v91_5))
def qd1 : FVec Ideal S2x4x64x128 .f32 := rowsAt sliceFits_S132x2x4x64x128_S1x2x4x64x128 shapeCasts_S1x2x4x64x128_S2x4x64x128 (ix1' X) (X (Proc.devRef .tc main_v91_6))
def a1 : FVec Ideal S2x4x64x64 .f32 := rowsAt sliceFits_S132x2x4x64x64_S1x2x4x64x64 shapeCasts_S1x2x4x64x64_S2x4x64x64 (ix1' X) (X (Proc.devRef .tc main_v91_7))
abbrev d1 : FVec Ideal S2x4x128x128 .f32 := X (Proc.devRef .tc main_v91_9)

def dvn1 : FVec Ideal S2x4x64x128 .f32 :=
  addf (transpose S2x4x64x128 [0, 1, 3, 2] (Host.dotGeneral dot_S2x4x64x128_S2x4x64x64_S2x4x128x64_2_2_3_3_01_01 none (dO1 X) (a1 X)) transposes_S2x4x128x64_S2x4x64x128_0_1_3_2)
    (transpose S2x4x64x128 [0, 1, 3, 2] (Host.dotGeneral dot_S2x4x128x128_S2x4x64x128_S2x4x128x64_2_3_3_2_01_01 none (d1 X) (ks1 X)) transposes_S2x4x128x64_S2x4x64x128_0_1_3_2)
def dW1 : FVec Ideal S2x4x64x128 .f32 := Host.dotGeneral dot_S2x4x64x128_S2x4x128x128_S2x4x64x128_3_3_2_2_01_01 none (Host.negf (dvn1 X)) (s1 X)
def dQd1 : FVec Ideal S2x4x64x128 .f32 := Host.dotGeneral dot_S2x4x64x128_S2x4x128x128_S2x4x64x128_3_3_2_2_01_01 none (dO1 X) (s1 X)
def dKs1 : FVec Ideal S2x4x64x128 .f32 :=
  transpose S2x4x64x128 [0, 1, 3, 2] (Host.dotGeneral dot_S2x4x128x128_S2x4x64x128_S2x4x128x64_3_3_2_2_01_01 none (d1 X) (vn1 X)) transposes_S2x4x128x64_S2x4x64x128_0_1_3_2
def dA1 : FVec Ideal S2x4x64x64 .f32 := Host.dotGeneral dot_S2x4x64x128_S2x4x64x128_S2x4x64x64_3_3_2_2_01_01 none (dO1 X) (vn1 X)
def dG1 : FVec Ideal S2x4x1x1 .f32 :=
  shapeCast S2x4x1x1 (Host.reduceAdd (mulf (s1 X) (d1 X)) (constant S_ .f32 0x00000000#32 : FVec Ideal S_ .f32) reducesTo_S2x4x128x128_S2x4_d2_3 h_S_) shapeCasts_S2x4_S2x4x1x1
def dGl1 : FVec Ideal S2x4x1x128 .f32 :=
  pad S2x4x1x128 ![0, 0, 0, 0] ![0, 0, 0, 127] ![0, 0, 0, 0] (dG1 X) (constant S_ .f32 0x00000000#32 : FVec Ideal S_ .f32) pads_S2x4x1x1_S2x4x1x128_000_000_000_01270 h_S_
def prev1 : FVec Ideal S2x4x128x128 .f32 :=
  addf (addf (transpose S2x4x128x128 [0, 1, 3, 2] (Host.dotGeneral dot_S2x4x64x128_S2x4x64x128_S2x4x128x128_2_2_3_3_01_01 none (dO1 X) (qd1 X)) transposes_S2x4x128x128_S2x4x128x128_0_1_3_2)
      (mulf (d1 X) (broadcastInDim S2x4x128x128 ![0, 1, 2, 3] bcast_S2x4x1x1_S2x4x128x128_0_1_2_3 (g1 X))))
    (transpose S2x4x128x128 [0, 1, 3, 2] (Host.dotGeneral dot_S2x4x64x128_S2x4x64x128_S2x4x128x128_2_2_3_3_01_01 none (Host.negf (dvn1 X)) (w1 X)) transposes_S2x4x128x128_S2x4x128x128_0_1_3_2)

/-! ## What a trip writes -/

abbrev put128 (t : FVec Ideal S132x2x4x64x128 .f32) (x : FVec Ideal S2x4x64x128 .f32) : FVec Ideal S132x2x4x64x128 .f32 :=
  putAt updateFits_S132x2x4x64x128_S1x2x4x64x128 bcast_S2x4x64x128_S1x2x4x64x128_1_2_3_4 (ix1' X) t x

theorem step1_prev : after body1 X (Proc.devRef .tc main_v91_9) = prev1 X := by
  after_results_simp_entrywise
  rfl
theorem step1_du : after body1 X (Proc.devRef .tc main_v91_10) = put128 X (X (Proc.devRef .tc main_v91_10)) (dvn1 X) := by
  after_results_simp_entrywise
  rfl
theorem step1_dw : after body1 X (Proc.devRef .tc main_v91_11) = put128 X (X (Proc.devRef .tc main_v91_11)) (dW1 X) := by
  after_results_simp_entrywise
  rfl
theorem step1_dks : after body1 X (Proc.devRef .tc main_v91_12) = put128 X (X (Proc.devRef .tc main_v91_12)) (dKs1 X) := by
  after_results_simp_entrywise
  rfl
theorem step1_dg : after body1 X (Proc.devRef .tc main_v91_13)
    = putAt updateFits_S132x2x4x1x128_S1x2x4x1x128 bcast_S2x4x1x128_S1x2x4x1x128_1_2_3_4 (ix1' X) (X (Proc.devRef .tc main_v91_13)) (dGl1 X) := by
  after_results_simp_entrywise
  rfl
theorem step1_dqd : after body1 X (Proc.devRef .tc main_v91_14) = put128 X (X (Proc.devRef .tc main_v91_14)) (dQd1 X) := by
  after_results_simp_entrywise
  rfl
theorem step1_da : after body1 X (Proc.devRef .tc main_v91_15)
    = putAt updateFits_S132x2x4x64x64_S1x2x4x64x64 bcast_S2x4x64x64_S1x2x4x64x64_1_2_3_4 (ix1' X) (X (Proc.devRef .tc main_v91_15)) (dA1 X) := by
  after_results_simp_entrywise
  rfl

/-! ## Its values -/

/-- The stacked inputs of the second loop are the walks' chunks, and what the first loop kept. -/
structure In1 (A : Args) : Prop where
  dO : ∀ (p : Fin 132) (e : Fin 2) (h : Fin 4) (c : Fin 64) (v : Fin 128), X (Proc.devRef .tc main_v91_0) (ix5 p e h c v) = (A.walk e h p).dO c v
  s : ∀ (p : Fin 132) (e : Fin 2) (h : Fin 4) (i v : Fin 128), X (Proc.devRef .tc main_v91_1) (ix5 p e h i v) = Delta.states (A.walk e h) p i v
  w : ∀ (p : Fin 132) (e : Fin 2) (h : Fin 4) (c : Fin 64) (v : Fin 128), X (Proc.devRef .tc main_v91_2) (ix5 p e h c v) = (A.walk e h p).w c v
  g : ∀ (p : Fin 132) (e : Fin 2) (h : Fin 4), X (Proc.devRef .tc main_v91_3) (ix5 p e h (0 : Fin 1) (0 : Fin 1)) = (A.walk e h p).g
  vn : ∀ (p : Fin 132) (e : Fin 2) (h : Fin 4) (c : Fin 64) (v : Fin 128),
    X (Proc.devRef .tc main_v91_4) (ix5 p e h c v) = Delta.vnew (A.walk e h p) (Delta.states (A.walk e h) p) c v
  ks : ∀ (p : Fin 132) (e : Fin 2) (h : Fin 4) (c : Fin 64) (v : Fin 128), X (Proc.devRef .tc main_v91_5) (ix5 p e h c v) = (A.walk e h p).ks c v
  qd : ∀ (p : Fin 132) (e : Fin 2) (h : Fin 4) (c : Fin 64) (v : Fin 128), X (Proc.devRef .tc main_v91_6) (ix5 p e h c v) = (A.walk e h p).qd c v
  a : ∀ (p : Fin 132) (e : Fin 2) (h : Fin 4) (c : Fin 64) (v : Fin 64), X (Proc.devRef .tc main_v91_7) (ix5 p e h c v) = (A.walk e h p).a c v

variable {X} {A : Args} (hI : In1 X A) {p : ℕ} (hp : p < 132) (hx : ∀ i, (ix1' X i).toInt = p) (e : Fin 2) (h : Fin 4)

/-- The gradient of the state at direction `e`, head `h`. -/
abbrev dAt (X : Valuation τ sig (Elt Ideal)) (e : Fin 2) (h : Fin 4) : Delta.State := fun i v => d1 X (ix4 e h i v)

include hI hp hx

theorem dO1_apply (c : Fin 64) (v : Fin 128) : dO1 X (ix4 e h c v) = (A.walk e h p).dO c v := (rowsAt_apply hp hx _ e h c v).trans (hI.dO ⟨p, hp⟩ e h c v)
theorem s1_apply (i v : Fin 128) : s1 X (ix4 e h i v) = Delta.states (A.walk e h) p i v := (rowsAt_apply hp hx _ e h i v).trans (hI.s ⟨p, hp⟩ e h i v)
theorem w1_apply (c : Fin 64) (v : Fin 128) : w1 X (ix4 e h c v) = (A.walk e h p).w c v := (rowsAt_apply hp hx _ e h c v).trans (hI.w ⟨p, hp⟩ e h c v)
theorem g1_apply : g1 X (ix4 e h 0 0) = (A.walk e h p).g := (rowsAt_apply hp hx _ e h (0 : Fin 1) (0 : Fin 1)).trans (hI.g ⟨p, hp⟩ e h)
theorem vn1_apply (c : Fin 64) (v : Fin 128) : vn1 X (ix4 e h c v) = Delta.vnew (A.walk e h p) (Delta.states (A.walk e h) p) c v :=
  (rowsAt_apply hp hx _ e h c v).trans (hI.vn ⟨p, hp⟩ e h c v)
theorem ks1_apply (c : Fin 64) (v : Fin 128) : ks1 X (ix4 e h c v) = (A.walk e h p).ks c v := (rowsAt_apply hp hx _ e h c v).trans (hI.ks ⟨p, hp⟩ e h c v)
theorem qd1_apply (c : Fin 64) (v : Fin 128) : qd1 X (ix4 e h c v) = (A.walk e h p).qd c v := (rowsAt_apply hp hx _ e h c v).trans (hI.qd ⟨p, hp⟩ e h c v)
theorem a1_apply (c : Fin 64) (v : Fin 64) : a1 X (ix4 e h c v) = (A.walk e h p).a c v := (rowsAt_apply hp hx _ e h c v).trans (hI.a ⟨p, hp⟩ e h c v)

theorem dvn1_apply (c : Fin 64) (v : Fin 128) : dvn1 X (ix4 e h c v) = Delta.dvn (A.walk e h p) (dAt X e h) c v := by
  pointwise [dvn1]
  simp only [dO1_apply hI hp hx, a1_apply hI hp hx, ks1_apply hI hp hx]
  rw [add_comm]
  exact congrArg₂ (· + ·) (Finset.sum_congr rfl fun _ _ => mul_comm _ _) (Finset.sum_congr rfl fun _ _ => mul_comm _ _)
theorem dW1_apply (c : Fin 64) (i : Fin 128) : dW1 X (ix4 e h c i) = Delta.dW (A.walk e h p) (Delta.states (A.walk e h) p) (dAt X e h) c i := by
  pointwise [dW1]
  simp only [dvn1_apply hI hp hx, s1_apply hI hp hx]
  rfl
theorem dQd1_apply (c : Fin 64) (i : Fin 128) : dQd1 X (ix4 e h c i) = Delta.dQd (A.walk e h p) (Delta.states (A.walk e h) p) c i := by
  pointwise [dQd1]
  simp only [dO1_apply hI hp hx, s1_apply hI hp hx]
  rfl
theorem dKs1_apply (c : Fin 64) (i : Fin 128) : dKs1 X (ix4 e h c i) = Delta.dKs (A.walk e h p) (Delta.states (A.walk e h) p) (dAt X e h) c i := by
  pointwise [dKs1]
  simp only [vn1_apply hI hp hx]
  exact Finset.sum_congr rfl fun _ _ => mul_comm _ _
theorem dA1_apply (i j : Fin 64) : dA1 X (ix4 e h i j) = Delta.dA (A.walk e h p) (Delta.states (A.walk e h) p) i j := by
  pointwise [dA1]
  simp only [dO1_apply hI hp hx, vn1_apply hI hp hx]
  rfl
theorem dG1_apply : dG1 X (ix4 e h 0 0) = Delta.dG (Delta.states (A.walk e h) p) (dAt X e h) := by
  pointwise [dG1]
  simp only [s1_apply hI hp hx]
  rfl
theorem dGl1_apply (v : Fin 128) : dGl1 X (ix4 e h 0 v) = if v.val = 0 then Delta.dG (Delta.states (A.walk e h) p) (dAt X e h) else 0 := by
  pointwise [dGl1]
  by_cases hv : v.val < 1
  · rw [dif_pos hv, if_pos (Nat.lt_one_iff.mp hv)]
    exact (congrArg (fun z : Fin 1 => dG1 X (ix4 e h 0 z)) (Subsingleton.elim _ _)).trans (dG1_apply hI hp hx e h)
  · rw [dif_neg hv, if_neg (fun h0 : v.val = 0 => hv (by omega))]
theorem prev1_apply (i v : Fin 128) : prev1 X (ix4 e h i v) = Delta.prev (A.walk e h p) (dAt X e h) i v := by
  pointwise [prev1]
  simp only [dO1_apply hI hp hx, qd1_apply hI hp hx, g1_apply hI hp hx, dvn1_apply hI hp hx, w1_apply hI hp hx]
  rw [add_comm (∑ _, _) (_ * _), add_right_comm]
  exact congrArg₂ (· + ·) (congrArg _ (Finset.sum_congr rfl fun _ _ => mul_comm _ _)) (Finset.sum_congr rfl fun _ _ => mul_comm _ _)

end Cert.ReferenceIdeal.Ops

end
-- ==== Proof.RefMid.lean ====
/- What the reference's second loop starts from: the first loop's stacked results, the stacked inputs, and the gradients of the outputs,
   by chunk. -/
module

public import proofs.«01_k».proof.Proof.RefFwdLoop
public import proofs.«01_k».proof.Proof.RefBwd

@[expose] public section

set_option maxRecDepth 20000

noncomputable section

namespace Cert.ReferenceIdeal.Ops

open Idealize.ShloMosaic Idealize.ShloMosaic.TcCoe Idealize.ShloMosaic.Tactic Idealize.ShloMosaic.StableHlo
open Cert.ReferenceIdeal Cert.ReferenceIdeal.Gen
open Cert.Delta (Args place)

/-- An array by row, cut in chunks and heads. -/
def chunked (x : FVec Ideal S8448x512 .f32) : FVec Ideal S132x4x64x128 .f32 :=
  transpose S132x4x64x128 [0, 2, 1, 3] (shapeCast S132x64x4x128 x shapeCasts_S8448x512_S132x64x4x128) transposes_S132x64x4x128_S132x4x64x128_0_2_1_3

theorem swap_apply (y : FVec Ideal S132x64x4x128 .f32) (n : Fin 132) (h : Fin 4) (c : Fin 64) (v : Fin 128) :
    transpose S132x4x64x128 [0, 2, 1, 3] y transposes_S132x64x4x128_S132x4x64x128_0_2_1_3 (ix4 n h c v) = y (ix4 n c h v) := by
  pointwise []
theorem chunked_apply (x : FVec Ideal S8448x512 .f32) (n : Fin 132) (h : Fin 4) (c : Fin 64) (v : Fin 128) :
    chunked x (ix4 n h c v) = x (ix2 ⟨n.val * 64 + c.val, by omega⟩ ⟨h.val * 128 + v.val, by omega⟩) := by
  rw [chunked, swap_apply]
  refine shapeCast_apply x _ _ _ ?_
  rw [rowMajor_val4 _ _ _ _ rfl rfl rfl, rowMajor_val2 _ _ rfl]
  show (n.val * 64 + c.val) * 512 + (h.val * 128 + v.val) = n.val * (64 * (4 * 128)) + c.val * (4 * 128) + h.val * 128 + v.val
  omega

/-- One array for each direction, as the sum of two padded ones. -/
def late (x : FVec Ideal S132x4x64x128 .f32) : FVec Ideal S132x2x4x64x128 .f32 :=
  pad S132x2x4x64x128 ![0, 1, 0, 0, 0] ![0, 0, 0, 0, 0] ![0, 0, 0, 0, 0]
    (broadcastInDim S132x1x4x64x128 ![0, 2, 3, 4] bcast_S132x4x64x128_S132x1x4x64x128_0_2_3_4 x) (constant S_ .f32 0x00000000#32 : FVec Ideal S_ .f32)
    pads_S132x1x4x64x128_S132x2x4x64x128_000_100_000_000_000 h_S_
def early (x : FVec Ideal S132x4x64x128 .f32) : FVec Ideal S132x2x4x64x128 .f32 :=
  pad S132x2x4x64x128 ![0, 0, 0, 0, 0] ![0, 1, 0, 0, 0] ![0, 0, 0, 0, 0]
    (broadcastInDim S132x1x4x64x128 ![0, 2, 3, 4] bcast_S132x4x64x128_S132x1x4x64x128_0_2_3_4 x) (constant S_ .f32 0x00000000#32 : FVec Ideal S_ .f32)
    pads_S132x1x4x64x128_S132x2x4x64x128_000_010_000_000_000 h_S_

theorem sum_apply (x y : FVec Ideal S132x4x64x128 .f32) (p : Fin 132) (e : Fin 2) (h : Fin 4) (c : Fin 64) (v : Fin 128) :
    addf (late y) (early x) (ix5 p e h c v) = (if e = 0 then x (ix4 p h c v) else y (ix4 p h c v) : EReal) := by
  rcases two e with rfl | rfl
  · pointwise [late, early]
  · pointwise [late, early]

abbrev unflip128 : FVec Ideal S132x4x64x128 .f32 → FVec Ideal S132x4x64x128 .f32 :=
  unflip slices_S132x4x64x128_S4x4x64x128_0_0_0_0 slices_S132x4x64x128_S128x4x64x128_4_0_0_0 pads_S128x4x64x128_S132x4x64x128_400_000_000_000
    pads_S4x4x64x128_S132x4x64x128_01280_000_000_000

variable (V X : Valuation τ sig (Elt Ideal))

theorem mid_dO : after ops2a (after ops1b X) (Proc.devRef .tc main_v91_0)
    = addf (late (unflip128 (chunked (X (Proc.devRef .tc main_arg13))))) (early (chunked (X (Proc.devRef .tc main_arg12)))) := by
  after_results_simp_entrywise
  rfl
theorem mid_s : after ops2a (after ops1b X) (Proc.devRef .tc main_v91_1) = X (Proc.devRef .tc main_v53_9) := by
  after_results_simp_entrywise
  rfl
theorem mid_w : after ops2a (after ops1b X) (Proc.devRef .tc main_v91_2) = X (Proc.devRef .tc main_v16) := by
  after_results_simp_entrywise
  rfl
theorem mid_g : after ops2a (after ops1b X) (Proc.devRef .tc main_v91_3) = X (Proc.devRef .tc main_v53_10) := by
  after_results_simp_entrywise
  rfl
theorem mid_vn : after ops2a (after ops1b X) (Proc.devRef .tc main_v91_4) = X (Proc.devRef .tc main_v53_11) := by
  after_results_simp_entrywise
  rfl
theorem mid_ks : after ops2a (after ops1b X) (Proc.devRef .tc main_v91_5) = X (Proc.devRef .tc main_v24) := by
  after_results_simp_entrywise
  rfl
theorem mid_qd : after ops2a (after ops1b X) (Proc.devRef .tc main_v91_6) = X (Proc.devRef .tc main_v40) := by
  after_results_simp_entrywise
  rfl
theorem mid_a : after ops2a (after ops1b X) (Proc.devRef .tc main_v91_7) = X (Proc.devRef .tc main_v48) := by
  after_results_simp_entrywise
  rfl
theorem mid_d (e : Fin 2) (h : Fin 4) : dAt (after ops2a (after ops1b X)) e h = fun _ _ => (0 : EReal) := by
  have hz : d1 (after ops2a (after ops1b X)) = broadcastInDim S2x4x128x128 ![] bcast_S_S2x4x128x128 (constant S_ .f32 0x00000000#32 : FVec Ideal S_ .f32) := by
    after_results_simp_entrywise
    rfl
  funext i v
  show d1 _ _ = _
  rw [hz]
  exact Ideal.ofBits_zero_f32

/-! ## The stacked inputs of the first loop are kept -/

theorem pre_w' : after ops1a (after ops0 V) (Proc.devRef .tc main_v16) = both128 (V (Proc.devRef .tc main_arg2)) (V (Proc.devRef .tc main_arg3)) := by
  after_results_simp_entrywise
  rfl
theorem pre_ks' : after ops1a (after ops0 V) (Proc.devRef .tc main_v24) = both128 (V (Proc.devRef .tc main_arg6)) (V (Proc.devRef .tc main_arg7)) := by
  after_results_simp_entrywise
  rfl
theorem pre_qd' : after ops1a (after ops0 V) (Proc.devRef .tc main_v40) = both128 (V (Proc.devRef .tc main_arg4)) (V (Proc.devRef .tc main_arg5)) := by
  after_results_simp_entrywise
  rfl
theorem pre_a' : after ops1a (after ops0 V) (Proc.devRef .tc main_v48) = both64 (V (Proc.devRef .tc main_arg8)) (V (Proc.devRef .tc main_arg9)) := by
  after_results_simp_entrywise
  rfl

variable (m : (ℓ : Loc nD τ sig) → Buf (Elt Ideal) ℓ) (c : Dev nD)

/-- What the first loop does not write is as before it. -/
theorem left0_keeps (a : Ref sig .tc) (hc : a ∉ cond0_W) (hb : a ∉ body0_W) :
    after cond0 (L0 m nT c) (Proc.devRef .tc a) = after ops1a (after ops0 (launchContents m c)) (Proc.devRef .tc a) :=
  (after_of_writes_sub cond0 _ cond0_writes hc).trans (atTrip_keeps a cond0_writes body0_writes hc hb _ c nT)
theorem left0_arg (a : Ref sig .tc) (ha : a ∈ argRefs) : after cond0 (L0 m nT c) (Proc.devRef .tc a) = launchContents m c (Proc.devRef .tc a) := by
  rw [left0_keeps m c a (cond0_args a ha) (body0_args a ha), after_of_writes_sub ops1a _ ops1a_writes (ops1a_args a ha),
    after_of_writes_sub ops0 _ ops0_writes (ops0_args a ha)]

theorem mid_in : In1 (after ops2a (after ops1b (after cond0 (L0 m nT c)))) (args (launchContents m c)) where
  dO p e h r v := by
    rw [mid_dO, left0_arg m c main_arg13 (by decide), left0_arg m c main_arg12 (by decide)]
    refine (sum_apply _ _ p e h r v).trans ?_
    rcases two e with rfl | rfl
    · rw [if_pos rfl, chunked_apply]
      show _ = (args (launchContents m c)).dO 0 _
      have hq := place_zero p
      simp only [hq]; rfl
    · rw [if_neg (by decide)]
      exact (unflip_apply _ p h r v).trans (chunked_apply _ (place 1 p) h r v)
  s p e h i v := by rw [mid_s]; exact (left0 m c).st p e h i v p.isLt
  w p e h r v := by rw [mid_w, left0_keeps m c main_v16 (by decide) (by decide), pre_w']; exact stack_flip_apply _ _ p e h r v
  g p e h := by rw [mid_g]; exact (left0 m c).g p e h p.isLt
  vn p e h r v := by rw [mid_vn]; exact (left0 m c).vn p e h r v p.isLt
  ks p e h r v := by rw [mid_ks, left0_keeps m c main_v24 (by decide) (by decide), pre_ks']; exact stack_flip_apply _ _ p e h r v
  qd p e h r v := by rw [mid_qd, left0_keeps m c main_v40 (by decide) (by decide), pre_qd']; exact stack_flip_apply _ _ p e h r v
  a p e h r v := by rw [mid_a, left0_keeps m c main_v48 (by decide) (by decide), pre_a']; exact stack_flip_apply _ _ p e h r v

end Cert.ReferenceIdeal.Ops

end
-- ==== Proof.RefBwdLoop.lean ====
/- The reference's second loop over its trips: the gradient of the state before trip `k` is the walks' after `k` chunks from the end,
   and the stacked gradients hold the last `k` steps. -/
module

public import proofs.«01_k».proof.Proof.RefMid

@[expose] public section

set_option maxRecDepth 20000

noncomputable section

namespace Cert.ReferenceIdeal.Ops

open Idealize.ShloMosaic Idealize.ShloMosaic.TcCoe Idealize.ShloMosaic.Tactic Idealize.ShloMosaic.StableHlo
open Cert.ReferenceIdeal Cert.ReferenceIdeal.Gen
open Cert.Delta (Args)

/-- The state in front of step `p`, and the gradient of the state behind it. -/
abbrev stateAt (A : Args) (e : Fin 2) (h : Fin 4) (p : Fin 132) : Delta.State := Delta.states (A.walk e h) p
abbrev gradAt (A : Args) (e : Fin 2) (h : Fin 4) (p : Fin 132) : Delta.State := Delta.grads (A.walk e h) (131 - p.val)

/-- What the buffers hold after `k` trips. -/
structure At1 (X : Valuation τ sig (Elt Ideal)) (A : Args) (k : ℕ) : Prop where
  inp : In1 X A
  d : ∀ (e : Fin 2) (h : Fin 4), dAt X e h = Delta.grads (A.walk e h) k
  du : ∀ (p : Fin 132) (e : Fin 2) (h : Fin 4) (c : Fin 64) (v : Fin 128), 132 ≤ p.val + k →
    X (Proc.devRef .tc main_v91_10) (ix5 p e h c v) = Delta.dvn (A.walk e h p) (gradAt A e h p) c v
  dw : ∀ (p : Fin 132) (e : Fin 2) (h : Fin 4) (c : Fin 64) (v : Fin 128), 132 ≤ p.val + k →
    X (Proc.devRef .tc main_v91_11) (ix5 p e h c v) = Delta.dW (A.walk e h p) (stateAt A e h p) (gradAt A e h p) c v
  dks : ∀ (p : Fin 132) (e : Fin 2) (h : Fin 4) (c : Fin 64) (v : Fin 128), 132 ≤ p.val + k →
    X (Proc.devRef .tc main_v91_12) (ix5 p e h c v) = Delta.dKs (A.walk e h p) (stateAt A e h p) (gradAt A e h p) c v
  dg : ∀ (p : Fin 132) (e : Fin 2) (h : Fin 4) (v : Fin 128), 132 ≤ p.val + k →
    X (Proc.devRef .tc main_v91_13) (ix5 p e h (0 : Fin 1) v) = (if v.val = 0 then Delta.dG (stateAt A e h p) (gradAt A e h p) else 0 : EReal)
  dqd : ∀ (p : Fin 132) (e : Fin 2) (h : Fin 4) (c : Fin 64) (v : Fin 128), 132 ≤ p.val + k →
    X (Proc.devRef .tc main_v91_14) (ix5 p e h c v) = Delta.dQd (A.walk e h p) (stateAt A e h p) c v
  da : ∀ (p : Fin 132) (e : Fin 2) (h : Fin 4) (i j : Fin 64), 132 ≤ p.val + k →
    X (Proc.devRef .tc main_v91_15) (ix5 p e h i j) = Delta.dA (A.walk e h p) (stateAt A e h p) i j

/-- The buffers that `In1` reads, and those that `At1` reads too. -/
abbrev in1Refs : List (Ref sig .tc) := [main_v91_0, main_v91_1, main_v91_2, main_v91_3, main_v91_4, main_v91_5, main_v91_6, main_v91_7]
abbrev at1Refs : List (Ref sig .tc) := in1Refs ++ [main_v91_9, main_v91_10, main_v91_11, main_v91_12, main_v91_13, main_v91_14, main_v91_15]

variable {X Y : Valuation τ sig (Elt Ideal)} {A : Args} {k : ℕ}

theorem In1.keep (hI : In1 X A) (hY : ∀ r ∈ in1Refs, Y (Proc.devRef .tc r) = X (Proc.devRef .tc r)) : In1 Y A where
  dO p e h c v := by rw [hY main_v91_0 (by decide)]; exact hI.dO p e h c v
  s p e h i v := by rw [hY main_v91_1 (by decide)]; exact hI.s p e h i v
  w p e h c v := by rw [hY main_v91_2 (by decide)]; exact hI.w p e h c v
  g p e h := by rw [hY main_v91_3 (by decide)]; exact hI.g p e h
  vn p e h c v := by rw [hY main_v91_4 (by decide)]; exact hI.vn p e h c v
  ks p e h c v := by rw [hY main_v91_5 (by decide)]; exact hI.ks p e h c v
  qd p e h c v := by rw [hY main_v91_6 (by decide)]; exact hI.qd p e h c v
  a p e h c v := by rw [hY main_v91_7 (by decide)]; exact hI.a p e h c v
theorem At1.keep (hA : At1 X A k) (hY : ∀ r ∈ at1Refs, Y (Proc.devRef .tc r) = X (Proc.devRef .tc r)) : At1 Y A k where
  inp := hA.inp.keep fun r hr => hY r (List.mem_append_left _ hr)
  d e h := by rw [← hA.d e h]; funext i v; exact congrFun (hY main_v91_9 (by decide)) _
  du p e h c v hp := by rw [hY main_v91_10 (by decide)]; exact hA.du p e h c v hp
  dw p e h c v hp := by rw [hY main_v91_11 (by decide)]; exact hA.dw p e h c v hp
  dks p e h c v hp := by rw [hY main_v91_12 (by decide)]; exact hA.dks p e h c v hp
  dg p e h v hp := by rw [hY main_v91_13 (by decide)]; exact hA.dg p e h v hp
  dqd p e h c v hp := by rw [hY main_v91_14 (by decide)]; exact hA.dqd p e h c v hp
  da p e h i j hp := by rw [hY main_v91_15 (by decide)]; exact hA.da p e h i j hp

/-- At the step that trip `k` takes, the gradient behind it is the one that the loop carries. -/
theorem At1.grad (hA : At1 X A k) (hk : k < 132) (p : Fin 132) (hp : p.val = 131 - k) (e : Fin 2) (h : Fin 4) : dAt X e h = gradAt A e h p := by
  have hpk : 131 - p.val = k := by omega
  rw [hA.d e h, gradAt, hpk]

theorem At1.trip (hA : At1 X A k) (hk : k < 132) (hx : ∀ i, (ix1' X i).toInt = (131 - k : ℕ)) : At1 (after body1 X) A (k + 1) where
  inp := hA.inp.keep fun r hr => after_of_writes_sub body1 _ body1_writes ((by decide : ∀ r ∈ in1Refs, r ∉ body1_W) r hr)
  d e h := by
    funext i v
    refine (congrFun (step1_prev X) _).trans ((prev1_apply hA.inp (by omega) hx e h i v).trans ?_)
    rw [hA.d e h]; rfl
  du p e h c v hp := by
    rw [step1_du]
    refine (putAt_apply (by omega) hx _ _ p e h c v).trans ?_
    split
    · rename_i hpk
      rw [dvn1_apply hA.inp (by omega) hx, hA.grad hk p hpk, ← hpk]
    · exact hA.du p e h c v (by omega)
  dw p e h c v hp := by
    rw [step1_dw]
    refine (putAt_apply (by omega) hx _ _ p e h c v).trans ?_
    split
    · rename_i hpk
      rw [dW1_apply hA.inp (by omega) hx, hA.grad hk p hpk, ← hpk]
    · exact hA.dw p e h c v (by omega)
  dks p e h c v hp := by
    rw [step1_dks]
    refine (putAt_apply (by omega) hx _ _ p e h c v).trans ?_
    split
    · rename_i hpk
      rw [dKs1_apply hA.inp (by omega) hx, hA.grad hk p hpk, ← hpk]
    · exact hA.dks p e h c v (by omega)
  dg p e h v hp := by
    rw [step1_dg]
    refine (putAt_apply (by omega) hx _ _ p e h (0 : Fin 1) v).trans ?_
    split
    · rename_i hpk
      rw [dGl1_apply hA.inp (by omega) hx, hA.grad hk p hpk, ← hpk]
    · exact hA.dg p e h v (by omega)
  dqd p e h c v hp := by
    rw [step1_dqd]
    refine (putAt_apply (by omega) hx _ _ p e h c v).trans ?_
    split
    · rename_i hpk
      rw [dQd1_apply hA.inp (by omega) hx, ← hpk]
    · exact hA.dqd p e h c v (by omega)
  da p e h i j hp := by
    rw [step1_da]
    refine (putAt_apply (by omega) hx _ _ p e h i j).trans ?_
    split
    · rename_i hpk
      rw [dA1_apply hA.inp (by omega) hx, ← hpk]
    · exact hA.da p e h i j (by omega)

/-- Trip `k` takes step `131 - k`. -/
theorem back_toInt {k : ℕ} (hk : k < 132) : ((132#32 - Scf.iv 0#32 1#32 k) - 1#32).toInt = (131 - k : ℕ) := by
  revert k; decide

variable (m : (ℓ : Loc nD τ sig) → Buf (Elt Ideal) ℓ) (c : Dev nD)

theorem at1 : ∀ k, k ≤ 132 → At1 (L1 m k c) (args (launchContents m c)) k
  | 0, _ => by
    show At1 (Vmid m c) _ 0
    simp only [Vmid, afterL_cons, afterL_nil]
    exact ⟨mid_in m c, fun e h => mid_d _ e h, fun _ _ _ _ _ hp => absurd hp (by omega), fun _ _ _ _ _ hp => absurd hp (by omega),
      fun _ _ _ _ _ hp => absurd hp (by omega), fun _ _ _ _ hp => absurd hp (by omega), fun _ _ _ _ _ hp => absurd hp (by omega),
      fun _ _ _ _ _ hp => absurd hp (by omega)⟩
  | k + 1, hk => by
    have hkeep : ∀ r, r ∉ cond1_W → after cond1 (L1 m k c) (Proc.devRef .tc r) = L1 m k c (Proc.devRef .tc r) :=
      fun r hr => after_of_writes_sub cond1 _ cond1_writes hr
    rw [L1, atTrip_succ]
    simp only [afterL_cons, afterL_nil]
    refine ((at1 k (by omega)).keep fun r hr => hkeep r ((by decide : ∀ r ∈ at1Refs, r ∉ cond1_W) r hr)).trip (by omega) fun i => ?_
    have hctr : after cond1 (L1 m k c) (Proc.devRef .tc main_v91_8) = fun _ => Scf.iv 0#32 1#32 k := (hkeep main_v91_8 (by decide)).trans (ctr1_at m c k)
    rw [ix1', hctr]
    exact back_toInt (by omega)

/-- What the second loop leaves. -/
theorem left1 : At1 (after cond1 (L1 m nT c)) (args (launchContents m c)) 132 :=
  (at1 m c 132 (Nat.le_refl _)).keep fun r hr => after_of_writes_sub cond1 _ cond1_writes ((by decide : ∀ r ∈ at1Refs, r ∉ cond1_W) r hr)

end Cert.ReferenceIdeal.Ops

end
-- ==== Proof.RefOut.lean ====
/- The reference's results: each direction's stacked arrays, taken apart and put back in the order of the chunks. -/
module

public import proofs.«01_k».proof.Proof.RefBwdLoop

@[expose] public section

set_option maxRecDepth 20000

noncomputable section

namespace Cert.ReferenceIdeal.Ops

open Idealize.ShloMosaic Idealize.ShloMosaic.TcCoe Idealize.ShloMosaic.Tactic Idealize.ShloMosaic.StableHlo
open Cert.ReferenceIdeal Cert.ReferenceIdeal.Gen
open Cert.Delta (Args place pos)

abbrev up128 (x : FVec Ideal S132x2x4x64x128 .f32) : FVec Ideal S132x4x64x128 .f32 :=
  side0 slices_S132x2x4x64x128_S132x1x4x64x128_0_0_0_0_0 shapeCasts_S132x1x4x64x128_S132x4x64x128 x
abbrev dn128 (x : FVec Ideal S132x2x4x64x128 .f32) : FVec Ideal S132x4x64x128 .f32 :=
  side1 slices_S132x2x4x64x128_S132x1x4x64x128_0_1_0_0_0 shapeCasts_S132x1x4x64x128_S132x4x64x128 x
abbrev up64 (x : FVec Ideal S132x2x4x64x64 .f32) : FVec Ideal S132x4x64x64 .f32 :=
  side0 slices_S132x2x4x64x64_S132x1x4x64x64_0_0_0_0_0 shapeCasts_S132x1x4x64x64_S132x4x64x64 x
abbrev dn64 (x : FVec Ideal S132x2x4x64x64 .f32) : FVec Ideal S132x4x64x64 .f32 :=
  unflip slices_S132x4x64x64_S4x4x64x64_0_0_0_0 slices_S132x4x64x64_S128x4x64x64_4_0_0_0 pads_S128x4x64x64_S132x4x64x64_400_000_000_000
    pads_S4x4x64x64_S132x4x64x64_01280_000_000_000
    (side1 slices_S132x2x4x64x64_S132x1x4x64x64_0_1_0_0_0 shapeCasts_S132x1x4x64x64_S132x4x64x64 x)
abbrev up1 (x : FVec Ideal S132x2x4x1x128 .f32) : FVec Ideal S132x4x1x128 .f32 :=
  side0 slices_S132x2x4x1x128_S132x1x4x1x128_0_0_0_0_0 shapeCasts_S132x1x4x1x128_S132x4x1x128 x
abbrev dn1 (x : FVec Ideal S132x2x4x1x128 .f32) : FVec Ideal S132x4x1x128 .f32 :=
  unflip slices_S132x4x1x128_S4x4x1x128_0_0_0_0 slices_S132x4x1x128_S128x4x1x128_4_0_0_0 pads_S128x4x1x128_S132x4x1x128_400_000_000_000
    pads_S4x4x1x128_S132x4x1x128_01280_000_000_000
    (side1 slices_S132x2x4x1x128_S132x1x4x1x128_0_1_0_0_0 shapeCasts_S132x1x4x1x128_S132x4x1x128 x)

variable (X : Valuation τ sig (Elt Ideal))

theorem end_du0 : after ops3 (after ops2b X) (Proc.devRef .tc main_v148) = up128 (X (Proc.devRef .tc main_v91_10)) := by
  after_results_simp_entrywise
  rfl
theorem end_du1 : after ops3 (after ops2b X) (Proc.devRef .tc main_v157) = unflip128 (dn128 (X (Proc.devRef .tc main_v91_10))) := by
  after_results_simp_entrywise
  rfl
theorem end_dw0 : after ops3 (after ops2b X) (Proc.devRef .tc main_v137) = up128 (X (Proc.devRef .tc main_v91_11)) := by
  after_results_simp_entrywise
  rfl
theorem end_dw1 : after ops3 (after ops2b X) (Proc.devRef .tc main_v146) = unflip128 (dn128 (X (Proc.devRef .tc main_v91_11))) := by
  after_results_simp_entrywise
  rfl
theorem end_dqd0 : after ops3 (after ops2b X) (Proc.devRef .tc main_v104) = up128 (X (Proc.devRef .tc main_v91_14)) := by
  after_results_simp_entrywise
  rfl
theorem end_dqd1 : after ops3 (after ops2b X) (Proc.devRef .tc main_v113) = unflip128 (dn128 (X (Proc.devRef .tc main_v91_14))) := by
  after_results_simp_entrywise
  rfl
theorem end_dks0 : after ops3 (after ops2b X) (Proc.devRef .tc main_v126) = up128 (X (Proc.devRef .tc main_v91_12)) := by
  after_results_simp_entrywise
  rfl
theorem end_dks1 : after ops3 (after ops2b X) (Proc.devRef .tc main_v135) = unflip128 (dn128 (X (Proc.devRef .tc main_v91_12))) := by
  after_results_simp_entrywise
  rfl
theorem end_da0 : after ops3 (after ops2b X) (Proc.devRef .tc main_v93) = up64 (X (Proc.devRef .tc main_v91_15)) := by
  after_results_simp_entrywise
  rfl
theorem end_da1 : after ops3 (after ops2b X) (Proc.devRef .tc main_v102) = dn64 (X (Proc.devRef .tc main_v91_15)) := by
  after_results_simp_entrywise
  rfl
theorem end_dg0 : after ops3 (after ops2b X) (Proc.devRef .tc main_v115) = up1 (X (Proc.devRef .tc main_v91_13)) := by
  after_results_simp_entrywise
  rfl
theorem end_dg1 : after ops3 (after ops2b X) (Proc.devRef .tc main_v124) = dn1 (X (Proc.devRef .tc main_v91_13)) := by
  after_results_simp_entrywise
  rfl

/-! ## The outputs, which the second loop does not touch -/

/-- Chunks and heads put back to rows. -/
def rowed (x : FVec Ideal S132x4x64x128 .f32) : FVec Ideal S8448x512 .f32 :=
  shapeCast S8448x512 (transpose S132x64x4x128 [0, 2, 1, 3] x transposes_S132x4x64x128_S132x64x4x128_0_2_1_3) shapeCasts_S132x64x4x128_S8448x512

theorem swap_back_apply (y : FVec Ideal S132x4x64x128 .f32) (n : Fin 132) (c : Fin 64) (h : Fin 4) (v : Fin 128) :
    transpose S132x64x4x128 [0, 2, 1, 3] y transposes_S132x4x64x128_S132x64x4x128_0_2_1_3 (ix4 n c h v) = y (ix4 n h c v) := by
  pointwise []
theorem rowed_apply (x : FVec Ideal S132x4x64x128 .f32) (r : Fin 8448) (l : Fin 512) :
    rowed x (ix2 r l) = x (ix4 ⟨r.val / 64, by omega⟩ ⟨l.val / 128, by omega⟩ ⟨r.val % 64, by omega⟩ ⟨l.val % 128, by omega⟩) := by
  refine Eq.trans ?_ (swap_back_apply x ⟨r.val / 64, by omega⟩ ⟨r.val % 64, by omega⟩ ⟨l.val / 128, by omega⟩ ⟨l.val % 128, by omega⟩)
  refine shapeCast_apply _ _ _ _ ?_
  rw [rowMajor_val4 _ _ _ _ rfl rfl rfl, rowMajor_val2 _ _ rfl]
  show r.val / 64 * (64 * (4 * 128)) + r.val % 64 * (4 * 128) + l.val / 128 * 128 + l.val % 128 = r.val * 512 + l.val
  omega

abbrev flip128 : FVec Ideal S132x4x64x128 .f32 → FVec Ideal S132x4x64x128 .f32 :=
  flip slices_S132x4x64x128_S4x4x64x128_0_0_0_0 slices_S132x4x64x128_S128x4x64x128_4_0_0_0 concatenates_S4x4x64x128_S128x4x64x128_S132x4x64x128_d0

theorem mid_o0 : after ops1b X (Proc.devRef .tc main_v57) = rowed (up128 (X (Proc.devRef .tc main_v53_8))) := by
  after_results_simp_entrywise
  rfl
theorem mid_o1 : after ops1b X (Proc.devRef .tc main_v66) = rowed (flip128 (dn128 (X (Proc.devRef .tc main_v53_8)))) := by
  after_results_simp_entrywise
  rfl

variable (m : (ℓ : Loc nD τ sig) → Buf (Elt Ideal) ℓ) (c : Dev nD)

theorem Vend_eq : Vend m c = after ops3 (after ops2b (after cond1 (L1 m nT c))) := by
  simp only [Vend, afterL_cons, afterL_nil]
/-- What nothing after the outputs writes. -/
theorem end_keeps (a : Ref sig .tc) (h2 : a ∉ ops2a_W) (hc : a ∉ cond1_W) (hb : a ∉ body1_W) (h2b : a ∉ ops2b_W) (h3 : a ∉ ops3_W) :
    Vend m c (Proc.devRef .tc a) = after ops1b (after cond0 (L0 m nT c)) (Proc.devRef .tc a) := by
  rw [Vend_eq, after_of_writes_sub ops3 _ ops3_writes h3, after_of_writes_sub ops2b _ ops2b_writes h2b, after_of_writes_sub cond1 _ cond1_writes hc]
  refine (atTrip_keeps a cond1_writes body1_writes hc hb _ c nT).trans ?_
  show Vmid m c _ = _
  simp only [Vmid, afterL_cons, afterL_nil]
  exact after_of_writes_sub ops2a _ ops2a_writes h2

/-! ## The results -/

/-- The step at which direction 1 meets chunk `n` is the place of step `n`: its walk is its own inverse. -/
theorem place_one (n : Fin 132) : (place 1 n.val).val = pos 1 n := by revert n; decide
theorem place_two (e : Fin 2) (n : Fin 132) : (place e n.val).val = pos e n := by
  rcases two e with rfl | rfl
  · rw [place_zero]; rfl
  · exact place_one n
theorem walk_two (A : Args) (e : Fin 2) (h : Fin 4) (n : Fin 132) : A.walk e h (place e n.val).val = A.chunk e h n := by rw [place_two, A.walk_pos]
theorem state_two (A : Args) (e : Fin 2) (h : Fin 4) (n : Fin 132) : stateAt A e h (place e n.val) = A.state e h n := by rw [stateAt, place_two]; rfl
theorem grad_two (A : Args) (e : Fin 2) (h : Fin 4) (n : Fin 132) : gradAt A e h (place e n.val) = A.grad e h n := by rw [gradAt, place_two]; rfl

theorem late_all (p : Fin 132) : 132 ≤ p.val + 132 := Nat.le_add_left _ _

section
variable {X : Valuation τ sig (Elt Ideal)} {A : Args} (h1 : At1 X A 132) (e : Fin 2) (n : Fin 132) (h : Fin 4)
include h1

theorem At1.du_at (r : Fin 64) (v : Fin 128) : X (Proc.devRef .tc main_v91_10) (ix5 (place e n.val) e h r v) = A.du e (ix4 n h r v) := by
  rw [h1.du _ _ _ _ _ (late_all _), walk_two, grad_two]; rfl
theorem At1.dw_at (r : Fin 64) (v : Fin 128) : X (Proc.devRef .tc main_v91_11) (ix5 (place e n.val) e h r v) = A.dw e (ix4 n h r v) := by
  rw [h1.dw _ _ _ _ _ (late_all _), walk_two, state_two, grad_two]; rfl
theorem At1.dks_at (r : Fin 64) (v : Fin 128) : X (Proc.devRef .tc main_v91_12) (ix5 (place e n.val) e h r v) = A.dks e (ix4 n h r v) := by
  rw [h1.dks _ _ _ _ _ (late_all _), walk_two, state_two, grad_two]; rfl
theorem At1.dqd_at (r : Fin 64) (v : Fin 128) : X (Proc.devRef .tc main_v91_14) (ix5 (place e n.val) e h r v) = A.dqd e (ix4 n h r v) := by
  rw [h1.dqd _ _ _ _ _ (late_all _), walk_two, state_two]; rfl
theorem At1.da_at (i j : Fin 64) : X (Proc.devRef .tc main_v91_15) (ix5 (place e n.val) e h i j) = A.da e (ix4 n h i j) := by
  rw [h1.da _ _ _ _ _ (late_all _), walk_two, state_two]; rfl
theorem At1.dg_at (r : Fin 1) (v : Fin 128) : X (Proc.devRef .tc main_v91_13) (ix5 (place e n.val) e h r v) = A.dg e (ix4 n h r v) := by
  obtain rfl : r = 0 := Subsingleton.elim _ _
  rw [h1.dg _ _ _ _ (late_all _), state_two, grad_two]; rfl
end

/-- A stacked array taken apart, by what it holds at the place of each chunk. -/
theorem up_ext {r n : ℕ} {h1 : (Stack r n).Slices ![0, 0, 0, 0, 0] (Side r n)} {h2 : (Side r n).ShapeCasts (Arr 132 r n)} {x : FVec Ideal (Stack r n) .f32}
    {f : FVec Ideal (Arr 132 r n) .f32} (hx : ∀ p d c v, x (ix5 (place 0 p.val) 0 d c v) = f (ix4 p d c v)) : side0 h1 h2 x = f := by
  funext i
  obtain ⟨p, d, c, v, rfl⟩ : ∃ p d c v, i = ix4 p d c v := ⟨_, _, _, _, eq_ix4 i⟩
  rw [side0_apply, ← hx, place_zero]
theorem dn_ext {r n : ℕ} {h1 : (Stack r n).Slices ![0, 1, 0, 0, 0] (Side r n)} {h2 : (Side r n).ShapeCasts (Arr 132 r n)}
    {h3 : (Arr 132 r n).Slices ![0, 0, 0, 0] (Arr 4 r n)} {h4 : (Arr 132 r n).Slices ![4, 0, 0, 0] (Arr 128 r n)}
    {h5 : (Arr 128 r n).Pads ![4, 0, 0, 0] ![0, 0, 0, 0] ![0, 0, 0, 0] (Arr 132 r n)}
    {h6 : (Arr 4 r n).Pads ![0, 0, 0, 0] ![128, 0, 0, 0] ![0, 0, 0, 0] (Arr 132 r n)} {x : FVec Ideal (Stack r n) .f32}
    {f : FVec Ideal (Arr 132 r n) .f32} (hx : ∀ p d c v, x (ix5 (place 1 p.val) 1 d c v) = f (ix4 p d c v)) :
    unflip h3 h4 h5 h6 (side1 h1 h2 x) = f := by
  funext i
  obtain ⟨p, d, c, v, rfl⟩ : ∃ p d c v, i = ix4 p d c v := ⟨_, _, _, _, eq_ix4 i⟩
  rw [unflip_apply, side1_apply, ← hx]

theorem out_du0 : Vend m c (Proc.devRef .tc main_v148) = (args (launchContents m c)).du 0 := by
  rw [Vend_eq, end_du0]; exact up_ext ((left1 m c).du_at 0)
theorem out_du1 : Vend m c (Proc.devRef .tc main_v157) = (args (launchContents m c)).du 1 := by
  rw [Vend_eq, end_du1]; exact dn_ext ((left1 m c).du_at 1)
theorem out_dw0 : Vend m c (Proc.devRef .tc main_v137) = (args (launchContents m c)).dw 0 := by
  rw [Vend_eq, end_dw0]; exact up_ext ((left1 m c).dw_at 0)
theorem out_dw1 : Vend m c (Proc.devRef .tc main_v146) = (args (launchContents m c)).dw 1 := by
  rw [Vend_eq, end_dw1]; exact dn_ext ((left1 m c).dw_at 1)
theorem out_dqd0 : Vend m c (Proc.devRef .tc main_v104) = (args (launchContents m c)).dqd 0 := by
  rw [Vend_eq, end_dqd0]; exact up_ext ((left1 m c).dqd_at 0)
theorem out_dqd1 : Vend m c (Proc.devRef .tc main_v113) = (args (launchContents m c)).dqd 1 := by
  rw [Vend_eq, end_dqd1]; exact dn_ext ((left1 m c).dqd_at 1)
theorem out_dks0 : Vend m c (Proc.devRef .tc main_v126) = (args (launchContents m c)).dks 0 := by
  rw [Vend_eq, end_dks0]; exact up_ext ((left1 m c).dks_at 0)
theorem out_dks1 : Vend m c (Proc.devRef .tc main_v135) = (args (launchContents m c)).dks 1 := by
  rw [Vend_eq, end_dks1]; exact dn_ext ((left1 m c).dks_at 1)
theorem out_da0 : Vend m c (Proc.devRef .tc main_v93) = (args (launchContents m c)).da 0 := by
  rw [Vend_eq, end_da0]; exact up_ext ((left1 m c).da_at 0)
theorem out_da1 : Vend m c (Proc.devRef .tc main_v102) = (args (launchContents m c)).da 1 := by
  rw [Vend_eq, end_da1]; exact dn_ext ((left1 m c).da_at 1)
theorem out_dg0 : Vend m c (Proc.devRef .tc main_v115) = (args (launchContents m c)).dg 0 := by
  rw [Vend_eq, end_dg0]; exact up_ext ((left1 m c).dg_at 0)
theorem out_dg1 : Vend m c (Proc.devRef .tc main_v124) = (args (launchContents m c)).dg 1 := by
  rw [Vend_eq, end_dg1]; exact dn_ext ((left1 m c).dg_at 1)

/-- The outputs by chunk are those of the walks. -/
theorem o_at (e : Fin 2) (n : Fin 132) (h : Fin 4) (r : Fin 64) (v : Fin 128) :
    after cond0 (L0 m nT c) (Proc.devRef .tc main_v53_8) (ix5 (place e n.val) e h r v)
      = Delta.out ((args (launchContents m c)).chunk e h n) ((args (launchContents m c)).state e h n) r v := by
  rw [(left0 m c).o _ _ _ _ _ (place e n.val).isLt, walk_two, ← state_two]
theorem out_o0 : Vend m c (Proc.devRef .tc main_v57) = (args (launchContents m c)).o 0 := by
  rw [end_keeps m c main_v57 (by decide) (by decide) (by decide) (by decide) (by decide), mid_o0]
  funext i
  obtain ⟨r, l, rfl⟩ : ∃ r l, i = ix2 r l := ⟨_, _, eq_ix2 i⟩
  refine ((rowed_apply _ r l).trans (side0_apply _ _ _ _ _)).trans ?_
  refine Eq.trans ?_ (o_at m c 0 ⟨r.val / 64, by omega⟩ ⟨l.val / 128, by omega⟩ ⟨r.val % 64, by omega⟩ ⟨l.val % 128, by omega⟩)
  rw [place_zero]
theorem out_o1 : Vend m c (Proc.devRef .tc main_v66) = (args (launchContents m c)).o 1 := by
  rw [end_keeps m c main_v66 (by decide) (by decide) (by decide) (by decide) (by decide), mid_o1]
  funext i
  obtain ⟨r, l, rfl⟩ : ∃ r l, i = ix2 r l := ⟨_, _, eq_ix2 i⟩
  refine ((rowed_apply _ r l).trans ((flip_apply _ _ _ _ _).trans (side1_apply _ _ _ _ _))).trans ?_
  exact o_at m c 1 ⟨r.val / 64, by omega⟩ ⟨l.val / 128, by omega⟩ ⟨r.val % 64, by omega⟩ ⟨l.val % 128, by omega⟩

end Cert.ReferenceIdeal.Ops

end
-- ==== Proof.Value.lean ====
/- The value: on equal arguments, the kernel's two calls and the reference leave the same outputs and gradients, those of the walks. -/
module

public import proofs.«01_k».proof.Proof.Frames
public import proofs.«01_k».proof.Proof.KernelValue
public import proofs.«01_k».proof.Proof.RefOut

@[expose] public section

noncomputable section

namespace Cert.Proof

open Idealize.ShloMosaic Idealize.ShloMosaic.TcCoe Idealize.ShloMosaic.StableHlo Idealize.SL.Sem

section

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} (c : Dev Cert.KernelIdeal.nD)

/-- The kernel's arguments. -/
abbrev kArgs (m : (ℓ : Loc Cert.KernelIdeal.nD Cert.KernelIdeal.τ Cert.KernelIdeal.sig) → Buf (Elt Ideal) ℓ) (c : Dev Cert.KernelIdeal.nD) : Delta.Args :=
  Cert.KernelIdeal.Fwd.args (Cert.KernelIdeal.Whole.Wstart m) c

/-- Fourteen arrays, in the order of the arguments. -/
def pack (u0 u1 w0 w1 q0 q1 k0 k1 : (⟨4, ![132, 4, 64, 128]⟩ : Shape).Idx → EReal) (a0 a1 : (⟨4, ![132, 4, 64, 64]⟩ : Shape).Idx → EReal)
    (g0 g1 : (⟨4, ![132, 4, 1, 128]⟩ : Shape).Idx → EReal) (d0 d1 : (⟨2, ![8448, 512]⟩ : Shape).Idx → EReal) : Delta.Args :=
  ⟨![u0, u1], ![w0, w1], ![q0, q1], ![k0, k1], ![a0, a1], ![g0, g1], ![d0, d1]⟩

theorem args_same
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Ops.args (launchContents m' c) = kArgs m c := by
  show pack (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
    = pack (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
  rw [h0, h1, h2, h3, h4, h5, h6, h7, h8, h9, h10, h11, h12, h13]

end

theorem algebraic : Cert.algebraic_KernelIdeal_ReferenceIdeal (hKernelIdeal := Cert.KernelIdeal.Gen.facts) (hReferenceIdeal := Cert.ReferenceIdeal.Gen.facts) := by
  intro m g m' g' _ hm
  have same : ∀ c, Cert.ReferenceIdeal.Ops.args (launchContents m' c) = kArgs m c := fun c => by
    obtain ⟨h0, h1, h2, h3, h4, h5, h6, h7, h8, h9, h10, h11, h12, h13⟩ := hm c
    exact args_same c h0 h1 h2 h3 h4 h5 h6 h7 h8 h9 h10 h11 h12 h13
  refine ⟨fun c => (kArgs m c).o 0, fun c => (kArgs m c).o 1, fun c => (kArgs m c).du 0, fun c => (kArgs m c).du 1, fun c => (kArgs m c).dw 0, fun c => (kArgs m c).dw 1, fun c => (kArgs m c).dqd 0, fun c => (kArgs m c).dqd 1, fun c => (kArgs m c).dks 0, fun c => (kArgs m c).dks 1, fun c => (kArgs m c).da 0, fun c => (kArgs m c).da 1, fun c => (kArgs m c).dg 0, fun c => (kArgs m c).dg 1, ?_, ?_⟩
  · refine (θ_run Cert.KernelIdeal.defs _ _).mono (fun _ h c => ?_) (Cert.KernelIdeal.Whole.run_main m g)
    exact ⟨(h.1 c Cert.KernelIdeal.main_v0_0 rfl).trans (Cert.KernelIdeal.Whole.left_o0 m c), (h.1 c Cert.KernelIdeal.main_v0_1 rfl).trans (Cert.KernelIdeal.Whole.left_o1 m c), (h.1 c Cert.KernelIdeal.main_v1_0 rfl).trans (Cert.KernelIdeal.Whole.left_du0 m c), (h.1 c Cert.KernelIdeal.main_v1_1 rfl).trans (Cert.KernelIdeal.Whole.left_du1 m c), (h.1 c Cert.KernelIdeal.main_v1_2 rfl).trans (Cert.KernelIdeal.Whole.left_dw0 m c), (h.1 c Cert.KernelIdeal.main_v1_3 rfl).trans (Cert.KernelIdeal.Whole.left_dw1 m c), (h.1 c Cert.KernelIdeal.main_v1_4 rfl).trans (Cert.KernelIdeal.Whole.left_dqd0 m c), (h.1 c Cert.KernelIdeal.main_v1_5 rfl).trans (Cert.KernelIdeal.Whole.left_dqd1 m c), (h.1 c Cert.KernelIdeal.main_v1_6 rfl).trans (Cert.KernelIdeal.Whole.left_dks0 m c), (h.1 c Cert.KernelIdeal.main_v1_7 rfl).trans (Cert.KernelIdeal.Whole.left_dks1 m c), (h.1 c Cert.KernelIdeal.main_v1_8 rfl).trans (Cert.KernelIdeal.Whole.left_da0 m c), (h.1 c Cert.KernelIdeal.main_v1_9 rfl).trans (Cert.KernelIdeal.Whole.left_da1 m c), (h.1 c Cert.KernelIdeal.main_v1_10 rfl).trans (Cert.KernelIdeal.Whole.left_dg0 m c), (h.1 c Cert.KernelIdeal.main_v1_11 rfl).trans (Cert.KernelIdeal.Whole.left_dg1 m c),
      (h.1 c Cert.KernelIdeal.main_arg0 rfl).trans (kept m c Cert.KernelIdeal.main_arg0 (by decide)), (h.1 c Cert.KernelIdeal.main_arg1 rfl).trans (kept m c Cert.KernelIdeal.main_arg1 (by decide)), (h.1 c Cert.KernelIdeal.main_arg2 rfl).trans (kept m c Cert.KernelIdeal.main_arg2 (by decide)), (h.1 c Cert.KernelIdeal.main_arg3 rfl).trans (kept m c Cert.KernelIdeal.main_arg3 (by decide)), (h.1 c Cert.KernelIdeal.main_arg4 rfl).trans (kept m c Cert.KernelIdeal.main_arg4 (by decide)), (h.1 c Cert.KernelIdeal.main_arg5 rfl).trans (kept m c Cert.KernelIdeal.main_arg5 (by decide)), (h.1 c Cert.KernelIdeal.main_arg6 rfl).trans (kept m c Cert.KernelIdeal.main_arg6 (by decide)), (h.1 c Cert.KernelIdeal.main_arg7 rfl).trans (kept m c Cert.KernelIdeal.main_arg7 (by decide)), (h.1 c Cert.KernelIdeal.main_arg8 rfl).trans (kept m c Cert.KernelIdeal.main_arg8 (by decide)), (h.1 c Cert.KernelIdeal.main_arg9 rfl).trans (kept m c Cert.KernelIdeal.main_arg9 (by decide)), (h.1 c Cert.KernelIdeal.main_arg10 rfl).trans (kept m c Cert.KernelIdeal.main_arg10 (by decide)), (h.1 c Cert.KernelIdeal.main_arg11 rfl).trans (kept m c Cert.KernelIdeal.main_arg11 (by decide)), (h.1 c Cert.KernelIdeal.main_arg12 rfl).trans (kept m c Cert.KernelIdeal.main_arg12 (by decide)), (h.1 c Cert.KernelIdeal.main_arg13 rfl).trans (kept m c Cert.KernelIdeal.main_arg13 (by decide))⟩
  · refine (θ_run Cert.ReferenceIdeal.defs _ _).mono (fun _ h c => ?_) (Cert.ReferenceIdeal.Ops.run_read m' g')
    exact ⟨((h.1 c Cert.ReferenceIdeal.main_v57 rfl).trans (Cert.ReferenceIdeal.Ops.out_o0 m' c)).trans (congrArg (fun A : Delta.Args => A.o 0) (same c)), ((h.1 c Cert.ReferenceIdeal.main_v66 rfl).trans (Cert.ReferenceIdeal.Ops.out_o1 m' c)).trans (congrArg (fun A : Delta.Args => A.o 1) (same c)), ((h.1 c Cert.ReferenceIdeal.main_v148 rfl).trans (Cert.ReferenceIdeal.Ops.out_du0 m' c)).trans (congrArg (fun A : Delta.Args => A.du 0) (same c)), ((h.1 c Cert.ReferenceIdeal.main_v157 rfl).trans (Cert.ReferenceIdeal.Ops.out_du1 m' c)).trans (congrArg (fun A : Delta.Args => A.du 1) (same c)), ((h.1 c Cert.ReferenceIdeal.main_v137 rfl).trans (Cert.ReferenceIdeal.Ops.out_dw0 m' c)).trans (congrArg (fun A : Delta.Args => A.dw 0) (same c)), ((h.1 c Cert.ReferenceIdeal.main_v146 rfl).trans (Cert.ReferenceIdeal.Ops.out_dw1 m' c)).trans (congrArg (fun A : Delta.Args => A.dw 1) (same c)), ((h.1 c Cert.ReferenceIdeal.main_v104 rfl).trans (Cert.ReferenceIdeal.Ops.out_dqd0 m' c)).trans (congrArg (fun A : Delta.Args => A.dqd 0) (same c)), ((h.1 c Cert.ReferenceIdeal.main_v113 rfl).trans (Cert.ReferenceIdeal.Ops.out_dqd1 m' c)).trans (congrArg (fun A : Delta.Args => A.dqd 1) (same c)), ((h.1 c Cert.ReferenceIdeal.main_v126 rfl).trans (Cert.ReferenceIdeal.Ops.out_dks0 m' c)).trans (congrArg (fun A : Delta.Args => A.dks 0) (same c)), ((h.1 c Cert.ReferenceIdeal.main_v135 rfl).trans (Cert.ReferenceIdeal.Ops.out_dks1 m' c)).trans (congrArg (fun A : Delta.Args => A.dks 1) (same c)), ((h.1 c Cert.ReferenceIdeal.main_v93 rfl).trans (Cert.ReferenceIdeal.Ops.out_da0 m' c)).trans (congrArg (fun A : Delta.Args => A.da 0) (same c)), ((h.1 c Cert.ReferenceIdeal.main_v102 rfl).trans (Cert.ReferenceIdeal.Ops.out_da1 m' c)).trans (congrArg (fun A : Delta.Args => A.da 1) (same c)), ((h.1 c Cert.ReferenceIdeal.main_v115 rfl).trans (Cert.ReferenceIdeal.Ops.out_dg0 m' c)).trans (congrArg (fun A : Delta.Args => A.dg 0) (same c)), ((h.1 c Cert.ReferenceIdeal.main_v124 rfl).trans (Cert.ReferenceIdeal.Ops.out_dg1 m' c)).trans (congrArg (fun A : Delta.Args => A.dg 1) (same c)),
      (h.1 c Cert.ReferenceIdeal.main_arg0 rfl).trans (Cert.ReferenceIdeal.Ops.Vend_args m' c Cert.ReferenceIdeal.main_arg0 (by simp [Cert.ReferenceIdeal.Ops.argRefs])), (h.1 c Cert.ReferenceIdeal.main_arg1 rfl).trans (Cert.ReferenceIdeal.Ops.Vend_args m' c Cert.ReferenceIdeal.main_arg1 (by simp [Cert.ReferenceIdeal.Ops.argRefs])), (h.1 c Cert.ReferenceIdeal.main_arg2 rfl).trans (Cert.ReferenceIdeal.Ops.Vend_args m' c Cert.ReferenceIdeal.main_arg2 (by simp [Cert.ReferenceIdeal.Ops.argRefs])), (h.1 c Cert.ReferenceIdeal.main_arg3 rfl).trans (Cert.ReferenceIdeal.Ops.Vend_args m' c Cert.ReferenceIdeal.main_arg3 (by simp [Cert.ReferenceIdeal.Ops.argRefs])), (h.1 c Cert.ReferenceIdeal.main_arg4 rfl).trans (Cert.ReferenceIdeal.Ops.Vend_args m' c Cert.ReferenceIdeal.main_arg4 (by simp [Cert.ReferenceIdeal.Ops.argRefs])), (h.1 c Cert.ReferenceIdeal.main_arg5 rfl).trans (Cert.ReferenceIdeal.Ops.Vend_args m' c Cert.ReferenceIdeal.main_arg5 (by simp [Cert.ReferenceIdeal.Ops.argRefs])), (h.1 c Cert.ReferenceIdeal.main_arg6 rfl).trans (Cert.ReferenceIdeal.Ops.Vend_args m' c Cert.ReferenceIdeal.main_arg6 (by simp [Cert.ReferenceIdeal.Ops.argRefs])), (h.1 c Cert.ReferenceIdeal.main_arg7 rfl).trans (Cert.ReferenceIdeal.Ops.Vend_args m' c Cert.ReferenceIdeal.main_arg7 (by simp [Cert.ReferenceIdeal.Ops.argRefs])), (h.1 c Cert.ReferenceIdeal.main_arg8 rfl).trans (Cert.ReferenceIdeal.Ops.Vend_args m' c Cert.ReferenceIdeal.main_arg8 (by simp [Cert.ReferenceIdeal.Ops.argRefs])), (h.1 c Cert.ReferenceIdeal.main_arg9 rfl).trans (Cert.ReferenceIdeal.Ops.Vend_args m' c Cert.ReferenceIdeal.main_arg9 (by simp [Cert.ReferenceIdeal.Ops.argRefs])), (h.1 c Cert.ReferenceIdeal.main_arg10 rfl).trans (Cert.ReferenceIdeal.Ops.Vend_args m' c Cert.ReferenceIdeal.main_arg10 (by simp [Cert.ReferenceIdeal.Ops.argRefs])), (h.1 c Cert.ReferenceIdeal.main_arg11 rfl).trans (Cert.ReferenceIdeal.Ops.Vend_args m' c Cert.ReferenceIdeal.main_arg11 (by simp [Cert.ReferenceIdeal.Ops.argRefs])), (h.1 c Cert.ReferenceIdeal.main_arg12 rfl).trans (Cert.ReferenceIdeal.Ops.Vend_args m' c Cert.ReferenceIdeal.main_arg12 (by simp [Cert.ReferenceIdeal.Ops.argRefs])), (h.1 c Cert.ReferenceIdeal.main_arg13 rfl).trans (Cert.ReferenceIdeal.Ops.Vend_args m' c Cert.ReferenceIdeal.main_arg13 (by simp [Cert.ReferenceIdeal.Ops.argRefs]))⟩

end Cert.Proof

end
-- ==== Proof.Product.lean ====
/- The products of the layers' weights: sums of products over an axis, and such a sum taken over blocks of the axis. -/
module

public import Idealize.ShloMosaic.Lib.Pipeline.ValueKit
public import Idealize.ShloMosaic.Lib.Pointwise
public import Idealize.ShloMosaic.Lib.Tactic
public import Idealize.ShloMosaic.PureOps.Ideal.Laws

@[expose] public section

noncomputable section

namespace Cert.Proof

open Idealize.ShloMosaic

/-- The gradient of a weight: the two arrays multiplied over their rows. -/
def overRows {K M N : ℕ} (a : Shape.Idx ⟨2, ![K, M]⟩ → EReal) (b : Shape.Idx ⟨2, ![K, N]⟩ → EReal) :
    Shape.Idx ⟨2, ![M, N]⟩ → EReal :=
  fun j => ∑ k : Fin K, a (ix2 k (j 0)) * b (ix2 k (j 1))

/-- The gradient of an input: the two arrays multiplied over their columns. -/
def overColumns {M N K : ℕ} (a : Shape.Idx ⟨2, ![M, K]⟩ → EReal) (b : Shape.Idx ⟨2, ![N, K]⟩ → EReal) :
    Shape.Idx ⟨2, ![M, N]⟩ → EReal :=
  fun j => ∑ k : Fin K, a (ix2 (j 0) k) * b (ix2 (j 1) k)

/-- The product itself: the rows of the one by the columns of the other. -/
def ofRows {M K N : ℕ} (a : Shape.Idx ⟨2, ![M, K]⟩ → EReal) (b : Shape.Idx ⟨2, ![K, N]⟩ → EReal) :
    Shape.Idx ⟨2, ![M, N]⟩ → EReal :=
  fun j => ∑ k : Fin K, a (ix2 (j 0) k) * b (ix2 k (j 1))

theorem matmul_rows {K M N : ℕ} (wf : DotDims.WF ⟨2, ![K, M]⟩ ⟨2, ![K, N]⟩ ⟨2, ![M, N]⟩ [0] [0] [1] [1] [] [])
    (a : Shape.Idx ⟨2, ![K, M]⟩ → EReal) (b : Shape.Idx ⟨2, ![K, N]⟩ → EReal) (o : Shape.Idx ⟨2, ![M, N]⟩ → EReal) (j : Shape.Idx ⟨2, ![M, N]⟩) :
    Ideal.matmul (⟨[0], [0], [1], [1], [], [], wf⟩ : DotDims _ _ _) a b o j = o j + overRows a b j := by
  rw [Ideal.matmul_apply₁ _ rfl (K := K) rfl]
  refine congrArg (o j + ·) (Finset.sum_congr rfl fun k _ => ?_)
  congr 2 <;> (funext d; fin_cases d <;> rfl)

theorem matmul_columns {M N K : ℕ} (wf : DotDims.WF ⟨2, ![M, K]⟩ ⟨2, ![N, K]⟩ ⟨2, ![M, N]⟩ [1] [1] [0] [0] [] [])
    (a : Shape.Idx ⟨2, ![M, K]⟩ → EReal) (b : Shape.Idx ⟨2, ![N, K]⟩ → EReal) (o : Shape.Idx ⟨2, ![M, N]⟩ → EReal) (j : Shape.Idx ⟨2, ![M, N]⟩) :
    Ideal.matmul (⟨[1], [1], [0], [0], [], [], wf⟩ : DotDims _ _ _) a b o j = o j + overColumns a b j := by
  rw [Ideal.matmul_apply₁ _ rfl (K := K) rfl]
  refine congrArg (o j + ·) (Finset.sum_congr rfl fun k _ => ?_)
  congr 2 <;> (funext d; fin_cases d <;> rfl)

theorem matmul_product {M N K : ℕ} (wf : DotDims.WF ⟨2, ![M, K]⟩ ⟨2, ![K, N]⟩ ⟨2, ![M, N]⟩ [1] [0] [0] [1] [] [])
    (a : Shape.Idx ⟨2, ![M, K]⟩ → EReal) (b : Shape.Idx ⟨2, ![K, N]⟩ → EReal) (o : Shape.Idx ⟨2, ![M, N]⟩ → EReal) (j : Shape.Idx ⟨2, ![M, N]⟩) :
    Ideal.matmul (⟨[1], [0], [0], [1], [], [], wf⟩ : DotDims _ _ _) a b o j = o j + ofRows a b j := by
  rw [Ideal.matmul_apply₁ _ rfl (K := K) rfl]
  refine congrArg (o j + ·) (Finset.sum_congr rfl fun k _ => ?_)
  congr 2 <;> (funext d; fin_cases d <;> rfl)

/-- The reference's gradient of a weight: a product over the rows, turned round. -/
theorem reference_rows {K M N : ℕ} (wf : DotDims.WF ⟨2, ![K, N]⟩ ⟨2, ![K, M]⟩ ⟨2, ![N, M]⟩ [0] [0] [1] [1] [] [])
    (ht : Shape.Transposes ⟨2, ![N, M]⟩ [1, 0] ⟨2, ![M, N]⟩) (h : FTy.bf16.bits < FTy.f32.bits)
    (a : Vec Ideal ⟨2, ![K, M]⟩ .bf16) (b : Vec Ideal ⟨2, ![K, N]⟩ .bf16) :
    (transpose ⟨2, ![M, N]⟩ [1, 0] (Host.dotGeneral (F := Ideal) (⟨[0], [0], [1], [1], [], [], wf⟩ : DotDims _ _ _) none (extf .f32 b h) (extf .f32 a h)) ht
        : Vec Ideal ⟨2, ![M, N]⟩ .f32) = overRows a b := by
  funext j
  refine (matmul_rows wf b a (fun _ => 0) _).trans ((zero_add _).trans (Finset.sum_congr rfl fun k _ => ?_))
  exact mul_comm _ _

/-- The reference's gradient of an input. -/
theorem reference_columns {M N K : ℕ} (wf : DotDims.WF ⟨2, ![M, K]⟩ ⟨2, ![N, K]⟩ ⟨2, ![M, N]⟩ [1] [1] [0] [0] [] [])
    (h : FTy.bf16.bits < FTy.f32.bits) (a : Vec Ideal ⟨2, ![M, K]⟩ .bf16) (b : Vec Ideal ⟨2, ![N, K]⟩ .bf16) :
    (truncf .bf16 (Host.dotGeneral (F := Ideal) (⟨[1], [1], [0], [0], [], [], wf⟩ : DotDims _ _ _) none (extf .f32 a h) (extf .f32 b h)) h
        : Vec Ideal ⟨2, ![M, N]⟩ .bf16) = overColumns a b :=
  funext fun j => (matmul_columns wf a b (fun _ => 0) j).trans (zero_add _)

/-- The reference's product. -/
theorem reference_product {M N K : ℕ} (wf : DotDims.WF ⟨2, ![M, K]⟩ ⟨2, ![K, N]⟩ ⟨2, ![M, N]⟩ [1] [0] [0] [1] [] [])
    (h : FTy.bf16.bits < FTy.f32.bits) (a : Vec Ideal ⟨2, ![M, K]⟩ .bf16) (b : Vec Ideal ⟨2, ![K, N]⟩ .bf16) :
    (truncf .bf16 (Host.dotGeneral (F := Ideal) (⟨[1], [0], [0], [1], [], [], wf⟩ : DotDims _ _ _) none (extf .f32 a h) (extf .f32 b h)) h
        : Vec Ideal ⟨2, ![M, N]⟩ .bf16) = ofRows a b :=
  funext fun j => (matmul_product wf a b (fun _ => 0) j).trans (zero_add _)

end Cert.Proof

end
-- ==== Proof.Grad2.lean ====
/- The gradient of the input of `h @ w_gu`: each block of rows is the sum over two blocks of columns, so the array is the product over
   all columns. -/
module

public import proofs.«01_k».proof.Defs
public import proofs.«01_k».proof.Proof.Product
public import proofs.«01_k».proof.Proof.Gen.Kernel2Ideal.Frame
public import proofs.«01_k».proof.Proof.Gen.Reference2Ideal.Run

@[expose] public section

noncomputable section

namespace Cert.Kernel2Ideal.Grad

open Cert.Kernel2Ideal Cert.Kernel2Ideal.Gen Idealize.ShloMosaic Idealize.ShloMosaic.TcCoe Idealize.SL.Sem

variable (m : (ℓ : Loc nD τ sig) → Buf (Elt Ideal) ℓ)

/-- The sum starts at zero. -/
theorem zero (j : S768x1024.Idx) : (k0_pay1 (F := Ideal)) j = 0 := by
  pointwise [k0_pay1]

/-- One block's product added to what the sum held. -/
theorem add (o : Vec Ideal S768x1024 .f32) (x : Vec Ideal S768x2816 .bf16) (y : Vec Ideal S1024x2816 .bf16) (j : S768x1024.Idx) :
    k0_pay2 o x y j = o j + Cert.Proof.overColumns x y j := by
  unfold Cert.Proof.overColumns
  pointwise [k0_pay2]

/-- The sum is written out as it is. -/
theorem out (o : Vec Ideal S768x1024 .f32) (j : S768x1024.Idx) : (k0_pay3 o j : EReal) = o j := by
  pointwise [k0_pay3]

/-- Which blocks a point reads and writes. -/
theorem idx : ∀ t : Fin cfg0.N, win0_0.index t = ![t.val / 2, t.val % 2] ∧ win0_1.index t = ![0, t.val % 2] ∧ win0_2.index t = ![t.val / 2, 0] := by
  decide +kernel

/-- What the last point of a block of rows writes out is the sum it holds. -/
theorem written (c : Dev nD) (t : Fin cfg0.N) (h : t.val % 2 = 1) (j : S768x1024.Idx) :
    ((outsAt0 m c t.val t.isLt).1 j : EReal) = (outsAt0 m c t.val t.isLt).2 j := by
  rw [outsAt0_B m c t (by omega) h]
  frame_out
  rw [out]

theorem final (c : Dev nD) : (dats m 0 c).arrAt 2 cfg0.N
    = Cert.Proof.overColumns (m ((c : Thread nD τ).loc main_arg0)) (m ((c : Thread nD τ).loc main_arg1)) := by
  refine (dats m 0 c).arrAt_eq_of_covers 2 _ (by decide +kernel) fun t hf y => ?_
  blk_simp
  rw [after0_2]
  refine (written m c t ((flush0_2 t).mp hf) _).trans ?_
  rw [Pipeline.eq_sum_fin_of_reset_step_apply_of_flush (fun n h => (outsAt0 m c n h).2) 2 (fun _ => 0) _
    (fun t h j => by rw [outsAt0_A m c t h (by omega)]; frame_out; rw [add, zero])
    (fun t h j => by rw [outsAt0_B m c t h (by omega)]; frame_out; rw [add]; exact congrArg (· + _) (congrFun ((Memref.isWhole_whole cc0_scratch0).read_unread _) j)) t ((flush0_2 t).mp hf)]
  rw [zero_add]
  unfold Cert.Proof.overColumns
  have hN : t.val < 22 := lt_of_lt_of_eq t.isLt N_0
  refine Fin.sum_mul_add_congr fun s k hl => ?_
  have hi := idx ⟨2 * (t.val / 2) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overColumns (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Kernel2Ideal.Grad

namespace Cert.Proof

open Idealize.ShloMosaic Idealize.ShloMosaic.TcCoe Idealize.SL.Sem

theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal (hKernel2Ideal := Cert.Kernel2Ideal.Gen.facts) (hReference2Ideal := Cert.Reference2Ideal.Gen.facts) :=
  fun m ρ m' ρ' _ hin => ⟨_, Cert.Kernel2Ideal.Grad.run m ρ,
    (θ_run Cert.Reference2Ideal.defs _ _).mono (fun r h c => ⟨(h c).1.trans ((reference_columns _ _ _ _).trans (by rw [(hin c).1, (hin c).2])), (h c).2⟩)
      (Cert.Reference2Ideal.Value.run (F := Ideal) m' ρ')⟩

end Cert.Proof

end
-- ==== Proof.FanIn.lean ====
/- The gradient of the input that three products share: each block of rows takes the first product's columns, the second's in two blocks and
   the third's, one after the other, so the array is the sum of the three products over all columns. -/
module

public import proofs.«01_k».proof.Defs
public import proofs.«01_k».proof.Proof.Product
public import proofs.«01_k».proof.Proof.Gen.Kernel6Ideal.Frame
public import proofs.«01_k».proof.Proof.Gen.Reference6Ideal.Run

@[expose] public section

noncomputable section

namespace Cert.Proof

open Idealize.ShloMosaic

/-- The sum of three products over columns. -/
def overThree {M N K₀ K₁ K₂ : ℕ} (a₀ : Shape.Idx ⟨2, ![M, K₀]⟩ → EReal) (a₁ : Shape.Idx ⟨2, ![M, K₁]⟩ → EReal) (a₂ : Shape.Idx ⟨2, ![M, K₂]⟩ → EReal)
    (b₀ : Shape.Idx ⟨2, ![N, K₀]⟩ → EReal) (b₁ : Shape.Idx ⟨2, ![N, K₁]⟩ → EReal) (b₂ : Shape.Idx ⟨2, ![N, K₂]⟩ → EReal) :
    Shape.Idx ⟨2, ![M, N]⟩ → EReal :=
  fun j => overColumns a₂ b₂ j + overColumns a₁ b₁ j + overColumns a₀ b₀ j

end Cert.Proof

namespace Cert.Kernel6Ideal.Grad

open Cert.Kernel6Ideal Cert.Kernel6Ideal.Gen Idealize.ShloMosaic Idealize.ShloMosaic.TcCoe Idealize.SL.Sem

variable (m : (ℓ : Loc nD τ sig) → Buf (Elt Ideal) ℓ)

/-- The sum starts at zero. -/
theorem zero (j : S768x1024.Idx) : (k0_pay1 (F := Ideal)) j = 0 := by
  pointwise [k0_pay1]

/-- A block of the first product added to what the sum held. -/
theorem add₀ (o : Vec Ideal S768x1024 .f32) (x : Vec Ideal S768x1536 .bf16) (y : Vec Ideal S1024x1536 .bf16) (j : S768x1024.Idx) :
    k0_pay2 o x y j = o j + Cert.Proof.overColumns x y j := by
  unfold Cert.Proof.overColumns
  pointwise [k0_pay2]

/-- A block of the second product added to what the sum held. -/
theorem add₁ (o : Vec Ideal S768x1024 .f32) (x : Vec Ideal S768x1536 .bf16) (y : Vec Ideal S1024x1536 .bf16) (j : S768x1024.Idx) :
    k0_pay3 o x y j = o j + Cert.Proof.overColumns x y j := by
  unfold Cert.Proof.overColumns
  pointwise [k0_pay3]

/-- The block of the third product added to what the sum held. -/
theorem add₂ (o : Vec Ideal S768x1024 .f32) (x : Vec Ideal S768x1664 .bf16) (y : Vec Ideal S1024x1664 .bf16) (j : S768x1024.Idx) :
    k0_pay4 o x y j = o j + Cert.Proof.overColumns x y j := by
  unfold Cert.Proof.overColumns
  pointwise [k0_pay4]

/-- The sum is written out as it is. -/
theorem out (o : Vec Ideal S768x1024 .f32) (j : S768x1024.Idx) : (k0_pay5 o j : EReal) = o j := by
  pointwise [k0_pay5]

/-- Which blocks a point reads and writes. -/
theorem idx : ∀ t : Fin cfg0.N, win0_0.index t = ![t.val / 4, 0] ∧ win0_1.index t = ![t.val / 4, min (t.val % 4 - 1) 1]
    ∧ win0_2.index t = ![t.val / 4, 0] ∧ win0_3.index t = ![0, 0] ∧ win0_4.index t = ![0, min (t.val % 4 - 1) 1]
    ∧ win0_5.index t = ![0, 0] ∧ win0_6.index t = ![t.val / 4, 0] := by
  decide +kernel

/-- What a point adds to the sum. -/
def term (c : Dev nD) (t : Fin cfg0.N) : S768x1024.Idx → EReal :=
  if t.val % 4 = 0 then Cert.Proof.overColumns (iblk m c 0 t) (iblk m c 3 t)
  else if t.val % 4 = 3 then Cert.Proof.overColumns (iblk m c 2 t) (iblk m c 5 t)
  else Cert.Proof.overColumns (iblk m c 1 t) (iblk m c 4 t)

theorem term_first (c : Dev nD) (t : Fin cfg0.N) (h : t.val % 4 = 0) : term m c t = Cert.Proof.overColumns (iblk m c 0 t) (iblk m c 3 t) :=
  if_pos h

theorem term_middle (c : Dev nD) (t : Fin cfg0.N) (h : ¬t.val % 4 = 0) (h3 : ¬t.val % 4 = 3) :
    term m c t = Cert.Proof.overColumns (iblk m c 1 t) (iblk m c 4 t) :=
  (if_neg h).trans (if_neg h3)

theorem term_last (c : Dev nD) (t : Fin cfg0.N) (h : t.val % 4 = 3) : term m c t = Cert.Proof.overColumns (iblk m c 2 t) (iblk m c 5 t) :=
  (if_neg (by omega)).trans (if_pos h)

/-- What the last point of a block of rows writes out is the sum it holds. -/
theorem written (c : Dev nD) (t : Fin cfg0.N) (h : t.val % 4 = 3) (j : S768x1024.Idx) :
    ((outsAt0 m c t.val t.isLt).1 j : EReal) = (outsAt0 m c t.val t.isLt).2 j := by
  rw [outsAt0_C m c t (by omega) (by omega) (by omega) h h]
  frame_out
  rw [out]

theorem first (c : Dev nD) (t : Fin cfg0.N) (h : t.val % 4 = 0) (j : S768x1024.Idx) :
    ((outsAt0 m c t.val t.isLt).2 j : EReal) = 0 + term m c t j := by
  rw [outsAt0_A m c t h h (by omega) (by omega) (by omega)]
  frame_out
  rw [add₀, zero, term_first m c t h]

theorem next (c : Dev nD) (t : Fin cfg0.N) (h : ¬t.val % 4 = 0) (j : S768x1024.Idx) :
    ((outsAt0 m c t.val t.isLt).2 j : EReal) = (outsAt0 m c (t.val - 1) (Nat.lt_of_le_of_lt (Nat.sub_le _ _) t.isLt)).2 j + term m c t j := by
  by_cases h3 : t.val % 4 = 3
  · rw [term_last m c t h3, outsAt0_C m c t h h (by omega) h3 h3]
    frame_out
    rw [add₂]
    exact congrArg (· + _) (congrFun ((Memref.isWhole_whole cc0_scratch0).read_unread _) j)
  · rw [term_middle m c t h h3, outsAt0_B m c t h h (by omega) h3 h3]
    frame_out
    rw [add₁]
    exact congrArg (· + _) (congrFun ((Memref.isWhole_whole cc0_scratch0).read_unread _) j)

/-- The result is the sum of the three products. -/
theorem final (c : Dev nD) : (dats m 0 c).arrAt 6 cfg0.N
    = Cert.Proof.overThree (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hN := lt_of_lt_of_eq t.isLt N_0
  have h3 := (flush0_6 t).mp hf
  refine (written m c t h3 _).trans ?_
  rw [Pipeline.eq_sum_fin_of_reset_step_apply_of_flush (fun n h => (outsAt0 m c n h).2) 4 (fun _ => 0) (term m c)
    (first m c) (next m c) t h3, zero_add, Fin.sum_univ_four]
  have ht := (idx t).2.2.2.2.2.2
  have hp := fun s : Fin 4 => Pipeline.run_point_lt_of_flush t h3 s
  rw [show ∀ a b c d : EReal, a + b + c + d = d + (b + c) + a from fun a b c d => by ac_rfl]
  refine congrArg₂ (· + ·) (congrArg₂ (· + ·) ?_ ?_) ?_
  · refine (congrFun (term_last m c ⟨4 * (t.val / 4) + 3, hp 3⟩ (by show (4 * (t.val / 4) + 3) % 4 = 3; omega)) y).trans ?_
    unfold Cert.Proof.overColumns
    refine Finset.sum_congr (M := EReal) rfl fun k _ => ?_
    have h := idx ⟨4 * (t.val / 4) + 3, hp 3⟩
    congr 1 <;> blk_ext [iblk, V, h, ht]
  · refine (congrArg₂ (· + ·) (congrFun (term_middle m c ⟨4 * (t.val / 4) + 1, hp 1⟩ (by show ¬(4 * (t.val / 4) + 1) % 4 = 0; omega) (by show ¬(4 * (t.val / 4) + 1) % 4 = 3; omega)) y)
      (congrFun (term_middle m c ⟨4 * (t.val / 4) + 2, hp 2⟩ (by show ¬(4 * (t.val / 4) + 2) % 4 = 0; omega) (by show ¬(4 * (t.val / 4) + 2) % 4 = 3; omega)) y)).trans ?_
    have hq := fun s : Fin 2 => lt_of_le_of_lt (by omega : 4 * (t.val / 4) + (s.val + 1) ≤ t.val) t.isLt
    refine (Fin.sum_univ_two (fun s : Fin 2 => Cert.Proof.overColumns (iblk m c 1 ⟨4 * (t.val / 4) + (s.val + 1), hq s⟩) (iblk m c 4 ⟨4 * (t.val / 4) + (s.val + 1), hq s⟩) y)).symm.trans ?_
    unfold Cert.Proof.overColumns
    refine Fin.sum_mul_add_congr fun s k hl => ?_
    have h := idx ⟨4 * (t.val / 4) + (s.val + 1), hq s⟩
    congr 1 <;> blk_ext [iblk, V, h, ht]
  · refine (congrFun (term_first m c ⟨4 * (t.val / 4) + 0, hp 0⟩ (by show (4 * (t.val / 4) + 0) % 4 = 0; omega)) y).trans ?_
    unfold Cert.Proof.overColumns
    refine Finset.sum_congr (M := EReal) rfl fun k _ => ?_
    have h := idx ⟨4 * (t.val / 4), hp 0⟩
    congr 1 <;> blk_ext [iblk, V, h, ht]

theorem run (ρ : Dev nD → PrngReg) : θ_run defs (onTc (τ := τ) (main (F := Ideal))) ⟨m, fun _ => 0, ρ⟩ fun r => ∀ c : Dev nD,
    r.2.mem ((c : Thread nD τ).loc main_v0)
        = Cert.Proof.overThree (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

end Cert.Kernel6Ideal.Grad

namespace Cert.Proof

open Idealize.ShloMosaic Idealize.ShloMosaic.TcCoe Idealize.SL.Sem

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

section
open Cert.Reference6Ideal Cert.Reference6Ideal.Gen

/-- The reference's gradient of the shared input. -/
theorem reference6 (a₀ : Vec Ideal S8448x1536 .bf16) (a₁ : Vec Ideal S8448x3072 .bf16) (a₂ : Vec Ideal S8448x1664 .bf16)
    (b₀ : Vec Ideal S1024x1536 .bf16) (b₁ : Vec Ideal S1024x3072 .bf16) (b₂ : Vec Ideal S1024x1664 .bf16) :
    (truncf .bf16 (addf (addf (Host.dotGeneral (F := Ideal) dot_S8448x1664_S1024x1664_S8448x1024_1_1_0_0_n_n none (extf .f32 a₂ bitsLt_bf16_f32) (extf .f32 b₂ bitsLt_bf16_f32))
        (Host.dotGeneral (F := Ideal) dot_S8448x3072_S1024x3072_S8448x1024_1_1_0_0_n_n none (extf .f32 a₁ bitsLt_bf16_f32) (extf .f32 b₁ bitsLt_bf16_f32)))
        (Host.dotGeneral (F := Ideal) dot_S8448x1536_S1024x1536_S8448x1024_1_1_0_0_n_n none (extf .f32 a₀ bitsLt_bf16_f32) (extf .f32 b₀ bitsLt_bf16_f32))) bitsLt_bf16_f32 : Vec Ideal S8448x1024 .bf16)
      = overThree a₀ a₁ a₂ b₀ b₁ b₂ := by
  funext j
  unfold overThree
  exact congrArg₂ (· + ·) (congrArg₂ (· + ·) (congrFun (reference_columns _ bitsLt_bf16_f32 a₂ b₂) j) (congrFun (reference_columns _ bitsLt_bf16_f32 a₁ b₁) j))
    (congrFun (reference_columns _ bitsLt_bf16_f32 a₀ b₀) j)

end

theorem algebraic6 : Cert.algebraic_Kernel6Ideal_Reference6Ideal (hKernel6Ideal := Cert.Kernel6Ideal.Gen.facts) (hReference6Ideal := Cert.Reference6Ideal.Gen.facts) :=
  fun m ρ m' ρ' _ hin => ⟨_, Cert.Kernel6Ideal.Grad.run m ρ,
    (θ_run Cert.Reference6Ideal.defs _ _).mono (fun r h c => ⟨(h c).1.trans ((reference6 _ _ _ _ _ _).trans (by
        obtain ⟨h0, h1, h2, h3, h4, h5⟩ := hin c
        rw [h0, h1, h2, h3, h4, h5])), (h c).2⟩)
      (Cert.Reference6Ideal.Value.run (F := Ideal) m' ρ')⟩

end Cert.Proof

end
-- ==== Proof.InputGradients.lean ====
/- The gradients of the inputs whose columns are taken in one block: each block of rows is a product over all columns. -/
module

public import proofs.«01_k».proof.Defs
public import proofs.«01_k».proof.Proof.Product
public import proofs.«01_k».proof.Proof.Gen.Kernel4Ideal.Value
public import proofs.«01_k».proof.Proof.Gen.Reference4Ideal.Run
public import proofs.«01_k».proof.Proof.Gen.Kernel10Ideal.Value
public import proofs.«01_k».proof.Proof.Gen.Reference10Ideal.Run
public import proofs.«01_k».proof.Proof.Gen.Kernel18Ideal.Value
public import proofs.«01_k».proof.Proof.Gen.Reference18Ideal.Run
public import proofs.«01_k».proof.Proof.Gen.Kernel21Ideal.Value
public import proofs.«01_k».proof.Proof.Gen.Reference21Ideal.Run

@[expose] public section

noncomputable section

namespace Cert.Kernel4Ideal.Grad

open Cert.Kernel4Ideal Cert.Kernel4Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.overColumns (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have hi := idx t
  unfold Cert.Proof.overColumns
  pointwise [k0_pay3, k0_pay2, k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overColumns (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel4Ideal.Grad

namespace Cert.Kernel10Ideal.Grad

open Cert.Kernel10Ideal Cert.Kernel10Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.overColumns (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have hi := idx t
  unfold Cert.Proof.overColumns
  pointwise [k0_pay3, k0_pay2, k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overColumns (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel10Ideal.Grad

namespace Cert.Kernel18Ideal.Grad

open Cert.Kernel18Ideal Cert.Kernel18Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.overColumns (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have hi := idx t
  unfold Cert.Proof.overColumns
  pointwise [k0_pay3, k0_pay2, k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overColumns (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel18Ideal.Grad

namespace Cert.Kernel21Ideal.Grad

open Cert.Kernel21Ideal Cert.Kernel21Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.overColumns (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have hi := idx t
  unfold Cert.Proof.overColumns
  pointwise [k0_pay3, k0_pay2, k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overColumns (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel21Ideal.Grad

namespace Cert.Proof

open Idealize.ShloMosaic Idealize.ShloMosaic.TcCoe Idealize.SL.Sem

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal (hKernel4Ideal := Cert.Kernel4Ideal.Gen.facts) (hReference4Ideal := Cert.Reference4Ideal.Gen.facts) :=
  fun m ρ m' ρ' _ hin => ⟨_, Cert.Kernel4Ideal.Grad.run m ρ,
    (θ_run Cert.Reference4Ideal.defs _ _).mono (fun r h c => ⟨(h c).1.trans ((reference_columns _ _ _ _).trans (by rw [(hin c).1, (hin c).2])), (h c).2⟩)
      (Cert.Reference4Ideal.Value.run (F := Ideal) m' ρ')⟩

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic10 : Cert.algebraic_Kernel10Ideal_Reference10Ideal (hKernel10Ideal := Cert.Kernel10Ideal.Gen.facts) (hReference10Ideal := Cert.Reference10Ideal.Gen.facts) :=
  fun m ρ m' ρ' _ hin => ⟨_, Cert.Kernel10Ideal.Grad.run m ρ,
    (θ_run Cert.Reference10Ideal.defs _ _).mono (fun r h c => ⟨(h c).1.trans ((reference_columns _ _ _ _).trans (by rw [(hin c).1, (hin c).2])), (h c).2⟩)
      (Cert.Reference10Ideal.Value.run (F := Ideal) m' ρ')⟩

theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic18 : Cert.algebraic_Kernel18Ideal_Reference18Ideal (hKernel18Ideal := Cert.Kernel18Ideal.Gen.facts) (hReference18Ideal := Cert.Reference18Ideal.Gen.facts) :=
  fun m ρ m' ρ' _ hin => ⟨_, Cert.Kernel18Ideal.Grad.run m ρ,
    (θ_run Cert.Reference18Ideal.defs _ _).mono (fun r h c => ⟨(h c).1.trans ((reference_columns _ _ _ _).trans (by rw [(hin c).1, (hin c).2])), (h c).2⟩)
      (Cert.Reference18Ideal.Value.run (F := Ideal) m' ρ')⟩

theorem frame_reference21 : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic21 : Cert.algebraic_Kernel21Ideal_Reference21Ideal (hKernel21Ideal := Cert.Kernel21Ideal.Gen.facts) (hReference21Ideal := Cert.Reference21Ideal.Gen.facts) :=
  fun m ρ m' ρ' _ hin => ⟨_, Cert.Kernel21Ideal.Grad.run m ρ,
    (θ_run Cert.Reference21Ideal.defs _ _).mono (fun r h c => ⟨(h c).1.trans ((reference_columns _ _ _ _).trans (by rw [(hin c).1, (hin c).2])), (h c).2⟩)
      (Cert.Reference21Ideal.Value.run (F := Ideal) m' ρ')⟩

end Cert.Proof

end
-- ==== Proof.WeightGradients.lean ====
/- The gradients of the weights: each block of the result is the sum over four blocks of rows, so the array is the product over all rows. -/
module

public import proofs.«01_k».proof.Defs
public import proofs.«01_k».proof.Proof.Product
public import proofs.«01_k».proof.Proof.Gen.Kernel3Ideal.Value
public import proofs.«01_k».proof.Proof.Gen.Reference3Ideal.Run
public import proofs.«01_k».proof.Proof.Gen.Kernel5Ideal.Value
public import proofs.«01_k».proof.Proof.Gen.Reference5Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel11Ideal.Value
public import proofs.«01_k».proof.Proof.Gen.Reference11Ideal.Run
public import proofs.«01_k».proof.Proof.Gen.Kernel19Ideal.Value
public import proofs.«01_k».proof.Proof.Gen.Reference19Ideal.Run
public import proofs.«01_k».proof.Proof.Gen.Kernel22Ideal.Value
public import proofs.«01_k».proof.Proof.Gen.Reference22Ideal.Run

@[expose] public section

noncomputable section

namespace Cert.Kernel3Ideal.Grad

open Cert.Kernel3Ideal Cert.Kernel3Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, 0] ∧ win0_1.index t = ![t.val % 4, t.val / 4] ∧ win0_2.index t = ![0, t.val / 4] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel3Ideal.Grad

namespace Cert.Kernel5Ideal.Grad

open Cert.Kernel5Ideal Cert.Kernel5Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, t.val / 4] ∧ win0_1.index t = ![t.val % 4, 0] ∧ win0_2.index t = ![t.val / 4, 0] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel5Ideal.Grad

namespace Cert.Kernel7Ideal.Grad

open Cert.Kernel7Ideal Cert.Kernel7Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, 0] ∧ win0_1.index t = ![t.val % 4, 0] ∧ win0_2.index t = ![0, 0] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel7Ideal.Grad

namespace Cert.Kernel8Ideal.Grad

open Cert.Kernel8Ideal Cert.Kernel8Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, 0] ∧ win0_1.index t = ![t.val % 4, t.val / 4] ∧ win0_2.index t = ![0, t.val / 4] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel8Ideal.Grad

namespace Cert.Kernel9Ideal.Grad

open Cert.Kernel9Ideal Cert.Kernel9Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, 0] ∧ win0_1.index t = ![t.val % 4, 0] ∧ win0_2.index t = ![0, 0] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel9Ideal.Grad

namespace Cert.Kernel11Ideal.Grad

open Cert.Kernel11Ideal Cert.Kernel11Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, 0] ∧ win0_1.index t = ![t.val % 4, 0] ∧ win0_2.index t = ![0, 0] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel11Ideal.Grad

namespace Cert.Kernel19Ideal.Grad

open Cert.Kernel19Ideal Cert.Kernel19Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, 0] ∧ win0_1.index t = ![t.val % 4, 0] ∧ win0_2.index t = ![0, 0] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel19Ideal.Grad

namespace Cert.Kernel22Ideal.Grad

open Cert.Kernel22Ideal Cert.Kernel22Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val % 4, 0] ∧ win0_1.index t = ![t.val % 4, 0] ∧ win0_2.index t = ![0, 0] := by
  decide +kernel

theorem final (c : Dev nD) : (dats m 0 c).arrAt 2 cfg0.N
    = Cert.Proof.overRows (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t j => Cert.Proof.overRows (iblk m c 0 t) (iblk m c 1 t) j)
    (fun t h j => by
      have hN := lt_of_lt_of_eq t.isLt N_0
      rw [outsAt0_A m c t h (by omega)]; frame_out; unfold Cert.Proof.overRows; pointwise [k0_pay1])
    (fun t h j => by
      rw [outsAt0_B m c t h (by omega)]; frame_out; unfold Cert.Proof.overRows; pointwise [k0_pay2, k0_pay1]) t ((flush0_2 t).mp hf), zero_add]
  have hN := lt_of_lt_of_eq t.isLt N_0
  refine Fin.sum_mul_add_congr fun s k hl => ?_
  have hi := idx ⟨4 * (t.val / 4) + s.val, Pipeline.run_point_lt_of_flush t ((flush0_2 t).mp hf) s⟩
  have ht := (idx t).2.2
  congr 1 <;> blk_ext [iblk, V, hi, ht]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.overRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel22Ideal.Grad

namespace Cert.Proof

open Idealize.ShloMosaic Idealize.ShloMosaic.TcCoe Idealize.SL.Sem

theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal (hKernel3Ideal := Cert.Kernel3Ideal.Gen.facts) (hReference3Ideal := Cert.Reference3Ideal.Gen.facts) :=
  fun m ρ m' ρ' _ hin => ⟨_, Cert.Kernel3Ideal.Grad.run m ρ,
    (θ_run Cert.Reference3Ideal.defs _ _).mono (fun r h c => ⟨(h c).1.trans ((reference_rows _ _ _ _ _).trans (by rw [(hin c).1, (hin c).2])), (h c).2⟩)
      (Cert.Reference3Ideal.Value.run (F := Ideal) m' ρ')⟩

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal (hKernel5Ideal := Cert.Kernel5Ideal.Gen.facts) (hReference5Ideal := Cert.Reference5Ideal.Gen.facts) :=
  fun m ρ m' ρ' _ hin => ⟨_, Cert.Kernel5Ideal.Grad.run m ρ,
    (θ_run Cert.Reference5Ideal.defs _ _).mono (fun r h c => ⟨(h c).1.trans ((reference_rows _ _ _ _ _).trans (by rw [(hin c).1, (hin c).2])), (h c).2⟩)
      (Cert.Reference5Ideal.Value.run (F := Ideal) m' ρ')⟩

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal (hKernel7Ideal := Cert.Kernel7Ideal.Gen.facts) (hReference7Ideal := Cert.Reference7Ideal.Gen.facts) :=
  fun m ρ m' ρ' _ hin => ⟨_, Cert.Kernel7Ideal.Grad.run m ρ,
    (θ_run Cert.Reference7Ideal.defs _ _).mono (fun r h c => ⟨(h c).1.trans ((reference_rows _ _ _ _ _).trans (by rw [(hin c).1, (hin c).2])), (h c).2⟩)
      (Cert.Reference7Ideal.Value.run (F := Ideal) m' ρ')⟩

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal (hKernel8Ideal := Cert.Kernel8Ideal.Gen.facts) (hReference8Ideal := Cert.Reference8Ideal.Gen.facts) :=
  fun m ρ m' ρ' _ hin => ⟨_, Cert.Kernel8Ideal.Grad.run m ρ,
    (θ_run Cert.Reference8Ideal.defs _ _).mono (fun r h c => ⟨(h c).1.trans ((reference_rows _ _ _ _ _).trans (by rw [(hin c).1, (hin c).2])), (h c).2⟩)
      (Cert.Reference8Ideal.Value.run (F := Ideal) m' ρ')⟩

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal (hKernel9Ideal := Cert.Kernel9Ideal.Gen.facts) (hReference9Ideal := Cert.Reference9Ideal.Gen.facts) :=
  fun m ρ m' ρ' _ hin => ⟨_, Cert.Kernel9Ideal.Grad.run m ρ,
    (θ_run Cert.Reference9Ideal.defs _ _).mono (fun r h c => ⟨(h c).1.trans ((reference_rows _ _ _ _ _).trans (by rw [(hin c).1, (hin c).2])), (h c).2⟩)
      (Cert.Reference9Ideal.Value.run (F := Ideal) m' ρ')⟩

theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic11 : Cert.algebraic_Kernel11Ideal_Reference11Ideal (hKernel11Ideal := Cert.Kernel11Ideal.Gen.facts) (hReference11Ideal := Cert.Reference11Ideal.Gen.facts) :=
  fun m ρ m' ρ' _ hin => ⟨_, Cert.Kernel11Ideal.Grad.run m ρ,
    (θ_run Cert.Reference11Ideal.defs _ _).mono (fun r h c => ⟨(h c).1.trans ((reference_rows _ _ _ _ _).trans (by rw [(hin c).1, (hin c).2])), (h c).2⟩)
      (Cert.Reference11Ideal.Value.run (F := Ideal) m' ρ')⟩

theorem frame_reference19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic19 : Cert.algebraic_Kernel19Ideal_Reference19Ideal (hKernel19Ideal := Cert.Kernel19Ideal.Gen.facts) (hReference19Ideal := Cert.Reference19Ideal.Gen.facts) :=
  fun m ρ m' ρ' _ hin => ⟨_, Cert.Kernel19Ideal.Grad.run m ρ,
    (θ_run Cert.Reference19Ideal.defs _ _).mono (fun r h c => ⟨(h c).1.trans ((reference_rows _ _ _ _ _).trans (by rw [(hin c).1, (hin c).2])), (h c).2⟩)
      (Cert.Reference19Ideal.Value.run (F := Ideal) m' ρ')⟩

theorem frame_reference22 : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic22 : Cert.algebraic_Kernel22Ideal_Reference22Ideal (hKernel22Ideal := Cert.Kernel22Ideal.Gen.facts) (hReference22Ideal := Cert.Reference22Ideal.Gen.facts) :=
  fun m ρ m' ρ' _ hin => ⟨_, Cert.Kernel22Ideal.Grad.run m ρ,
    (θ_run Cert.Reference22Ideal.defs _ _).mono (fun r h c => ⟨(h c).1.trans ((reference_rows _ _ _ _ _).trans (by rw [(hin c).1, (hin c).2])), (h c).2⟩)
      (Cert.Reference22Ideal.Value.run (F := Ideal) m' ρ')⟩

end Cert.Proof

end
-- ==== Proof.Forward.lean ====
/- The products of the forward pass: each block of the result is a product over the whole inner axis. -/
module

public import proofs.«01_k».proof.Defs
public import proofs.«01_k».proof.Proof.Product
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel20Ideal.Value
public import proofs.«01_k».proof.Proof.Gen.Reference20Ideal.Run
public import proofs.«01_k».proof.Proof.Gen.Kernel23Ideal.Value
public import proofs.«01_k».proof.Proof.Gen.Reference23Ideal.Run

@[expose] public section

noncomputable section

namespace Cert.Kernel12Ideal.Grad

open Cert.Kernel12Ideal Cert.Kernel12Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val / 2, 0] ∧ win0_1.index t = ![0, t.val % 2] ∧ win0_2.index t = ![t.val / 2, t.val % 2] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel12Ideal.Grad

namespace Cert.Kernel13Ideal.Grad

open Cert.Kernel13Ideal Cert.Kernel13Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel13Ideal.Grad

namespace Cert.Kernel14Ideal.Grad

open Cert.Kernel14Ideal Cert.Kernel14Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel14Ideal.Grad

namespace Cert.Kernel15Ideal.Grad

open Cert.Kernel15Ideal Cert.Kernel15Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel15Ideal.Grad

namespace Cert.Kernel16Ideal.Grad

open Cert.Kernel16Ideal Cert.Kernel16Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel16Ideal.Grad

namespace Cert.Kernel17Ideal.Grad

open Cert.Kernel17Ideal Cert.Kernel17Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel17Ideal.Grad

namespace Cert.Kernel20Ideal.Grad

open Cert.Kernel20Ideal Cert.Kernel20Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel20Ideal.Grad

namespace Cert.Kernel23Ideal.Grad

open Cert.Kernel23Ideal Cert.Kernel23Ideal.Gen Idealize.ShloMosaic Idealize.ShloMosaic.TcCoe Idealize.SL.Sem

variable (m : (ℓ : Loc nD τ sig) → Buf (Elt Ideal) ℓ)

/-- Which blocks a point reads and writes. -/
theorem idx : ∀ t : Fin cfg0.N, win0_0.index t = ![t.val, 0] ∧ win0_1.index t = ![0, 0] ∧ win0_2.index t = ![t.val, 0] := by
  decide +kernel

theorem final (c : Dev nD) : (dats m 0 c).arrAt 2 cfg0.N
    = Cert.Proof.ofRows (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have hi := idx t
  unfold Cert.Proof.ofRows
  pointwise [k0_pay1]
  refine Finset.sum_congr (M := EReal) rfl fun k _ => ?_
  congr 1 <;> blk_ext [iblk, V, hi]

theorem run (ρ : Dev nD → PrngReg) : θ_run defs (onTc (τ := τ) (main (F := Ideal))) ⟨m, fun _ => 0, ρ⟩ fun r => ∀ c : Dev nD,
    r.2.mem ((c : Thread nD τ).loc main_v0) = Cert.Proof.ofRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Kernel23Ideal.Grad

namespace Cert.Proof

open Idealize.ShloMosaic Idealize.ShloMosaic.TcCoe Idealize.SL.Sem

theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic12 : Cert.algebraic_Kernel12Ideal_Reference12Ideal (hKernel12Ideal := Cert.Kernel12Ideal.Gen.facts) (hReference12Ideal := Cert.Reference12Ideal.Gen.facts) :=
  fun m ρ m' ρ' _ hin => ⟨_, Cert.Kernel12Ideal.Grad.run m ρ,
    (θ_run Cert.Reference12Ideal.defs _ _).mono (fun r h c => ⟨(h c).1.trans ((reference_product _ _ _ _).trans (by rw [(hin c).1, (hin c).2])), (h c).2⟩)
      (Cert.Reference12Ideal.Value.run (F := Ideal) m' ρ')⟩

theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic13 : Cert.algebraic_Kernel13Ideal_Reference13Ideal (hKernel13Ideal := Cert.Kernel13Ideal.Gen.facts) (hReference13Ideal := Cert.Reference13Ideal.Gen.facts) :=
  fun m ρ m' ρ' _ hin => ⟨_, Cert.Kernel13Ideal.Grad.run m ρ,
    (θ_run Cert.Reference13Ideal.defs _ _).mono (fun r h c => ⟨(h c).1.trans ((reference_product _ _ _ _).trans (by rw [(hin c).1, (hin c).2])), (h c).2⟩)
      (Cert.Reference13Ideal.Value.run (F := Ideal) m' ρ')⟩

theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic14 : Cert.algebraic_Kernel14Ideal_Reference14Ideal (hKernel14Ideal := Cert.Kernel14Ideal.Gen.facts) (hReference14Ideal := Cert.Reference14Ideal.Gen.facts) :=
  fun m ρ m' ρ' _ hin => ⟨_, Cert.Kernel14Ideal.Grad.run m ρ,
    (θ_run Cert.Reference14Ideal.defs _ _).mono (fun r h c => ⟨(h c).1.trans ((reference_product _ _ _ _).trans (by rw [(hin c).1, (hin c).2])), (h c).2⟩)
      (Cert.Reference14Ideal.Value.run (F := Ideal) m' ρ')⟩

theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic15 : Cert.algebraic_Kernel15Ideal_Reference15Ideal (hKernel15Ideal := Cert.Kernel15Ideal.Gen.facts) (hReference15Ideal := Cert.Reference15Ideal.Gen.facts) :=
  fun m ρ m' ρ' _ hin => ⟨_, Cert.Kernel15Ideal.Grad.run m ρ,
    (θ_run Cert.Reference15Ideal.defs _ _).mono (fun r h c => ⟨(h c).1.trans ((reference_product _ _ _ _).trans (by rw [(hin c).1, (hin c).2])), (h c).2⟩)
      (Cert.Reference15Ideal.Value.run (F := Ideal) m' ρ')⟩

theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic16 : Cert.algebraic_Kernel16Ideal_Reference16Ideal (hKernel16Ideal := Cert.Kernel16Ideal.Gen.facts) (hReference16Ideal := Cert.Reference16Ideal.Gen.facts) :=
  fun m ρ m' ρ' _ hin => ⟨_, Cert.Kernel16Ideal.Grad.run m ρ,
    (θ_run Cert.Reference16Ideal.defs _ _).mono (fun r h c => ⟨(h c).1.trans ((reference_product _ _ _ _).trans (by rw [(hin c).1, (hin c).2])), (h c).2⟩)
      (Cert.Reference16Ideal.Value.run (F := Ideal) m' ρ')⟩

theorem frame_reference17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic17 : Cert.algebraic_Kernel17Ideal_Reference17Ideal (hKernel17Ideal := Cert.Kernel17Ideal.Gen.facts) (hReference17Ideal := Cert.Reference17Ideal.Gen.facts) :=
  fun m ρ m' ρ' _ hin => ⟨_, Cert.Kernel17Ideal.Grad.run m ρ,
    (θ_run Cert.Reference17Ideal.defs _ _).mono (fun r h c => ⟨(h c).1.trans ((reference_product _ _ _ _).trans (by rw [(hin c).1, (hin c).2])), (h c).2⟩)
      (Cert.Reference17Ideal.Value.run (F := Ideal) m' ρ')⟩

theorem frame_reference20 : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic20 : Cert.algebraic_Kernel20Ideal_Reference20Ideal (hKernel20Ideal := Cert.Kernel20Ideal.Gen.facts) (hReference20Ideal := Cert.Reference20Ideal.Gen.facts) :=
  fun m ρ m' ρ' _ hin => ⟨_, Cert.Kernel20Ideal.Grad.run m ρ,
    (θ_run Cert.Reference20Ideal.defs _ _).mono (fun r h c => ⟨(h c).1.trans ((reference_product _ _ _ _).trans (by rw [(hin c).1, (hin c).2])), (h c).2⟩)
      (Cert.Reference20Ideal.Value.run (F := Ideal) m' ρ')⟩

theorem frame_reference23 : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

theorem algebraic23 : Cert.algebraic_Kernel23Ideal_Reference23Ideal (hKernel23Ideal := Cert.Kernel23Ideal.Gen.facts) (hReference23Ideal := Cert.Reference23Ideal.Gen.facts) :=
  fun m ρ m' ρ' _ hin => ⟨_, Cert.Kernel23Ideal.Grad.run m ρ,
    (θ_run Cert.Reference23Ideal.defs _ _).mono (fun r h c => ⟨(h c).1.trans ((reference_product _ _ _ _).trans (by rw [(hin c).1, (hin c).2])), (h c).2⟩)
      (Cert.Reference23Ideal.Value.run (F := Ideal) m' ρ')⟩

end Cert.Proof

end
-- ==== Proof.AdamW.lean ====
/- The optimiser: AdamW's three results for the weights of the two layers, and for the small weights packed together, as functions of
   the weight, its gradient and the two moments, index by index. -/
module

public import proofs.«01_k».proof.Defs
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import Idealize.ShloMosaic.Lib.Pipeline.ValueKit
public import Idealize.ShloMosaic.Lib.Pointwise
public import Idealize.ShloMosaic.Lib.Tactic

@[expose] public section

noncomputable section

namespace Cert.Proof.AdamW

open Idealize.ShloMosaic

variable {s : Shape} (w g m v : FVec Ideal s .f32)

/-- The first moment: nine parts of the old one and one part of the gradient, of ten. -/
def first : FVec Ideal s .f32 := fun i =>
  constant (F := Ideal) s .f32 0x3F666666#32 i * m i + constant (F := Ideal) s .f32 0x3DCCCCCD#32 i * g i

/-- The second moment: the same of the square of the gradient, 999 parts to one. -/
def second : FVec Ideal s .f32 := fun i =>
  constant (F := Ideal) s .f32 0x3F7FBE77#32 i * v i + constant (F := Ideal) s .f32 0x3A83126F#32 i * (g i * g i)

/-- The step: the corrected first moment over the root of the corrected second, and the decay of the weight, by the learning rate. -/
def delta : FVec Ideal s .f32 := fun i =>
  constant (F := Ideal) s .f32 0xBA83126F#32 i
    * (Ideal.div (Ideal.div (first g m i) (constant (F := Ideal) s .f32 0x3F26BD02#32 i))
        (Ideal.sqrt (Ideal.div (second g v i) (constant (F := Ideal) s .f32 0x3C231ACC#32 i)) + constant (F := Ideal) s .f32 0x322BCC77#32 i)
      + constant (F := Ideal) s .f32 0x3C23D70A#32 i * w i)

/-- Two runs that leave these functions of equal arguments leave equal results; for every shape, and whatever else the second is known to leave. -/
theorem equal {w w' g g' m m' v v' x x' y y' z z' : FVec Ideal s .f32} {Q : Prop} (hin : w' = w ∧ g' = g ∧ m' = m ∧ v' = v)
    (hk : x = delta w g m v ∧ y = first g m ∧ z = second g v) (hr : x' = delta w' g' m' v' ∧ y' = first g' m' ∧ z' = second g' v' ∧ Q) :
    x' = x ∧ y' = y ∧ z' = z ∧ Q := by
  obtain ⟨rfl, rfl, rfl, rfl⟩ := hin
  exact ⟨hr.1.trans hk.1.symm, hr.2.1.trans hk.2.1.symm, hr.2.2.1.trans hk.2.2.symm, hr.2.2.2⟩

end Cert.Proof.AdamW

namespace Cert.Kernel24Ideal.Step

open Cert.Kernel24Ideal Cert.Kernel24Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3, k0_pay4, k0_pay5, k0_pay6, k0_pay7]
    rfl

end Cert.Kernel24Ideal.Step

namespace Cert.Kernel25Ideal.Step

open Cert.Kernel25Ideal Cert.Kernel25Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3, k0_pay4, k0_pay5, k0_pay6, k0_pay7]
    rfl

end Cert.Kernel25Ideal.Step

namespace Cert.Kernel26Ideal.Step

open Cert.Kernel26Ideal Cert.Kernel26Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3, k0_pay4, k0_pay5, k0_pay6, k0_pay7]
    rfl

end Cert.Kernel26Ideal.Step

namespace Cert.Kernel27Ideal.Step

open Cert.Kernel27Ideal Cert.Kernel27Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3, k0_pay4, k0_pay5, k0_pay6, k0_pay7]
    rfl

end Cert.Kernel27Ideal.Step

namespace Cert.Kernel28Ideal.Step

open Cert.Kernel28Ideal Cert.Kernel28Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3, k0_pay4, k0_pay5, k0_pay6, k0_pay7]
    rfl

end Cert.Kernel28Ideal.Step

namespace Cert.Kernel29Ideal.Step

open Cert.Kernel29Ideal Cert.Kernel29Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3, k0_pay4, k0_pay5, k0_pay6, k0_pay7]
    rfl

end Cert.Kernel29Ideal.Step

namespace Cert.Kernel30Ideal.Step

open Cert.Kernel30Ideal Cert.Kernel30Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3, k0_pay4, k0_pay5, k0_pay6, k0_pay7]
    rfl

end Cert.Kernel30Ideal.Step

namespace Cert.Kernel31Ideal.Step

open Cert.Kernel31Ideal Cert.Kernel31Ideal.Gen Idealize.ShloMosaic Idealize.ShloMosaic.TcCoe Idealize.SL.Sem Cert.Proof.AdamW

variable (m : (ℓ : Loc nD τ sig) → Buf (Elt Ideal) ℓ)

/-- Argument and result are cut into the same blocks, so a block of a result is the function of the arguments' blocks. -/
theorem final (c : Dev nD) :
    (dats m 0 c).arrAt 4 cfg0.N = delta (m ((c : Thread nD τ).loc main_arg0)) (m ((c : Thread nD τ).loc main_arg1))
        (m ((c : Thread nD τ).loc main_arg2)) (m ((c : Thread nD τ).loc main_arg3))
      ∧ (dats m 0 c).arrAt 5 cfg0.N = first (m ((c : Thread nD τ).loc main_arg1)) (m ((c : Thread nD τ).loc main_arg2))
      ∧ (dats m 0 c).arrAt 6 cfg0.N = second (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;>
  · blk_simp
    simp only [after0_4, after0_5, after0_6, out0_4, out0_5, out0_6]
    frame_out
    simp only [delta, first, second]
    pointwise [k0_pay1, k0_pay2, k0_pay3]
    rfl

end Cert.Kernel31Ideal.Step

namespace Cert.Proof

open Idealize.ShloMosaic Idealize.ShloMosaic.TcCoe Idealize.SL.Sem

theorem frame_reference24 : Cert.quiescent_Reference24Ideal (hReference24Ideal := Cert.Reference24Ideal.Gen.facts) := fun m ρ _ =>
  (θ_run Cert.Reference24Ideal.defs _ _).mono (fun r h => ⟨fun c => (h c).2.2.2, sem_eq_zero_of_no_sems (by decide) r.2⟩)
    (Cert.Reference24Ideal.Value.run (F := Ideal) m ρ)

theorem algebraic24 : Cert.algebraic_Kernel24Ideal_Reference24Ideal (hKernel24Ideal := Cert.Kernel24Ideal.Gen.facts) (hReference24Ideal := Cert.Reference24Ideal.Gen.facts) :=
  fun m ρ m' ρ' _ hin => ⟨_, _, _, Cert.Kernel24Ideal.Value.run_blocks m ρ,
    (θ_run Cert.Reference24Ideal.defs _ _).mono (fun r h c => AdamW.equal (hin c) (Cert.Kernel24Ideal.Step.final m c) (h c))
      (Cert.Reference24Ideal.Value.run (F := Ideal) m' ρ')⟩

theorem frame_reference25 : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem algebraic25 : Cert.algebraic_Kernel25Ideal_Reference25Ideal (hKernel25Ideal := Cert.Kernel25Ideal.Gen.facts) (hReference25Ideal := Cert.Reference25Ideal.Gen.facts) :=
  fun m ρ m' ρ' _ hin => ⟨_, _, _, Cert.Kernel25Ideal.Value.run_blocks m ρ,
    (θ_run Cert.Reference25Ideal.defs _ _).mono (fun r h c => AdamW.equal (hin c) (Cert.Kernel25Ideal.Step.final m c) (h c))
      (Cert.Reference25Ideal.Value.run (F := Ideal) m' ρ')⟩

theorem frame_reference26 : Cert.quiescent_Reference26Ideal (hReference26Ideal := Cert.Reference26Ideal.Gen.facts) := fun m ρ _ =>
  (θ_run Cert.Reference26Ideal.defs _ _).mono (fun r h => ⟨fun c => (h c).2.2.2, sem_eq_zero_of_no_sems (by decide) r.2⟩)
    (Cert.Reference26Ideal.Value.run (F := Ideal) m ρ)

theorem algebraic26 : Cert.algebraic_Kernel26Ideal_Reference26Ideal (hKernel26Ideal := Cert.Kernel26Ideal.Gen.facts) (hReference26Ideal := Cert.Reference26Ideal.Gen.facts) :=
  fun m ρ m' ρ' _ hin => ⟨_, _, _, Cert.Kernel26Ideal.Value.run_blocks m ρ,
    (θ_run Cert.Reference26Ideal.defs _ _).mono (fun r h c => AdamW.equal (hin c) (Cert.Kernel26Ideal.Step.final m c) (h c))
      (Cert.Reference26Ideal.Value.run (F := Ideal) m' ρ')⟩

theorem frame_reference27 : Cert.quiescent_Reference27Ideal (hReference27Ideal := Cert.Reference27Ideal.Gen.facts) := fun m ρ _ =>
  (θ_run Cert.Reference27Ideal.defs _ _).mono (fun r h => ⟨fun c => (h c).2.2.2, sem_eq_zero_of_no_sems (by decide) r.2⟩)
    (Cert.Reference27Ideal.Value.run (F := Ideal) m ρ)

theorem algebraic27 : Cert.algebraic_Kernel27Ideal_Reference27Ideal (hKernel27Ideal := Cert.Kernel27Ideal.Gen.facts) (hReference27Ideal := Cert.Reference27Ideal.Gen.facts) :=
  fun m ρ m' ρ' _ hin => ⟨_, _, _, Cert.Kernel27Ideal.Value.run_blocks m ρ,
    (θ_run Cert.Reference27Ideal.defs _ _).mono (fun r h c => AdamW.equal (hin c) (Cert.Kernel27Ideal.Step.final m c) (h c))
      (Cert.Reference27Ideal.Value.run (F := Ideal) m' ρ')⟩

theorem frame_reference28 : Cert.quiescent_Reference28Ideal (hReference28Ideal := Cert.Reference28Ideal.Gen.facts) := fun m ρ _ =>
  (θ_run Cert.Reference28Ideal.defs _ _).mono (fun r h => ⟨fun c => (h c).2.2.2, sem_eq_zero_of_no_sems (by decide) r.2⟩)
    (Cert.Reference28Ideal.Value.run (F := Ideal) m ρ)

theorem algebraic28 : Cert.algebraic_Kernel28Ideal_Reference28Ideal (hKernel28Ideal := Cert.Kernel28Ideal.Gen.facts) (hReference28Ideal := Cert.Reference28Ideal.Gen.facts) :=
  fun m ρ m' ρ' _ hin => ⟨_, _, _, Cert.Kernel28Ideal.Value.run_blocks m ρ,
    (θ_run Cert.Reference28Ideal.defs _ _).mono (fun r h c => AdamW.equal (hin c) (Cert.Kernel28Ideal.Step.final m c) (h c))
      (Cert.Reference28Ideal.Value.run (F := Ideal) m' ρ')⟩

theorem frame_reference29 : Cert.quiescent_Reference29Ideal (hReference29Ideal := Cert.Reference29Ideal.Gen.facts) := fun m ρ _ =>
  (θ_run Cert.Reference29Ideal.defs _ _).mono (fun r h => ⟨fun c => (h c).2.2.2, sem_eq_zero_of_no_sems (by decide) r.2⟩)
    (Cert.Reference29Ideal.Value.run (F := Ideal) m ρ)

theorem algebraic29 : Cert.algebraic_Kernel29Ideal_Reference29Ideal (hKernel29Ideal := Cert.Kernel29Ideal.Gen.facts) (hReference29Ideal := Cert.Reference29Ideal.Gen.facts) :=
  fun m ρ m' ρ' _ hin => ⟨_, _, _, Cert.Kernel29Ideal.Value.run_blocks m ρ,
    (θ_run Cert.Reference29Ideal.defs _ _).mono (fun r h c => AdamW.equal (hin c) (Cert.Kernel29Ideal.Step.final m c) (h c))
      (Cert.Reference29Ideal.Value.run (F := Ideal) m' ρ')⟩

theorem frame_reference30 : Cert.quiescent_Reference30Ideal (hReference30Ideal := Cert.Reference30Ideal.Gen.facts) := fun m ρ _ =>
  (θ_run Cert.Reference30Ideal.defs _ _).mono (fun r h => ⟨fun c => (h c).2.2.2, sem_eq_zero_of_no_sems (by decide) r.2⟩)
    (Cert.Reference30Ideal.Value.run (F := Ideal) m ρ)

theorem algebraic30 : Cert.algebraic_Kernel30Ideal_Reference30Ideal (hKernel30Ideal := Cert.Kernel30Ideal.Gen.facts) (hReference30Ideal := Cert.Reference30Ideal.Gen.facts) :=
  fun m ρ m' ρ' _ hin => ⟨_, _, _, Cert.Kernel30Ideal.Value.run_blocks m ρ,
    (θ_run Cert.Reference30Ideal.defs _ _).mono (fun r h c => AdamW.equal (hin c) (Cert.Kernel30Ideal.Step.final m c) (h c))
      (Cert.Reference30Ideal.Value.run (F := Ideal) m' ρ')⟩

theorem frame_reference31 : Cert.quiescent_Reference31Ideal (hReference31Ideal := Cert.Reference31Ideal.Gen.facts) := fun m ρ _ =>
  (θ_run Cert.Reference31Ideal.defs _ _).mono (fun r h => ⟨fun c => (h c).2.2.2, sem_eq_zero_of_no_sems (by decide) r.2⟩)
    (Cert.Reference31Ideal.Value.run (F := Ideal) m ρ)

theorem algebraic31 : Cert.algebraic_Kernel31Ideal_Reference31Ideal (hKernel31Ideal := Cert.Kernel31Ideal.Gen.facts) (hReference31Ideal := Cert.Reference31Ideal.Gen.facts) :=
  fun m ρ m' ρ' _ hin => ⟨_, _, _, Cert.Kernel31Ideal.Value.run_blocks m ρ,
    (θ_run Cert.Reference31Ideal.defs _ _).mono (fun r h c => AdamW.equal (hin c) (Cert.Kernel31Ideal.Step.final m c) (h c))
      (Cert.Reference31Ideal.Value.run (F := Ideal) m' ρ')⟩

end Cert.Proof

end
-- ==== Proof.Gates.lean ====
/- The gates of the forward pass: the gated product of the channel mixer, and the merge of the three branches. -/
module

public import proofs.«01_k».proof.Defs
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import Idealize.ShloMosaic.Lib.Pipeline.ValueKit
public import Idealize.ShloMosaic.Lib.Pointwise
public import Idealize.ShloMosaic.Lib.Tactic
public import Idealize.ShloMosaic.Lib.IdealHost

@[expose] public section

noncomputable section

namespace Cert.Proof.Gates

open Idealize.ShloMosaic

theorem half : Ideal.ofBits .f32 0x3F000000#32 = ((1 / 2 : ℝ) : EReal) := by
  simp [Ideal.ofBits, Ideal.ieee]
  rw [← EReal.coe_mul]
  norm_num

/-- The logistic function, as 1 / (1 + exp (-x)). -/
def sigma (x : EReal) : EReal := Ideal.div (Ideal.ofBits .f32 0x3F800000#32) (Ideal.ofBits .f32 0x3F800000#32 + Ideal.exp (-x))

/-- Half of one more than the hyperbolic tangent of half of x is the logistic function of x, at the infinities as well. -/
theorem of_tanh (x : EReal) :
    Ideal.ofBits .f32 0x3F000000#32 * (Ideal.tanh (Ideal.ofBits .f32 0x3F000000#32 * x) + 1) = sigma x := by
  rw [sigma, half, Ideal.ofBits_one_f32]
  induction x with
  | bot =>
    rw [EReal.coe_mul_bot_of_pos (by norm_num), Ideal.tanh_bot, EReal.neg_bot, Ideal.exp_top, EReal.add_top_of_ne_bot (by decide), Ideal.div,
      if_neg (by decide), EReal.inv_top, ← EReal.coe_one, ← EReal.coe_neg, ← EReal.coe_add, ← EReal.coe_mul]
    simp
  | top =>
    rw [EReal.coe_mul_top_of_pos (by norm_num), Ideal.tanh_top, EReal.neg_top, Ideal.exp_bot, add_zero, ← EReal.coe_one, ← EReal.coe_add,
      ← EReal.coe_mul, Ideal.div_coe one_ne_zero, ← EReal.coe_mul]
    norm_num
  | coe r =>
    rw [← EReal.coe_mul, Ideal.tanh_coe, ← EReal.coe_neg, Ideal.exp_coe, ← EReal.coe_one, ← EReal.coe_add, ← EReal.coe_mul, ← EReal.coe_add,
      Ideal.div_coe (by positivity), ← EReal.coe_mul, Real.tanh_eq_sinh_div_cosh, Real.sinh_eq, Real.cosh_eq]
    congr 1
    obtain ⟨p, hp⟩ : ∃ p, p = Real.exp (1 / 2 * r) := ⟨_, rfl⟩
    have h : Real.exp (-(1 / 2 * r)) = p⁻¹ := by rw [Real.exp_neg, hp]
    have h' : Real.exp (-r) = p⁻¹ * p⁻¹ := by rw [← h, ← Real.exp_add]; congr 1; ring
    have : 0 < p := hp ▸ Real.exp_pos _
    rw [h, h', ← hp]
    field_simp
    ring

variable {r w v : ℕ}

/-- The columns from `k` on of an array. -/
def lanes (k : ℕ) (h : k + v ≤ w) (a : Shape.Idx ⟨2, ![r, w]⟩ → EReal) : Shape.Idx ⟨2, ![r, v]⟩ → EReal := fun j =>
  a (ix2 (j 0) ⟨k + (j 1).val, (Nat.add_lt_add_left (j 1).isLt k).trans_le h⟩)

theorem slice (k : ℕ) (h : k + v ≤ w) (hs) (a : FVec Ideal ⟨2, ![r, w]⟩ .f32) :
    extractStridedSlice ⟨2, ![r, v]⟩ ![0, k] a hs = lanes k h a := by
  funext j
  refine congrArg a (funext fun d => Fin.ext ?_)
  fin_cases d <;> simp [ix2]

/-- The gated product: the first half of the columns, times its logistic function, times the second half. -/
def swiglu (a : Shape.Idx ⟨2, ![r, v + v]⟩ → EReal) : Shape.Idx ⟨2, ![r, v]⟩ → EReal := fun j =>
  lanes 0 (by omega) a j * sigma (lanes 0 (by omega) a j) * lanes v le_rfl a j

/-- The merge: three arrays, each times the logistic function of its third of the gates, added. -/
def merge (g : Shape.Idx ⟨2, ![r, v + v + v]⟩ → EReal) (a b c : Shape.Idx ⟨2, ![r, v]⟩ → EReal) : Shape.Idx ⟨2, ![r, v]⟩ → EReal := fun j =>
  sigma (lanes 0 (by omega) g j) * a j + sigma (lanes v (by omega) g j) * b j + sigma (lanes (v + v) le_rfl g j) * c j

end Cert.Proof.Gates

namespace Cert.Kernel32Ideal.Step

open Cert.Kernel32Ideal Cert.Kernel32Ideal.Gen Idealize.ShloMosaic Idealize.ShloMosaic.TcCoe Idealize.SL.Sem Cert.Proof.Gates

variable (m : (ℓ : Loc nD τ sig) → Buf (Elt Ideal) ℓ)

theorem idx : ∀ t : Fin cfg0.N, win0_0.index t = ![t.val, 0] ∧ win0_1.index t = ![t.val, 0] := by
  decide +kernel

theorem final (c : Dev nD) :
    (dats m 0 c).arrAt 1 cfg0.N = swiglu (m ((c : Thread nD τ).loc main_arg0)) := by
  refine (dats m 0 c).arrAt_eq_of_covers 1 _ (by decide +kernel) fun t _ y => ?_
  blk_simp
  simp only [after0_1, out0_1]
  frame_out
  have hi := idx t
  pointwise [k0_pay1]
  rw [of_tanh]
  unfold swiglu lanes
  congr 1
  · congr 1
    · blk_ext [iblk, V, hi]
    · congr 1
      blk_ext [iblk, V, hi]
  · blk_ext [iblk, V, hi]

end Cert.Kernel32Ideal.Step

namespace Cert.Kernel33Ideal.Step

open Cert.Kernel33Ideal Cert.Kernel33Ideal.Gen Idealize.ShloMosaic Idealize.ShloMosaic.TcCoe Idealize.SL.Sem Cert.Proof.Gates

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] := by
  decide +kernel

theorem final (c : Dev nD) : (dats m 0 c).arrAt 4 cfg0.N = merge (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  simp only [after0_4, out0_4]
  frame_out
  have hi := idx t
  pointwise [k0_pay1]
  rw [of_tanh, of_tanh, of_tanh]
  unfold merge lanes
  refine congrArg₂ (α := EReal) (β := EReal) (· + ·) (congrArg₂ (α := EReal) (β := EReal) (· + ·)
    (congrArg₂ (α := EReal) (β := EReal) (· * ·) (congrArg sigma ?_) ?_) (congrArg₂ (α := EReal) (β := EReal) (· * ·) (congrArg sigma ?_) ?_))
    (congrArg₂ (α := EReal) (β := EReal) (· * ·) (congrArg sigma ?_) ?_) <;> blk_ext [iblk, V, hi]

end Cert.Kernel33Ideal.Step

namespace Cert.Proof

open Idealize.ShloMosaic Idealize.ShloMosaic.TcCoe Idealize.SL.Sem

theorem frame_reference32 : Cert.quiescent_Reference32Ideal (hReference32Ideal := Cert.Reference32Ideal.Gen.facts) := fun m ρ _ =>
  (θ_run Cert.Reference32Ideal.defs _ _).mono (fun r h => ⟨fun c => (h c).2, sem_eq_zero_of_no_sems (by decide) r.2⟩)
    (Cert.Reference32Ideal.Value.run (F := Ideal) m ρ)

theorem algebraic32 : Cert.algebraic_Kernel32Ideal_Reference32Ideal (hKernel32Ideal := Cert.Kernel32Ideal.Gen.facts) (hReference32Ideal := Cert.Reference32Ideal.Gen.facts) :=
  fun m ρ m' ρ' _ hin => ⟨_, Cert.Kernel32Ideal.Value.run_blocks m ρ,
    (θ_run Cert.Reference32Ideal.defs _ _).mono (fun r h c => ⟨(h c).1.trans (by
        rw [Cert.Kernel32Ideal.Step.final m c, hin c, Gates.slice 0 (by omega), Gates.slice 2816 (by omega)]
        rfl), (h c).2⟩)
      (Cert.Reference32Ideal.Value.run (F := Ideal) m' ρ')⟩

theorem frame_reference33 : Cert.quiescent_Reference33Ideal (hReference33Ideal := Cert.Reference33Ideal.Gen.facts) := fun m ρ _ =>
  (θ_run Cert.Reference33Ideal.defs _ _).mono (fun r h => ⟨fun c => (h c).2, sem_eq_zero_of_no_sems (by decide) r.2⟩)
    (Cert.Reference33Ideal.Value.run (F := Ideal) m ρ)

theorem algebraic33 : Cert.algebraic_Kernel33Ideal_Reference33Ideal (hKernel33Ideal := Cert.Kernel33Ideal.Gen.facts) (hReference33Ideal := Cert.Reference33Ideal.Gen.facts) :=
  fun m ρ m' ρ' _ hin => ⟨_, Cert.Kernel33Ideal.Value.run_blocks m ρ,
    (θ_run Cert.Reference33Ideal.defs _ _).mono (fun r h c => ⟨(h c).1.trans (by
        rw [Cert.Kernel33Ideal.Step.final m c, (hin c).1, (hin c).2.1, (hin c).2.2.1, (hin c).2.2.2, Gates.slice 0 (by omega),
          Gates.slice 1024 (by omega), Gates.slice 2048 (by omega)]
        rfl), (h c).2⟩)
      (Cert.Reference33Ideal.Value.run (F := Ideal) m' ρ')⟩

end Cert.Proof

end
-- ==== Proof.lean ====
/- The claims: the printed kernels and the references end quiet, each ideal kernel has the printed one's text, and each ideal kernel and
   its reference leave equal results. -/
module

public import proofs.«01_k».proof.Proof.Value
public import proofs.«01_k».proof.Proof.Grad2
public import proofs.«01_k».proof.Proof.FanIn
public import proofs.«01_k».proof.Proof.InputGradients
public import proofs.«01_k».proof.Proof.WeightGradients
public import proofs.«01_k».proof.Proof.Forward
public import proofs.«01_k».proof.Proof.AdamW
public import proofs.«01_k».proof.Proof.Gates
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    frame_kernel, frame_kernelIdeal, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    fun m ρ _ => Cert.Kernel27.Gen.frame m ρ, fun m ρ _ => Cert.Kernel27Ideal.Gen.frame m ρ, frame_reference27,
    fun m ρ _ => Cert.Kernel28.Gen.frame m ρ, fun m ρ _ => Cert.Kernel28Ideal.Gen.frame m ρ, frame_reference28,
    fun m ρ _ => Cert.Kernel29.Gen.frame m ρ, fun m ρ _ => Cert.Kernel29Ideal.Gen.frame m ρ, frame_reference29,
    fun m ρ _ => Cert.Kernel30.Gen.frame m ρ, fun m ρ _ => Cert.Kernel30Ideal.Gen.frame m ρ, frame_reference30,
    fun m ρ _ => Cert.Kernel31.Gen.frame m ρ, fun m ρ _ => Cert.Kernel31Ideal.Gen.frame m ρ, frame_reference31,
    fun m ρ _ => Cert.Kernel32.Gen.frame m ρ, fun m ρ _ => Cert.Kernel32Ideal.Gen.frame m ρ, frame_reference32,
    fun m ρ _ => Cert.Kernel33.Gen.frame m ρ, fun m ρ _ => Cert.Kernel33Ideal.Gen.frame m ρ, frame_reference33,
    trivial, algebraic, trivial, algebraic2, trivial, algebraic3, trivial, algebraic4, trivial, algebraic5, trivial, algebraic6, trivial,
    algebraic7, trivial, algebraic8, trivial, algebraic9, trivial, algebraic10, trivial, algebraic11, trivial, algebraic12, trivial,
    algebraic13, trivial, algebraic14, trivial, algebraic15, trivial, algebraic16, trivial, algebraic17, trivial, algebraic18, trivial,
    algebraic19, trivial, algebraic20, trivial, algebraic21, trivial, algebraic22, trivial, algebraic23,
    trivial, algebraic24, trivial, algebraic25, trivial, algebraic26, trivial, algebraic27, trivial, algebraic28, trivial, algebraic29, trivial, algebraic30, trivial, algebraic31,
    trivial, algebraic32, trivial, algebraic33⟩

end Cert.Proof
